-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_equal_segments_finite [hPre_equal_segments_finite : Cert.Pre_equal_segments_finite.Facts] (m : (ℓ : Loc Cert.KernelIdeal.nD Cert.KernelIdeal.τ Cert.KernelIdeal.sig) → Buf (Elt Ideal) ℓ) : Prop :=
  ∀ c : Dev Cert.KernelIdeal.nD,
    (Cert.Pre_equal_segments_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_equal_segments_finite [hPre_equal_segments_finite : Cert.Pre_equal_segments_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_equal_segments_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_equal_segments_finite [hKernelIdeal : Cert.KernelIdeal.Facts] [hPre_equal_segments_finite : Cert.Pre_equal_segments_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_equal_segments_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_equal_segments_finite [hReferenceIdeal : Cert.ReferenceIdeal.Facts] [hPre_equal_segments_finite : Cert.Pre_equal_segments_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_equal_segments_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_equal_segments_finite [hKernelIdeal : Cert.KernelIdeal.Facts] [hReferenceIdeal : Cert.ReferenceIdeal.Facts] [hPre_equal_segments_finite : Cert.Pre_equal_segments_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_equal_segments_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_equal_segments_finite : Cert.Pre_equal_segments_finite.Facts),
    quiescent_Kernel (hKernel := hKernel)
    ∧ quiescent_KernelIdeal (hKernelIdeal := hKernelIdeal)
    ∧ quiescent_KernelIdeal_pre_equal_segments_finite (hKernelIdeal := hKernelIdeal) (hPre_equal_segments_finite := hPre_equal_segments_finite)
    ∧ quiescent_ReferenceIdeal (hReferenceIdeal := hReferenceIdeal)
    ∧ quiescent_ReferenceIdeal_pre_equal_segments_finite (hReferenceIdeal := hReferenceIdeal) (hPre_equal_segments_finite := hPre_equal_segments_finite)
    ∧ preserves_Kernel_KernelIdeal
    ∧ algebraic_KernelIdeal_ReferenceIdeal_pre_equal_segments_finite (hKernelIdeal := hKernelIdeal) (hReferenceIdeal := hReferenceIdeal) (hPre_equal_segments_finite := hPre_equal_segments_finite)
-- ==== Pre_equal_segments_finite.lean ====
abbrev S4x16384x256 : Shape := ⟨3, ![4, 16384, 256]⟩
abbrev S17 : Shape := ⟨1, ![17]⟩
abbrev S16384 : Shape := ⟨1, ![16384]⟩
abbrev S256 : Shape := ⟨1, ![256]⟩
abbrev S_ : Shape := ⟨0, ![]⟩

class Facts : Prop where
  bcast_S_S17 : S_.BroadcastsInDim S17 (![] : Fin 0 → Fin S17.rank)
  reducesTo_S17_S_d0 : S17.ReducesTo [0] S_
  h_S_ : 0 < S_.numel
  bcast_S_S16384 : S_.BroadcastsInDim S16384 (![] : Fin 0 → Fin S16384.rank)
  reducesTo_S16384_S_d0 : S16384.ReducesTo [0] S_
  bcast_S_S4x16384x256 : S_.BroadcastsInDim S4x16384x256 (![] : Fin 0 → Fin S4x16384x256.rank)
  reducesTo_S4x16384x256_S_d0_1_2 : S4x16384x256.ReducesTo [0, 1, 2] S_
  bcast_S_S256 : S_.BroadcastsInDim S256 (![] : Fin 0 → Fin S256.rank)
  reducesTo_S256_S_d0 : S256.ReducesTo [0] S_

variable [Facts]

def fn_where {F : FTy → Type} [FloatOps F] (arg0 : IVec S16384 1) (arg1 : IVec S16384 32) (arg2 : IVec S16384 32) : IVec S16384 32 :=
  let v0 : IVec S16384 32 := select arg0 arg1 arg2
  v0

def fn_floor_divide {F : FTy → Type} [FloatOps F] (arg0 : IVec S16384 32) (arg1 : IVec S_ 32) : IVec S16384 32 :=
  let v0 : IVec S_ 32 := id arg1
  let v1 : IVec S16384 32 := broadcastInDim S16384 ![] bcast_S_S16384 v0
  let v2 : IVec S16384 32 := Host.divsi arg0 v1
  let v3 : IVec S16384 32 := signi arg0
  let v4 : IVec S_ 32 := signi v0
  let v5 : IVec S16384 32 := broadcastInDim S16384 ![] bcast_S_S16384 v4
  let v6 : IVec S16384 1 := cmpi .ne v3 v5
  let v7 : IVec S16384 32 := broadcastInDim S16384 ![] bcast_S_S16384 v0
  let v8 : IVec S16384 32 := Host.remsi arg0 v7
  let c : IVec S_ 32 := constantI S_ 32 0#32
  let v9 : IVec S16384 32 := broadcastInDim S16384 ![] bcast_S_S16384 c
  let v10 : IVec S16384 1 := cmpi .ne v8 v9
  let v11 : IVec S16384 1 := andi v6 v10
  let c_0 : IVec S_ 32 := constantI S_ 32 1#32
  let v12 : IVec S16384 32 := broadcastInDim S16384 ![] bcast_S_S16384 c_0
  let v13 : IVec S16384 32 := subi v2 v12
  let v14 : IVec S16384 32 := fn_where (F := F) v11 v13 v2
  v14

def fn_part1 {F : FTy → Type} [FloatOps F] (main_v14 : IVec S_ 1) (main_v15 : FVec F S256 .f32) (main_v16 : FVec F S256 .f32) : IVec S_ 1 :=
  let main_v17 : IVec S256 1 := cmpf .olt main_v15 main_v16
  let main_c_5 : IVec S_ 1 := constantI S_ 1 1#1
  let main_v18 : IVec S_ 1 := (fun x v => Host.reduce IntOp.andi x v reducesTo_S256_S_d0 h_S_) main_v17 main_c_5
  let main_v19 : IVec S_ 1 := andi main_v14 main_v18
  main_v19

def fn {F : FTy → Type} [FloatOps F] (main_arg0 : FVec F S4x16384x256 .f32) (main_arg1 : IVec S17 32) (main_arg2 : IVec S16384 32) (main_arg3 : FVec F S256 .f32) (main_arg4 : FVec F S256 .f32) : IVec S_ 1 :=
  let main_v0 : IVec S17 32 := iotaInDim S17 32 0
  let main_c : IVec S_ 32 := constantI S_ 32 1024#32
  let main_v1 : IVec S17 32 := broadcastInDim S17 ![] bcast_S_S17 main_c
  let main_v2 : IVec S17 32 := muli main_v0 main_v1
  let main_v3 : IVec S17 1 := cmpi .eq main_arg1 main_v2
  let main_c_0 : IVec S_ 1 := constantI S_ 1 1#1
  let main_v4 : IVec S_ 1 := (fun x v => Host.reduce IntOp.andi x v reducesTo_S17_S_d0 h_S_) main_v3 main_c_0
  let main_v5 : IVec S16384 32 := iotaInDim S16384 32 0
  let main_c_1 : IVec S_ 32 := constantI S_ 32 1024#32
  let main_v6 : IVec S16384 32 := fn_floor_divide (F := F) main_v5 main_c_1
  let main_v7 : IVec S16384 1 := cmpi .eq main_arg2 main_v6
  let main_c_2 : IVec S_ 1 := constantI S_ 1 1#1
  let main_v8 : IVec S_ 1 := (fun x v => Host.reduce IntOp.andi x v reducesTo_S16384_S_d0 h_S_) main_v7 main_c_2
  let main_v9 : IVec S_ 1 := andi main_v4 main_v8
  let main_v10 : FVec F S4x16384x256 .f32 := Host.absf main_arg0
  let main_cst : FVec F S_ .f32 := constant S_ .f32 0x7F800000#32
  let main_v11 : FVec F S4x16384x256 .f32 := broadcastInDim S4x16384x256 ![] bcast_S_S4x16384x256 main_cst
  let main_v12 : IVec S4x16384x256 1 := cmpf .olt main_v10 main_v11
  let main_c_3 : IVec S_ 1 := constantI S_ 1 1#1
  let main_v13 : IVec S_ 1 := (fun x v => Host.reduce IntOp.andi x v reducesTo_S4x16384x256_S_d0_1_2 h_S_) main_v12 main_c_3
  let main_v14 : IVec S_ 1 := andi main_v9 main_v13
  let main_v15 : FVec F S256 .f32 := Host.absf main_arg3
  let main_cst_4 : FVec F S_ .f32 := constant S_ .f32 0x7F800000#32
  let main_v16 : FVec F S256 .f32 := broadcastInDim S256 ![] bcast_S_S256 main_cst_4
  fn_part1 (F := F) main_v14 main_v15 main_v16
-- ==== Kernel.lean ====
abbrev S4x16384x256 : Shape := ⟨3, ![4, 16384, 256]⟩
abbrev S17 : Shape := ⟨1, ![17]⟩
abbrev S16384 : Shape := ⟨1, ![16384]⟩
abbrev S256 : Shape := ⟨1, ![256]⟩
abbrev S65536x256 : Shape := ⟨2, ![65536, 256]⟩
abbrev S64x256 : Shape := ⟨2, ![64, 256]⟩
abbrev S_ : Shape := ⟨0, ![]⟩
abbrev S16 : Shape := ⟨1, ![16]⟩
abbrev S1x16 : Shape := ⟨2, ![1, 16]⟩

abbrev nBuf : Table → Nat
  | .hbm => 8
  | .local .scVector .vmem => 9
  | _ => 0

abbrev bufTy : (tb : Table) → Fin (nBuf tb) → BufTy
  | .hbm, ⟨0, _⟩ => ⟨S4x16384x256, .f32⟩
  | .hbm, ⟨1, _⟩ => ⟨S17, .i32⟩
  | .hbm, ⟨2, _⟩ => ⟨S16384, .i32⟩
  | .hbm, ⟨3, _⟩ => ⟨S256, .f32⟩
  | .hbm, ⟨4, _⟩ => ⟨S256, .f32⟩
  | .hbm, ⟨5, _⟩ => ⟨S65536x256, .f32⟩
  | .hbm, ⟨6, _⟩ => ⟨S65536x256, .f32⟩
  | .hbm, ⟨7, _⟩ => ⟨S4x16384x256, .f32⟩
  | .local .scVector .vmem, ⟨0, _⟩ => ⟨S64x256, .f32⟩
  | .local .scVector .vmem, ⟨1, _⟩ => ⟨S64x256, .f32⟩
  | .local .scVector .vmem, ⟨2, _⟩ => ⟨S64x256, .f32⟩
  | .local .scVector .vmem, ⟨3, _⟩ => ⟨S64x256, .f32⟩
  | .local .scVector .vmem, ⟨4, _⟩ => ⟨S64x256, .f32⟩
  | .local .scVector .vmem, ⟨5, _⟩ => ⟨S64x256, .f32⟩
  | .local .scVector .vmem, ⟨6, _⟩ => ⟨S64x256, .f32⟩
  | .local .scVector .vmem, ⟨7, _⟩ => ⟨S256, .f32⟩
  | .local .scVector .vmem, ⟨8, _⟩ => ⟨S256, .f32⟩
  | _, _ => ⟨S4x16384x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v0_scv : Ref sig .scVector := ⟨.hbm, 5, rfl⟩
abbrev main_arg3_scv : Ref sig .scVector := ⟨.hbm, 3, rfl⟩
abbrev main_arg4_scv : Ref sig .scVector := ⟨.hbm, 4, rfl⟩
abbrev main_v1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) (c0_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c1024_i32 : BitVec 32 := 1024#32
  let v4 : BitVec 32 := Scalar.muli v3 c1024_i32
  let v5 : BitVec 32 := Scalar.addi v4 c0_i32_1
  let c0_i32_2 : BitVec 32 := 0#32
  ![v5.toNat, 0]
@[reducible] def k0_t1_loop : Scf.Loop 32 :=
  let c0_i32_14 : BitVec 32 := 0#32
  let c32_i32 : BitVec 32 := 32#32
  let v23 : BitVec 32 := Scalar.addi c0_i32_14 c32_i32
  let c1_i32 : BitVec 32 := 1#32
  ⟨c0_i32_14, v23, c1_i32⟩
def k0_off2 (k0_t1 : Fin k0_t1_loop.trips) (c0_i32_1023 : BitVec 32) : Fin 2 → Nat :=
  let c2_i32_1022 : BitVec 32 := 2#32
  let c0_i32_14 : BitVec 32 := 0#32
  let c1_i32 : BitVec 32 := 1#32
  let arg29 : BitVec 32 := Scf.iv c0_i32_14 c1_i32 k0_t1
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off3 (k0_t1 : Fin k0_t1_loop.trips) (c0_i32_1026 : BitVec 32) : Fin 2 → Nat :=
  let c2_i32_1025 : BitVec 32 := 2#32
  let c0_i32_14 : BitVec 32 := 0#32
  let c1_i32 : BitVec 32 := 1#32
  let arg29 : BitVec 32 := Scf.iv c0_i32_14 c1_i32 k0_t1
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off4 (k0_t1 : Fin k0_t1_loop.trips) (c0_i32_1029 : BitVec 32) : Fin 2 → Nat :=
  let c2_i32_1028 : BitVec 32 := 2#32
  let c0_i32_14 : BitVec 32 := 0#32
  let c1_i32 : BitVec 32 := 1#32
  let arg29 : BitVec 32 := Scf.iv c0_i32_14 c1_i32 k0_t1
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off5 (k0_t1 : Fin k0_t1_loop.trips) (c0_i32_1032 : BitVec 32) : Fin 2 → Nat :=
  let c2_i32_1031 : BitVec 32 := 2#32
  let c0_i32_14 : BitVec 32 := 0#32
  let c1_i32 : BitVec 32 := 1#32
  let arg29 : BitVec 32 := Scf.iv c0_i32_14 c1_i32 k0_t1
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off6 (k0_t1 : Fin k0_t1_loop.trips) (c0_i32_1035 : BitVec 32) : Fin 2 → Nat :=
  let c2_i32_1034 : BitVec 32 := 2#32
  let c0_i32_14 : BitVec 32 := 0#32
  let c1_i32 : BitVec 32 := 1#32
  let arg29 : BitVec 32 := Scf.iv c0_i32_14 c1_i32 k0_t1
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off7 (k0_t1 : Fin k0_t1_loop.trips) (c0_i32_1038 : BitVec 32) : Fin 2 → Nat :=
  let c2_i32_1037 : BitVec 32 := 2#32
  let c0_i32_14 : BitVec 32 := 0#32
  let c1_i32 : BitVec 32 := 1#32
  let arg29 : BitVec 32 := Scf.iv c0_i32_14 c1_i32 k0_t1
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off8 (k0_t1 : Fin k0_t1_loop.trips) (c0_i32_1041 : BitVec 32) : Fin 2 → Nat :=
  let c2_i32_1040 : BitVec 32 := 2#32
  let c0_i32_14 : BitVec 32 := 0#32
  let c1_i32 : BitVec 32 := 1#32
  let arg29 : BitVec 32 := Scf.iv c0_i32_14 c1_i32 k0_t1
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off9 (k0_t1 : Fin k0_t1_loop.trips) (c0_i32_1044 : BitVec 32) : Fin 2 → Nat :=
  let c2_i32_1043 : BitVec 32 := 2#32
  let c0_i32_14 : BitVec 32 := 0#32
  let c1_i32 : BitVec 32 := 1#32
  let arg29 : BitVec 32 := Scf.iv c0_i32_14 c1_i32 k0_t1
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off10 (k0_t1 : Fin k0_t1_loop.trips) (c0_i32_1047 : BitVec 32) : Fin 2 → Nat :=
  let c2_i32_1046 : BitVec 32 := 2#32
  let c0_i32_14 : BitVec 32 := 0#32
  let c1_i32 : BitVec 32 := 1#32
  let arg29 : BitVec 32 := Scf.iv c0_i32_14 c1_i32 k0_t1
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off11 (k0_t1 : Fin k0_t1_loop.trips) (c0_i32_1050 : BitVec 32) : Fin 2 → Nat :=
  let c2_i32_1049 : BitVec 32 := 2#32
  let c0_i32_14 : BitVec 32 := 0#32
  let c1_i32 : BitVec 32 := 1#32
  let arg29 : BitVec 32 := Scf.iv c0_i32_14 c1_i32 k0_t1
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off12 (k0_t1 : Fin k0_t1_loop.trips) (c0_i32_1053 : BitVec 32) : Fin 2 → Nat :=
  let c2_i32_1052 : BitVec 32 := 2#32
  let c0_i32_14 : BitVec 32 := 0#32
  let c1_i32 : BitVec 32 := 1#32
  let arg29 : BitVec 32 := Scf.iv c0_i32_14 c1_i32 k0_t1
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off13 (k0_t1 : Fin k0_t1_loop.trips) (c0_i32_1056 : BitVec 32) : Fin 2 → Nat :=
  let c2_i32_1055 : BitVec 32 := 2#32
  let c0_i32_14 : BitVec 32 := 0#32
  let c1_i32 : BitVec 32 := 1#32
  let arg29 : BitVec 32 := Scf.iv c0_i32_14 c1_i32 k0_t1
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off14 (k0_t1 : Fin k0_t1_loop.trips) (c0_i32_1059 : BitVec 32) : Fin 2 → Nat :=
  let c2_i32_1058 : BitVec 32 := 2#32
  let c0_i32_14 : BitVec 32 := 0#32
  let c1_i32 : BitVec 32 := 1#32
  let arg29 : BitVec 32 := Scf.iv c0_i32_14 c1_i32 k0_t1
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off15 (k0_t1 : Fin k0_t1_loop.trips) (c0_i32_1062 : BitVec 32) : Fin 2 → Nat :=
  let c2_i32_1061 : BitVec 32 := 2#32
  let c0_i32_14 : BitVec 32 := 0#32
  let c1_i32 : BitVec 32 := 1#32
  let arg29 : BitVec 32 := Scf.iv c0_i32_14 c1_i32 k0_t1
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off16 (k0_t1 : Fin k0_t1_loop.trips) (c0_i32_1065 : BitVec 32) : Fin 2 → Nat :=
  let c2_i32_1064 : BitVec 32 := 2#32
  let c0_i32_14 : BitVec 32 := 0#32
  let c1_i32 : BitVec 32 := 1#32
  let arg29 : BitVec 32 := Scf.iv c0_i32_14 c1_i32 k0_t1
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off17 (k0_t1 : Fin k0_t1_loop.trips) (c0_i32_1068 : BitVec 32) : Fin 2 → Nat :=
  let c2_i32_1067 : BitVec 32 := 2#32
  let c0_i32_14 : BitVec 32 := 0#32
  let c1_i32 : BitVec 32 := 1#32
  let arg29 : BitVec 32 := Scf.iv c0_i32_14 c1_i32 k0_t1
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t2_loop : Scf.Loop 32 :=
  let c0_i32_20 : BitVec 32 := 0#32
  let c32_i32_21 : BitVec 32 := 32#32
  let v30 : BitVec 32 := Scalar.addi c0_i32_20 c32_i32_21
  let c1_i32_22 : BitVec 32 := 1#32
  ⟨c0_i32_20, v30, c1_i32_22⟩
def k0_off18 (k0_t2 : Fin k0_t2_loop.trips) (c0_i32_1023 : BitVec 32) : Fin 2 → Nat :=
  let c2_i32_1022 : BitVec 32 := 2#32
  let c0_i32_20 : BitVec 32 := 0#32
  let c1_i32_22 : BitVec 32 := 1#32
  let arg29 : BitVec 32 := Scf.iv c0_i32_20 c1_i32_22 k0_t2
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off19 (k0_t2 : Fin k0_t2_loop.trips) (c0_i32_1026 : BitVec 32) : Fin 2 → Nat :=
  let c2_i32_1025 : BitVec 32 := 2#32
  let c0_i32_20 : BitVec 32 := 0#32
  let c1_i32_22 : BitVec 32 := 1#32
  let arg29 : BitVec 32 := Scf.iv c0_i32_20 c1_i32_22 k0_t2
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off20 (k0_t2 : Fin k0_t2_loop.trips) (c0_i32_1029 : BitVec 32) : Fin 2 → Nat :=
  let c2_i32_1028 : BitVec 32 := 2#32
  let c0_i32_20 : BitVec 32 := 0#32
  let c1_i32_22 : BitVec 32 := 1#32
  let arg29 : BitVec 32 := Scf.iv c0_i32_20 c1_i32_22 k0_t2
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off21 (k0_t2 : Fin k0_t2_loop.trips) (c0_i32_1032 : BitVec 32) : Fin 2 → Nat :=
  let c2_i32_1031 : BitVec 32 := 2#32
  let c0_i32_20 : BitVec 32 := 0#32
  let c1_i32_22 : BitVec 32 := 1#32
  let arg29 : BitVec 32 := Scf.iv c0_i32_20 c1_i32_22 k0_t2
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off22 (k0_t2 : Fin k0_t2_loop.trips) (c0_i32_1035 : BitVec 32) : Fin 2 → Nat :=
  let c2_i32_1034 : BitVec 32 := 2#32
  let c0_i32_20 : BitVec 32 := 0#32
  let c1_i32_22 : BitVec 32 := 1#32
  let arg29 : BitVec 32 := Scf.iv c0_i32_20 c1_i32_22 k0_t2
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off23 (k0_t2 : Fin k0_t2_loop.trips) (c0_i32_1038 : BitVec 32) : Fin 2 → Nat :=
  let c2_i32_1037 : BitVec 32 := 2#32
  let c0_i32_20 : BitVec 32 := 0#32
  let c1_i32_22 : BitVec 32 := 1#32
  let arg29 : BitVec 32 := Scf.iv c0_i32_20 c1_i32_22 k0_t2
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off24 (k0_t2 : Fin k0_t2_loop.trips) (c0_i32_1041 : BitVec 32) : Fin 2 → Nat :=
  let c2_i32_1040 : BitVec 32 := 2#32
  let c0_i32_20 : BitVec 32 := 0#32
  let c1_i32_22 : BitVec 32 := 1#32
  let arg29 : BitVec 32 := Scf.iv c0_i32_20 c1_i32_22 k0_t2
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off25 (k0_t2 : Fin k0_t2_loop.trips) (c0_i32_1044 : BitVec 32) : Fin 2 → Nat :=
  let c2_i32_1043 : BitVec 32 := 2#32
  let c0_i32_20 : BitVec 32 := 0#32
  let c1_i32_22 : BitVec 32 := 1#32
  let arg29 : BitVec 32 := Scf.iv c0_i32_20 c1_i32_22 k0_t2
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off26 (k0_t2 : Fin k0_t2_loop.trips) (c0_i32_1047 : BitVec 32) : Fin 2 → Nat :=
  let c2_i32_1046 : BitVec 32 := 2#32
  let c0_i32_20 : BitVec 32 := 0#32
  let c1_i32_22 : BitVec 32 := 1#32
  let arg29 : BitVec 32 := Scf.iv c0_i32_20 c1_i32_22 k0_t2
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off27 (k0_t2 : Fin k0_t2_loop.trips) (c0_i32_1050 : BitVec 32) : Fin 2 → Nat :=
  let c2_i32_1049 : BitVec 32 := 2#32
  let c0_i32_20 : BitVec 32 := 0#32
  let c1_i32_22 : BitVec 32 := 1#32
  let arg29 : BitVec 32 := Scf.iv c0_i32_20 c1_i32_22 k0_t2
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off28 (k0_t2 : Fin k0_t2_loop.trips) (c0_i32_1053 : BitVec 32) : Fin 2 → Nat :=
  let c2_i32_1052 : BitVec 32 := 2#32
  let c0_i32_20 : BitVec 32 := 0#32
  let c1_i32_22 : BitVec 32 := 1#32
  let arg29 : BitVec 32 := Scf.iv c0_i32_20 c1_i32_22 k0_t2
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off29 (k0_t2 : Fin k0_t2_loop.trips) (c0_i32_1056 : BitVec 32) : Fin 2 → Nat :=
  let c2_i32_1055 : BitVec 32 := 2#32
  let c0_i32_20 : BitVec 32 := 0#32
  let c1_i32_22 : BitVec 32 := 1#32
  let arg29 : BitVec 32 := Scf.iv c0_i32_20 c1_i32_22 k0_t2
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off30 (k0_t2 : Fin k0_t2_loop.trips) (c0_i32_1059 : BitVec 32) : Fin 2 → Nat :=
  let c2_i32_1058 : BitVec 32 := 2#32
  let c0_i32_20 : BitVec 32 := 0#32
  let c1_i32_22 : BitVec 32 := 1#32
  let arg29 : BitVec 32 := Scf.iv c0_i32_20 c1_i32_22 k0_t2
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off31 (k0_t2 : Fin k0_t2_loop.trips) (c0_i32_1062 : BitVec 32) : Fin 2 → Nat :=
  let c2_i32_1061 : BitVec 32 := 2#32
  let c0_i32_20 : BitVec 32 := 0#32
  let c1_i32_22 : BitVec 32 := 1#32
  let arg29 : BitVec 32 := Scf.iv c0_i32_20 c1_i32_22 k0_t2
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off32 (k0_t2 : Fin k0_t2_loop.trips) (c0_i32_1065 : BitVec 32) : Fin 2 → Nat :=
  let c2_i32_1064 : BitVec 32 := 2#32
  let c0_i32_20 : BitVec 32 := 0#32
  let c1_i32_22 : BitVec 32 := 1#32
  let arg29 : BitVec 32 := Scf.iv c0_i32_20 c1_i32_22 k0_t2
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off33 (k0_t2 : Fin k0_t2_loop.trips) (c0_i32_1068 : BitVec 32) : Fin 2 → Nat :=
  let c2_i32_1067 : BitVec 32 := 2#32
  let c0_i32_20 : BitVec 32 := 0#32
  let c1_i32_22 : BitVec 32 := 1#32
  let arg29 : BitVec 32 := Scf.iv c0_i32_20 c1_i32_22 k0_t2
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t3_loop : Scf.Loop 32 :=
  let c0_i32_28 : BitVec 32 := 0#32
  let c32_i32_29 : BitVec 32 := 32#32
  let v37 : BitVec 32 := Scalar.addi c0_i32_28 c32_i32_29
  let c1_i32_30 : BitVec 32 := 1#32
  ⟨c0_i32_28, v37, c1_i32_30⟩
def k0_off34 (k0_t3 : Fin k0_t3_loop.trips) (c0_i32_1023 : BitVec 32) : Fin 2 → Nat :=
  let c2_i32_1022 : BitVec 32 := 2#32
  let c0_i32_28 : BitVec 32 := 0#32
  let c1_i32_30 : BitVec 32 := 1#32
  let arg29 : BitVec 32 := Scf.iv c0_i32_28 c1_i32_30 k0_t3
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off35 (k0_t3 : Fin k0_t3_loop.trips) (c0_i32_1026 : BitVec 32) : Fin 2 → Nat :=
  let c2_i32_1025 : BitVec 32 := 2#32
  let c0_i32_28 : BitVec 32 := 0#32
  let c1_i32_30 : BitVec 32 := 1#32
  let arg29 : BitVec 32 := Scf.iv c0_i32_28 c1_i32_30 k0_t3
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off36 (k0_t3 : Fin k0_t3_loop.trips) (c0_i32_1029 : BitVec 32) : Fin 2 → Nat :=
  let c2_i32_1028 : BitVec 32 := 2#32
  let c0_i32_28 : BitVec 32 := 0#32
  let c1_i32_30 : BitVec 32 := 1#32
  let arg29 : BitVec 32 := Scf.iv c0_i32_28 c1_i32_30 k0_t3
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off37 (k0_t3 : Fin k0_t3_loop.trips) (c0_i32_1032 : BitVec 32) : Fin 2 → Nat :=
  let c2_i32_1031 : BitVec 32 := 2#32
  let c0_i32_28 : BitVec 32 := 0#32
  let c1_i32_30 : BitVec 32 := 1#32
  let arg29 : BitVec 32 := Scf.iv c0_i32_28 c1_i32_30 k0_t3
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off38 (k0_t3 : Fin k0_t3_loop.trips) (c0_i32_1035 : BitVec 32) : Fin 2 → Nat :=
  let c2_i32_1034 : BitVec 32 := 2#32
  let c0_i32_28 : BitVec 32 := 0#32
  let c1_i32_30 : BitVec 32 := 1#32
  let arg29 : BitVec 32 := Scf.iv c0_i32_28 c1_i32_30 k0_t3
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off39 (k0_t3 : Fin k0_t3_loop.trips) (c0_i32_1038 : BitVec 32) : Fin 2 → Nat :=
  let c2_i32_1037 : BitVec 32 := 2#32
  let c0_i32_28 : BitVec 32 := 0#32
  let c1_i32_30 : BitVec 32 := 1#32
  let arg29 : BitVec 32 := Scf.iv c0_i32_28 c1_i32_30 k0_t3
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off40 (k0_t3 : Fin k0_t3_loop.trips) (c0_i32_1041 : BitVec 32) : Fin 2 → Nat :=
  let c2_i32_1040 : BitVec 32 := 2#32
  let c0_i32_28 : BitVec 32 := 0#32
  let c1_i32_30 : BitVec 32 := 1#32
  let arg29 : BitVec 32 := Scf.iv c0_i32_28 c1_i32_30 k0_t3
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off41 (k0_t3 : Fin k0_t3_loop.trips) (c0_i32_1044 : BitVec 32) : Fin 2 → Nat :=
  let c2_i32_1043 : BitVec 32 := 2#32
  let c0_i32_28 : BitVec 32 := 0#32
  let c1_i32_30 : BitVec 32 := 1#32
  let arg29 : BitVec 32 := Scf.iv c0_i32_28 c1_i32_30 k0_t3
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off42 (k0_t3 : Fin k0_t3_loop.trips) (c0_i32_1047 : BitVec 32) : Fin 2 → Nat :=
  let c2_i32_1046 : BitVec 32 := 2#32
  let c0_i32_28 : BitVec 32 := 0#32
  let c1_i32_30 : BitVec 32 := 1#32
  let arg29 : BitVec 32 := Scf.iv c0_i32_28 c1_i32_30 k0_t3
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off43 (k0_t3 : Fin k0_t3_loop.trips) (c0_i32_1050 : BitVec 32) : Fin 2 → Nat :=
  let c2_i32_1049 : BitVec 32 := 2#32
  let c0_i32_28 : BitVec 32 := 0#32
  let c1_i32_30 : BitVec 32 := 1#32
  let arg29 : BitVec 32 := Scf.iv c0_i32_28 c1_i32_30 k0_t3
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off44 (k0_t3 : Fin k0_t3_loop.trips) (c0_i32_1053 : BitVec 32) : Fin 2 → Nat :=
  let c2_i32_1052 : BitVec 32 := 2#32
  let c0_i32_28 : BitVec 32 := 0#32
  let c1_i32_30 : BitVec 32 := 1#32
  let arg29 : BitVec 32 := Scf.iv c0_i32_28 c1_i32_30 k0_t3
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off45 (k0_t3 : Fin k0_t3_loop.trips) (c0_i32_1056 : BitVec 32) : Fin 2 → Nat :=
  let c2_i32_1055 : BitVec 32 := 2#32
  let c0_i32_28 : BitVec 32 := 0#32
  let c1_i32_30 : BitVec 32 := 1#32
  let arg29 : BitVec 32 := Scf.iv c0_i32_28 c1_i32_30 k0_t3
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off46 (k0_t3 : Fin k0_t3_loop.trips) (c0_i32_1059 : BitVec 32) : Fin 2 → Nat :=
  let c2_i32_1058 : BitVec 32 := 2#32
  let c0_i32_28 : BitVec 32 := 0#32
  let c1_i32_30 : BitVec 32 := 1#32
  let arg29 : BitVec 32 := Scf.iv c0_i32_28 c1_i32_30 k0_t3
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off47 (k0_t3 : Fin k0_t3_loop.trips) (c0_i32_1062 : BitVec 32) : Fin 2 → Nat :=
  let c2_i32_1061 : BitVec 32 := 2#32
  let c0_i32_28 : BitVec 32 := 0#32
  let c1_i32_30 : BitVec 32 := 1#32
  let arg29 : BitVec 32 := Scf.iv c0_i32_28 c1_i32_30 k0_t3
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off48 (k0_t3 : Fin k0_t3_loop.trips) (c0_i32_1065 : BitVec 32) : Fin 2 → Nat :=
  let c2_i32_1064 : BitVec 32 := 2#32
  let c0_i32_28 : BitVec 32 := 0#32
  let c1_i32_30 : BitVec 32 := 1#32
  let arg29 : BitVec 32 := Scf.iv c0_i32_28 c1_i32_30 k0_t3
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off49 (k0_t3 : Fin k0_t3_loop.trips) (c0_i32_1068 : BitVec 32) : Fin 2 → Nat :=
  let c2_i32_1067 : BitVec 32 := 2#32
  let c0_i32_28 : BitVec 32 := 0#32
  let c1_i32_30 : BitVec 32 := 1#32
  let arg29 : BitVec 32 := Scf.iv c0_i32_28 c1_i32_30 k0_t3
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t4_loop : Scf.Loop 32 :=
  let c0_i32_36 : BitVec 32 := 0#32
  let c32_i32_37 : BitVec 32 := 32#32
  let v44 : BitVec 32 := Scalar.addi c0_i32_36 c32_i32_37
  let c1_i32_38 : BitVec 32 := 1#32
  ⟨c0_i32_36, v44, c1_i32_38⟩
def k0_off50 (k0_t4 : Fin k0_t4_loop.trips) (c0_i32_1023 : BitVec 32) : Fin 2 → Nat :=
  let c2_i32_1022 : BitVec 32 := 2#32
  let c0_i32_36 : BitVec 32 := 0#32
  let c1_i32_38 : BitVec 32 := 1#32
  let arg29 : BitVec 32 := Scf.iv c0_i32_36 c1_i32_38 k0_t4
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off51 (k0_t4 : Fin k0_t4_loop.trips) (c0_i32_1026 : BitVec 32) : Fin 2 → Nat :=
  let c2_i32_1025 : BitVec 32 := 2#32
  let c0_i32_36 : BitVec 32 := 0#32
  let c1_i32_38 : BitVec 32 := 1#32
  let arg29 : BitVec 32 := Scf.iv c0_i32_36 c1_i32_38 k0_t4
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off52 (k0_t4 : Fin k0_t4_loop.trips) (c0_i32_1029 : BitVec 32) : Fin 2 → Nat :=
  let c2_i32_1028 : BitVec 32 := 2#32
  let c0_i32_36 : BitVec 32 := 0#32
  let c1_i32_38 : BitVec 32 := 1#32
  let arg29 : BitVec 32 := Scf.iv c0_i32_36 c1_i32_38 k0_t4
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off53 (k0_t4 : Fin k0_t4_loop.trips) (c0_i32_1032 : BitVec 32) : Fin 2 → Nat :=
  let c2_i32_1031 : BitVec 32 := 2#32
  let c0_i32_36 : BitVec 32 := 0#32
  let c1_i32_38 : BitVec 32 := 1#32
  let arg29 : BitVec 32 := Scf.iv c0_i32_36 c1_i32_38 k0_t4
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off54 (k0_t4 : Fin k0_t4_loop.trips) (c0_i32_1035 : BitVec 32) : Fin 2 → Nat :=
  let c2_i32_1034 : BitVec 32 := 2#32
  let c0_i32_36 : BitVec 32 := 0#32
  let c1_i32_38 : BitVec 32 := 1#32
  let arg29 : BitVec 32 := Scf.iv c0_i32_36 c1_i32_38 k0_t4
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off55 (k0_t4 : Fin k0_t4_loop.trips) (c0_i32_1038 : BitVec 32) : Fin 2 → Nat :=
  let c2_i32_1037 : BitVec 32 := 2#32
  let c0_i32_36 : BitVec 32 := 0#32
  let c1_i32_38 : BitVec 32 := 1#32
  let arg29 : BitVec 32 := Scf.iv c0_i32_36 c1_i32_38 k0_t4
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off56 (k0_t4 : Fin k0_t4_loop.trips) (c0_i32_1041 : BitVec 32) : Fin 2 → Nat :=
  let c2_i32_1040 : BitVec 32 := 2#32
  let c0_i32_36 : BitVec 32 := 0#32
  let c1_i32_38 : BitVec 32 := 1#32
  let arg29 : BitVec 32 := Scf.iv c0_i32_36 c1_i32_38 k0_t4
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off57 (k0_t4 : Fin k0_t4_loop.trips) (c0_i32_1044 : BitVec 32) : Fin 2 → Nat :=
  let c2_i32_1043 : BitVec 32 := 2#32
  let c0_i32_36 : BitVec 32 := 0#32
  let c1_i32_38 : BitVec 32 := 1#32
  let arg29 : BitVec 32 := Scf.iv c0_i32_36 c1_i32_38 k0_t4
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off58 (k0_t4 : Fin k0_t4_loop.trips) (c0_i32_1047 : BitVec 32) : Fin 2 → Nat :=
  let c2_i32_1046 : BitVec 32 := 2#32
  let c0_i32_36 : BitVec 32 := 0#32
  let c1_i32_38 : BitVec 32 := 1#32
  let arg29 : BitVec 32 := Scf.iv c0_i32_36 c1_i32_38 k0_t4
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off59 (k0_t4 : Fin k0_t4_loop.trips) (c0_i32_1050 : BitVec 32) : Fin 2 → Nat :=
  let c2_i32_1049 : BitVec 32 := 2#32
  let c0_i32_36 : BitVec 32 := 0#32
  let c1_i32_38 : BitVec 32 := 1#32
  let arg29 : BitVec 32 := Scf.iv c0_i32_36 c1_i32_38 k0_t4
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off60 (k0_t4 : Fin k0_t4_loop.trips) (c0_i32_1053 : BitVec 32) : Fin 2 → Nat :=
  let c2_i32_1052 : BitVec 32 := 2#32
  let c0_i32_36 : BitVec 32 := 0#32
  let c1_i32_38 : BitVec 32 := 1#32
  let arg29 : BitVec 32 := Scf.iv c0_i32_36 c1_i32_38 k0_t4
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off61 (k0_t4 : Fin k0_t4_loop.trips) (c0_i32_1056 : BitVec 32) : Fin 2 → Nat :=
  let c2_i32_1055 : BitVec 32 := 2#32
  let c0_i32_36 : BitVec 32 := 0#32
  let c1_i32_38 : BitVec 32 := 1#32
  let arg29 : BitVec 32 := Scf.iv c0_i32_36 c1_i32_38 k0_t4
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off62 (k0_t4 : Fin k0_t4_loop.trips) (c0_i32_1059 : BitVec 32) : Fin 2 → Nat :=
  let c2_i32_1058 : BitVec 32 := 2#32
  let c0_i32_36 : BitVec 32 := 0#32
  let c1_i32_38 : BitVec 32 := 1#32
  let arg29 : BitVec 32 := Scf.iv c0_i32_36 c1_i32_38 k0_t4
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off63 (k0_t4 : Fin k0_t4_loop.trips) (c0_i32_1062 : BitVec 32) : Fin 2 → Nat :=
  let c2_i32_1061 : BitVec 32 := 2#32
  let c0_i32_36 : BitVec 32 := 0#32
  let c1_i32_38 : BitVec 32 := 1#32
  let arg29 : BitVec 32 := Scf.iv c0_i32_36 c1_i32_38 k0_t4
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off64 (k0_t4 : Fin k0_t4_loop.trips) (c0_i32_1065 : BitVec 32) : Fin 2 → Nat :=
  let c2_i32_1064 : BitVec 32 := 2#32
  let c0_i32_36 : BitVec 32 := 0#32
  let c1_i32_38 : BitVec 32 := 1#32
  let arg29 : BitVec 32 := Scf.iv c0_i32_36 c1_i32_38 k0_t4
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off65 (k0_t4 : Fin k0_t4_loop.trips) (c0_i32_1068 : BitVec 32) : Fin 2 → Nat :=
  let c2_i32_1067 : BitVec 32 := 2#32
  let c0_i32_36 : BitVec 32 := 0#32
  let c1_i32_38 : BitVec 32 := 1#32
  let arg29 : BitVec 32 := Scf.iv c0_i32_36 c1_i32_38 k0_t4
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t5_loop : Scf.Loop 32 :=
  let c0_i32_44 : BitVec 32 := 0#32
  let c32_i32_45 : BitVec 32 := 32#32
  let v51 : BitVec 32 := Scalar.addi c0_i32_44 c32_i32_45
  let c1_i32_46 : BitVec 32 := 1#32
  ⟨c0_i32_44, v51, c1_i32_46⟩
def k0_off66 (k0_t5 : Fin k0_t5_loop.trips) (c0_i32_1023 : BitVec 32) : Fin 2 → Nat :=
  let c2_i32_1022 : BitVec 32 := 2#32
  let c0_i32_44 : BitVec 32 := 0#32
  let c1_i32_46 : BitVec 32 := 1#32
  let arg29 : BitVec 32 := Scf.iv c0_i32_44 c1_i32_46 k0_t5
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off67 (k0_t5 : Fin k0_t5_loop.trips) (c0_i32_1026 : BitVec 32) : Fin 2 → Nat :=
  let c2_i32_1025 : BitVec 32 := 2#32
  let c0_i32_44 : BitVec 32 := 0#32
  let c1_i32_46 : BitVec 32 := 1#32
  let arg29 : BitVec 32 := Scf.iv c0_i32_44 c1_i32_46 k0_t5
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off68 (k0_t5 : Fin k0_t5_loop.trips) (c0_i32_1029 : BitVec 32) : Fin 2 → Nat :=
  let c2_i32_1028 : BitVec 32 := 2#32
  let c0_i32_44 : BitVec 32 := 0#32
  let c1_i32_46 : BitVec 32 := 1#32
  let arg29 : BitVec 32 := Scf.iv c0_i32_44 c1_i32_46 k0_t5
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off69 (k0_t5 : Fin k0_t5_loop.trips) (c0_i32_1032 : BitVec 32) : Fin 2 → Nat :=
  let c2_i32_1031 : BitVec 32 := 2#32
  let c0_i32_44 : BitVec 32 := 0#32
  let c1_i32_46 : BitVec 32 := 1#32
  let arg29 : BitVec 32 := Scf.iv c0_i32_44 c1_i32_46 k0_t5
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off70 (k0_t5 : Fin k0_t5_loop.trips) (c0_i32_1035 : BitVec 32) : Fin 2 → Nat :=
  let c2_i32_1034 : BitVec 32 := 2#32
  let c0_i32_44 : BitVec 32 := 0#32
  let c1_i32_46 : BitVec 32 := 1#32
  let arg29 : BitVec 32 := Scf.iv c0_i32_44 c1_i32_46 k0_t5
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off71 (k0_t5 : Fin k0_t5_loop.trips) (c0_i32_1038 : BitVec 32) : Fin 2 → Nat :=
  let c2_i32_1037 : BitVec 32 := 2#32
  let c0_i32_44 : BitVec 32 := 0#32
  let c1_i32_46 : BitVec 32 := 1#32
  let arg29 : BitVec 32 := Scf.iv c0_i32_44 c1_i32_46 k0_t5
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off72 (k0_t5 : Fin k0_t5_loop.trips) (c0_i32_1041 : BitVec 32) : Fin 2 → Nat :=
  let c2_i32_1040 : BitVec 32 := 2#32
  let c0_i32_44 : BitVec 32 := 0#32
  let c1_i32_46 : BitVec 32 := 1#32
  let arg29 : BitVec 32 := Scf.iv c0_i32_44 c1_i32_46 k0_t5
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off73 (k0_t5 : Fin k0_t5_loop.trips) (c0_i32_1044 : BitVec 32) : Fin 2 → Nat :=
  let c2_i32_1043 : BitVec 32 := 2#32
  let c0_i32_44 : BitVec 32 := 0#32
  let c1_i32_46 : BitVec 32 := 1#32
  let arg29 : BitVec 32 := Scf.iv c0_i32_44 c1_i32_46 k0_t5
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off74 (k0_t5 : Fin k0_t5_loop.trips) (c0_i32_1047 : BitVec 32) : Fin 2 → Nat :=
  let c2_i32_1046 : BitVec 32 := 2#32
  let c0_i32_44 : BitVec 32 := 0#32
  let c1_i32_46 : BitVec 32 := 1#32
  let arg29 : BitVec 32 := Scf.iv c0_i32_44 c1_i32_46 k0_t5
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off75 (k0_t5 : Fin k0_t5_loop.trips) (c0_i32_1050 : BitVec 32) : Fin 2 → Nat :=
  let c2_i32_1049 : BitVec 32 := 2#32
  let c0_i32_44 : BitVec 32 := 0#32
  let c1_i32_46 : BitVec 32 := 1#32
  let arg29 : BitVec 32 := Scf.iv c0_i32_44 c1_i32_46 k0_t5
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off76 (k0_t5 : Fin k0_t5_loop.trips) (c0_i32_1053 : BitVec 32) : Fin 2 → Nat :=
  let c2_i32_1052 : BitVec 32 := 2#32
  let c0_i32_44 : BitVec 32 := 0#32
  let c1_i32_46 : BitVec 32 := 1#32
  let arg29 : BitVec 32 := Scf.iv c0_i32_44 c1_i32_46 k0_t5
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off77 (k0_t5 : Fin k0_t5_loop.trips) (c0_i32_1056 : BitVec 32) : Fin 2 → Nat :=
  let c2_i32_1055 : BitVec 32 := 2#32
  let c0_i32_44 : BitVec 32 := 0#32
  let c1_i32_46 : BitVec 32 := 1#32
  let arg29 : BitVec 32 := Scf.iv c0_i32_44 c1_i32_46 k0_t5
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off78 (k0_t5 : Fin k0_t5_loop.trips) (c0_i32_1059 : BitVec 32) : Fin 2 → Nat :=
  let c2_i32_1058 : BitVec 32 := 2#32
  let c0_i32_44 : BitVec 32 := 0#32
  let c1_i32_46 : BitVec 32 := 1#32
  let arg29 : BitVec 32 := Scf.iv c0_i32_44 c1_i32_46 k0_t5
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off79 (k0_t5 : Fin k0_t5_loop.trips) (c0_i32_1062 : BitVec 32) : Fin 2 → Nat :=
  let c2_i32_1061 : BitVec 32 := 2#32
  let c0_i32_44 : BitVec 32 := 0#32
  let c1_i32_46 : BitVec 32 := 1#32
  let arg29 : BitVec 32 := Scf.iv c0_i32_44 c1_i32_46 k0_t5
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off80 (k0_t5 : Fin k0_t5_loop.trips) (c0_i32_1065 : BitVec 32) : Fin 2 → Nat :=
  let c2_i32_1064 : BitVec 32 := 2#32
  let c0_i32_44 : BitVec 32 := 0#32
  let c1_i32_46 : BitVec 32 := 1#32
  let arg29 : BitVec 32 := Scf.iv c0_i32_44 c1_i32_46 k0_t5
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off81 (k0_t5 : Fin k0_t5_loop.trips) (c0_i32_1068 : BitVec 32) : Fin 2 → Nat :=
  let c2_i32_1067 : BitVec 32 := 2#32
  let c0_i32_44 : BitVec 32 := 0#32
  let c1_i32_46 : BitVec 32 := 1#32
  let arg29 : BitVec 32 := Scf.iv c0_i32_44 c1_i32_46 k0_t5
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t6_loop : Scf.Loop 32 :=
  let c0_i32_52 : BitVec 32 := 0#32
  let c32_i32_53 : BitVec 32 := 32#32
  let v58 : BitVec 32 := Scalar.addi c0_i32_52 c32_i32_53
  let c1_i32_54 : BitVec 32 := 1#32
  ⟨c0_i32_52, v58, c1_i32_54⟩
def k0_off82 (k0_t6 : Fin k0_t6_loop.trips) (c0_i32_1023 : BitVec 32) : Fin 2 → Nat :=
  let c2_i32_1022 : BitVec 32 := 2#32
  let c0_i32_52 : BitVec 32 := 0#32
  let c1_i32_54 : BitVec 32 := 1#32
  let arg29 : BitVec 32 := Scf.iv c0_i32_52 c1_i32_54 k0_t6
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off83 (k0_t6 : Fin k0_t6_loop.trips) (c0_i32_1026 : BitVec 32) : Fin 2 → Nat :=
  let c2_i32_1025 : BitVec 32 := 2#32
  let c0_i32_52 : BitVec 32 := 0#32
  let c1_i32_54 : BitVec 32 := 1#32
  let arg29 : BitVec 32 := Scf.iv c0_i32_52 c1_i32_54 k0_t6
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off84 (k0_t6 : Fin k0_t6_loop.trips) (c0_i32_1029 : BitVec 32) : Fin 2 → Nat :=
  let c2_i32_1028 : BitVec 32 := 2#32
  let c0_i32_52 : BitVec 32 := 0#32
  let c1_i32_54 : BitVec 32 := 1#32
  let arg29 : BitVec 32 := Scf.iv c0_i32_52 c1_i32_54 k0_t6
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off85 (k0_t6 : Fin k0_t6_loop.trips) (c0_i32_1032 : BitVec 32) : Fin 2 → Nat :=
  let c2_i32_1031 : BitVec 32 := 2#32
  let c0_i32_52 : BitVec 32 := 0#32
  let c1_i32_54 : BitVec 32 := 1#32
  let arg29 : BitVec 32 := Scf.iv c0_i32_52 c1_i32_54 k0_t6
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off86 (k0_t6 : Fin k0_t6_loop.trips) (c0_i32_1035 : BitVec 32) : Fin 2 → Nat :=
  let c2_i32_1034 : BitVec 32 := 2#32
  let c0_i32_52 : BitVec 32 := 0#32
  let c1_i32_54 : BitVec 32 := 1#32
  let arg29 : BitVec 32 := Scf.iv c0_i32_52 c1_i32_54 k0_t6
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off87 (k0_t6 : Fin k0_t6_loop.trips) (c0_i32_1038 : BitVec 32) : Fin 2 → Nat :=
  let c2_i32_1037 : BitVec 32 := 2#32
  let c0_i32_52 : BitVec 32 := 0#32
  let c1_i32_54 : BitVec 32 := 1#32
  let arg29 : BitVec 32 := Scf.iv c0_i32_52 c1_i32_54 k0_t6
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off88 (k0_t6 : Fin k0_t6_loop.trips) (c0_i32_1041 : BitVec 32) : Fin 2 → Nat :=
  let c2_i32_1040 : BitVec 32 := 2#32
  let c0_i32_52 : BitVec 32 := 0#32
  let c1_i32_54 : BitVec 32 := 1#32
  let arg29 : BitVec 32 := Scf.iv c0_i32_52 c1_i32_54 k0_t6
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off89 (k0_t6 : Fin k0_t6_loop.trips) (c0_i32_1044 : BitVec 32) : Fin 2 → Nat :=
  let c2_i32_1043 : BitVec 32 := 2#32
  let c0_i32_52 : BitVec 32 := 0#32
  let c1_i32_54 : BitVec 32 := 1#32
  let arg29 : BitVec 32 := Scf.iv c0_i32_52 c1_i32_54 k0_t6
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off90 (k0_t6 : Fin k0_t6_loop.trips) (c0_i32_1047 : BitVec 32) : Fin 2 → Nat :=
  let c2_i32_1046 : BitVec 32 := 2#32
  let c0_i32_52 : BitVec 32 := 0#32
  let c1_i32_54 : BitVec 32 := 1#32
  let arg29 : BitVec 32 := Scf.iv c0_i32_52 c1_i32_54 k0_t6
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off91 (k0_t6 : Fin k0_t6_loop.trips) (c0_i32_1050 : BitVec 32) : Fin 2 → Nat :=
  let c2_i32_1049 : BitVec 32 := 2#32
  let c0_i32_52 : BitVec 32 := 0#32
  let c1_i32_54 : BitVec 32 := 1#32
  let arg29 : BitVec 32 := Scf.iv c0_i32_52 c1_i32_54 k0_t6
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off92 (k0_t6 : Fin k0_t6_loop.trips) (c0_i32_1053 : BitVec 32) : Fin 2 → Nat :=
  let c2_i32_1052 : BitVec 32 := 2#32
  let c0_i32_52 : BitVec 32 := 0#32
  let c1_i32_54 : BitVec 32 := 1#32
  let arg29 : BitVec 32 := Scf.iv c0_i32_52 c1_i32_54 k0_t6
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off93 (k0_t6 : Fin k0_t6_loop.trips) (c0_i32_1056 : BitVec 32) : Fin 2 → Nat :=
  let c2_i32_1055 : BitVec 32 := 2#32
  let c0_i32_52 : BitVec 32 := 0#32
  let c1_i32_54 : BitVec 32 := 1#32
  let arg29 : BitVec 32 := Scf.iv c0_i32_52 c1_i32_54 k0_t6
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off94 (k0_t6 : Fin k0_t6_loop.trips) (c0_i32_1059 : BitVec 32) : Fin 2 → Nat :=
  let c2_i32_1058 : BitVec 32 := 2#32
  let c0_i32_52 : BitVec 32 := 0#32
  let c1_i32_54 : BitVec 32 := 1#32
  let arg29 : BitVec 32 := Scf.iv c0_i32_52 c1_i32_54 k0_t6
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off95 (k0_t6 : Fin k0_t6_loop.trips) (c0_i32_1062 : BitVec 32) : Fin 2 → Nat :=
  let c2_i32_1061 : BitVec 32 := 2#32
  let c0_i32_52 : BitVec 32 := 0#32
  let c1_i32_54 : BitVec 32 := 1#32
  let arg29 : BitVec 32 := Scf.iv c0_i32_52 c1_i32_54 k0_t6
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off96 (k0_t6 : Fin k0_t6_loop.trips) (c0_i32_1065 : BitVec 32) : Fin 2 → Nat :=
  let c2_i32_1064 : BitVec 32 := 2#32
  let c0_i32_52 : BitVec 32 := 0#32
  let c1_i32_54 : BitVec 32 := 1#32
  let arg29 : BitVec 32 := Scf.iv c0_i32_52 c1_i32_54 k0_t6
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off97 (k0_t6 : Fin k0_t6_loop.trips) (c0_i32_1068 : BitVec 32) : Fin 2 → Nat :=
  let c2_i32_1067 : BitVec 32 := 2#32
  let c0_i32_52 : BitVec 32 := 0#32
  let c1_i32_54 : BitVec 32 := 1#32
  let arg29 : BitVec 32 := Scf.iv c0_i32_52 c1_i32_54 k0_t6
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t7_loop : Scf.Loop 32 :=
  let c0_i32_60 : BitVec 32 := 0#32
  let c32_i32_61 : BitVec 32 := 32#32
  let v65 : BitVec 32 := Scalar.addi c0_i32_60 c32_i32_61
  let c1_i32_62 : BitVec 32 := 1#32
  ⟨c0_i32_60, v65, c1_i32_62⟩
def k0_off98 (k0_t7 : Fin k0_t7_loop.trips) (c0_i32_1023 : BitVec 32) : Fin 2 → Nat :=
  let c2_i32_1022 : BitVec 32 := 2#32
  let c0_i32_60 : BitVec 32 := 0#32
  let c1_i32_62 : BitVec 32 := 1#32
  let arg29 : BitVec 32 := Scf.iv c0_i32_60 c1_i32_62 k0_t7
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off99 (k0_t7 : Fin k0_t7_loop.trips) (c0_i32_1026 : BitVec 32) : Fin 2 → Nat :=
  let c2_i32_1025 : BitVec 32 := 2#32
  let c0_i32_60 : BitVec 32 := 0#32
  let c1_i32_62 : BitVec 32 := 1#32
  let arg29 : BitVec 32 := Scf.iv c0_i32_60 c1_i32_62 k0_t7
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off100 (k0_t7 : Fin k0_t7_loop.trips) (c0_i32_1029 : BitVec 32) : Fin 2 → Nat :=
  let c2_i32_1028 : BitVec 32 := 2#32
  let c0_i32_60 : BitVec 32 := 0#32
  let c1_i32_62 : BitVec 32 := 1#32
  let arg29 : BitVec 32 := Scf.iv c0_i32_60 c1_i32_62 k0_t7
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off101 (k0_t7 : Fin k0_t7_loop.trips) (c0_i32_1032 : BitVec 32) : Fin 2 → Nat :=
  let c2_i32_1031 : BitVec 32 := 2#32
  let c0_i32_60 : BitVec 32 := 0#32
  let c1_i32_62 : BitVec 32 := 1#32
  let arg29 : BitVec 32 := Scf.iv c0_i32_60 c1_i32_62 k0_t7
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off102 (k0_t7 : Fin k0_t7_loop.trips) (c0_i32_1035 : BitVec 32) : Fin 2 → Nat :=
  let c2_i32_1034 : BitVec 32 := 2#32
  let c0_i32_60 : BitVec 32 := 0#32
  let c1_i32_62 : BitVec 32 := 1#32
  let arg29 : BitVec 32 := Scf.iv c0_i32_60 c1_i32_62 k0_t7
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off103 (k0_t7 : Fin k0_t7_loop.trips) (c0_i32_1038 : BitVec 32) : Fin 2 → Nat :=
  let c2_i32_1037 : BitVec 32 := 2#32
  let c0_i32_60 : BitVec 32 := 0#32
  let c1_i32_62 : BitVec 32 := 1#32
  let arg29 : BitVec 32 := Scf.iv c0_i32_60 c1_i32_62 k0_t7
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off104 (k0_t7 : Fin k0_t7_loop.trips) (c0_i32_1041 : BitVec 32) : Fin 2 → Nat :=
  let c2_i32_1040 : BitVec 32 := 2#32
  let c0_i32_60 : BitVec 32 := 0#32
  let c1_i32_62 : BitVec 32 := 1#32
  let arg29 : BitVec 32 := Scf.iv c0_i32_60 c1_i32_62 k0_t7
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off105 (k0_t7 : Fin k0_t7_loop.trips) (c0_i32_1044 : BitVec 32) : Fin 2 → Nat :=
  let c2_i32_1043 : BitVec 32 := 2#32
  let c0_i32_60 : BitVec 32 := 0#32
  let c1_i32_62 : BitVec 32 := 1#32
  let arg29 : BitVec 32 := Scf.iv c0_i32_60 c1_i32_62 k0_t7
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off106 (k0_t7 : Fin k0_t7_loop.trips) (c0_i32_1047 : BitVec 32) : Fin 2 → Nat :=
  let c2_i32_1046 : BitVec 32 := 2#32
  let c0_i32_60 : BitVec 32 := 0#32
  let c1_i32_62 : BitVec 32 := 1#32
  let arg29 : BitVec 32 := Scf.iv c0_i32_60 c1_i32_62 k0_t7
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off107 (k0_t7 : Fin k0_t7_loop.trips) (c0_i32_1050 : BitVec 32) : Fin 2 → Nat :=
  let c2_i32_1049 : BitVec 32 := 2#32
  let c0_i32_60 : BitVec 32 := 0#32
  let c1_i32_62 : BitVec 32 := 1#32
  let arg29 : BitVec 32 := Scf.iv c0_i32_60 c1_i32_62 k0_t7
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off108 (k0_t7 : Fin k0_t7_loop.trips) (c0_i32_1053 : BitVec 32) : Fin 2 → Nat :=
  let c2_i32_1052 : BitVec 32 := 2#32
  let c0_i32_60 : BitVec 32 := 0#32
  let c1_i32_62 : BitVec 32 := 1#32
  let arg29 : BitVec 32 := Scf.iv c0_i32_60 c1_i32_62 k0_t7
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off109 (k0_t7 : Fin k0_t7_loop.trips) (c0_i32_1056 : BitVec 32) : Fin 2 → Nat :=
  let c2_i32_1055 : BitVec 32 := 2#32
  let c0_i32_60 : BitVec 32 := 0#32
  let c1_i32_62 : BitVec 32 := 1#32
  let arg29 : BitVec 32 := Scf.iv c0_i32_60 c1_i32_62 k0_t7
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off110 (k0_t7 : Fin k0_t7_loop.trips) (c0_i32_1059 : BitVec 32) : Fin 2 → Nat :=
  let c2_i32_1058 : BitVec 32 := 2#32
  let c0_i32_60 : BitVec 32 := 0#32
  let c1_i32_62 : BitVec 32 := 1#32
  let arg29 : BitVec 32 := Scf.iv c0_i32_60 c1_i32_62 k0_t7
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off111 (k0_t7 : Fin k0_t7_loop.trips) (c0_i32_1062 : BitVec 32) : Fin 2 → Nat :=
  let c2_i32_1061 : BitVec 32 := 2#32
  let c0_i32_60 : BitVec 32 := 0#32
  let c1_i32_62 : BitVec 32 := 1#32
  let arg29 : BitVec 32 := Scf.iv c0_i32_60 c1_i32_62 k0_t7
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off112 (k0_t7 : Fin k0_t7_loop.trips) (c0_i32_1065 : BitVec 32) : Fin 2 → Nat :=
  let c2_i32_1064 : BitVec 32 := 2#32
  let c0_i32_60 : BitVec 32 := 0#32
  let c1_i32_62 : BitVec 32 := 1#32
  let arg29 : BitVec 32 := Scf.iv c0_i32_60 c1_i32_62 k0_t7
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off113 (k0_t7 : Fin k0_t7_loop.trips) (c0_i32_1068 : BitVec 32) : Fin 2 → Nat :=
  let c2_i32_1067 : BitVec 32 := 2#32
  let c0_i32_60 : BitVec 32 := 0#32
  let c1_i32_62 : BitVec 32 := 1#32
  let arg29 : BitVec 32 := Scf.iv c0_i32_60 c1_i32_62 k0_t7
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t8_loop : Scf.Loop 32 :=
  let c0_i32_68 : BitVec 32 := 0#32
  let c32_i32_69 : BitVec 32 := 32#32
  let v72 : BitVec 32 := Scalar.addi c0_i32_68 c32_i32_69
  let c1_i32_70 : BitVec 32 := 1#32
  ⟨c0_i32_68, v72, c1_i32_70⟩
def k0_off114 (k0_t8 : Fin k0_t8_loop.trips) (c0_i32_1023 : BitVec 32) : Fin 2 → Nat :=
  let c2_i32_1022 : BitVec 32 := 2#32
  let c0_i32_68 : BitVec 32 := 0#32
  let c1_i32_70 : BitVec 32 := 1#32
  let arg29 : BitVec 32 := Scf.iv c0_i32_68 c1_i32_70 k0_t8
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off115 (k0_t8 : Fin k0_t8_loop.trips) (c0_i32_1026 : BitVec 32) : Fin 2 → Nat :=
  let c2_i32_1025 : BitVec 32 := 2#32
  let c0_i32_68 : BitVec 32 := 0#32
  let c1_i32_70 : BitVec 32 := 1#32
  let arg29 : BitVec 32 := Scf.iv c0_i32_68 c1_i32_70 k0_t8
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off116 (k0_t8 : Fin k0_t8_loop.trips) (c0_i32_1029 : BitVec 32) : Fin 2 → Nat :=
  let c2_i32_1028 : BitVec 32 := 2#32
  let c0_i32_68 : BitVec 32 := 0#32
  let c1_i32_70 : BitVec 32 := 1#32
  let arg29 : BitVec 32 := Scf.iv c0_i32_68 c1_i32_70 k0_t8
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off117 (k0_t8 : Fin k0_t8_loop.trips) (c0_i32_1032 : BitVec 32) : Fin 2 → Nat :=
  let c2_i32_1031 : BitVec 32 := 2#32
  let c0_i32_68 : BitVec 32 := 0#32
  let c1_i32_70 : BitVec 32 := 1#32
  let arg29 : BitVec 32 := Scf.iv c0_i32_68 c1_i32_70 k0_t8
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off118 (k0_t8 : Fin k0_t8_loop.trips) (c0_i32_1035 : BitVec 32) : Fin 2 → Nat :=
  let c2_i32_1034 : BitVec 32 := 2#32
  let c0_i32_68 : BitVec 32 := 0#32
  let c1_i32_70 : BitVec 32 := 1#32
  let arg29 : BitVec 32 := Scf.iv c0_i32_68 c1_i32_70 k0_t8
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off119 (k0_t8 : Fin k0_t8_loop.trips) (c0_i32_1038 : BitVec 32) : Fin 2 → Nat :=
  let c2_i32_1037 : BitVec 32 := 2#32
  let c0_i32_68 : BitVec 32 := 0#32
  let c1_i32_70 : BitVec 32 := 1#32
  let arg29 : BitVec 32 := Scf.iv c0_i32_68 c1_i32_70 k0_t8
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off120 (k0_t8 : Fin k0_t8_loop.trips) (c0_i32_1041 : BitVec 32) : Fin 2 → Nat :=
  let c2_i32_1040 : BitVec 32 := 2#32
  let c0_i32_68 : BitVec 32 := 0#32
  let c1_i32_70 : BitVec 32 := 1#32
  let arg29 : BitVec 32 := Scf.iv c0_i32_68 c1_i32_70 k0_t8
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off121 (k0_t8 : Fin k0_t8_loop.trips) (c0_i32_1044 : BitVec 32) : Fin 2 → Nat :=
  let c2_i32_1043 : BitVec 32 := 2#32
  let c0_i32_68 : BitVec 32 := 0#32
  let c1_i32_70 : BitVec 32 := 1#32
  let arg29 : BitVec 32 := Scf.iv c0_i32_68 c1_i32_70 k0_t8
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off122 (k0_t8 : Fin k0_t8_loop.trips) (c0_i32_1047 : BitVec 32) : Fin 2 → Nat :=
  let c2_i32_1046 : BitVec 32 := 2#32
  let c0_i32_68 : BitVec 32 := 0#32
  let c1_i32_70 : BitVec 32 := 1#32
  let arg29 : BitVec 32 := Scf.iv c0_i32_68 c1_i32_70 k0_t8
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off123 (k0_t8 : Fin k0_t8_loop.trips) (c0_i32_1050 : BitVec 32) : Fin 2 → Nat :=
  let c2_i32_1049 : BitVec 32 := 2#32
  let c0_i32_68 : BitVec 32 := 0#32
  let c1_i32_70 : BitVec 32 := 1#32
  let arg29 : BitVec 32 := Scf.iv c0_i32_68 c1_i32_70 k0_t8
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off124 (k0_t8 : Fin k0_t8_loop.trips) (c0_i32_1053 : BitVec 32) : Fin 2 → Nat :=
  let c2_i32_1052 : BitVec 32 := 2#32
  let c0_i32_68 : BitVec 32 := 0#32
  let c1_i32_70 : BitVec 32 := 1#32
  let arg29 : BitVec 32 := Scf.iv c0_i32_68 c1_i32_70 k0_t8
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off125 (k0_t8 : Fin k0_t8_loop.trips) (c0_i32_1056 : BitVec 32) : Fin 2 → Nat :=
  let c2_i32_1055 : BitVec 32 := 2#32
  let c0_i32_68 : BitVec 32 := 0#32
  let c1_i32_70 : BitVec 32 := 1#32
  let arg29 : BitVec 32 := Scf.iv c0_i32_68 c1_i32_70 k0_t8
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off126 (k0_t8 : Fin k0_t8_loop.trips) (c0_i32_1059 : BitVec 32) : Fin 2 → Nat :=
  let c2_i32_1058 : BitVec 32 := 2#32
  let c0_i32_68 : BitVec 32 := 0#32
  let c1_i32_70 : BitVec 32 := 1#32
  let arg29 : BitVec 32 := Scf.iv c0_i32_68 c1_i32_70 k0_t8
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off127 (k0_t8 : Fin k0_t8_loop.trips) (c0_i32_1062 : BitVec 32) : Fin 2 → Nat :=
  let c2_i32_1061 : BitVec 32 := 2#32
  let c0_i32_68 : BitVec 32 := 0#32
  let c1_i32_70 : BitVec 32 := 1#32
  let arg29 : BitVec 32 := Scf.iv c0_i32_68 c1_i32_70 k0_t8
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off128 (k0_t8 : Fin k0_t8_loop.trips) (c0_i32_1065 : BitVec 32) : Fin 2 → Nat :=
  let c2_i32_1064 : BitVec 32 := 2#32
  let c0_i32_68 : BitVec 32 := 0#32
  let c1_i32_70 : BitVec 32 := 1#32
  let arg29 : BitVec 32 := Scf.iv c0_i32_68 c1_i32_70 k0_t8
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off129 (k0_t8 : Fin k0_t8_loop.trips) (c0_i32_1068 : BitVec 32) : Fin 2 → Nat :=
  let c2_i32_1067 : BitVec 32 := 2#32
  let c0_i32_68 : BitVec 32 := 0#32
  let c1_i32_70 : BitVec 32 := 1#32
  let arg29 : BitVec 32 := Scf.iv c0_i32_68 c1_i32_70 k0_t8
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t9_loop : Scf.Loop 32 :=
  let c0_i32_76 : BitVec 32 := 0#32
  let c32_i32_77 : BitVec 32 := 32#32
  let v79 : BitVec 32 := Scalar.addi c0_i32_76 c32_i32_77
  let c1_i32_78 : BitVec 32 := 1#32
  ⟨c0_i32_76, v79, c1_i32_78⟩
def k0_off130 (k0_t9 : Fin k0_t9_loop.trips) (c0_i32_1023 : BitVec 32) : Fin 2 → Nat :=
  let c2_i32_1022 : BitVec 32 := 2#32
  let c0_i32_76 : BitVec 32 := 0#32
  let c1_i32_78 : BitVec 32 := 1#32
  let arg29 : BitVec 32 := Scf.iv c0_i32_76 c1_i32_78 k0_t9
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off131 (k0_t9 : Fin k0_t9_loop.trips) (c0_i32_1026 : BitVec 32) : Fin 2 → Nat :=
  let c2_i32_1025 : BitVec 32 := 2#32
  let c0_i32_76 : BitVec 32 := 0#32
  let c1_i32_78 : BitVec 32 := 1#32
  let arg29 : BitVec 32 := Scf.iv c0_i32_76 c1_i32_78 k0_t9
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off132 (k0_t9 : Fin k0_t9_loop.trips) (c0_i32_1029 : BitVec 32) : Fin 2 → Nat :=
  let c2_i32_1028 : BitVec 32 := 2#32
  let c0_i32_76 : BitVec 32 := 0#32
  let c1_i32_78 : BitVec 32 := 1#32
  let arg29 : BitVec 32 := Scf.iv c0_i32_76 c1_i32_78 k0_t9
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off133 (k0_t9 : Fin k0_t9_loop.trips) (c0_i32_1032 : BitVec 32) : Fin 2 → Nat :=
  let c2_i32_1031 : BitVec 32 := 2#32
  let c0_i32_76 : BitVec 32 := 0#32
  let c1_i32_78 : BitVec 32 := 1#32
  let arg29 : BitVec 32 := Scf.iv c0_i32_76 c1_i32_78 k0_t9
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off134 (k0_t9 : Fin k0_t9_loop.trips) (c0_i32_1035 : BitVec 32) : Fin 2 → Nat :=
  let c2_i32_1034 : BitVec 32 := 2#32
  let c0_i32_76 : BitVec 32 := 0#32
  let c1_i32_78 : BitVec 32 := 1#32
  let arg29 : BitVec 32 := Scf.iv c0_i32_76 c1_i32_78 k0_t9
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off135 (k0_t9 : Fin k0_t9_loop.trips) (c0_i32_1038 : BitVec 32) : Fin 2 → Nat :=
  let c2_i32_1037 : BitVec 32 := 2#32
  let c0_i32_76 : BitVec 32 := 0#32
  let c1_i32_78 : BitVec 32 := 1#32
  let arg29 : BitVec 32 := Scf.iv c0_i32_76 c1_i32_78 k0_t9
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off136 (k0_t9 : Fin k0_t9_loop.trips) (c0_i32_1041 : BitVec 32) : Fin 2 → Nat :=
  let c2_i32_1040 : BitVec 32 := 2#32
  let c0_i32_76 : BitVec 32 := 0#32
  let c1_i32_78 : BitVec 32 := 1#32
  let arg29 : BitVec 32 := Scf.iv c0_i32_76 c1_i32_78 k0_t9
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off137 (k0_t9 : Fin k0_t9_loop.trips) (c0_i32_1044 : BitVec 32) : Fin 2 → Nat :=
  let c2_i32_1043 : BitVec 32 := 2#32
  let c0_i32_76 : BitVec 32 := 0#32
  let c1_i32_78 : BitVec 32 := 1#32
  let arg29 : BitVec 32 := Scf.iv c0_i32_76 c1_i32_78 k0_t9
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off138 (k0_t9 : Fin k0_t9_loop.trips) (c0_i32_1047 : BitVec 32) : Fin 2 → Nat :=
  let c2_i32_1046 : BitVec 32 := 2#32
  let c0_i32_76 : BitVec 32 := 0#32
  let c1_i32_78 : BitVec 32 := 1#32
  let arg29 : BitVec 32 := Scf.iv c0_i32_76 c1_i32_78 k0_t9
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off139 (k0_t9 : Fin k0_t9_loop.trips) (c0_i32_1050 : BitVec 32) : Fin 2 → Nat :=
  let c2_i32_1049 : BitVec 32 := 2#32
  let c0_i32_76 : BitVec 32 := 0#32
  let c1_i32_78 : BitVec 32 := 1#32
  let arg29 : BitVec 32 := Scf.iv c0_i32_76 c1_i32_78 k0_t9
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off140 (k0_t9 : Fin k0_t9_loop.trips) (c0_i32_1053 : BitVec 32) : Fin 2 → Nat :=
  let c2_i32_1052 : BitVec 32 := 2#32
  let c0_i32_76 : BitVec 32 := 0#32
  let c1_i32_78 : BitVec 32 := 1#32
  let arg29 : BitVec 32 := Scf.iv c0_i32_76 c1_i32_78 k0_t9
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off141 (k0_t9 : Fin k0_t9_loop.trips) (c0_i32_1056 : BitVec 32) : Fin 2 → Nat :=
  let c2_i32_1055 : BitVec 32 := 2#32
  let c0_i32_76 : BitVec 32 := 0#32
  let c1_i32_78 : BitVec 32 := 1#32
  let arg29 : BitVec 32 := Scf.iv c0_i32_76 c1_i32_78 k0_t9
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off142 (k0_t9 : Fin k0_t9_loop.trips) (c0_i32_1059 : BitVec 32) : Fin 2 → Nat :=
  let c2_i32_1058 : BitVec 32 := 2#32
  let c0_i32_76 : BitVec 32 := 0#32
  let c1_i32_78 : BitVec 32 := 1#32
  let arg29 : BitVec 32 := Scf.iv c0_i32_76 c1_i32_78 k0_t9
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off143 (k0_t9 : Fin k0_t9_loop.trips) (c0_i32_1062 : BitVec 32) : Fin 2 → Nat :=
  let c2_i32_1061 : BitVec 32 := 2#32
  let c0_i32_76 : BitVec 32 := 0#32
  let c1_i32_78 : BitVec 32 := 1#32
  let arg29 : BitVec 32 := Scf.iv c0_i32_76 c1_i32_78 k0_t9
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off144 (k0_t9 : Fin k0_t9_loop.trips) (c0_i32_1065 : BitVec 32) : Fin 2 → Nat :=
  let c2_i32_1064 : BitVec 32 := 2#32
  let c0_i32_76 : BitVec 32 := 0#32
  let c1_i32_78 : BitVec 32 := 1#32
  let arg29 : BitVec 32 := Scf.iv c0_i32_76 c1_i32_78 k0_t9
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off145 (k0_t9 : Fin k0_t9_loop.trips) (c0_i32_1068 : BitVec 32) : Fin 2 → Nat :=
  let c2_i32_1067 : BitVec 32 := 2#32
  let c0_i32_76 : BitVec 32 := 0#32
  let c1_i32_78 : BitVec 32 := 1#32
  let arg29 : BitVec 32 := Scf.iv c0_i32_76 c1_i32_78 k0_t9
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t10_loop : Scf.Loop 32 :=
  let c0_i32_84 : BitVec 32 := 0#32
  let c32_i32_85 : BitVec 32 := 32#32
  let v86 : BitVec 32 := Scalar.addi c0_i32_84 c32_i32_85
  let c1_i32_86 : BitVec 32 := 1#32
  ⟨c0_i32_84, v86, c1_i32_86⟩
def k0_off146 (k0_t10 : Fin k0_t10_loop.trips) (c0_i32_1023 : BitVec 32) : Fin 2 → Nat :=
  let c2_i32_1022 : BitVec 32 := 2#32
  let c0_i32_84 : BitVec 32 := 0#32
  let c1_i32_86 : BitVec 32 := 1#32
  let arg29 : BitVec 32 := Scf.iv c0_i32_84 c1_i32_86 k0_t10
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off147 (k0_t10 : Fin k0_t10_loop.trips) (c0_i32_1026 : BitVec 32) : Fin 2 → Nat :=
  let c2_i32_1025 : BitVec 32 := 2#32
  let c0_i32_84 : BitVec 32 := 0#32
  let c1_i32_86 : BitVec 32 := 1#32
  let arg29 : BitVec 32 := Scf.iv c0_i32_84 c1_i32_86 k0_t10
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off148 (k0_t10 : Fin k0_t10_loop.trips) (c0_i32_1029 : BitVec 32) : Fin 2 → Nat :=
  let c2_i32_1028 : BitVec 32 := 2#32
  let c0_i32_84 : BitVec 32 := 0#32
  let c1_i32_86 : BitVec 32 := 1#32
  let arg29 : BitVec 32 := Scf.iv c0_i32_84 c1_i32_86 k0_t10
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off149 (k0_t10 : Fin k0_t10_loop.trips) (c0_i32_1032 : BitVec 32) : Fin 2 → Nat :=
  let c2_i32_1031 : BitVec 32 := 2#32
  let c0_i32_84 : BitVec 32 := 0#32
  let c1_i32_86 : BitVec 32 := 1#32
  let arg29 : BitVec 32 := Scf.iv c0_i32_84 c1_i32_86 k0_t10
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off150 (k0_t10 : Fin k0_t10_loop.trips) (c0_i32_1035 : BitVec 32) : Fin 2 → Nat :=
  let c2_i32_1034 : BitVec 32 := 2#32
  let c0_i32_84 : BitVec 32 := 0#32
  let c1_i32_86 : BitVec 32 := 1#32
  let arg29 : BitVec 32 := Scf.iv c0_i32_84 c1_i32_86 k0_t10
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off151 (k0_t10 : Fin k0_t10_loop.trips) (c0_i32_1038 : BitVec 32) : Fin 2 → Nat :=
  let c2_i32_1037 : BitVec 32 := 2#32
  let c0_i32_84 : BitVec 32 := 0#32
  let c1_i32_86 : BitVec 32 := 1#32
  let arg29 : BitVec 32 := Scf.iv c0_i32_84 c1_i32_86 k0_t10
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off152 (k0_t10 : Fin k0_t10_loop.trips) (c0_i32_1041 : BitVec 32) : Fin 2 → Nat :=
  let c2_i32_1040 : BitVec 32 := 2#32
  let c0_i32_84 : BitVec 32 := 0#32
  let c1_i32_86 : BitVec 32 := 1#32
  let arg29 : BitVec 32 := Scf.iv c0_i32_84 c1_i32_86 k0_t10
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off153 (k0_t10 : Fin k0_t10_loop.trips) (c0_i32_1044 : BitVec 32) : Fin 2 → Nat :=
  let c2_i32_1043 : BitVec 32 := 2#32
  let c0_i32_84 : BitVec 32 := 0#32
  let c1_i32_86 : BitVec 32 := 1#32
  let arg29 : BitVec 32 := Scf.iv c0_i32_84 c1_i32_86 k0_t10
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off154 (k0_t10 : Fin k0_t10_loop.trips) (c0_i32_1047 : BitVec 32) : Fin 2 → Nat :=
  let c2_i32_1046 : BitVec 32 := 2#32
  let c0_i32_84 : BitVec 32 := 0#32
  let c1_i32_86 : BitVec 32 := 1#32
  let arg29 : BitVec 32 := Scf.iv c0_i32_84 c1_i32_86 k0_t10
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off155 (k0_t10 : Fin k0_t10_loop.trips) (c0_i32_1050 : BitVec 32) : Fin 2 → Nat :=
  let c2_i32_1049 : BitVec 32 := 2#32
  let c0_i32_84 : BitVec 32 := 0#32
  let c1_i32_86 : BitVec 32 := 1#32
  let arg29 : BitVec 32 := Scf.iv c0_i32_84 c1_i32_86 k0_t10
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off156 (k0_t10 : Fin k0_t10_loop.trips) (c0_i32_1053 : BitVec 32) : Fin 2 → Nat :=
  let c2_i32_1052 : BitVec 32 := 2#32
  let c0_i32_84 : BitVec 32 := 0#32
  let c1_i32_86 : BitVec 32 := 1#32
  let arg29 : BitVec 32 := Scf.iv c0_i32_84 c1_i32_86 k0_t10
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off157 (k0_t10 : Fin k0_t10_loop.trips) (c0_i32_1056 : BitVec 32) : Fin 2 → Nat :=
  let c2_i32_1055 : BitVec 32 := 2#32
  let c0_i32_84 : BitVec 32 := 0#32
  let c1_i32_86 : BitVec 32 := 1#32
  let arg29 : BitVec 32 := Scf.iv c0_i32_84 c1_i32_86 k0_t10
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off158 (k0_t10 : Fin k0_t10_loop.trips) (c0_i32_1059 : BitVec 32) : Fin 2 → Nat :=
  let c2_i32_1058 : BitVec 32 := 2#32
  let c0_i32_84 : BitVec 32 := 0#32
  let c1_i32_86 : BitVec 32 := 1#32
  let arg29 : BitVec 32 := Scf.iv c0_i32_84 c1_i32_86 k0_t10
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off159 (k0_t10 : Fin k0_t10_loop.trips) (c0_i32_1062 : BitVec 32) : Fin 2 → Nat :=
  let c2_i32_1061 : BitVec 32 := 2#32
  let c0_i32_84 : BitVec 32 := 0#32
  let c1_i32_86 : BitVec 32 := 1#32
  let arg29 : BitVec 32 := Scf.iv c0_i32_84 c1_i32_86 k0_t10
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off160 (k0_t10 : Fin k0_t10_loop.trips) (c0_i32_1065 : BitVec 32) : Fin 2 → Nat :=
  let c2_i32_1064 : BitVec 32 := 2#32
  let c0_i32_84 : BitVec 32 := 0#32
  let c1_i32_86 : BitVec 32 := 1#32
  let arg29 : BitVec 32 := Scf.iv c0_i32_84 c1_i32_86 k0_t10
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off161 (k0_t10 : Fin k0_t10_loop.trips) (c0_i32_1068 : BitVec 32) : Fin 2 → Nat :=
  let c2_i32_1067 : BitVec 32 := 2#32
  let c0_i32_84 : BitVec 32 := 0#32
  let c1_i32_86 : BitVec 32 := 1#32
  let arg29 : BitVec 32 := Scf.iv c0_i32_84 c1_i32_86 k0_t10
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t11_loop : Scf.Loop 32 :=
  let c0_i32_92 : BitVec 32 := 0#32
  let c32_i32_93 : BitVec 32 := 32#32
  let v93 : BitVec 32 := Scalar.addi c0_i32_92 c32_i32_93
  let c1_i32_94 : BitVec 32 := 1#32
  ⟨c0_i32_92, v93, c1_i32_94⟩
def k0_off162 (k0_t11 : Fin k0_t11_loop.trips) (c0_i32_1023 : BitVec 32) : Fin 2 → Nat :=
  let c2_i32_1022 : BitVec 32 := 2#32
  let c0_i32_92 : BitVec 32 := 0#32
  let c1_i32_94 : BitVec 32 := 1#32
  let arg29 : BitVec 32 := Scf.iv c0_i32_92 c1_i32_94 k0_t11
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off163 (k0_t11 : Fin k0_t11_loop.trips) (c0_i32_1026 : BitVec 32) : Fin 2 → Nat :=
  let c2_i32_1025 : BitVec 32 := 2#32
  let c0_i32_92 : BitVec 32 := 0#32
  let c1_i32_94 : BitVec 32 := 1#32
  let arg29 : BitVec 32 := Scf.iv c0_i32_92 c1_i32_94 k0_t11
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off164 (k0_t11 : Fin k0_t11_loop.trips) (c0_i32_1029 : BitVec 32) : Fin 2 → Nat :=
  let c2_i32_1028 : BitVec 32 := 2#32
  let c0_i32_92 : BitVec 32 := 0#32
  let c1_i32_94 : BitVec 32 := 1#32
  let arg29 : BitVec 32 := Scf.iv c0_i32_92 c1_i32_94 k0_t11
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off165 (k0_t11 : Fin k0_t11_loop.trips) (c0_i32_1032 : BitVec 32) : Fin 2 → Nat :=
  let c2_i32_1031 : BitVec 32 := 2#32
  let c0_i32_92 : BitVec 32 := 0#32
  let c1_i32_94 : BitVec 32 := 1#32
  let arg29 : BitVec 32 := Scf.iv c0_i32_92 c1_i32_94 k0_t11
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off166 (k0_t11 : Fin k0_t11_loop.trips) (c0_i32_1035 : BitVec 32) : Fin 2 → Nat :=
  let c2_i32_1034 : BitVec 32 := 2#32
  let c0_i32_92 : BitVec 32 := 0#32
  let c1_i32_94 : BitVec 32 := 1#32
  let arg29 : BitVec 32 := Scf.iv c0_i32_92 c1_i32_94 k0_t11
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off167 (k0_t11 : Fin k0_t11_loop.trips) (c0_i32_1038 : BitVec 32) : Fin 2 → Nat :=
  let c2_i32_1037 : BitVec 32 := 2#32
  let c0_i32_92 : BitVec 32 := 0#32
  let c1_i32_94 : BitVec 32 := 1#32
  let arg29 : BitVec 32 := Scf.iv c0_i32_92 c1_i32_94 k0_t11
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off168 (k0_t11 : Fin k0_t11_loop.trips) (c0_i32_1041 : BitVec 32) : Fin 2 → Nat :=
  let c2_i32_1040 : BitVec 32 := 2#32
  let c0_i32_92 : BitVec 32 := 0#32
  let c1_i32_94 : BitVec 32 := 1#32
  let arg29 : BitVec 32 := Scf.iv c0_i32_92 c1_i32_94 k0_t11
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off169 (k0_t11 : Fin k0_t11_loop.trips) (c0_i32_1044 : BitVec 32) : Fin 2 → Nat :=
  let c2_i32_1043 : BitVec 32 := 2#32
  let c0_i32_92 : BitVec 32 := 0#32
  let c1_i32_94 : BitVec 32 := 1#32
  let arg29 : BitVec 32 := Scf.iv c0_i32_92 c1_i32_94 k0_t11
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off170 (k0_t11 : Fin k0_t11_loop.trips) (c0_i32_1047 : BitVec 32) : Fin 2 → Nat :=
  let c2_i32_1046 : BitVec 32 := 2#32
  let c0_i32_92 : BitVec 32 := 0#32
  let c1_i32_94 : BitVec 32 := 1#32
  let arg29 : BitVec 32 := Scf.iv c0_i32_92 c1_i32_94 k0_t11
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off171 (k0_t11 : Fin k0_t11_loop.trips) (c0_i32_1050 : BitVec 32) : Fin 2 → Nat :=
  let c2_i32_1049 : BitVec 32 := 2#32
  let c0_i32_92 : BitVec 32 := 0#32
  let c1_i32_94 : BitVec 32 := 1#32
  let arg29 : BitVec 32 := Scf.iv c0_i32_92 c1_i32_94 k0_t11
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off172 (k0_t11 : Fin k0_t11_loop.trips) (c0_i32_1053 : BitVec 32) : Fin 2 → Nat :=
  let c2_i32_1052 : BitVec 32 := 2#32
  let c0_i32_92 : BitVec 32 := 0#32
  let c1_i32_94 : BitVec 32 := 1#32
  let arg29 : BitVec 32 := Scf.iv c0_i32_92 c1_i32_94 k0_t11
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off173 (k0_t11 : Fin k0_t11_loop.trips) (c0_i32_1056 : BitVec 32) : Fin 2 → Nat :=
  let c2_i32_1055 : BitVec 32 := 2#32
  let c0_i32_92 : BitVec 32 := 0#32
  let c1_i32_94 : BitVec 32 := 1#32
  let arg29 : BitVec 32 := Scf.iv c0_i32_92 c1_i32_94 k0_t11
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off174 (k0_t11 : Fin k0_t11_loop.trips) (c0_i32_1059 : BitVec 32) : Fin 2 → Nat :=
  let c2_i32_1058 : BitVec 32 := 2#32
  let c0_i32_92 : BitVec 32 := 0#32
  let c1_i32_94 : BitVec 32 := 1#32
  let arg29 : BitVec 32 := Scf.iv c0_i32_92 c1_i32_94 k0_t11
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off175 (k0_t11 : Fin k0_t11_loop.trips) (c0_i32_1062 : BitVec 32) : Fin 2 → Nat :=
  let c2_i32_1061 : BitVec 32 := 2#32
  let c0_i32_92 : BitVec 32 := 0#32
  let c1_i32_94 : BitVec 32 := 1#32
  let arg29 : BitVec 32 := Scf.iv c0_i32_92 c1_i32_94 k0_t11
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off176 (k0_t11 : Fin k0_t11_loop.trips) (c0_i32_1065 : BitVec 32) : Fin 2 → Nat :=
  let c2_i32_1064 : BitVec 32 := 2#32
  let c0_i32_92 : BitVec 32 := 0#32
  let c1_i32_94 : BitVec 32 := 1#32
  let arg29 : BitVec 32 := Scf.iv c0_i32_92 c1_i32_94 k0_t11
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off177 (k0_t11 : Fin k0_t11_loop.trips) (c0_i32_1068 : BitVec 32) : Fin 2 → Nat :=
  let c2_i32_1067 : BitVec 32 := 2#32
  let c0_i32_92 : BitVec 32 := 0#32
  let c1_i32_94 : BitVec 32 := 1#32
  let arg29 : BitVec 32 := Scf.iv c0_i32_92 c1_i32_94 k0_t11
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t12_loop : Scf.Loop 32 :=
  let c0_i32_100 : BitVec 32 := 0#32
  let c32_i32_101 : BitVec 32 := 32#32
  let v100 : BitVec 32 := Scalar.addi c0_i32_100 c32_i32_101
  let c1_i32_102 : BitVec 32 := 1#32
  ⟨c0_i32_100, v100, c1_i32_102⟩
def k0_off178 (k0_t12 : Fin k0_t12_loop.trips) (c0_i32_1023 : BitVec 32) : Fin 2 → Nat :=
  let c2_i32_1022 : BitVec 32 := 2#32
  let c0_i32_100 : BitVec 32 := 0#32
  let c1_i32_102 : BitVec 32 := 1#32
  let arg29 : BitVec 32 := Scf.iv c0_i32_100 c1_i32_102 k0_t12
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off179 (k0_t12 : Fin k0_t12_loop.trips) (c0_i32_1026 : BitVec 32) : Fin 2 → Nat :=
  let c2_i32_1025 : BitVec 32 := 2#32
  let c0_i32_100 : BitVec 32 := 0#32
  let c1_i32_102 : BitVec 32 := 1#32
  let arg29 : BitVec 32 := Scf.iv c0_i32_100 c1_i32_102 k0_t12
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off180 (k0_t12 : Fin k0_t12_loop.trips) (c0_i32_1029 : BitVec 32) : Fin 2 → Nat :=
  let c2_i32_1028 : BitVec 32 := 2#32
  let c0_i32_100 : BitVec 32 := 0#32
  let c1_i32_102 : BitVec 32 := 1#32
  let arg29 : BitVec 32 := Scf.iv c0_i32_100 c1_i32_102 k0_t12
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off181 (k0_t12 : Fin k0_t12_loop.trips) (c0_i32_1032 : BitVec 32) : Fin 2 → Nat :=
  let c2_i32_1031 : BitVec 32 := 2#32
  let c0_i32_100 : BitVec 32 := 0#32
  let c1_i32_102 : BitVec 32 := 1#32
  let arg29 : BitVec 32 := Scf.iv c0_i32_100 c1_i32_102 k0_t12
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off182 (k0_t12 : Fin k0_t12_loop.trips) (c0_i32_1035 : BitVec 32) : Fin 2 → Nat :=
  let c2_i32_1034 : BitVec 32 := 2#32
  let c0_i32_100 : BitVec 32 := 0#32
  let c1_i32_102 : BitVec 32 := 1#32
  let arg29 : BitVec 32 := Scf.iv c0_i32_100 c1_i32_102 k0_t12
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off183 (k0_t12 : Fin k0_t12_loop.trips) (c0_i32_1038 : BitVec 32) : Fin 2 → Nat :=
  let c2_i32_1037 : BitVec 32 := 2#32
  let c0_i32_100 : BitVec 32 := 0#32
  let c1_i32_102 : BitVec 32 := 1#32
  let arg29 : BitVec 32 := Scf.iv c0_i32_100 c1_i32_102 k0_t12
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off184 (k0_t12 : Fin k0_t12_loop.trips) (c0_i32_1041 : BitVec 32) : Fin 2 → Nat :=
  let c2_i32_1040 : BitVec 32 := 2#32
  let c0_i32_100 : BitVec 32 := 0#32
  let c1_i32_102 : BitVec 32 := 1#32
  let arg29 : BitVec 32 := Scf.iv c0_i32_100 c1_i32_102 k0_t12
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off185 (k0_t12 : Fin k0_t12_loop.trips) (c0_i32_1044 : BitVec 32) : Fin 2 → Nat :=
  let c2_i32_1043 : BitVec 32 := 2#32
  let c0_i32_100 : BitVec 32 := 0#32
  let c1_i32_102 : BitVec 32 := 1#32
  let arg29 : BitVec 32 := Scf.iv c0_i32_100 c1_i32_102 k0_t12
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off186 (k0_t12 : Fin k0_t12_loop.trips) (c0_i32_1047 : BitVec 32) : Fin 2 → Nat :=
  let c2_i32_1046 : BitVec 32 := 2#32
  let c0_i32_100 : BitVec 32 := 0#32
  let c1_i32_102 : BitVec 32 := 1#32
  let arg29 : BitVec 32 := Scf.iv c0_i32_100 c1_i32_102 k0_t12
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off187 (k0_t12 : Fin k0_t12_loop.trips) (c0_i32_1050 : BitVec 32) : Fin 2 → Nat :=
  let c2_i32_1049 : BitVec 32 := 2#32
  let c0_i32_100 : BitVec 32 := 0#32
  let c1_i32_102 : BitVec 32 := 1#32
  let arg29 : BitVec 32 := Scf.iv c0_i32_100 c1_i32_102 k0_t12
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off188 (k0_t12 : Fin k0_t12_loop.trips) (c0_i32_1053 : BitVec 32) : Fin 2 → Nat :=
  let c2_i32_1052 : BitVec 32 := 2#32
  let c0_i32_100 : BitVec 32 := 0#32
  let c1_i32_102 : BitVec 32 := 1#32
  let arg29 : BitVec 32 := Scf.iv c0_i32_100 c1_i32_102 k0_t12
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off189 (k0_t12 : Fin k0_t12_loop.trips) (c0_i32_1056 : BitVec 32) : Fin 2 → Nat :=
  let c2_i32_1055 : BitVec 32 := 2#32
  let c0_i32_100 : BitVec 32 := 0#32
  let c1_i32_102 : BitVec 32 := 1#32
  let arg29 : BitVec 32 := Scf.iv c0_i32_100 c1_i32_102 k0_t12
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off190 (k0_t12 : Fin k0_t12_loop.trips) (c0_i32_1059 : BitVec 32) : Fin 2 → Nat :=
  let c2_i32_1058 : BitVec 32 := 2#32
  let c0_i32_100 : BitVec 32 := 0#32
  let c1_i32_102 : BitVec 32 := 1#32
  let arg29 : BitVec 32 := Scf.iv c0_i32_100 c1_i32_102 k0_t12
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off191 (k0_t12 : Fin k0_t12_loop.trips) (c0_i32_1062 : BitVec 32) : Fin 2 → Nat :=
  let c2_i32_1061 : BitVec 32 := 2#32
  let c0_i32_100 : BitVec 32 := 0#32
  let c1_i32_102 : BitVec 32 := 1#32
  let arg29 : BitVec 32 := Scf.iv c0_i32_100 c1_i32_102 k0_t12
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off192 (k0_t12 : Fin k0_t12_loop.trips) (c0_i32_1065 : BitVec 32) : Fin 2 → Nat :=
  let c2_i32_1064 : BitVec 32 := 2#32
  let c0_i32_100 : BitVec 32 := 0#32
  let c1_i32_102 : BitVec 32 := 1#32
  let arg29 : BitVec 32 := Scf.iv c0_i32_100 c1_i32_102 k0_t12
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off193 (k0_t12 : Fin k0_t12_loop.trips) (c0_i32_1068 : BitVec 32) : Fin 2 → Nat :=
  let c2_i32_1067 : BitVec 32 := 2#32
  let c0_i32_100 : BitVec 32 := 0#32
  let c1_i32_102 : BitVec 32 := 1#32
  let arg29 : BitVec 32 := Scf.iv c0_i32_100 c1_i32_102 k0_t12
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t13_loop : Scf.Loop 32 :=
  let c0_i32_106 : BitVec 32 := 0#32
  let c32_i32_107 : BitVec 32 := 32#32
  let v104 : BitVec 32 := Scalar.addi c0_i32_106 c32_i32_107
  let c1_i32_108 : BitVec 32 := 1#32
  ⟨c0_i32_106, v104, c1_i32_108⟩
def k0_off194 (k0_t13 : Fin k0_t13_loop.trips) (c0_i32_1023 : BitVec 32) : Fin 2 → Nat :=
  let c2_i32_1022 : BitVec 32 := 2#32
  let c0_i32_106 : BitVec 32 := 0#32
  let c1_i32_108 : BitVec 32 := 1#32
  let arg29 : BitVec 32 := Scf.iv c0_i32_106 c1_i32_108 k0_t13
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off195 (k0_t13 : Fin k0_t13_loop.trips) (c0_i32_1026 : BitVec 32) : Fin 2 → Nat :=
  let c2_i32_1025 : BitVec 32 := 2#32
  let c0_i32_106 : BitVec 32 := 0#32
  let c1_i32_108 : BitVec 32 := 1#32
  let arg29 : BitVec 32 := Scf.iv c0_i32_106 c1_i32_108 k0_t13
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off196 (k0_t13 : Fin k0_t13_loop.trips) (c0_i32_1029 : BitVec 32) : Fin 2 → Nat :=
  let c2_i32_1028 : BitVec 32 := 2#32
  let c0_i32_106 : BitVec 32 := 0#32
  let c1_i32_108 : BitVec 32 := 1#32
  let arg29 : BitVec 32 := Scf.iv c0_i32_106 c1_i32_108 k0_t13
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off197 (k0_t13 : Fin k0_t13_loop.trips) (c0_i32_1032 : BitVec 32) : Fin 2 → Nat :=
  let c2_i32_1031 : BitVec 32 := 2#32
  let c0_i32_106 : BitVec 32 := 0#32
  let c1_i32_108 : BitVec 32 := 1#32
  let arg29 : BitVec 32 := Scf.iv c0_i32_106 c1_i32_108 k0_t13
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off198 (k0_t13 : Fin k0_t13_loop.trips) (c0_i32_1035 : BitVec 32) : Fin 2 → Nat :=
  let c2_i32_1034 : BitVec 32 := 2#32
  let c0_i32_106 : BitVec 32 := 0#32
  let c1_i32_108 : BitVec 32 := 1#32
  let arg29 : BitVec 32 := Scf.iv c0_i32_106 c1_i32_108 k0_t13
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off199 (k0_t13 : Fin k0_t13_loop.trips) (c0_i32_1038 : BitVec 32) : Fin 2 → Nat :=
  let c2_i32_1037 : BitVec 32 := 2#32
  let c0_i32_106 : BitVec 32 := 0#32
  let c1_i32_108 : BitVec 32 := 1#32
  let arg29 : BitVec 32 := Scf.iv c0_i32_106 c1_i32_108 k0_t13
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off200 (k0_t13 : Fin k0_t13_loop.trips) (c0_i32_1041 : BitVec 32) : Fin 2 → Nat :=
  let c2_i32_1040 : BitVec 32 := 2#32
  let c0_i32_106 : BitVec 32 := 0#32
  let c1_i32_108 : BitVec 32 := 1#32
  let arg29 : BitVec 32 := Scf.iv c0_i32_106 c1_i32_108 k0_t13
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off201 (k0_t13 : Fin k0_t13_loop.trips) (c0_i32_1044 : BitVec 32) : Fin 2 → Nat :=
  let c2_i32_1043 : BitVec 32 := 2#32
  let c0_i32_106 : BitVec 32 := 0#32
  let c1_i32_108 : BitVec 32 := 1#32
  let arg29 : BitVec 32 := Scf.iv c0_i32_106 c1_i32_108 k0_t13
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off202 (k0_t13 : Fin k0_t13_loop.trips) (c0_i32_1047 : BitVec 32) : Fin 2 → Nat :=
  let c2_i32_1046 : BitVec 32 := 2#32
  let c0_i32_106 : BitVec 32 := 0#32
  let c1_i32_108 : BitVec 32 := 1#32
  let arg29 : BitVec 32 := Scf.iv c0_i32_106 c1_i32_108 k0_t13
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off203 (k0_t13 : Fin k0_t13_loop.trips) (c0_i32_1050 : BitVec 32) : Fin 2 → Nat :=
  let c2_i32_1049 : BitVec 32 := 2#32
  let c0_i32_106 : BitVec 32 := 0#32
  let c1_i32_108 : BitVec 32 := 1#32
  let arg29 : BitVec 32 := Scf.iv c0_i32_106 c1_i32_108 k0_t13
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off204 (k0_t13 : Fin k0_t13_loop.trips) (c0_i32_1053 : BitVec 32) : Fin 2 → Nat :=
  let c2_i32_1052 : BitVec 32 := 2#32
  let c0_i32_106 : BitVec 32 := 0#32
  let c1_i32_108 : BitVec 32 := 1#32
  let arg29 : BitVec 32 := Scf.iv c0_i32_106 c1_i32_108 k0_t13
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off205 (k0_t13 : Fin k0_t13_loop.trips) (c0_i32_1056 : BitVec 32) : Fin 2 → Nat :=
  let c2_i32_1055 : BitVec 32 := 2#32
  let c0_i32_106 : BitVec 32 := 0#32
  let c1_i32_108 : BitVec 32 := 1#32
  let arg29 : BitVec 32 := Scf.iv c0_i32_106 c1_i32_108 k0_t13
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off206 (k0_t13 : Fin k0_t13_loop.trips) (c0_i32_1059 : BitVec 32) : Fin 2 → Nat :=
  let c2_i32_1058 : BitVec 32 := 2#32
  let c0_i32_106 : BitVec 32 := 0#32
  let c1_i32_108 : BitVec 32 := 1#32
  let arg29 : BitVec 32 := Scf.iv c0_i32_106 c1_i32_108 k0_t13
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off207 (k0_t13 : Fin k0_t13_loop.trips) (c0_i32_1062 : BitVec 32) : Fin 2 → Nat :=
  let c2_i32_1061 : BitVec 32 := 2#32
  let c0_i32_106 : BitVec 32 := 0#32
  let c1_i32_108 : BitVec 32 := 1#32
  let arg29 : BitVec 32 := Scf.iv c0_i32_106 c1_i32_108 k0_t13
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off208 (k0_t13 : Fin k0_t13_loop.trips) (c0_i32_1065 : BitVec 32) : Fin 2 → Nat :=
  let c2_i32_1064 : BitVec 32 := 2#32
  let c0_i32_106 : BitVec 32 := 0#32
  let c1_i32_108 : BitVec 32 := 1#32
  let arg29 : BitVec 32 := Scf.iv c0_i32_106 c1_i32_108 k0_t13
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off209 (k0_t13 : Fin k0_t13_loop.trips) (c0_i32_1068 : BitVec 32) : Fin 2 → Nat :=
  let c2_i32_1067 : BitVec 32 := 2#32
  let c0_i32_106 : BitVec 32 := 0#32
  let c1_i32_108 : BitVec 32 := 1#32
  let arg29 : BitVec 32 := Scf.iv c0_i32_106 c1_i32_108 k0_t13
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t14_loop : Scf.Loop 32 :=
  let c0_i32_112 : BitVec 32 := 0#32
  let c32_i32_113 : BitVec 32 := 32#32
  let v108 : BitVec 32 := Scalar.addi c0_i32_112 c32_i32_113
  let c1_i32_114 : BitVec 32 := 1#32
  ⟨c0_i32_112, v108, c1_i32_114⟩
def k0_off210 (k0_t14 : Fin k0_t14_loop.trips) (c0_i32_1023 : BitVec 32) : Fin 2 → Nat :=
  let c2_i32_1022 : BitVec 32 := 2#32
  let c0_i32_112 : BitVec 32 := 0#32
  let c1_i32_114 : BitVec 32 := 1#32
  let arg29 : BitVec 32 := Scf.iv c0_i32_112 c1_i32_114 k0_t14
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off211 (k0_t14 : Fin k0_t14_loop.trips) (c0_i32_1026 : BitVec 32) : Fin 2 → Nat :=
  let c2_i32_1025 : BitVec 32 := 2#32
  let c0_i32_112 : BitVec 32 := 0#32
  let c1_i32_114 : BitVec 32 := 1#32
  let arg29 : BitVec 32 := Scf.iv c0_i32_112 c1_i32_114 k0_t14
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off212 (k0_t14 : Fin k0_t14_loop.trips) (c0_i32_1029 : BitVec 32) : Fin 2 → Nat :=
  let c2_i32_1028 : BitVec 32 := 2#32
  let c0_i32_112 : BitVec 32 := 0#32
  let c1_i32_114 : BitVec 32 := 1#32
  let arg29 : BitVec 32 := Scf.iv c0_i32_112 c1_i32_114 k0_t14
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off213 (k0_t14 : Fin k0_t14_loop.trips) (c0_i32_1032 : BitVec 32) : Fin 2 → Nat :=
  let c2_i32_1031 : BitVec 32 := 2#32
  let c0_i32_112 : BitVec 32 := 0#32
  let c1_i32_114 : BitVec 32 := 1#32
  let arg29 : BitVec 32 := Scf.iv c0_i32_112 c1_i32_114 k0_t14
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off214 (k0_t14 : Fin k0_t14_loop.trips) (c0_i32_1035 : BitVec 32) : Fin 2 → Nat :=
  let c2_i32_1034 : BitVec 32 := 2#32
  let c0_i32_112 : BitVec 32 := 0#32
  let c1_i32_114 : BitVec 32 := 1#32
  let arg29 : BitVec 32 := Scf.iv c0_i32_112 c1_i32_114 k0_t14
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off215 (k0_t14 : Fin k0_t14_loop.trips) (c0_i32_1038 : BitVec 32) : Fin 2 → Nat :=
  let c2_i32_1037 : BitVec 32 := 2#32
  let c0_i32_112 : BitVec 32 := 0#32
  let c1_i32_114 : BitVec 32 := 1#32
  let arg29 : BitVec 32 := Scf.iv c0_i32_112 c1_i32_114 k0_t14
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off216 (k0_t14 : Fin k0_t14_loop.trips) (c0_i32_1041 : BitVec 32) : Fin 2 → Nat :=
  let c2_i32_1040 : BitVec 32 := 2#32
  let c0_i32_112 : BitVec 32 := 0#32
  let c1_i32_114 : BitVec 32 := 1#32
  let arg29 : BitVec 32 := Scf.iv c0_i32_112 c1_i32_114 k0_t14
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off217 (k0_t14 : Fin k0_t14_loop.trips) (c0_i32_1044 : BitVec 32) : Fin 2 → Nat :=
  let c2_i32_1043 : BitVec 32 := 2#32
  let c0_i32_112 : BitVec 32 := 0#32
  let c1_i32_114 : BitVec 32 := 1#32
  let arg29 : BitVec 32 := Scf.iv c0_i32_112 c1_i32_114 k0_t14
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off218 (k0_t14 : Fin k0_t14_loop.trips) (c0_i32_1047 : BitVec 32) : Fin 2 → Nat :=
  let c2_i32_1046 : BitVec 32 := 2#32
  let c0_i32_112 : BitVec 32 := 0#32
  let c1_i32_114 : BitVec 32 := 1#32
  let arg29 : BitVec 32 := Scf.iv c0_i32_112 c1_i32_114 k0_t14
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off219 (k0_t14 : Fin k0_t14_loop.trips) (c0_i32_1050 : BitVec 32) : Fin 2 → Nat :=
  let c2_i32_1049 : BitVec 32 := 2#32
  let c0_i32_112 : BitVec 32 := 0#32
  let c1_i32_114 : BitVec 32 := 1#32
  let arg29 : BitVec 32 := Scf.iv c0_i32_112 c1_i32_114 k0_t14
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off220 (k0_t14 : Fin k0_t14_loop.trips) (c0_i32_1053 : BitVec 32) : Fin 2 → Nat :=
  let c2_i32_1052 : BitVec 32 := 2#32
  let c0_i32_112 : BitVec 32 := 0#32
  let c1_i32_114 : BitVec 32 := 1#32
  let arg29 : BitVec 32 := Scf.iv c0_i32_112 c1_i32_114 k0_t14
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off221 (k0_t14 : Fin k0_t14_loop.trips) (c0_i32_1056 : BitVec 32) : Fin 2 → Nat :=
  let c2_i32_1055 : BitVec 32 := 2#32
  let c0_i32_112 : BitVec 32 := 0#32
  let c1_i32_114 : BitVec 32 := 1#32
  let arg29 : BitVec 32 := Scf.iv c0_i32_112 c1_i32_114 k0_t14
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off222 (k0_t14 : Fin k0_t14_loop.trips) (c0_i32_1059 : BitVec 32) : Fin 2 → Nat :=
  let c2_i32_1058 : BitVec 32 := 2#32
  let c0_i32_112 : BitVec 32 := 0#32
  let c1_i32_114 : BitVec 32 := 1#32
  let arg29 : BitVec 32 := Scf.iv c0_i32_112 c1_i32_114 k0_t14
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off223 (k0_t14 : Fin k0_t14_loop.trips) (c0_i32_1062 : BitVec 32) : Fin 2 → Nat :=
  let c2_i32_1061 : BitVec 32 := 2#32
  let c0_i32_112 : BitVec 32 := 0#32
  let c1_i32_114 : BitVec 32 := 1#32
  let arg29 : BitVec 32 := Scf.iv c0_i32_112 c1_i32_114 k0_t14
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off224 (k0_t14 : Fin k0_t14_loop.trips) (c0_i32_1065 : BitVec 32) : Fin 2 → Nat :=
  let c2_i32_1064 : BitVec 32 := 2#32
  let c0_i32_112 : BitVec 32 := 0#32
  let c1_i32_114 : BitVec 32 := 1#32
  let arg29 : BitVec 32 := Scf.iv c0_i32_112 c1_i32_114 k0_t14
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off225 (k0_t14 : Fin k0_t14_loop.trips) (c0_i32_1068 : BitVec 32) : Fin 2 → Nat :=
  let c2_i32_1067 : BitVec 32 := 2#32
  let c0_i32_112 : BitVec 32 := 0#32
  let c1_i32_114 : BitVec 32 := 1#32
  let arg29 : BitVec 32 := Scf.iv c0_i32_112 c1_i32_114 k0_t14
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t15_loop : Scf.Loop 32 :=
  let c0_i32_118 : BitVec 32 := 0#32
  let c32_i32_119 : BitVec 32 := 32#32
  let v112 : BitVec 32 := Scalar.addi c0_i32_118 c32_i32_119
  let c1_i32_120 : BitVec 32 := 1#32
  ⟨c0_i32_118, v112, c1_i32_120⟩
def k0_off226 (k0_t15 : Fin k0_t15_loop.trips) (c0_i32_1023 : BitVec 32) : Fin 2 → Nat :=
  let c2_i32_1022 : BitVec 32 := 2#32
  let c0_i32_118 : BitVec 32 := 0#32
  let c1_i32_120 : BitVec 32 := 1#32
  let arg29 : BitVec 32 := Scf.iv c0_i32_118 c1_i32_120 k0_t15
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off227 (k0_t15 : Fin k0_t15_loop.trips) (c0_i32_1026 : BitVec 32) : Fin 2 → Nat :=
  let c2_i32_1025 : BitVec 32 := 2#32
  let c0_i32_118 : BitVec 32 := 0#32
  let c1_i32_120 : BitVec 32 := 1#32
  let arg29 : BitVec 32 := Scf.iv c0_i32_118 c1_i32_120 k0_t15
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off228 (k0_t15 : Fin k0_t15_loop.trips) (c0_i32_1029 : BitVec 32) : Fin 2 → Nat :=
  let c2_i32_1028 : BitVec 32 := 2#32
  let c0_i32_118 : BitVec 32 := 0#32
  let c1_i32_120 : BitVec 32 := 1#32
  let arg29 : BitVec 32 := Scf.iv c0_i32_118 c1_i32_120 k0_t15
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off229 (k0_t15 : Fin k0_t15_loop.trips) (c0_i32_1032 : BitVec 32) : Fin 2 → Nat :=
  let c2_i32_1031 : BitVec 32 := 2#32
  let c0_i32_118 : BitVec 32 := 0#32
  let c1_i32_120 : BitVec 32 := 1#32
  let arg29 : BitVec 32 := Scf.iv c0_i32_118 c1_i32_120 k0_t15
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off230 (k0_t15 : Fin k0_t15_loop.trips) (c0_i32_1035 : BitVec 32) : Fin 2 → Nat :=
  let c2_i32_1034 : BitVec 32 := 2#32
  let c0_i32_118 : BitVec 32 := 0#32
  let c1_i32_120 : BitVec 32 := 1#32
  let arg29 : BitVec 32 := Scf.iv c0_i32_118 c1_i32_120 k0_t15
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off231 (k0_t15 : Fin k0_t15_loop.trips) (c0_i32_1038 : BitVec 32) : Fin 2 → Nat :=
  let c2_i32_1037 : BitVec 32 := 2#32
  let c0_i32_118 : BitVec 32 := 0#32
  let c1_i32_120 : BitVec 32 := 1#32
  let arg29 : BitVec 32 := Scf.iv c0_i32_118 c1_i32_120 k0_t15
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off232 (k0_t15 : Fin k0_t15_loop.trips) (c0_i32_1041 : BitVec 32) : Fin 2 → Nat :=
  let c2_i32_1040 : BitVec 32 := 2#32
  let c0_i32_118 : BitVec 32 := 0#32
  let c1_i32_120 : BitVec 32 := 1#32
  let arg29 : BitVec 32 := Scf.iv c0_i32_118 c1_i32_120 k0_t15
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off233 (k0_t15 : Fin k0_t15_loop.trips) (c0_i32_1044 : BitVec 32) : Fin 2 → Nat :=
  let c2_i32_1043 : BitVec 32 := 2#32
  let c0_i32_118 : BitVec 32 := 0#32
  let c1_i32_120 : BitVec 32 := 1#32
  let arg29 : BitVec 32 := Scf.iv c0_i32_118 c1_i32_120 k0_t15
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off234 (k0_t15 : Fin k0_t15_loop.trips) (c0_i32_1047 : BitVec 32) : Fin 2 → Nat :=
  let c2_i32_1046 : BitVec 32 := 2#32
  let c0_i32_118 : BitVec 32 := 0#32
  let c1_i32_120 : BitVec 32 := 1#32
  let arg29 : BitVec 32 := Scf.iv c0_i32_118 c1_i32_120 k0_t15
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off235 (k0_t15 : Fin k0_t15_loop.trips) (c0_i32_1050 : BitVec 32) : Fin 2 → Nat :=
  let c2_i32_1049 : BitVec 32 := 2#32
  let c0_i32_118 : BitVec 32 := 0#32
  let c1_i32_120 : BitVec 32 := 1#32
  let arg29 : BitVec 32 := Scf.iv c0_i32_118 c1_i32_120 k0_t15
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off236 (k0_t15 : Fin k0_t15_loop.trips) (c0_i32_1053 : BitVec 32) : Fin 2 → Nat :=
  let c2_i32_1052 : BitVec 32 := 2#32
  let c0_i32_118 : BitVec 32 := 0#32
  let c1_i32_120 : BitVec 32 := 1#32
  let arg29 : BitVec 32 := Scf.iv c0_i32_118 c1_i32_120 k0_t15
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off237 (k0_t15 : Fin k0_t15_loop.trips) (c0_i32_1056 : BitVec 32) : Fin 2 → Nat :=
  let c2_i32_1055 : BitVec 32 := 2#32
  let c0_i32_118 : BitVec 32 := 0#32
  let c1_i32_120 : BitVec 32 := 1#32
  let arg29 : BitVec 32 := Scf.iv c0_i32_118 c1_i32_120 k0_t15
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off238 (k0_t15 : Fin k0_t15_loop.trips) (c0_i32_1059 : BitVec 32) : Fin 2 → Nat :=
  let c2_i32_1058 : BitVec 32 := 2#32
  let c0_i32_118 : BitVec 32 := 0#32
  let c1_i32_120 : BitVec 32 := 1#32
  let arg29 : BitVec 32 := Scf.iv c0_i32_118 c1_i32_120 k0_t15
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off239 (k0_t15 : Fin k0_t15_loop.trips) (c0_i32_1062 : BitVec 32) : Fin 2 → Nat :=
  let c2_i32_1061 : BitVec 32 := 2#32
  let c0_i32_118 : BitVec 32 := 0#32
  let c1_i32_120 : BitVec 32 := 1#32
  let arg29 : BitVec 32 := Scf.iv c0_i32_118 c1_i32_120 k0_t15
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off240 (k0_t15 : Fin k0_t15_loop.trips) (c0_i32_1065 : BitVec 32) : Fin 2 → Nat :=
  let c2_i32_1064 : BitVec 32 := 2#32
  let c0_i32_118 : BitVec 32 := 0#32
  let c1_i32_120 : BitVec 32 := 1#32
  let arg29 : BitVec 32 := Scf.iv c0_i32_118 c1_i32_120 k0_t15
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off241 (k0_t15 : Fin k0_t15_loop.trips) (c0_i32_1068 : BitVec 32) : Fin 2 → Nat :=
  let c2_i32_1067 : BitVec 32 := 2#32
  let c0_i32_118 : BitVec 32 := 0#32
  let c1_i32_120 : BitVec 32 := 1#32
  let arg29 : BitVec 32 := Scf.iv c0_i32_118 c1_i32_120 k0_t15
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t16_loop : Scf.Loop 32 :=
  let c0_i32_124 : BitVec 32 := 0#32
  let c32_i32_125 : BitVec 32 := 32#32
  let v116 : BitVec 32 := Scalar.addi c0_i32_124 c32_i32_125
  let c1_i32_126 : BitVec 32 := 1#32
  ⟨c0_i32_124, v116, c1_i32_126⟩
def k0_off242 (k0_t16 : Fin k0_t16_loop.trips) (c0_i32_1023 : BitVec 32) : Fin 2 → Nat :=
  let c2_i32_1022 : BitVec 32 := 2#32
  let c0_i32_124 : BitVec 32 := 0#32
  let c1_i32_126 : BitVec 32 := 1#32
  let arg29 : BitVec 32 := Scf.iv c0_i32_124 c1_i32_126 k0_t16
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off243 (k0_t16 : Fin k0_t16_loop.trips) (c0_i32_1026 : BitVec 32) : Fin 2 → Nat :=
  let c2_i32_1025 : BitVec 32 := 2#32
  let c0_i32_124 : BitVec 32 := 0#32
  let c1_i32_126 : BitVec 32 := 1#32
  let arg29 : BitVec 32 := Scf.iv c0_i32_124 c1_i32_126 k0_t16
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off244 (k0_t16 : Fin k0_t16_loop.trips) (c0_i32_1029 : BitVec 32) : Fin 2 → Nat :=
  let c2_i32_1028 : BitVec 32 := 2#32
  let c0_i32_124 : BitVec 32 := 0#32
  let c1_i32_126 : BitVec 32 := 1#32
  let arg29 : BitVec 32 := Scf.iv c0_i32_124 c1_i32_126 k0_t16
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off245 (k0_t16 : Fin k0_t16_loop.trips) (c0_i32_1032 : BitVec 32) : Fin 2 → Nat :=
  let c2_i32_1031 : BitVec 32 := 2#32
  let c0_i32_124 : BitVec 32 := 0#32
  let c1_i32_126 : BitVec 32 := 1#32
  let arg29 : BitVec 32 := Scf.iv c0_i32_124 c1_i32_126 k0_t16
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off246 (k0_t16 : Fin k0_t16_loop.trips) (c0_i32_1035 : BitVec 32) : Fin 2 → Nat :=
  let c2_i32_1034 : BitVec 32 := 2#32
  let c0_i32_124 : BitVec 32 := 0#32
  let c1_i32_126 : BitVec 32 := 1#32
  let arg29 : BitVec 32 := Scf.iv c0_i32_124 c1_i32_126 k0_t16
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off247 (k0_t16 : Fin k0_t16_loop.trips) (c0_i32_1038 : BitVec 32) : Fin 2 → Nat :=
  let c2_i32_1037 : BitVec 32 := 2#32
  let c0_i32_124 : BitVec 32 := 0#32
  let c1_i32_126 : BitVec 32 := 1#32
  let arg29 : BitVec 32 := Scf.iv c0_i32_124 c1_i32_126 k0_t16
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off248 (k0_t16 : Fin k0_t16_loop.trips) (c0_i32_1041 : BitVec 32) : Fin 2 → Nat :=
  let c2_i32_1040 : BitVec 32 := 2#32
  let c0_i32_124 : BitVec 32 := 0#32
  let c1_i32_126 : BitVec 32 := 1#32
  let arg29 : BitVec 32 := Scf.iv c0_i32_124 c1_i32_126 k0_t16
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off249 (k0_t16 : Fin k0_t16_loop.trips) (c0_i32_1044 : BitVec 32) : Fin 2 → Nat :=
  let c2_i32_1043 : BitVec 32 := 2#32
  let c0_i32_124 : BitVec 32 := 0#32
  let c1_i32_126 : BitVec 32 := 1#32
  let arg29 : BitVec 32 := Scf.iv c0_i32_124 c1_i32_126 k0_t16
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off250 (k0_t16 : Fin k0_t16_loop.trips) (c0_i32_1047 : BitVec 32) : Fin 2 → Nat :=
  let c2_i32_1046 : BitVec 32 := 2#32
  let c0_i32_124 : BitVec 32 := 0#32
  let c1_i32_126 : BitVec 32 := 1#32
  let arg29 : BitVec 32 := Scf.iv c0_i32_124 c1_i32_126 k0_t16
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off251 (k0_t16 : Fin k0_t16_loop.trips) (c0_i32_1050 : BitVec 32) : Fin 2 → Nat :=
  let c2_i32_1049 : BitVec 32 := 2#32
  let c0_i32_124 : BitVec 32 := 0#32
  let c1_i32_126 : BitVec 32 := 1#32
  let arg29 : BitVec 32 := Scf.iv c0_i32_124 c1_i32_126 k0_t16
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off252 (k0_t16 : Fin k0_t16_loop.trips) (c0_i32_1053 : BitVec 32) : Fin 2 → Nat :=
  let c2_i32_1052 : BitVec 32 := 2#32
  let c0_i32_124 : BitVec 32 := 0#32
  let c1_i32_126 : BitVec 32 := 1#32
  let arg29 : BitVec 32 := Scf.iv c0_i32_124 c1_i32_126 k0_t16
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off253 (k0_t16 : Fin k0_t16_loop.trips) (c0_i32_1056 : BitVec 32) : Fin 2 → Nat :=
  let c2_i32_1055 : BitVec 32 := 2#32
  let c0_i32_124 : BitVec 32 := 0#32
  let c1_i32_126 : BitVec 32 := 1#32
  let arg29 : BitVec 32 := Scf.iv c0_i32_124 c1_i32_126 k0_t16
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off254 (k0_t16 : Fin k0_t16_loop.trips) (c0_i32_1059 : BitVec 32) : Fin 2 → Nat :=
  let c2_i32_1058 : BitVec 32 := 2#32
  let c0_i32_124 : BitVec 32 := 0#32
  let c1_i32_126 : BitVec 32 := 1#32
  let arg29 : BitVec 32 := Scf.iv c0_i32_124 c1_i32_126 k0_t16
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off255 (k0_t16 : Fin k0_t16_loop.trips) (c0_i32_1062 : BitVec 32) : Fin 2 → Nat :=
  let c2_i32_1061 : BitVec 32 := 2#32
  let c0_i32_124 : BitVec 32 := 0#32
  let c1_i32_126 : BitVec 32 := 1#32
  let arg29 : BitVec 32 := Scf.iv c0_i32_124 c1_i32_126 k0_t16
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off256 (k0_t16 : Fin k0_t16_loop.trips) (c0_i32_1065 : BitVec 32) : Fin 2 → Nat :=
  let c2_i32_1064 : BitVec 32 := 2#32
  let c0_i32_124 : BitVec 32 := 0#32
  let c1_i32_126 : BitVec 32 := 1#32
  let arg29 : BitVec 32 := Scf.iv c0_i32_124 c1_i32_126 k0_t16
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off257 (k0_t16 : Fin k0_t16_loop.trips) (c0_i32_1068 : BitVec 32) : Fin 2 → Nat :=
  let c2_i32_1067 : BitVec 32 := 2#32
  let c0_i32_124 : BitVec 32 := 0#32
  let c1_i32_126 : BitVec 32 := 1#32
  let arg29 : BitVec 32 := Scf.iv c0_i32_124 c1_i32_126 k0_t16
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t17_loop : Scf.Loop 32 :=
  let c0_i32_289 : BitVec 32 := 0#32
  let c32_i32_290 : BitVec 32 := 32#32
  let v678 : BitVec 32 := Scalar.addi c0_i32_289 c32_i32_290
  let c1_i32_291 : BitVec 32 := 1#32
  ⟨c0_i32_289, v678, c1_i32_291⟩
def k0_off258 (k0_t17 : Fin k0_t17_loop.trips) (c0_i32_1023 : BitVec 32) : Fin 2 → Nat :=
  let c2_i32_1022 : BitVec 32 := 2#32
  let c0_i32_289 : BitVec 32 := 0#32
  let c1_i32_291 : BitVec 32 := 1#32
  let arg29 : BitVec 32 := Scf.iv c0_i32_289 c1_i32_291 k0_t17
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off259 (k0_t17 : Fin k0_t17_loop.trips) (c0_i32_1029 : BitVec 32) : Fin 2 → Nat :=
  let c2_i32_1028 : BitVec 32 := 2#32
  let c0_i32_289 : BitVec 32 := 0#32
  let c1_i32_291 : BitVec 32 := 1#32
  let arg29 : BitVec 32 := Scf.iv c0_i32_289 c1_i32_291 k0_t17
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off260 (k0_t17 : Fin k0_t17_loop.trips) (c0_i32_1035 : BitVec 32) : Fin 2 → Nat :=
  let c2_i32_1034 : BitVec 32 := 2#32
  let c0_i32_289 : BitVec 32 := 0#32
  let c1_i32_291 : BitVec 32 := 1#32
  let arg29 : BitVec 32 := Scf.iv c0_i32_289 c1_i32_291 k0_t17
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off261 (k0_t17 : Fin k0_t17_loop.trips) (c0_i32_1041 : BitVec 32) : Fin 2 → Nat :=
  let c2_i32_1040 : BitVec 32 := 2#32
  let c0_i32_289 : BitVec 32 := 0#32
  let c1_i32_291 : BitVec 32 := 1#32
  let arg29 : BitVec 32 := Scf.iv c0_i32_289 c1_i32_291 k0_t17
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off262 (k0_t17 : Fin k0_t17_loop.trips) (c0_i32_1047 : BitVec 32) : Fin 2 → Nat :=
  let c2_i32_1046 : BitVec 32 := 2#32
  let c0_i32_289 : BitVec 32 := 0#32
  let c1_i32_291 : BitVec 32 := 1#32
  let arg29 : BitVec 32 := Scf.iv c0_i32_289 c1_i32_291 k0_t17
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off263 (k0_t17 : Fin k0_t17_loop.trips) (c0_i32_1053 : BitVec 32) : Fin 2 → Nat :=
  let c2_i32_1052 : BitVec 32 := 2#32
  let c0_i32_289 : BitVec 32 := 0#32
  let c1_i32_291 : BitVec 32 := 1#32
  let arg29 : BitVec 32 := Scf.iv c0_i32_289 c1_i32_291 k0_t17
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off264 (k0_t17 : Fin k0_t17_loop.trips) (c0_i32_1059 : BitVec 32) : Fin 2 → Nat :=
  let c2_i32_1058 : BitVec 32 := 2#32
  let c0_i32_289 : BitVec 32 := 0#32
  let c1_i32_291 : BitVec 32 := 1#32
  let arg29 : BitVec 32 := Scf.iv c0_i32_289 c1_i32_291 k0_t17
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off265 (k0_t17 : Fin k0_t17_loop.trips) (c0_i32_1065 : BitVec 32) : Fin 2 → Nat :=
  let c2_i32_1064 : BitVec 32 := 2#32
  let c0_i32_289 : BitVec 32 := 0#32
  let c1_i32_291 : BitVec 32 := 1#32
  let arg29 : BitVec 32 := Scf.iv c0_i32_289 c1_i32_291 k0_t17
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off266 (k0_t17 : Fin k0_t17_loop.trips) (c0_i32_1071 : BitVec 32) : Fin 2 → Nat :=
  let c2_i32_1070 : BitVec 32 := 2#32
  let c0_i32_289 : BitVec 32 := 0#32
  let c1_i32_291 : BitVec 32 := 1#32
  let arg29 : BitVec 32 := Scf.iv c0_i32_289 c1_i32_291 k0_t17
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off267 (k0_t17 : Fin k0_t17_loop.trips) (c0_i32_1077 : BitVec 32) : Fin 2 → Nat :=
  let c2_i32_1076 : BitVec 32 := 2#32
  let c0_i32_289 : BitVec 32 := 0#32
  let c1_i32_291 : BitVec 32 := 1#32
  let arg29 : BitVec 32 := Scf.iv c0_i32_289 c1_i32_291 k0_t17
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off268 (k0_t17 : Fin k0_t17_loop.trips) (c0_i32_1083 : BitVec 32) : Fin 2 → Nat :=
  let c2_i32_1082 : BitVec 32 := 2#32
  let c0_i32_289 : BitVec 32 := 0#32
  let c1_i32_291 : BitVec 32 := 1#32
  let arg29 : BitVec 32 := Scf.iv c0_i32_289 c1_i32_291 k0_t17
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off269 (k0_t17 : Fin k0_t17_loop.trips) (c0_i32_1089 : BitVec 32) : Fin 2 → Nat :=
  let c2_i32_1088 : BitVec 32 := 2#32
  let c0_i32_289 : BitVec 32 := 0#32
  let c1_i32_291 : BitVec 32 := 1#32
  let arg29 : BitVec 32 := Scf.iv c0_i32_289 c1_i32_291 k0_t17
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off270 (k0_t17 : Fin k0_t17_loop.trips) (c0_i32_1095 : BitVec 32) : Fin 2 → Nat :=
  let c2_i32_1094 : BitVec 32 := 2#32
  let c0_i32_289 : BitVec 32 := 0#32
  let c1_i32_291 : BitVec 32 := 1#32
  let arg29 : BitVec 32 := Scf.iv c0_i32_289 c1_i32_291 k0_t17
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off271 (k0_t17 : Fin k0_t17_loop.trips) (c0_i32_1101 : BitVec 32) : Fin 2 → Nat :=
  let c2_i32_1100 : BitVec 32 := 2#32
  let c0_i32_289 : BitVec 32 := 0#32
  let c1_i32_291 : BitVec 32 := 1#32
  let arg29 : BitVec 32 := Scf.iv c0_i32_289 c1_i32_291 k0_t17
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off272 (k0_t17 : Fin k0_t17_loop.trips) (c0_i32_1107 : BitVec 32) : Fin 2 → Nat :=
  let c2_i32_1106 : BitVec 32 := 2#32
  let c0_i32_289 : BitVec 32 := 0#32
  let c1_i32_291 : BitVec 32 := 1#32
  let arg29 : BitVec 32 := Scf.iv c0_i32_289 c1_i32_291 k0_t17
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off273 (k0_t17 : Fin k0_t17_loop.trips) (c0_i32_1113 : BitVec 32) : Fin 2 → Nat :=
  let c2_i32_1112 : BitVec 32 := 2#32
  let c0_i32_289 : BitVec 32 := 0#32
  let c1_i32_291 : BitVec 32 := 1#32
  let arg29 : BitVec 32 := Scf.iv c0_i32_289 c1_i32_291 k0_t17
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t18_loop : Scf.Loop 32 :=
  let c0_i32_297 : BitVec 32 := 0#32
  let c32_i32_298 : BitVec 32 := 32#32
  let v683 : BitVec 32 := Scalar.addi c0_i32_297 c32_i32_298
  let c1_i32_299 : BitVec 32 := 1#32
  ⟨c0_i32_297, v683, c1_i32_299⟩
def k0_off274 (k0_t18 : Fin k0_t18_loop.trips) (c0_i32_1023 : BitVec 32) : Fin 2 → Nat :=
  let c2_i32_1022 : BitVec 32 := 2#32
  let c0_i32_297 : BitVec 32 := 0#32
  let c1_i32_299 : BitVec 32 := 1#32
  let arg29 : BitVec 32 := Scf.iv c0_i32_297 c1_i32_299 k0_t18
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off275 (k0_t18 : Fin k0_t18_loop.trips) (c0_i32_1029 : BitVec 32) : Fin 2 → Nat :=
  let c2_i32_1028 : BitVec 32 := 2#32
  let c0_i32_297 : BitVec 32 := 0#32
  let c1_i32_299 : BitVec 32 := 1#32
  let arg29 : BitVec 32 := Scf.iv c0_i32_297 c1_i32_299 k0_t18
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off276 (k0_t18 : Fin k0_t18_loop.trips) (c0_i32_1035 : BitVec 32) : Fin 2 → Nat :=
  let c2_i32_1034 : BitVec 32 := 2#32
  let c0_i32_297 : BitVec 32 := 0#32
  let c1_i32_299 : BitVec 32 := 1#32
  let arg29 : BitVec 32 := Scf.iv c0_i32_297 c1_i32_299 k0_t18
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off277 (k0_t18 : Fin k0_t18_loop.trips) (c0_i32_1041 : BitVec 32) : Fin 2 → Nat :=
  let c2_i32_1040 : BitVec 32 := 2#32
  let c0_i32_297 : BitVec 32 := 0#32
  let c1_i32_299 : BitVec 32 := 1#32
  let arg29 : BitVec 32 := Scf.iv c0_i32_297 c1_i32_299 k0_t18
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off278 (k0_t18 : Fin k0_t18_loop.trips) (c0_i32_1047 : BitVec 32) : Fin 2 → Nat :=
  let c2_i32_1046 : BitVec 32 := 2#32
  let c0_i32_297 : BitVec 32 := 0#32
  let c1_i32_299 : BitVec 32 := 1#32
  let arg29 : BitVec 32 := Scf.iv c0_i32_297 c1_i32_299 k0_t18
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off279 (k0_t18 : Fin k0_t18_loop.trips) (c0_i32_1053 : BitVec 32) : Fin 2 → Nat :=
  let c2_i32_1052 : BitVec 32 := 2#32
  let c0_i32_297 : BitVec 32 := 0#32
  let c1_i32_299 : BitVec 32 := 1#32
  let arg29 : BitVec 32 := Scf.iv c0_i32_297 c1_i32_299 k0_t18
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off280 (k0_t18 : Fin k0_t18_loop.trips) (c0_i32_1059 : BitVec 32) : Fin 2 → Nat :=
  let c2_i32_1058 : BitVec 32 := 2#32
  let c0_i32_297 : BitVec 32 := 0#32
  let c1_i32_299 : BitVec 32 := 1#32
  let arg29 : BitVec 32 := Scf.iv c0_i32_297 c1_i32_299 k0_t18
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off281 (k0_t18 : Fin k0_t18_loop.trips) (c0_i32_1065 : BitVec 32) : Fin 2 → Nat :=
  let c2_i32_1064 : BitVec 32 := 2#32
  let c0_i32_297 : BitVec 32 := 0#32
  let c1_i32_299 : BitVec 32 := 1#32
  let arg29 : BitVec 32 := Scf.iv c0_i32_297 c1_i32_299 k0_t18
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off282 (k0_t18 : Fin k0_t18_loop.trips) (c0_i32_1071 : BitVec 32) : Fin 2 → Nat :=
  let c2_i32_1070 : BitVec 32 := 2#32
  let c0_i32_297 : BitVec 32 := 0#32
  let c1_i32_299 : BitVec 32 := 1#32
  let arg29 : BitVec 32 := Scf.iv c0_i32_297 c1_i32_299 k0_t18
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off283 (k0_t18 : Fin k0_t18_loop.trips) (c0_i32_1077 : BitVec 32) : Fin 2 → Nat :=
  let c2_i32_1076 : BitVec 32 := 2#32
  let c0_i32_297 : BitVec 32 := 0#32
  let c1_i32_299 : BitVec 32 := 1#32
  let arg29 : BitVec 32 := Scf.iv c0_i32_297 c1_i32_299 k0_t18
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off284 (k0_t18 : Fin k0_t18_loop.trips) (c0_i32_1083 : BitVec 32) : Fin 2 → Nat :=
  let c2_i32_1082 : BitVec 32 := 2#32
  let c0_i32_297 : BitVec 32 := 0#32
  let c1_i32_299 : BitVec 32 := 1#32
  let arg29 : BitVec 32 := Scf.iv c0_i32_297 c1_i32_299 k0_t18
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off285 (k0_t18 : Fin k0_t18_loop.trips) (c0_i32_1089 : BitVec 32) : Fin 2 → Nat :=
  let c2_i32_1088 : BitVec 32 := 2#32
  let c0_i32_297 : BitVec 32 := 0#32
  let c1_i32_299 : BitVec 32 := 1#32
  let arg29 : BitVec 32 := Scf.iv c0_i32_297 c1_i32_299 k0_t18
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off286 (k0_t18 : Fin k0_t18_loop.trips) (c0_i32_1095 : BitVec 32) : Fin 2 → Nat :=
  let c2_i32_1094 : BitVec 32 := 2#32
  let c0_i32_297 : BitVec 32 := 0#32
  let c1_i32_299 : BitVec 32 := 1#32
  let arg29 : BitVec 32 := Scf.iv c0_i32_297 c1_i32_299 k0_t18
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off287 (k0_t18 : Fin k0_t18_loop.trips) (c0_i32_1101 : BitVec 32) : Fin 2 → Nat :=
  let c2_i32_1100 : BitVec 32 := 2#32
  let c0_i32_297 : BitVec 32 := 0#32
  let c1_i32_299 : BitVec 32 := 1#32
  let arg29 : BitVec 32 := Scf.iv c0_i32_297 c1_i32_299 k0_t18
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off288 (k0_t18 : Fin k0_t18_loop.trips) (c0_i32_1107 : BitVec 32) : Fin 2 → Nat :=
  let c2_i32_1106 : BitVec 32 := 2#32
  let c0_i32_297 : BitVec 32 := 0#32
  let c1_i32_299 : BitVec 32 := 1#32
  let arg29 : BitVec 32 := Scf.iv c0_i32_297 c1_i32_299 k0_t18
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off289 (k0_t18 : Fin k0_t18_loop.trips) (c0_i32_1113 : BitVec 32) : Fin 2 → Nat :=
  let c2_i32_1112 : BitVec 32 := 2#32
  let c0_i32_297 : BitVec 32 := 0#32
  let c1_i32_299 : BitVec 32 := 1#32
  let arg29 : BitVec 32 := Scf.iv c0_i32_297 c1_i32_299 k0_t18
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t19_loop : Scf.Loop 32 :=
  let c0_i32_305 : BitVec 32 := 0#32
  let c32_i32_306 : BitVec 32 := 32#32
  let v688 : BitVec 32 := Scalar.addi c0_i32_305 c32_i32_306
  let c1_i32_307 : BitVec 32 := 1#32
  ⟨c0_i32_305, v688, c1_i32_307⟩
def k0_off290 (k0_t19 : Fin k0_t19_loop.trips) (c0_i32_1023 : BitVec 32) : Fin 2 → Nat :=
  let c2_i32_1022 : BitVec 32 := 2#32
  let c0_i32_305 : BitVec 32 := 0#32
  let c1_i32_307 : BitVec 32 := 1#32
  let arg29 : BitVec 32 := Scf.iv c0_i32_305 c1_i32_307 k0_t19
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off291 (k0_t19 : Fin k0_t19_loop.trips) (c0_i32_1029 : BitVec 32) : Fin 2 → Nat :=
  let c2_i32_1028 : BitVec 32 := 2#32
  let c0_i32_305 : BitVec 32 := 0#32
  let c1_i32_307 : BitVec 32 := 1#32
  let arg29 : BitVec 32 := Scf.iv c0_i32_305 c1_i32_307 k0_t19
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off292 (k0_t19 : Fin k0_t19_loop.trips) (c0_i32_1035 : BitVec 32) : Fin 2 → Nat :=
  let c2_i32_1034 : BitVec 32 := 2#32
  let c0_i32_305 : BitVec 32 := 0#32
  let c1_i32_307 : BitVec 32 := 1#32
  let arg29 : BitVec 32 := Scf.iv c0_i32_305 c1_i32_307 k0_t19
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off293 (k0_t19 : Fin k0_t19_loop.trips) (c0_i32_1041 : BitVec 32) : Fin 2 → Nat :=
  let c2_i32_1040 : BitVec 32 := 2#32
  let c0_i32_305 : BitVec 32 := 0#32
  let c1_i32_307 : BitVec 32 := 1#32
  let arg29 : BitVec 32 := Scf.iv c0_i32_305 c1_i32_307 k0_t19
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off294 (k0_t19 : Fin k0_t19_loop.trips) (c0_i32_1047 : BitVec 32) : Fin 2 → Nat :=
  let c2_i32_1046 : BitVec 32 := 2#32
  let c0_i32_305 : BitVec 32 := 0#32
  let c1_i32_307 : BitVec 32 := 1#32
  let arg29 : BitVec 32 := Scf.iv c0_i32_305 c1_i32_307 k0_t19
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off295 (k0_t19 : Fin k0_t19_loop.trips) (c0_i32_1053 : BitVec 32) : Fin 2 → Nat :=
  let c2_i32_1052 : BitVec 32 := 2#32
  let c0_i32_305 : BitVec 32 := 0#32
  let c1_i32_307 : BitVec 32 := 1#32
  let arg29 : BitVec 32 := Scf.iv c0_i32_305 c1_i32_307 k0_t19
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off296 (k0_t19 : Fin k0_t19_loop.trips) (c0_i32_1059 : BitVec 32) : Fin 2 → Nat :=
  let c2_i32_1058 : BitVec 32 := 2#32
  let c0_i32_305 : BitVec 32 := 0#32
  let c1_i32_307 : BitVec 32 := 1#32
  let arg29 : BitVec 32 := Scf.iv c0_i32_305 c1_i32_307 k0_t19
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off297 (k0_t19 : Fin k0_t19_loop.trips) (c0_i32_1065 : BitVec 32) : Fin 2 → Nat :=
  let c2_i32_1064 : BitVec 32 := 2#32
  let c0_i32_305 : BitVec 32 := 0#32
  let c1_i32_307 : BitVec 32 := 1#32
  let arg29 : BitVec 32 := Scf.iv c0_i32_305 c1_i32_307 k0_t19
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off298 (k0_t19 : Fin k0_t19_loop.trips) (c0_i32_1071 : BitVec 32) : Fin 2 → Nat :=
  let c2_i32_1070 : BitVec 32 := 2#32
  let c0_i32_305 : BitVec 32 := 0#32
  let c1_i32_307 : BitVec 32 := 1#32
  let arg29 : BitVec 32 := Scf.iv c0_i32_305 c1_i32_307 k0_t19
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off299 (k0_t19 : Fin k0_t19_loop.trips) (c0_i32_1077 : BitVec 32) : Fin 2 → Nat :=
  let c2_i32_1076 : BitVec 32 := 2#32
  let c0_i32_305 : BitVec 32 := 0#32
  let c1_i32_307 : BitVec 32 := 1#32
  let arg29 : BitVec 32 := Scf.iv c0_i32_305 c1_i32_307 k0_t19
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off300 (k0_t19 : Fin k0_t19_loop.trips) (c0_i32_1083 : BitVec 32) : Fin 2 → Nat :=
  let c2_i32_1082 : BitVec 32 := 2#32
  let c0_i32_305 : BitVec 32 := 0#32
  let c1_i32_307 : BitVec 32 := 1#32
  let arg29 : BitVec 32 := Scf.iv c0_i32_305 c1_i32_307 k0_t19
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off301 (k0_t19 : Fin k0_t19_loop.trips) (c0_i32_1089 : BitVec 32) : Fin 2 → Nat :=
  let c2_i32_1088 : BitVec 32 := 2#32
  let c0_i32_305 : BitVec 32 := 0#32
  let c1_i32_307 : BitVec 32 := 1#32
  let arg29 : BitVec 32 := Scf.iv c0_i32_305 c1_i32_307 k0_t19
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off302 (k0_t19 : Fin k0_t19_loop.trips) (c0_i32_1095 : BitVec 32) : Fin 2 → Nat :=
  let c2_i32_1094 : BitVec 32 := 2#32
  let c0_i32_305 : BitVec 32 := 0#32
  let c1_i32_307 : BitVec 32 := 1#32
  let arg29 : BitVec 32 := Scf.iv c0_i32_305 c1_i32_307 k0_t19
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off303 (k0_t19 : Fin k0_t19_loop.trips) (c0_i32_1101 : BitVec 32) : Fin 2 → Nat :=
  let c2_i32_1100 : BitVec 32 := 2#32
  let c0_i32_305 : BitVec 32 := 0#32
  let c1_i32_307 : BitVec 32 := 1#32
  let arg29 : BitVec 32 := Scf.iv c0_i32_305 c1_i32_307 k0_t19
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off304 (k0_t19 : Fin k0_t19_loop.trips) (c0_i32_1107 : BitVec 32) : Fin 2 → Nat :=
  let c2_i32_1106 : BitVec 32 := 2#32
  let c0_i32_305 : BitVec 32 := 0#32
  let c1_i32_307 : BitVec 32 := 1#32
  let arg29 : BitVec 32 := Scf.iv c0_i32_305 c1_i32_307 k0_t19
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off305 (k0_t19 : Fin k0_t19_loop.trips) (c0_i32_1113 : BitVec 32) : Fin 2 → Nat :=
  let c2_i32_1112 : BitVec 32 := 2#32
  let c0_i32_305 : BitVec 32 := 0#32
  let c1_i32_307 : BitVec 32 := 1#32
  let arg29 : BitVec 32 := Scf.iv c0_i32_305 c1_i32_307 k0_t19
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t20_loop : Scf.Loop 32 :=
  let c0_i32_313 : BitVec 32 := 0#32
  let c32_i32_314 : BitVec 32 := 32#32
  let v693 : BitVec 32 := Scalar.addi c0_i32_313 c32_i32_314
  let c1_i32_315 : BitVec 32 := 1#32
  ⟨c0_i32_313, v693, c1_i32_315⟩
def k0_off306 (k0_t20 : Fin k0_t20_loop.trips) (c0_i32_1023 : BitVec 32) : Fin 2 → Nat :=
  let c2_i32_1022 : BitVec 32 := 2#32
  let c0_i32_313 : BitVec 32 := 0#32
  let c1_i32_315 : BitVec 32 := 1#32
  let arg29 : BitVec 32 := Scf.iv c0_i32_313 c1_i32_315 k0_t20
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off307 (k0_t20 : Fin k0_t20_loop.trips) (c0_i32_1029 : BitVec 32) : Fin 2 → Nat :=
  let c2_i32_1028 : BitVec 32 := 2#32
  let c0_i32_313 : BitVec 32 := 0#32
  let c1_i32_315 : BitVec 32 := 1#32
  let arg29 : BitVec 32 := Scf.iv c0_i32_313 c1_i32_315 k0_t20
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off308 (k0_t20 : Fin k0_t20_loop.trips) (c0_i32_1035 : BitVec 32) : Fin 2 → Nat :=
  let c2_i32_1034 : BitVec 32 := 2#32
  let c0_i32_313 : BitVec 32 := 0#32
  let c1_i32_315 : BitVec 32 := 1#32
  let arg29 : BitVec 32 := Scf.iv c0_i32_313 c1_i32_315 k0_t20
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off309 (k0_t20 : Fin k0_t20_loop.trips) (c0_i32_1041 : BitVec 32) : Fin 2 → Nat :=
  let c2_i32_1040 : BitVec 32 := 2#32
  let c0_i32_313 : BitVec 32 := 0#32
  let c1_i32_315 : BitVec 32 := 1#32
  let arg29 : BitVec 32 := Scf.iv c0_i32_313 c1_i32_315 k0_t20
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off310 (k0_t20 : Fin k0_t20_loop.trips) (c0_i32_1047 : BitVec 32) : Fin 2 → Nat :=
  let c2_i32_1046 : BitVec 32 := 2#32
  let c0_i32_313 : BitVec 32 := 0#32
  let c1_i32_315 : BitVec 32 := 1#32
  let arg29 : BitVec 32 := Scf.iv c0_i32_313 c1_i32_315 k0_t20
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off311 (k0_t20 : Fin k0_t20_loop.trips) (c0_i32_1053 : BitVec 32) : Fin 2 → Nat :=
  let c2_i32_1052 : BitVec 32 := 2#32
  let c0_i32_313 : BitVec 32 := 0#32
  let c1_i32_315 : BitVec 32 := 1#32
  let arg29 : BitVec 32 := Scf.iv c0_i32_313 c1_i32_315 k0_t20
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off312 (k0_t20 : Fin k0_t20_loop.trips) (c0_i32_1059 : BitVec 32) : Fin 2 → Nat :=
  let c2_i32_1058 : BitVec 32 := 2#32
  let c0_i32_313 : BitVec 32 := 0#32
  let c1_i32_315 : BitVec 32 := 1#32
  let arg29 : BitVec 32 := Scf.iv c0_i32_313 c1_i32_315 k0_t20
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off313 (k0_t20 : Fin k0_t20_loop.trips) (c0_i32_1065 : BitVec 32) : Fin 2 → Nat :=
  let c2_i32_1064 : BitVec 32 := 2#32
  let c0_i32_313 : BitVec 32 := 0#32
  let c1_i32_315 : BitVec 32 := 1#32
  let arg29 : BitVec 32 := Scf.iv c0_i32_313 c1_i32_315 k0_t20
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off314 (k0_t20 : Fin k0_t20_loop.trips) (c0_i32_1071 : BitVec 32) : Fin 2 → Nat :=
  let c2_i32_1070 : BitVec 32 := 2#32
  let c0_i32_313 : BitVec 32 := 0#32
  let c1_i32_315 : BitVec 32 := 1#32
  let arg29 : BitVec 32 := Scf.iv c0_i32_313 c1_i32_315 k0_t20
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off315 (k0_t20 : Fin k0_t20_loop.trips) (c0_i32_1077 : BitVec 32) : Fin 2 → Nat :=
  let c2_i32_1076 : BitVec 32 := 2#32
  let c0_i32_313 : BitVec 32 := 0#32
  let c1_i32_315 : BitVec 32 := 1#32
  let arg29 : BitVec 32 := Scf.iv c0_i32_313 c1_i32_315 k0_t20
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off316 (k0_t20 : Fin k0_t20_loop.trips) (c0_i32_1083 : BitVec 32) : Fin 2 → Nat :=
  let c2_i32_1082 : BitVec 32 := 2#32
  let c0_i32_313 : BitVec 32 := 0#32
  let c1_i32_315 : BitVec 32 := 1#32
  let arg29 : BitVec 32 := Scf.iv c0_i32_313 c1_i32_315 k0_t20
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off317 (k0_t20 : Fin k0_t20_loop.trips) (c0_i32_1089 : BitVec 32) : Fin 2 → Nat :=
  let c2_i32_1088 : BitVec 32 := 2#32
  let c0_i32_313 : BitVec 32 := 0#32
  let c1_i32_315 : BitVec 32 := 1#32
  let arg29 : BitVec 32 := Scf.iv c0_i32_313 c1_i32_315 k0_t20
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off318 (k0_t20 : Fin k0_t20_loop.trips) (c0_i32_1095 : BitVec 32) : Fin 2 → Nat :=
  let c2_i32_1094 : BitVec 32 := 2#32
  let c0_i32_313 : BitVec 32 := 0#32
  let c1_i32_315 : BitVec 32 := 1#32
  let arg29 : BitVec 32 := Scf.iv c0_i32_313 c1_i32_315 k0_t20
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off319 (k0_t20 : Fin k0_t20_loop.trips) (c0_i32_1101 : BitVec 32) : Fin 2 → Nat :=
  let c2_i32_1100 : BitVec 32 := 2#32
  let c0_i32_313 : BitVec 32 := 0#32
  let c1_i32_315 : BitVec 32 := 1#32
  let arg29 : BitVec 32 := Scf.iv c0_i32_313 c1_i32_315 k0_t20
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off320 (k0_t20 : Fin k0_t20_loop.trips) (c0_i32_1107 : BitVec 32) : Fin 2 → Nat :=
  let c2_i32_1106 : BitVec 32 := 2#32
  let c0_i32_313 : BitVec 32 := 0#32
  let c1_i32_315 : BitVec 32 := 1#32
  let arg29 : BitVec 32 := Scf.iv c0_i32_313 c1_i32_315 k0_t20
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off321 (k0_t20 : Fin k0_t20_loop.trips) (c0_i32_1113 : BitVec 32) : Fin 2 → Nat :=
  let c2_i32_1112 : BitVec 32 := 2#32
  let c0_i32_313 : BitVec 32 := 0#32
  let c1_i32_315 : BitVec 32 := 1#32
  let arg29 : BitVec 32 := Scf.iv c0_i32_313 c1_i32_315 k0_t20
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t21_loop : Scf.Loop 32 :=
  let c0_i32_326 : BitVec 32 := 0#32
  let c32_i32_327 : BitVec 32 := 32#32
  let v703 : BitVec 32 := Scalar.addi c0_i32_326 c32_i32_327
  let c1_i32_328 : BitVec 32 := 1#32
  ⟨c0_i32_326, v703, c1_i32_328⟩
def k0_off322 (k0_t21 : Fin k0_t21_loop.trips) (c0_i32_1023 : BitVec 32) : Fin 2 → Nat :=
  let c2_i32_1022 : BitVec 32 := 2#32
  let c0_i32_326 : BitVec 32 := 0#32
  let c1_i32_328 : BitVec 32 := 1#32
  let arg29 : BitVec 32 := Scf.iv c0_i32_326 c1_i32_328 k0_t21
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off323 (k0_t21 : Fin k0_t21_loop.trips) (c0_i32_1029 : BitVec 32) : Fin 2 → Nat :=
  let c2_i32_1028 : BitVec 32 := 2#32
  let c0_i32_326 : BitVec 32 := 0#32
  let c1_i32_328 : BitVec 32 := 1#32
  let arg29 : BitVec 32 := Scf.iv c0_i32_326 c1_i32_328 k0_t21
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off324 (k0_t21 : Fin k0_t21_loop.trips) (c0_i32_1035 : BitVec 32) : Fin 2 → Nat :=
  let c2_i32_1034 : BitVec 32 := 2#32
  let c0_i32_326 : BitVec 32 := 0#32
  let c1_i32_328 : BitVec 32 := 1#32
  let arg29 : BitVec 32 := Scf.iv c0_i32_326 c1_i32_328 k0_t21
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off325 (k0_t21 : Fin k0_t21_loop.trips) (c0_i32_1041 : BitVec 32) : Fin 2 → Nat :=
  let c2_i32_1040 : BitVec 32 := 2#32
  let c0_i32_326 : BitVec 32 := 0#32
  let c1_i32_328 : BitVec 32 := 1#32
  let arg29 : BitVec 32 := Scf.iv c0_i32_326 c1_i32_328 k0_t21
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off326 (k0_t21 : Fin k0_t21_loop.trips) (c0_i32_1047 : BitVec 32) : Fin 2 → Nat :=
  let c2_i32_1046 : BitVec 32 := 2#32
  let c0_i32_326 : BitVec 32 := 0#32
  let c1_i32_328 : BitVec 32 := 1#32
  let arg29 : BitVec 32 := Scf.iv c0_i32_326 c1_i32_328 k0_t21
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off327 (k0_t21 : Fin k0_t21_loop.trips) (c0_i32_1053 : BitVec 32) : Fin 2 → Nat :=
  let c2_i32_1052 : BitVec 32 := 2#32
  let c0_i32_326 : BitVec 32 := 0#32
  let c1_i32_328 : BitVec 32 := 1#32
  let arg29 : BitVec 32 := Scf.iv c0_i32_326 c1_i32_328 k0_t21
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off328 (k0_t21 : Fin k0_t21_loop.trips) (c0_i32_1059 : BitVec 32) : Fin 2 → Nat :=
  let c2_i32_1058 : BitVec 32 := 2#32
  let c0_i32_326 : BitVec 32 := 0#32
  let c1_i32_328 : BitVec 32 := 1#32
  let arg29 : BitVec 32 := Scf.iv c0_i32_326 c1_i32_328 k0_t21
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off329 (k0_t21 : Fin k0_t21_loop.trips) (c0_i32_1065 : BitVec 32) : Fin 2 → Nat :=
  let c2_i32_1064 : BitVec 32 := 2#32
  let c0_i32_326 : BitVec 32 := 0#32
  let c1_i32_328 : BitVec 32 := 1#32
  let arg29 : BitVec 32 := Scf.iv c0_i32_326 c1_i32_328 k0_t21
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off330 (k0_t21 : Fin k0_t21_loop.trips) (c0_i32_1071 : BitVec 32) : Fin 2 → Nat :=
  let c2_i32_1070 : BitVec 32 := 2#32
  let c0_i32_326 : BitVec 32 := 0#32
  let c1_i32_328 : BitVec 32 := 1#32
  let arg29 : BitVec 32 := Scf.iv c0_i32_326 c1_i32_328 k0_t21
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off331 (k0_t21 : Fin k0_t21_loop.trips) (c0_i32_1077 : BitVec 32) : Fin 2 → Nat :=
  let c2_i32_1076 : BitVec 32 := 2#32
  let c0_i32_326 : BitVec 32 := 0#32
  let c1_i32_328 : BitVec 32 := 1#32
  let arg29 : BitVec 32 := Scf.iv c0_i32_326 c1_i32_328 k0_t21
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off332 (k0_t21 : Fin k0_t21_loop.trips) (c0_i32_1083 : BitVec 32) : Fin 2 → Nat :=
  let c2_i32_1082 : BitVec 32 := 2#32
  let c0_i32_326 : BitVec 32 := 0#32
  let c1_i32_328 : BitVec 32 := 1#32
  let arg29 : BitVec 32 := Scf.iv c0_i32_326 c1_i32_328 k0_t21
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off333 (k0_t21 : Fin k0_t21_loop.trips) (c0_i32_1089 : BitVec 32) : Fin 2 → Nat :=
  let c2_i32_1088 : BitVec 32 := 2#32
  let c0_i32_326 : BitVec 32 := 0#32
  let c1_i32_328 : BitVec 32 := 1#32
  let arg29 : BitVec 32 := Scf.iv c0_i32_326 c1_i32_328 k0_t21
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off334 (k0_t21 : Fin k0_t21_loop.trips) (c0_i32_1095 : BitVec 32) : Fin 2 → Nat :=
  let c2_i32_1094 : BitVec 32 := 2#32
  let c0_i32_326 : BitVec 32 := 0#32
  let c1_i32_328 : BitVec 32 := 1#32
  let arg29 : BitVec 32 := Scf.iv c0_i32_326 c1_i32_328 k0_t21
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off335 (k0_t21 : Fin k0_t21_loop.trips) (c0_i32_1101 : BitVec 32) : Fin 2 → Nat :=
  let c2_i32_1100 : BitVec 32 := 2#32
  let c0_i32_326 : BitVec 32 := 0#32
  let c1_i32_328 : BitVec 32 := 1#32
  let arg29 : BitVec 32 := Scf.iv c0_i32_326 c1_i32_328 k0_t21
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off336 (k0_t21 : Fin k0_t21_loop.trips) (c0_i32_1107 : BitVec 32) : Fin 2 → Nat :=
  let c2_i32_1106 : BitVec 32 := 2#32
  let c0_i32_326 : BitVec 32 := 0#32
  let c1_i32_328 : BitVec 32 := 1#32
  let arg29 : BitVec 32 := Scf.iv c0_i32_326 c1_i32_328 k0_t21
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off337 (k0_t21 : Fin k0_t21_loop.trips) (c0_i32_1113 : BitVec 32) : Fin 2 → Nat :=
  let c2_i32_1112 : BitVec 32 := 2#32
  let c0_i32_326 : BitVec 32 := 0#32
  let c1_i32_328 : BitVec 32 := 1#32
  let arg29 : BitVec 32 := Scf.iv c0_i32_326 c1_i32_328 k0_t21
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t22_loop : Scf.Loop 32 :=
  let c0_i32_339 : BitVec 32 := 0#32
  let c32_i32_340 : BitVec 32 := 32#32
  let v713 : BitVec 32 := Scalar.addi c0_i32_339 c32_i32_340
  let c1_i32_341 : BitVec 32 := 1#32
  ⟨c0_i32_339, v713, c1_i32_341⟩
def k0_off338 (k0_t22 : Fin k0_t22_loop.trips) (c0_i32_1023 : BitVec 32) : Fin 2 → Nat :=
  let c2_i32_1022 : BitVec 32 := 2#32
  let c0_i32_339 : BitVec 32 := 0#32
  let c1_i32_341 : BitVec 32 := 1#32
  let arg29 : BitVec 32 := Scf.iv c0_i32_339 c1_i32_341 k0_t22
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off339 (k0_t22 : Fin k0_t22_loop.trips) (c0_i32_1029 : BitVec 32) : Fin 2 → Nat :=
  let c2_i32_1028 : BitVec 32 := 2#32
  let c0_i32_339 : BitVec 32 := 0#32
  let c1_i32_341 : BitVec 32 := 1#32
  let arg29 : BitVec 32 := Scf.iv c0_i32_339 c1_i32_341 k0_t22
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off340 (k0_t22 : Fin k0_t22_loop.trips) (c0_i32_1035 : BitVec 32) : Fin 2 → Nat :=
  let c2_i32_1034 : BitVec 32 := 2#32
  let c0_i32_339 : BitVec 32 := 0#32
  let c1_i32_341 : BitVec 32 := 1#32
  let arg29 : BitVec 32 := Scf.iv c0_i32_339 c1_i32_341 k0_t22
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off341 (k0_t22 : Fin k0_t22_loop.trips) (c0_i32_1041 : BitVec 32) : Fin 2 → Nat :=
  let c2_i32_1040 : BitVec 32 := 2#32
  let c0_i32_339 : BitVec 32 := 0#32
  let c1_i32_341 : BitVec 32 := 1#32
  let arg29 : BitVec 32 := Scf.iv c0_i32_339 c1_i32_341 k0_t22
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off342 (k0_t22 : Fin k0_t22_loop.trips) (c0_i32_1047 : BitVec 32) : Fin 2 → Nat :=
  let c2_i32_1046 : BitVec 32 := 2#32
  let c0_i32_339 : BitVec 32 := 0#32
  let c1_i32_341 : BitVec 32 := 1#32
  let arg29 : BitVec 32 := Scf.iv c0_i32_339 c1_i32_341 k0_t22
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off343 (k0_t22 : Fin k0_t22_loop.trips) (c0_i32_1053 : BitVec 32) : Fin 2 → Nat :=
  let c2_i32_1052 : BitVec 32 := 2#32
  let c0_i32_339 : BitVec 32 := 0#32
  let c1_i32_341 : BitVec 32 := 1#32
  let arg29 : BitVec 32 := Scf.iv c0_i32_339 c1_i32_341 k0_t22
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off344 (k0_t22 : Fin k0_t22_loop.trips) (c0_i32_1059 : BitVec 32) : Fin 2 → Nat :=
  let c2_i32_1058 : BitVec 32 := 2#32
  let c0_i32_339 : BitVec 32 := 0#32
  let c1_i32_341 : BitVec 32 := 1#32
  let arg29 : BitVec 32 := Scf.iv c0_i32_339 c1_i32_341 k0_t22
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off345 (k0_t22 : Fin k0_t22_loop.trips) (c0_i32_1065 : BitVec 32) : Fin 2 → Nat :=
  let c2_i32_1064 : BitVec 32 := 2#32
  let c0_i32_339 : BitVec 32 := 0#32
  let c1_i32_341 : BitVec 32 := 1#32
  let arg29 : BitVec 32 := Scf.iv c0_i32_339 c1_i32_341 k0_t22
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off346 (k0_t22 : Fin k0_t22_loop.trips) (c0_i32_1071 : BitVec 32) : Fin 2 → Nat :=
  let c2_i32_1070 : BitVec 32 := 2#32
  let c0_i32_339 : BitVec 32 := 0#32
  let c1_i32_341 : BitVec 32 := 1#32
  let arg29 : BitVec 32 := Scf.iv c0_i32_339 c1_i32_341 k0_t22
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off347 (k0_t22 : Fin k0_t22_loop.trips) (c0_i32_1077 : BitVec 32) : Fin 2 → Nat :=
  let c2_i32_1076 : BitVec 32 := 2#32
  let c0_i32_339 : BitVec 32 := 0#32
  let c1_i32_341 : BitVec 32 := 1#32
  let arg29 : BitVec 32 := Scf.iv c0_i32_339 c1_i32_341 k0_t22
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off348 (k0_t22 : Fin k0_t22_loop.trips) (c0_i32_1083 : BitVec 32) : Fin 2 → Nat :=
  let c2_i32_1082 : BitVec 32 := 2#32
  let c0_i32_339 : BitVec 32 := 0#32
  let c1_i32_341 : BitVec 32 := 1#32
  let arg29 : BitVec 32 := Scf.iv c0_i32_339 c1_i32_341 k0_t22
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off349 (k0_t22 : Fin k0_t22_loop.trips) (c0_i32_1089 : BitVec 32) : Fin 2 → Nat :=
  let c2_i32_1088 : BitVec 32 := 2#32
  let c0_i32_339 : BitVec 32 := 0#32
  let c1_i32_341 : BitVec 32 := 1#32
  let arg29 : BitVec 32 := Scf.iv c0_i32_339 c1_i32_341 k0_t22
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off350 (k0_t22 : Fin k0_t22_loop.trips) (c0_i32_1095 : BitVec 32) : Fin 2 → Nat :=
  let c2_i32_1094 : BitVec 32 := 2#32
  let c0_i32_339 : BitVec 32 := 0#32
  let c1_i32_341 : BitVec 32 := 1#32
  let arg29 : BitVec 32 := Scf.iv c0_i32_339 c1_i32_341 k0_t22
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off351 (k0_t22 : Fin k0_t22_loop.trips) (c0_i32_1101 : BitVec 32) : Fin 2 → Nat :=
  let c2_i32_1100 : BitVec 32 := 2#32
  let c0_i32_339 : BitVec 32 := 0#32
  let c1_i32_341 : BitVec 32 := 1#32
  let arg29 : BitVec 32 := Scf.iv c0_i32_339 c1_i32_341 k0_t22
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off352 (k0_t22 : Fin k0_t22_loop.trips) (c0_i32_1107 : BitVec 32) : Fin 2 → Nat :=
  let c2_i32_1106 : BitVec 32 := 2#32
  let c0_i32_339 : BitVec 32 := 0#32
  let c1_i32_341 : BitVec 32 := 1#32
  let arg29 : BitVec 32 := Scf.iv c0_i32_339 c1_i32_341 k0_t22
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off353 (k0_t22 : Fin k0_t22_loop.trips) (c0_i32_1113 : BitVec 32) : Fin 2 → Nat :=
  let c2_i32_1112 : BitVec 32 := 2#32
  let c0_i32_339 : BitVec 32 := 0#32
  let c1_i32_341 : BitVec 32 := 1#32
  let arg29 : BitVec 32 := Scf.iv c0_i32_339 c1_i32_341 k0_t22
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t23_loop : Scf.Loop 32 :=
  let c0_i32_352 : BitVec 32 := 0#32
  let c32_i32_353 : BitVec 32 := 32#32
  let v723 : BitVec 32 := Scalar.addi c0_i32_352 c32_i32_353
  let c1_i32_354 : BitVec 32 := 1#32
  ⟨c0_i32_352, v723, c1_i32_354⟩
def k0_off354 (k0_t23 : Fin k0_t23_loop.trips) (c0_i32_1023 : BitVec 32) : Fin 2 → Nat :=
  let c2_i32_1022 : BitVec 32 := 2#32
  let c0_i32_352 : BitVec 32 := 0#32
  let c1_i32_354 : BitVec 32 := 1#32
  let arg29 : BitVec 32 := Scf.iv c0_i32_352 c1_i32_354 k0_t23
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off355 (k0_t23 : Fin k0_t23_loop.trips) (c0_i32_1029 : BitVec 32) : Fin 2 → Nat :=
  let c2_i32_1028 : BitVec 32 := 2#32
  let c0_i32_352 : BitVec 32 := 0#32
  let c1_i32_354 : BitVec 32 := 1#32
  let arg29 : BitVec 32 := Scf.iv c0_i32_352 c1_i32_354 k0_t23
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off356 (k0_t23 : Fin k0_t23_loop.trips) (c0_i32_1035 : BitVec 32) : Fin 2 → Nat :=
  let c2_i32_1034 : BitVec 32 := 2#32
  let c0_i32_352 : BitVec 32 := 0#32
  let c1_i32_354 : BitVec 32 := 1#32
  let arg29 : BitVec 32 := Scf.iv c0_i32_352 c1_i32_354 k0_t23
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off357 (k0_t23 : Fin k0_t23_loop.trips) (c0_i32_1041 : BitVec 32) : Fin 2 → Nat :=
  let c2_i32_1040 : BitVec 32 := 2#32
  let c0_i32_352 : BitVec 32 := 0#32
  let c1_i32_354 : BitVec 32 := 1#32
  let arg29 : BitVec 32 := Scf.iv c0_i32_352 c1_i32_354 k0_t23
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off358 (k0_t23 : Fin k0_t23_loop.trips) (c0_i32_1047 : BitVec 32) : Fin 2 → Nat :=
  let c2_i32_1046 : BitVec 32 := 2#32
  let c0_i32_352 : BitVec 32 := 0#32
  let c1_i32_354 : BitVec 32 := 1#32
  let arg29 : BitVec 32 := Scf.iv c0_i32_352 c1_i32_354 k0_t23
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off359 (k0_t23 : Fin k0_t23_loop.trips) (c0_i32_1053 : BitVec 32) : Fin 2 → Nat :=
  let c2_i32_1052 : BitVec 32 := 2#32
  let c0_i32_352 : BitVec 32 := 0#32
  let c1_i32_354 : BitVec 32 := 1#32
  let arg29 : BitVec 32 := Scf.iv c0_i32_352 c1_i32_354 k0_t23
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off360 (k0_t23 : Fin k0_t23_loop.trips) (c0_i32_1059 : BitVec 32) : Fin 2 → Nat :=
  let c2_i32_1058 : BitVec 32 := 2#32
  let c0_i32_352 : BitVec 32 := 0#32
  let c1_i32_354 : BitVec 32 := 1#32
  let arg29 : BitVec 32 := Scf.iv c0_i32_352 c1_i32_354 k0_t23
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off361 (k0_t23 : Fin k0_t23_loop.trips) (c0_i32_1065 : BitVec 32) : Fin 2 → Nat :=
  let c2_i32_1064 : BitVec 32 := 2#32
  let c0_i32_352 : BitVec 32 := 0#32
  let c1_i32_354 : BitVec 32 := 1#32
  let arg29 : BitVec 32 := Scf.iv c0_i32_352 c1_i32_354 k0_t23
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off362 (k0_t23 : Fin k0_t23_loop.trips) (c0_i32_1071 : BitVec 32) : Fin 2 → Nat :=
  let c2_i32_1070 : BitVec 32 := 2#32
  let c0_i32_352 : BitVec 32 := 0#32
  let c1_i32_354 : BitVec 32 := 1#32
  let arg29 : BitVec 32 := Scf.iv c0_i32_352 c1_i32_354 k0_t23
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off363 (k0_t23 : Fin k0_t23_loop.trips) (c0_i32_1077 : BitVec 32) : Fin 2 → Nat :=
  let c2_i32_1076 : BitVec 32 := 2#32
  let c0_i32_352 : BitVec 32 := 0#32
  let c1_i32_354 : BitVec 32 := 1#32
  let arg29 : BitVec 32 := Scf.iv c0_i32_352 c1_i32_354 k0_t23
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off364 (k0_t23 : Fin k0_t23_loop.trips) (c0_i32_1083 : BitVec 32) : Fin 2 → Nat :=
  let c2_i32_1082 : BitVec 32 := 2#32
  let c0_i32_352 : BitVec 32 := 0#32
  let c1_i32_354 : BitVec 32 := 1#32
  let arg29 : BitVec 32 := Scf.iv c0_i32_352 c1_i32_354 k0_t23
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off365 (k0_t23 : Fin k0_t23_loop.trips) (c0_i32_1089 : BitVec 32) : Fin 2 → Nat :=
  let c2_i32_1088 : BitVec 32 := 2#32
  let c0_i32_352 : BitVec 32 := 0#32
  let c1_i32_354 : BitVec 32 := 1#32
  let arg29 : BitVec 32 := Scf.iv c0_i32_352 c1_i32_354 k0_t23
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off366 (k0_t23 : Fin k0_t23_loop.trips) (c0_i32_1095 : BitVec 32) : Fin 2 → Nat :=
  let c2_i32_1094 : BitVec 32 := 2#32
  let c0_i32_352 : BitVec 32 := 0#32
  let c1_i32_354 : BitVec 32 := 1#32
  let arg29 : BitVec 32 := Scf.iv c0_i32_352 c1_i32_354 k0_t23
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off367 (k0_t23 : Fin k0_t23_loop.trips) (c0_i32_1101 : BitVec 32) : Fin 2 → Nat :=
  let c2_i32_1100 : BitVec 32 := 2#32
  let c0_i32_352 : BitVec 32 := 0#32
  let c1_i32_354 : BitVec 32 := 1#32
  let arg29 : BitVec 32 := Scf.iv c0_i32_352 c1_i32_354 k0_t23
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off368 (k0_t23 : Fin k0_t23_loop.trips) (c0_i32_1107 : BitVec 32) : Fin 2 → Nat :=
  let c2_i32_1106 : BitVec 32 := 2#32
  let c0_i32_352 : BitVec 32 := 0#32
  let c1_i32_354 : BitVec 32 := 1#32
  let arg29 : BitVec 32 := Scf.iv c0_i32_352 c1_i32_354 k0_t23
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off369 (k0_t23 : Fin k0_t23_loop.trips) (c0_i32_1113 : BitVec 32) : Fin 2 → Nat :=
  let c2_i32_1112 : BitVec 32 := 2#32
  let c0_i32_352 : BitVec 32 := 0#32
  let c1_i32_354 : BitVec 32 := 1#32
  let arg29 : BitVec 32 := Scf.iv c0_i32_352 c1_i32_354 k0_t23
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t24_loop : Scf.Loop 32 :=
  let c0_i32_367 : BitVec 32 := 0#32
  let c32_i32_368 : BitVec 32 := 32#32
  let v735 : BitVec 32 := Scalar.addi c0_i32_367 c32_i32_368
  let c1_i32_369 : BitVec 32 := 1#32
  ⟨c0_i32_367, v735, c1_i32_369⟩
def k0_off370 (k0_t24 : Fin k0_t24_loop.trips) (c0_i32_1023 : BitVec 32) : Fin 2 → Nat :=
  let c2_i32_1022 : BitVec 32 := 2#32
  let c0_i32_367 : BitVec 32 := 0#32
  let c1_i32_369 : BitVec 32 := 1#32
  let arg29 : BitVec 32 := Scf.iv c0_i32_367 c1_i32_369 k0_t24
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off371 (k0_t24 : Fin k0_t24_loop.trips) (c0_i32_1029 : BitVec 32) : Fin 2 → Nat :=
  let c2_i32_1028 : BitVec 32 := 2#32
  let c0_i32_367 : BitVec 32 := 0#32
  let c1_i32_369 : BitVec 32 := 1#32
  let arg29 : BitVec 32 := Scf.iv c0_i32_367 c1_i32_369 k0_t24
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off372 (k0_t24 : Fin k0_t24_loop.trips) (c0_i32_1035 : BitVec 32) : Fin 2 → Nat :=
  let c2_i32_1034 : BitVec 32 := 2#32
  let c0_i32_367 : BitVec 32 := 0#32
  let c1_i32_369 : BitVec 32 := 1#32
  let arg29 : BitVec 32 := Scf.iv c0_i32_367 c1_i32_369 k0_t24
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off373 (k0_t24 : Fin k0_t24_loop.trips) (c0_i32_1041 : BitVec 32) : Fin 2 → Nat :=
  let c2_i32_1040 : BitVec 32 := 2#32
  let c0_i32_367 : BitVec 32 := 0#32
  let c1_i32_369 : BitVec 32 := 1#32
  let arg29 : BitVec 32 := Scf.iv c0_i32_367 c1_i32_369 k0_t24
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off374 (k0_t24 : Fin k0_t24_loop.trips) (c0_i32_1047 : BitVec 32) : Fin 2 → Nat :=
  let c2_i32_1046 : BitVec 32 := 2#32
  let c0_i32_367 : BitVec 32 := 0#32
  let c1_i32_369 : BitVec 32 := 1#32
  let arg29 : BitVec 32 := Scf.iv c0_i32_367 c1_i32_369 k0_t24
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off375 (k0_t24 : Fin k0_t24_loop.trips) (c0_i32_1053 : BitVec 32) : Fin 2 → Nat :=
  let c2_i32_1052 : BitVec 32 := 2#32
  let c0_i32_367 : BitVec 32 := 0#32
  let c1_i32_369 : BitVec 32 := 1#32
  let arg29 : BitVec 32 := Scf.iv c0_i32_367 c1_i32_369 k0_t24
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off376 (k0_t24 : Fin k0_t24_loop.trips) (c0_i32_1059 : BitVec 32) : Fin 2 → Nat :=
  let c2_i32_1058 : BitVec 32 := 2#32
  let c0_i32_367 : BitVec 32 := 0#32
  let c1_i32_369 : BitVec 32 := 1#32
  let arg29 : BitVec 32 := Scf.iv c0_i32_367 c1_i32_369 k0_t24
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off377 (k0_t24 : Fin k0_t24_loop.trips) (c0_i32_1065 : BitVec 32) : Fin 2 → Nat :=
  let c2_i32_1064 : BitVec 32 := 2#32
  let c0_i32_367 : BitVec 32 := 0#32
  let c1_i32_369 : BitVec 32 := 1#32
  let arg29 : BitVec 32 := Scf.iv c0_i32_367 c1_i32_369 k0_t24
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off378 (k0_t24 : Fin k0_t24_loop.trips) (c0_i32_1071 : BitVec 32) : Fin 2 → Nat :=
  let c2_i32_1070 : BitVec 32 := 2#32
  let c0_i32_367 : BitVec 32 := 0#32
  let c1_i32_369 : BitVec 32 := 1#32
  let arg29 : BitVec 32 := Scf.iv c0_i32_367 c1_i32_369 k0_t24
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off379 (k0_t24 : Fin k0_t24_loop.trips) (c0_i32_1077 : BitVec 32) : Fin 2 → Nat :=
  let c2_i32_1076 : BitVec 32 := 2#32
  let c0_i32_367 : BitVec 32 := 0#32
  let c1_i32_369 : BitVec 32 := 1#32
  let arg29 : BitVec 32 := Scf.iv c0_i32_367 c1_i32_369 k0_t24
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off380 (k0_t24 : Fin k0_t24_loop.trips) (c0_i32_1083 : BitVec 32) : Fin 2 → Nat :=
  let c2_i32_1082 : BitVec 32 := 2#32
  let c0_i32_367 : BitVec 32 := 0#32
  let c1_i32_369 : BitVec 32 := 1#32
  let arg29 : BitVec 32 := Scf.iv c0_i32_367 c1_i32_369 k0_t24
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off381 (k0_t24 : Fin k0_t24_loop.trips) (c0_i32_1089 : BitVec 32) : Fin 2 → Nat :=
  let c2_i32_1088 : BitVec 32 := 2#32
  let c0_i32_367 : BitVec 32 := 0#32
  let c1_i32_369 : BitVec 32 := 1#32
  let arg29 : BitVec 32 := Scf.iv c0_i32_367 c1_i32_369 k0_t24
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off382 (k0_t24 : Fin k0_t24_loop.trips) (c0_i32_1095 : BitVec 32) : Fin 2 → Nat :=
  let c2_i32_1094 : BitVec 32 := 2#32
  let c0_i32_367 : BitVec 32 := 0#32
  let c1_i32_369 : BitVec 32 := 1#32
  let arg29 : BitVec 32 := Scf.iv c0_i32_367 c1_i32_369 k0_t24
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off383 (k0_t24 : Fin k0_t24_loop.trips) (c0_i32_1101 : BitVec 32) : Fin 2 → Nat :=
  let c2_i32_1100 : BitVec 32 := 2#32
  let c0_i32_367 : BitVec 32 := 0#32
  let c1_i32_369 : BitVec 32 := 1#32
  let arg29 : BitVec 32 := Scf.iv c0_i32_367 c1_i32_369 k0_t24
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off384 (k0_t24 : Fin k0_t24_loop.trips) (c0_i32_1107 : BitVec 32) : Fin 2 → Nat :=
  let c2_i32_1106 : BitVec 32 := 2#32
  let c0_i32_367 : BitVec 32 := 0#32
  let c1_i32_369 : BitVec 32 := 1#32
  let arg29 : BitVec 32 := Scf.iv c0_i32_367 c1_i32_369 k0_t24
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off385 (k0_t24 : Fin k0_t24_loop.trips) (c0_i32_1113 : BitVec 32) : Fin 2 → Nat :=
  let c2_i32_1112 : BitVec 32 := 2#32
  let c0_i32_367 : BitVec 32 := 0#32
  let c1_i32_369 : BitVec 32 := 1#32
  let arg29 : BitVec 32 := Scf.iv c0_i32_367 c1_i32_369 k0_t24
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t25_loop : Scf.Loop 32 :=
  let c0_i32_382 : BitVec 32 := 0#32
  let c32_i32_383 : BitVec 32 := 32#32
  let v747 : BitVec 32 := Scalar.addi c0_i32_382 c32_i32_383
  let c1_i32_384 : BitVec 32 := 1#32
  ⟨c0_i32_382, v747, c1_i32_384⟩
def k0_off386 (k0_t25 : Fin k0_t25_loop.trips) (c0_i32_1023 : BitVec 32) : Fin 2 → Nat :=
  let c2_i32_1022 : BitVec 32 := 2#32
  let c0_i32_382 : BitVec 32 := 0#32
  let c1_i32_384 : BitVec 32 := 1#32
  let arg29 : BitVec 32 := Scf.iv c0_i32_382 c1_i32_384 k0_t25
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off387 (k0_t25 : Fin k0_t25_loop.trips) (c0_i32_1029 : BitVec 32) : Fin 2 → Nat :=
  let c2_i32_1028 : BitVec 32 := 2#32
  let c0_i32_382 : BitVec 32 := 0#32
  let c1_i32_384 : BitVec 32 := 1#32
  let arg29 : BitVec 32 := Scf.iv c0_i32_382 c1_i32_384 k0_t25
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off388 (k0_t25 : Fin k0_t25_loop.trips) (c0_i32_1035 : BitVec 32) : Fin 2 → Nat :=
  let c2_i32_1034 : BitVec 32 := 2#32
  let c0_i32_382 : BitVec 32 := 0#32
  let c1_i32_384 : BitVec 32 := 1#32
  let arg29 : BitVec 32 := Scf.iv c0_i32_382 c1_i32_384 k0_t25
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off389 (k0_t25 : Fin k0_t25_loop.trips) (c0_i32_1041 : BitVec 32) : Fin 2 → Nat :=
  let c2_i32_1040 : BitVec 32 := 2#32
  let c0_i32_382 : BitVec 32 := 0#32
  let c1_i32_384 : BitVec 32 := 1#32
  let arg29 : BitVec 32 := Scf.iv c0_i32_382 c1_i32_384 k0_t25
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off390 (k0_t25 : Fin k0_t25_loop.trips) (c0_i32_1047 : BitVec 32) : Fin 2 → Nat :=
  let c2_i32_1046 : BitVec 32 := 2#32
  let c0_i32_382 : BitVec 32 := 0#32
  let c1_i32_384 : BitVec 32 := 1#32
  let arg29 : BitVec 32 := Scf.iv c0_i32_382 c1_i32_384 k0_t25
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off391 (k0_t25 : Fin k0_t25_loop.trips) (c0_i32_1053 : BitVec 32) : Fin 2 → Nat :=
  let c2_i32_1052 : BitVec 32 := 2#32
  let c0_i32_382 : BitVec 32 := 0#32
  let c1_i32_384 : BitVec 32 := 1#32
  let arg29 : BitVec 32 := Scf.iv c0_i32_382 c1_i32_384 k0_t25
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off392 (k0_t25 : Fin k0_t25_loop.trips) (c0_i32_1059 : BitVec 32) : Fin 2 → Nat :=
  let c2_i32_1058 : BitVec 32 := 2#32
  let c0_i32_382 : BitVec 32 := 0#32
  let c1_i32_384 : BitVec 32 := 1#32
  let arg29 : BitVec 32 := Scf.iv c0_i32_382 c1_i32_384 k0_t25
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off393 (k0_t25 : Fin k0_t25_loop.trips) (c0_i32_1065 : BitVec 32) : Fin 2 → Nat :=
  let c2_i32_1064 : BitVec 32 := 2#32
  let c0_i32_382 : BitVec 32 := 0#32
  let c1_i32_384 : BitVec 32 := 1#32
  let arg29 : BitVec 32 := Scf.iv c0_i32_382 c1_i32_384 k0_t25
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off394 (k0_t25 : Fin k0_t25_loop.trips) (c0_i32_1071 : BitVec 32) : Fin 2 → Nat :=
  let c2_i32_1070 : BitVec 32 := 2#32
  let c0_i32_382 : BitVec 32 := 0#32
  let c1_i32_384 : BitVec 32 := 1#32
  let arg29 : BitVec 32 := Scf.iv c0_i32_382 c1_i32_384 k0_t25
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off395 (k0_t25 : Fin k0_t25_loop.trips) (c0_i32_1077 : BitVec 32) : Fin 2 → Nat :=
  let c2_i32_1076 : BitVec 32 := 2#32
  let c0_i32_382 : BitVec 32 := 0#32
  let c1_i32_384 : BitVec 32 := 1#32
  let arg29 : BitVec 32 := Scf.iv c0_i32_382 c1_i32_384 k0_t25
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off396 (k0_t25 : Fin k0_t25_loop.trips) (c0_i32_1083 : BitVec 32) : Fin 2 → Nat :=
  let c2_i32_1082 : BitVec 32 := 2#32
  let c0_i32_382 : BitVec 32 := 0#32
  let c1_i32_384 : BitVec 32 := 1#32
  let arg29 : BitVec 32 := Scf.iv c0_i32_382 c1_i32_384 k0_t25
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off397 (k0_t25 : Fin k0_t25_loop.trips) (c0_i32_1089 : BitVec 32) : Fin 2 → Nat :=
  let c2_i32_1088 : BitVec 32 := 2#32
  let c0_i32_382 : BitVec 32 := 0#32
  let c1_i32_384 : BitVec 32 := 1#32
  let arg29 : BitVec 32 := Scf.iv c0_i32_382 c1_i32_384 k0_t25
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off398 (k0_t25 : Fin k0_t25_loop.trips) (c0_i32_1095 : BitVec 32) : Fin 2 → Nat :=
  let c2_i32_1094 : BitVec 32 := 2#32
  let c0_i32_382 : BitVec 32 := 0#32
  let c1_i32_384 : BitVec 32 := 1#32
  let arg29 : BitVec 32 := Scf.iv c0_i32_382 c1_i32_384 k0_t25
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off399 (k0_t25 : Fin k0_t25_loop.trips) (c0_i32_1101 : BitVec 32) : Fin 2 → Nat :=
  let c2_i32_1100 : BitVec 32 := 2#32
  let c0_i32_382 : BitVec 32 := 0#32
  let c1_i32_384 : BitVec 32 := 1#32
  let arg29 : BitVec 32 := Scf.iv c0_i32_382 c1_i32_384 k0_t25
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off400 (k0_t25 : Fin k0_t25_loop.trips) (c0_i32_1107 : BitVec 32) : Fin 2 → Nat :=
  let c2_i32_1106 : BitVec 32 := 2#32
  let c0_i32_382 : BitVec 32 := 0#32
  let c1_i32_384 : BitVec 32 := 1#32
  let arg29 : BitVec 32 := Scf.iv c0_i32_382 c1_i32_384 k0_t25
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off401 (k0_t25 : Fin k0_t25_loop.trips) (c0_i32_1113 : BitVec 32) : Fin 2 → Nat :=
  let c2_i32_1112 : BitVec 32 := 2#32
  let c0_i32_382 : BitVec 32 := 0#32
  let c1_i32_384 : BitVec 32 := 1#32
  let arg29 : BitVec 32 := Scf.iv c0_i32_382 c1_i32_384 k0_t25
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t26_loop : Scf.Loop 32 :=
  let c0_i32_397 : BitVec 32 := 0#32
  let c32_i32_398 : BitVec 32 := 32#32
  let v759 : BitVec 32 := Scalar.addi c0_i32_397 c32_i32_398
  let c1_i32_399 : BitVec 32 := 1#32
  ⟨c0_i32_397, v759, c1_i32_399⟩
def k0_off402 (k0_t26 : Fin k0_t26_loop.trips) (c0_i32_1023 : BitVec 32) : Fin 2 → Nat :=
  let c2_i32_1022 : BitVec 32 := 2#32
  let c0_i32_397 : BitVec 32 := 0#32
  let c1_i32_399 : BitVec 32 := 1#32
  let arg29 : BitVec 32 := Scf.iv c0_i32_397 c1_i32_399 k0_t26
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off403 (k0_t26 : Fin k0_t26_loop.trips) (c0_i32_1029 : BitVec 32) : Fin 2 → Nat :=
  let c2_i32_1028 : BitVec 32 := 2#32
  let c0_i32_397 : BitVec 32 := 0#32
  let c1_i32_399 : BitVec 32 := 1#32
  let arg29 : BitVec 32 := Scf.iv c0_i32_397 c1_i32_399 k0_t26
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off404 (k0_t26 : Fin k0_t26_loop.trips) (c0_i32_1035 : BitVec 32) : Fin 2 → Nat :=
  let c2_i32_1034 : BitVec 32 := 2#32
  let c0_i32_397 : BitVec 32 := 0#32
  let c1_i32_399 : BitVec 32 := 1#32
  let arg29 : BitVec 32 := Scf.iv c0_i32_397 c1_i32_399 k0_t26
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off405 (k0_t26 : Fin k0_t26_loop.trips) (c0_i32_1041 : BitVec 32) : Fin 2 → Nat :=
  let c2_i32_1040 : BitVec 32 := 2#32
  let c0_i32_397 : BitVec 32 := 0#32
  let c1_i32_399 : BitVec 32 := 1#32
  let arg29 : BitVec 32 := Scf.iv c0_i32_397 c1_i32_399 k0_t26
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off406 (k0_t26 : Fin k0_t26_loop.trips) (c0_i32_1047 : BitVec 32) : Fin 2 → Nat :=
  let c2_i32_1046 : BitVec 32 := 2#32
  let c0_i32_397 : BitVec 32 := 0#32
  let c1_i32_399 : BitVec 32 := 1#32
  let arg29 : BitVec 32 := Scf.iv c0_i32_397 c1_i32_399 k0_t26
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off407 (k0_t26 : Fin k0_t26_loop.trips) (c0_i32_1053 : BitVec 32) : Fin 2 → Nat :=
  let c2_i32_1052 : BitVec 32 := 2#32
  let c0_i32_397 : BitVec 32 := 0#32
  let c1_i32_399 : BitVec 32 := 1#32
  let arg29 : BitVec 32 := Scf.iv c0_i32_397 c1_i32_399 k0_t26
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off408 (k0_t26 : Fin k0_t26_loop.trips) (c0_i32_1059 : BitVec 32) : Fin 2 → Nat :=
  let c2_i32_1058 : BitVec 32 := 2#32
  let c0_i32_397 : BitVec 32 := 0#32
  let c1_i32_399 : BitVec 32 := 1#32
  let arg29 : BitVec 32 := Scf.iv c0_i32_397 c1_i32_399 k0_t26
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off409 (k0_t26 : Fin k0_t26_loop.trips) (c0_i32_1065 : BitVec 32) : Fin 2 → Nat :=
  let c2_i32_1064 : BitVec 32 := 2#32
  let c0_i32_397 : BitVec 32 := 0#32
  let c1_i32_399 : BitVec 32 := 1#32
  let arg29 : BitVec 32 := Scf.iv c0_i32_397 c1_i32_399 k0_t26
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off410 (k0_t26 : Fin k0_t26_loop.trips) (c0_i32_1071 : BitVec 32) : Fin 2 → Nat :=
  let c2_i32_1070 : BitVec 32 := 2#32
  let c0_i32_397 : BitVec 32 := 0#32
  let c1_i32_399 : BitVec 32 := 1#32
  let arg29 : BitVec 32 := Scf.iv c0_i32_397 c1_i32_399 k0_t26
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off411 (k0_t26 : Fin k0_t26_loop.trips) (c0_i32_1077 : BitVec 32) : Fin 2 → Nat :=
  let c2_i32_1076 : BitVec 32 := 2#32
  let c0_i32_397 : BitVec 32 := 0#32
  let c1_i32_399 : BitVec 32 := 1#32
  let arg29 : BitVec 32 := Scf.iv c0_i32_397 c1_i32_399 k0_t26
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off412 (k0_t26 : Fin k0_t26_loop.trips) (c0_i32_1083 : BitVec 32) : Fin 2 → Nat :=
  let c2_i32_1082 : BitVec 32 := 2#32
  let c0_i32_397 : BitVec 32 := 0#32
  let c1_i32_399 : BitVec 32 := 1#32
  let arg29 : BitVec 32 := Scf.iv c0_i32_397 c1_i32_399 k0_t26
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off413 (k0_t26 : Fin k0_t26_loop.trips) (c0_i32_1089 : BitVec 32) : Fin 2 → Nat :=
  let c2_i32_1088 : BitVec 32 := 2#32
  let c0_i32_397 : BitVec 32 := 0#32
  let c1_i32_399 : BitVec 32 := 1#32
  let arg29 : BitVec 32 := Scf.iv c0_i32_397 c1_i32_399 k0_t26
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off414 (k0_t26 : Fin k0_t26_loop.trips) (c0_i32_1095 : BitVec 32) : Fin 2 → Nat :=
  let c2_i32_1094 : BitVec 32 := 2#32
  let c0_i32_397 : BitVec 32 := 0#32
  let c1_i32_399 : BitVec 32 := 1#32
  let arg29 : BitVec 32 := Scf.iv c0_i32_397 c1_i32_399 k0_t26
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off415 (k0_t26 : Fin k0_t26_loop.trips) (c0_i32_1101 : BitVec 32) : Fin 2 → Nat :=
  let c2_i32_1100 : BitVec 32 := 2#32
  let c0_i32_397 : BitVec 32 := 0#32
  let c1_i32_399 : BitVec 32 := 1#32
  let arg29 : BitVec 32 := Scf.iv c0_i32_397 c1_i32_399 k0_t26
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off416 (k0_t26 : Fin k0_t26_loop.trips) (c0_i32_1107 : BitVec 32) : Fin 2 → Nat :=
  let c2_i32_1106 : BitVec 32 := 2#32
  let c0_i32_397 : BitVec 32 := 0#32
  let c1_i32_399 : BitVec 32 := 1#32
  let arg29 : BitVec 32 := Scf.iv c0_i32_397 c1_i32_399 k0_t26
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off417 (k0_t26 : Fin k0_t26_loop.trips) (c0_i32_1113 : BitVec 32) : Fin 2 → Nat :=
  let c2_i32_1112 : BitVec 32 := 2#32
  let c0_i32_397 : BitVec 32 := 0#32
  let c1_i32_399 : BitVec 32 := 1#32
  let arg29 : BitVec 32 := Scf.iv c0_i32_397 c1_i32_399 k0_t26
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t27_loop : Scf.Loop 32 :=
  let c0_i32_412 : BitVec 32 := 0#32
  let c32_i32_413 : BitVec 32 := 32#32
  let v771 : BitVec 32 := Scalar.addi c0_i32_412 c32_i32_413
  let c1_i32_414 : BitVec 32 := 1#32
  ⟨c0_i32_412, v771, c1_i32_414⟩
def k0_off418 (k0_t27 : Fin k0_t27_loop.trips) (c0_i32_1023 : BitVec 32) : Fin 2 → Nat :=
  let c2_i32_1022 : BitVec 32 := 2#32
  let c0_i32_412 : BitVec 32 := 0#32
  let c1_i32_414 : BitVec 32 := 1#32
  let arg29 : BitVec 32 := Scf.iv c0_i32_412 c1_i32_414 k0_t27
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off419 (k0_t27 : Fin k0_t27_loop.trips) (c0_i32_1029 : BitVec 32) : Fin 2 → Nat :=
  let c2_i32_1028 : BitVec 32 := 2#32
  let c0_i32_412 : BitVec 32 := 0#32
  let c1_i32_414 : BitVec 32 := 1#32
  let arg29 : BitVec 32 := Scf.iv c0_i32_412 c1_i32_414 k0_t27
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off420 (k0_t27 : Fin k0_t27_loop.trips) (c0_i32_1035 : BitVec 32) : Fin 2 → Nat :=
  let c2_i32_1034 : BitVec 32 := 2#32
  let c0_i32_412 : BitVec 32 := 0#32
  let c1_i32_414 : BitVec 32 := 1#32
  let arg29 : BitVec 32 := Scf.iv c0_i32_412 c1_i32_414 k0_t27
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off421 (k0_t27 : Fin k0_t27_loop.trips) (c0_i32_1041 : BitVec 32) : Fin 2 → Nat :=
  let c2_i32_1040 : BitVec 32 := 2#32
  let c0_i32_412 : BitVec 32 := 0#32
  let c1_i32_414 : BitVec 32 := 1#32
  let arg29 : BitVec 32 := Scf.iv c0_i32_412 c1_i32_414 k0_t27
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off422 (k0_t27 : Fin k0_t27_loop.trips) (c0_i32_1047 : BitVec 32) : Fin 2 → Nat :=
  let c2_i32_1046 : BitVec 32 := 2#32
  let c0_i32_412 : BitVec 32 := 0#32
  let c1_i32_414 : BitVec 32 := 1#32
  let arg29 : BitVec 32 := Scf.iv c0_i32_412 c1_i32_414 k0_t27
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off423 (k0_t27 : Fin k0_t27_loop.trips) (c0_i32_1053 : BitVec 32) : Fin 2 → Nat :=
  let c2_i32_1052 : BitVec 32 := 2#32
  let c0_i32_412 : BitVec 32 := 0#32
  let c1_i32_414 : BitVec 32 := 1#32
  let arg29 : BitVec 32 := Scf.iv c0_i32_412 c1_i32_414 k0_t27
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off424 (k0_t27 : Fin k0_t27_loop.trips) (c0_i32_1059 : BitVec 32) : Fin 2 → Nat :=
  let c2_i32_1058 : BitVec 32 := 2#32
  let c0_i32_412 : BitVec 32 := 0#32
  let c1_i32_414 : BitVec 32 := 1#32
  let arg29 : BitVec 32 := Scf.iv c0_i32_412 c1_i32_414 k0_t27
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off425 (k0_t27 : Fin k0_t27_loop.trips) (c0_i32_1065 : BitVec 32) : Fin 2 → Nat :=
  let c2_i32_1064 : BitVec 32 := 2#32
  let c0_i32_412 : BitVec 32 := 0#32
  let c1_i32_414 : BitVec 32 := 1#32
  let arg29 : BitVec 32 := Scf.iv c0_i32_412 c1_i32_414 k0_t27
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off426 (k0_t27 : Fin k0_t27_loop.trips) (c0_i32_1071 : BitVec 32) : Fin 2 → Nat :=
  let c2_i32_1070 : BitVec 32 := 2#32
  let c0_i32_412 : BitVec 32 := 0#32
  let c1_i32_414 : BitVec 32 := 1#32
  let arg29 : BitVec 32 := Scf.iv c0_i32_412 c1_i32_414 k0_t27
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off427 (k0_t27 : Fin k0_t27_loop.trips) (c0_i32_1077 : BitVec 32) : Fin 2 → Nat :=
  let c2_i32_1076 : BitVec 32 := 2#32
  let c0_i32_412 : BitVec 32 := 0#32
  let c1_i32_414 : BitVec 32 := 1#32
  let arg29 : BitVec 32 := Scf.iv c0_i32_412 c1_i32_414 k0_t27
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off428 (k0_t27 : Fin k0_t27_loop.trips) (c0_i32_1083 : BitVec 32) : Fin 2 → Nat :=
  let c2_i32_1082 : BitVec 32 := 2#32
  let c0_i32_412 : BitVec 32 := 0#32
  let c1_i32_414 : BitVec 32 := 1#32
  let arg29 : BitVec 32 := Scf.iv c0_i32_412 c1_i32_414 k0_t27
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off429 (k0_t27 : Fin k0_t27_loop.trips) (c0_i32_1089 : BitVec 32) : Fin 2 → Nat :=
  let c2_i32_1088 : BitVec 32 := 2#32
  let c0_i32_412 : BitVec 32 := 0#32
  let c1_i32_414 : BitVec 32 := 1#32
  let arg29 : BitVec 32 := Scf.iv c0_i32_412 c1_i32_414 k0_t27
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off430 (k0_t27 : Fin k0_t27_loop.trips) (c0_i32_1095 : BitVec 32) : Fin 2 → Nat :=
  let c2_i32_1094 : BitVec 32 := 2#32
  let c0_i32_412 : BitVec 32 := 0#32
  let c1_i32_414 : BitVec 32 := 1#32
  let arg29 : BitVec 32 := Scf.iv c0_i32_412 c1_i32_414 k0_t27
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off431 (k0_t27 : Fin k0_t27_loop.trips) (c0_i32_1101 : BitVec 32) : Fin 2 → Nat :=
  let c2_i32_1100 : BitVec 32 := 2#32
  let c0_i32_412 : BitVec 32 := 0#32
  let c1_i32_414 : BitVec 32 := 1#32
  let arg29 : BitVec 32 := Scf.iv c0_i32_412 c1_i32_414 k0_t27
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off432 (k0_t27 : Fin k0_t27_loop.trips) (c0_i32_1107 : BitVec 32) : Fin 2 → Nat :=
  let c2_i32_1106 : BitVec 32 := 2#32
  let c0_i32_412 : BitVec 32 := 0#32
  let c1_i32_414 : BitVec 32 := 1#32
  let arg29 : BitVec 32 := Scf.iv c0_i32_412 c1_i32_414 k0_t27
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off433 (k0_t27 : Fin k0_t27_loop.trips) (c0_i32_1113 : BitVec 32) : Fin 2 → Nat :=
  let c2_i32_1112 : BitVec 32 := 2#32
  let c0_i32_412 : BitVec 32 := 0#32
  let c1_i32_414 : BitVec 32 := 1#32
  let arg29 : BitVec 32 := Scf.iv c0_i32_412 c1_i32_414 k0_t27
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t28_loop : Scf.Loop 32 :=
  let c0_i32_427 : BitVec 32 := 0#32
  let c32_i32_428 : BitVec 32 := 32#32
  let v783 : BitVec 32 := Scalar.addi c0_i32_427 c32_i32_428
  let c1_i32_429 : BitVec 32 := 1#32
  ⟨c0_i32_427, v783, c1_i32_429⟩
def k0_off434 (k0_t28 : Fin k0_t28_loop.trips) (c0_i32_1023 : BitVec 32) : Fin 2 → Nat :=
  let c2_i32_1022 : BitVec 32 := 2#32
  let c0_i32_427 : BitVec 32 := 0#32
  let c1_i32_429 : BitVec 32 := 1#32
  let arg29 : BitVec 32 := Scf.iv c0_i32_427 c1_i32_429 k0_t28
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off435 (k0_t28 : Fin k0_t28_loop.trips) (c0_i32_1029 : BitVec 32) : Fin 2 → Nat :=
  let c2_i32_1028 : BitVec 32 := 2#32
  let c0_i32_427 : BitVec 32 := 0#32
  let c1_i32_429 : BitVec 32 := 1#32
  let arg29 : BitVec 32 := Scf.iv c0_i32_427 c1_i32_429 k0_t28
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off436 (k0_t28 : Fin k0_t28_loop.trips) (c0_i32_1035 : BitVec 32) : Fin 2 → Nat :=
  let c2_i32_1034 : BitVec 32 := 2#32
  let c0_i32_427 : BitVec 32 := 0#32
  let c1_i32_429 : BitVec 32 := 1#32
  let arg29 : BitVec 32 := Scf.iv c0_i32_427 c1_i32_429 k0_t28
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off437 (k0_t28 : Fin k0_t28_loop.trips) (c0_i32_1041 : BitVec 32) : Fin 2 → Nat :=
  let c2_i32_1040 : BitVec 32 := 2#32
  let c0_i32_427 : BitVec 32 := 0#32
  let c1_i32_429 : BitVec 32 := 1#32
  let arg29 : BitVec 32 := Scf.iv c0_i32_427 c1_i32_429 k0_t28
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off438 (k0_t28 : Fin k0_t28_loop.trips) (c0_i32_1047 : BitVec 32) : Fin 2 → Nat :=
  let c2_i32_1046 : BitVec 32 := 2#32
  let c0_i32_427 : BitVec 32 := 0#32
  let c1_i32_429 : BitVec 32 := 1#32
  let arg29 : BitVec 32 := Scf.iv c0_i32_427 c1_i32_429 k0_t28
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off439 (k0_t28 : Fin k0_t28_loop.trips) (c0_i32_1053 : BitVec 32) : Fin 2 → Nat :=
  let c2_i32_1052 : BitVec 32 := 2#32
  let c0_i32_427 : BitVec 32 := 0#32
  let c1_i32_429 : BitVec 32 := 1#32
  let arg29 : BitVec 32 := Scf.iv c0_i32_427 c1_i32_429 k0_t28
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off440 (k0_t28 : Fin k0_t28_loop.trips) (c0_i32_1059 : BitVec 32) : Fin 2 → Nat :=
  let c2_i32_1058 : BitVec 32 := 2#32
  let c0_i32_427 : BitVec 32 := 0#32
  let c1_i32_429 : BitVec 32 := 1#32
  let arg29 : BitVec 32 := Scf.iv c0_i32_427 c1_i32_429 k0_t28
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off441 (k0_t28 : Fin k0_t28_loop.trips) (c0_i32_1065 : BitVec 32) : Fin 2 → Nat :=
  let c2_i32_1064 : BitVec 32 := 2#32
  let c0_i32_427 : BitVec 32 := 0#32
  let c1_i32_429 : BitVec 32 := 1#32
  let arg29 : BitVec 32 := Scf.iv c0_i32_427 c1_i32_429 k0_t28
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off442 (k0_t28 : Fin k0_t28_loop.trips) (c0_i32_1071 : BitVec 32) : Fin 2 → Nat :=
  let c2_i32_1070 : BitVec 32 := 2#32
  let c0_i32_427 : BitVec 32 := 0#32
  let c1_i32_429 : BitVec 32 := 1#32
  let arg29 : BitVec 32 := Scf.iv c0_i32_427 c1_i32_429 k0_t28
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off443 (k0_t28 : Fin k0_t28_loop.trips) (c0_i32_1077 : BitVec 32) : Fin 2 → Nat :=
  let c2_i32_1076 : BitVec 32 := 2#32
  let c0_i32_427 : BitVec 32 := 0#32
  let c1_i32_429 : BitVec 32 := 1#32
  let arg29 : BitVec 32 := Scf.iv c0_i32_427 c1_i32_429 k0_t28
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off444 (k0_t28 : Fin k0_t28_loop.trips) (c0_i32_1083 : BitVec 32) : Fin 2 → Nat :=
  let c2_i32_1082 : BitVec 32 := 2#32
  let c0_i32_427 : BitVec 32 := 0#32
  let c1_i32_429 : BitVec 32 := 1#32
  let arg29 : BitVec 32 := Scf.iv c0_i32_427 c1_i32_429 k0_t28
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off445 (k0_t28 : Fin k0_t28_loop.trips) (c0_i32_1089 : BitVec 32) : Fin 2 → Nat :=
  let c2_i32_1088 : BitVec 32 := 2#32
  let c0_i32_427 : BitVec 32 := 0#32
  let c1_i32_429 : BitVec 32 := 1#32
  let arg29 : BitVec 32 := Scf.iv c0_i32_427 c1_i32_429 k0_t28
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off446 (k0_t28 : Fin k0_t28_loop.trips) (c0_i32_1095 : BitVec 32) : Fin 2 → Nat :=
  let c2_i32_1094 : BitVec 32 := 2#32
  let c0_i32_427 : BitVec 32 := 0#32
  let c1_i32_429 : BitVec 32 := 1#32
  let arg29 : BitVec 32 := Scf.iv c0_i32_427 c1_i32_429 k0_t28
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off447 (k0_t28 : Fin k0_t28_loop.trips) (c0_i32_1101 : BitVec 32) : Fin 2 → Nat :=
  let c2_i32_1100 : BitVec 32 := 2#32
  let c0_i32_427 : BitVec 32 := 0#32
  let c1_i32_429 : BitVec 32 := 1#32
  let arg29 : BitVec 32 := Scf.iv c0_i32_427 c1_i32_429 k0_t28
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off448 (k0_t28 : Fin k0_t28_loop.trips) (c0_i32_1107 : BitVec 32) : Fin 2 → Nat :=
  let c2_i32_1106 : BitVec 32 := 2#32
  let c0_i32_427 : BitVec 32 := 0#32
  let c1_i32_429 : BitVec 32 := 1#32
  let arg29 : BitVec 32 := Scf.iv c0_i32_427 c1_i32_429 k0_t28
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off449 (k0_t28 : Fin k0_t28_loop.trips) (c0_i32_1113 : BitVec 32) : Fin 2 → Nat :=
  let c2_i32_1112 : BitVec 32 := 2#32
  let c0_i32_427 : BitVec 32 := 0#32
  let c1_i32_429 : BitVec 32 := 1#32
  let arg29 : BitVec 32 := Scf.iv c0_i32_427 c1_i32_429 k0_t28
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t29_loop : Scf.Loop 32 :=
  let c0_i32_442 : BitVec 32 := 0#32
  let c32_i32_443 : BitVec 32 := 32#32
  let v795 : BitVec 32 := Scalar.addi c0_i32_442 c32_i32_443
  let c1_i32_444 : BitVec 32 := 1#32
  ⟨c0_i32_442, v795, c1_i32_444⟩
def k0_off450 (k0_t29 : Fin k0_t29_loop.trips) (c0_i32_1023 : BitVec 32) : Fin 2 → Nat :=
  let c2_i32_1022 : BitVec 32 := 2#32
  let c0_i32_442 : BitVec 32 := 0#32
  let c1_i32_444 : BitVec 32 := 1#32
  let arg29 : BitVec 32 := Scf.iv c0_i32_442 c1_i32_444 k0_t29
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off451 (k0_t29 : Fin k0_t29_loop.trips) (c0_i32_1029 : BitVec 32) : Fin 2 → Nat :=
  let c2_i32_1028 : BitVec 32 := 2#32
  let c0_i32_442 : BitVec 32 := 0#32
  let c1_i32_444 : BitVec 32 := 1#32
  let arg29 : BitVec 32 := Scf.iv c0_i32_442 c1_i32_444 k0_t29
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off452 (k0_t29 : Fin k0_t29_loop.trips) (c0_i32_1035 : BitVec 32) : Fin 2 → Nat :=
  let c2_i32_1034 : BitVec 32 := 2#32
  let c0_i32_442 : BitVec 32 := 0#32
  let c1_i32_444 : BitVec 32 := 1#32
  let arg29 : BitVec 32 := Scf.iv c0_i32_442 c1_i32_444 k0_t29
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off453 (k0_t29 : Fin k0_t29_loop.trips) (c0_i32_1041 : BitVec 32) : Fin 2 → Nat :=
  let c2_i32_1040 : BitVec 32 := 2#32
  let c0_i32_442 : BitVec 32 := 0#32
  let c1_i32_444 : BitVec 32 := 1#32
  let arg29 : BitVec 32 := Scf.iv c0_i32_442 c1_i32_444 k0_t29
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off454 (k0_t29 : Fin k0_t29_loop.trips) (c0_i32_1047 : BitVec 32) : Fin 2 → Nat :=
  let c2_i32_1046 : BitVec 32 := 2#32
  let c0_i32_442 : BitVec 32 := 0#32
  let c1_i32_444 : BitVec 32 := 1#32
  let arg29 : BitVec 32 := Scf.iv c0_i32_442 c1_i32_444 k0_t29
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off455 (k0_t29 : Fin k0_t29_loop.trips) (c0_i32_1053 : BitVec 32) : Fin 2 → Nat :=
  let c2_i32_1052 : BitVec 32 := 2#32
  let c0_i32_442 : BitVec 32 := 0#32
  let c1_i32_444 : BitVec 32 := 1#32
  let arg29 : BitVec 32 := Scf.iv c0_i32_442 c1_i32_444 k0_t29
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off456 (k0_t29 : Fin k0_t29_loop.trips) (c0_i32_1059 : BitVec 32) : Fin 2 → Nat :=
  let c2_i32_1058 : BitVec 32 := 2#32
  let c0_i32_442 : BitVec 32 := 0#32
  let c1_i32_444 : BitVec 32 := 1#32
  let arg29 : BitVec 32 := Scf.iv c0_i32_442 c1_i32_444 k0_t29
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off457 (k0_t29 : Fin k0_t29_loop.trips) (c0_i32_1065 : BitVec 32) : Fin 2 → Nat :=
  let c2_i32_1064 : BitVec 32 := 2#32
  let c0_i32_442 : BitVec 32 := 0#32
  let c1_i32_444 : BitVec 32 := 1#32
  let arg29 : BitVec 32 := Scf.iv c0_i32_442 c1_i32_444 k0_t29
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off458 (k0_t29 : Fin k0_t29_loop.trips) (c0_i32_1071 : BitVec 32) : Fin 2 → Nat :=
  let c2_i32_1070 : BitVec 32 := 2#32
  let c0_i32_442 : BitVec 32 := 0#32
  let c1_i32_444 : BitVec 32 := 1#32
  let arg29 : BitVec 32 := Scf.iv c0_i32_442 c1_i32_444 k0_t29
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off459 (k0_t29 : Fin k0_t29_loop.trips) (c0_i32_1077 : BitVec 32) : Fin 2 → Nat :=
  let c2_i32_1076 : BitVec 32 := 2#32
  let c0_i32_442 : BitVec 32 := 0#32
  let c1_i32_444 : BitVec 32 := 1#32
  let arg29 : BitVec 32 := Scf.iv c0_i32_442 c1_i32_444 k0_t29
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off460 (k0_t29 : Fin k0_t29_loop.trips) (c0_i32_1083 : BitVec 32) : Fin 2 → Nat :=
  let c2_i32_1082 : BitVec 32 := 2#32
  let c0_i32_442 : BitVec 32 := 0#32
  let c1_i32_444 : BitVec 32 := 1#32
  let arg29 : BitVec 32 := Scf.iv c0_i32_442 c1_i32_444 k0_t29
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off461 (k0_t29 : Fin k0_t29_loop.trips) (c0_i32_1089 : BitVec 32) : Fin 2 → Nat :=
  let c2_i32_1088 : BitVec 32 := 2#32
  let c0_i32_442 : BitVec 32 := 0#32
  let c1_i32_444 : BitVec 32 := 1#32
  let arg29 : BitVec 32 := Scf.iv c0_i32_442 c1_i32_444 k0_t29
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off462 (k0_t29 : Fin k0_t29_loop.trips) (c0_i32_1095 : BitVec 32) : Fin 2 → Nat :=
  let c2_i32_1094 : BitVec 32 := 2#32
  let c0_i32_442 : BitVec 32 := 0#32
  let c1_i32_444 : BitVec 32 := 1#32
  let arg29 : BitVec 32 := Scf.iv c0_i32_442 c1_i32_444 k0_t29
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off463 (k0_t29 : Fin k0_t29_loop.trips) (c0_i32_1101 : BitVec 32) : Fin 2 → Nat :=
  let c2_i32_1100 : BitVec 32 := 2#32
  let c0_i32_442 : BitVec 32 := 0#32
  let c1_i32_444 : BitVec 32 := 1#32
  let arg29 : BitVec 32 := Scf.iv c0_i32_442 c1_i32_444 k0_t29
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off464 (k0_t29 : Fin k0_t29_loop.trips) (c0_i32_1107 : BitVec 32) : Fin 2 → Nat :=
  let c2_i32_1106 : BitVec 32 := 2#32
  let c0_i32_442 : BitVec 32 := 0#32
  let c1_i32_444 : BitVec 32 := 1#32
  let arg29 : BitVec 32 := Scf.iv c0_i32_442 c1_i32_444 k0_t29
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off465 (k0_t29 : Fin k0_t29_loop.trips) (c0_i32_1113 : BitVec 32) : Fin 2 → Nat :=
  let c2_i32_1112 : BitVec 32 := 2#32
  let c0_i32_442 : BitVec 32 := 0#32
  let c1_i32_444 : BitVec 32 := 1#32
  let arg29 : BitVec 32 := Scf.iv c0_i32_442 c1_i32_444 k0_t29
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t30_loop : Scf.Loop 32 :=
  let c0_i32_452 : BitVec 32 := 0#32
  let c32_i32_453 : BitVec 32 := 32#32
  let v802 : BitVec 32 := Scalar.addi c0_i32_452 c32_i32_453
  let c1_i32_454 : BitVec 32 := 1#32
  ⟨c0_i32_452, v802, c1_i32_454⟩
def k0_off466 (k0_t30 : Fin k0_t30_loop.trips) (c0_i32_1023 : BitVec 32) : Fin 2 → Nat :=
  let c2_i32_1022 : BitVec 32 := 2#32
  let c0_i32_452 : BitVec 32 := 0#32
  let c1_i32_454 : BitVec 32 := 1#32
  let arg29 : BitVec 32 := Scf.iv c0_i32_452 c1_i32_454 k0_t30
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off467 (k0_t30 : Fin k0_t30_loop.trips) (c0_i32_1029 : BitVec 32) : Fin 2 → Nat :=
  let c2_i32_1028 : BitVec 32 := 2#32
  let c0_i32_452 : BitVec 32 := 0#32
  let c1_i32_454 : BitVec 32 := 1#32
  let arg29 : BitVec 32 := Scf.iv c0_i32_452 c1_i32_454 k0_t30
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off468 (k0_t30 : Fin k0_t30_loop.trips) (c0_i32_1035 : BitVec 32) : Fin 2 → Nat :=
  let c2_i32_1034 : BitVec 32 := 2#32
  let c0_i32_452 : BitVec 32 := 0#32
  let c1_i32_454 : BitVec 32 := 1#32
  let arg29 : BitVec 32 := Scf.iv c0_i32_452 c1_i32_454 k0_t30
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off469 (k0_t30 : Fin k0_t30_loop.trips) (c0_i32_1041 : BitVec 32) : Fin 2 → Nat :=
  let c2_i32_1040 : BitVec 32 := 2#32
  let c0_i32_452 : BitVec 32 := 0#32
  let c1_i32_454 : BitVec 32 := 1#32
  let arg29 : BitVec 32 := Scf.iv c0_i32_452 c1_i32_454 k0_t30
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off470 (k0_t30 : Fin k0_t30_loop.trips) (c0_i32_1047 : BitVec 32) : Fin 2 → Nat :=
  let c2_i32_1046 : BitVec 32 := 2#32
  let c0_i32_452 : BitVec 32 := 0#32
  let c1_i32_454 : BitVec 32 := 1#32
  let arg29 : BitVec 32 := Scf.iv c0_i32_452 c1_i32_454 k0_t30
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off471 (k0_t30 : Fin k0_t30_loop.trips) (c0_i32_1053 : BitVec 32) : Fin 2 → Nat :=
  let c2_i32_1052 : BitVec 32 := 2#32
  let c0_i32_452 : BitVec 32 := 0#32
  let c1_i32_454 : BitVec 32 := 1#32
  let arg29 : BitVec 32 := Scf.iv c0_i32_452 c1_i32_454 k0_t30
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off472 (k0_t30 : Fin k0_t30_loop.trips) (c0_i32_1059 : BitVec 32) : Fin 2 → Nat :=
  let c2_i32_1058 : BitVec 32 := 2#32
  let c0_i32_452 : BitVec 32 := 0#32
  let c1_i32_454 : BitVec 32 := 1#32
  let arg29 : BitVec 32 := Scf.iv c0_i32_452 c1_i32_454 k0_t30
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off473 (k0_t30 : Fin k0_t30_loop.trips) (c0_i32_1065 : BitVec 32) : Fin 2 → Nat :=
  let c2_i32_1064 : BitVec 32 := 2#32
  let c0_i32_452 : BitVec 32 := 0#32
  let c1_i32_454 : BitVec 32 := 1#32
  let arg29 : BitVec 32 := Scf.iv c0_i32_452 c1_i32_454 k0_t30
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off474 (k0_t30 : Fin k0_t30_loop.trips) (c0_i32_1071 : BitVec 32) : Fin 2 → Nat :=
  let c2_i32_1070 : BitVec 32 := 2#32
  let c0_i32_452 : BitVec 32 := 0#32
  let c1_i32_454 : BitVec 32 := 1#32
  let arg29 : BitVec 32 := Scf.iv c0_i32_452 c1_i32_454 k0_t30
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off475 (k0_t30 : Fin k0_t30_loop.trips) (c0_i32_1077 : BitVec 32) : Fin 2 → Nat :=
  let c2_i32_1076 : BitVec 32 := 2#32
  let c0_i32_452 : BitVec 32 := 0#32
  let c1_i32_454 : BitVec 32 := 1#32
  let arg29 : BitVec 32 := Scf.iv c0_i32_452 c1_i32_454 k0_t30
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off476 (k0_t30 : Fin k0_t30_loop.trips) (c0_i32_1083 : BitVec 32) : Fin 2 → Nat :=
  let c2_i32_1082 : BitVec 32 := 2#32
  let c0_i32_452 : BitVec 32 := 0#32
  let c1_i32_454 : BitVec 32 := 1#32
  let arg29 : BitVec 32 := Scf.iv c0_i32_452 c1_i32_454 k0_t30
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off477 (k0_t30 : Fin k0_t30_loop.trips) (c0_i32_1089 : BitVec 32) : Fin 2 → Nat :=
  let c2_i32_1088 : BitVec 32 := 2#32
  let c0_i32_452 : BitVec 32 := 0#32
  let c1_i32_454 : BitVec 32 := 1#32
  let arg29 : BitVec 32 := Scf.iv c0_i32_452 c1_i32_454 k0_t30
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off478 (k0_t30 : Fin k0_t30_loop.trips) (c0_i32_1095 : BitVec 32) : Fin 2 → Nat :=
  let c2_i32_1094 : BitVec 32 := 2#32
  let c0_i32_452 : BitVec 32 := 0#32
  let c1_i32_454 : BitVec 32 := 1#32
  let arg29 : BitVec 32 := Scf.iv c0_i32_452 c1_i32_454 k0_t30
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off479 (k0_t30 : Fin k0_t30_loop.trips) (c0_i32_1101 : BitVec 32) : Fin 2 → Nat :=
  let c2_i32_1100 : BitVec 32 := 2#32
  let c0_i32_452 : BitVec 32 := 0#32
  let c1_i32_454 : BitVec 32 := 1#32
  let arg29 : BitVec 32 := Scf.iv c0_i32_452 c1_i32_454 k0_t30
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off480 (k0_t30 : Fin k0_t30_loop.trips) (c0_i32_1107 : BitVec 32) : Fin 2 → Nat :=
  let c2_i32_1106 : BitVec 32 := 2#32
  let c0_i32_452 : BitVec 32 := 0#32
  let c1_i32_454 : BitVec 32 := 1#32
  let arg29 : BitVec 32 := Scf.iv c0_i32_452 c1_i32_454 k0_t30
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off481 (k0_t30 : Fin k0_t30_loop.trips) (c0_i32_1113 : BitVec 32) : Fin 2 → Nat :=
  let c2_i32_1112 : BitVec 32 := 2#32
  let c0_i32_452 : BitVec 32 := 0#32
  let c1_i32_454 : BitVec 32 := 1#32
  let arg29 : BitVec 32 := Scf.iv c0_i32_452 c1_i32_454 k0_t30
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t31_loop : Scf.Loop 32 :=
  let c0_i32_462 : BitVec 32 := 0#32
  let c32_i32_463 : BitVec 32 := 32#32
  let v809 : BitVec 32 := Scalar.addi c0_i32_462 c32_i32_463
  let c1_i32_464 : BitVec 32 := 1#32
  ⟨c0_i32_462, v809, c1_i32_464⟩
def k0_off482 (k0_t31 : Fin k0_t31_loop.trips) (c0_i32_1023 : BitVec 32) : Fin 2 → Nat :=
  let c2_i32_1022 : BitVec 32 := 2#32
  let c0_i32_462 : BitVec 32 := 0#32
  let c1_i32_464 : BitVec 32 := 1#32
  let arg29 : BitVec 32 := Scf.iv c0_i32_462 c1_i32_464 k0_t31
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off483 (k0_t31 : Fin k0_t31_loop.trips) (c0_i32_1029 : BitVec 32) : Fin 2 → Nat :=
  let c2_i32_1028 : BitVec 32 := 2#32
  let c0_i32_462 : BitVec 32 := 0#32
  let c1_i32_464 : BitVec 32 := 1#32
  let arg29 : BitVec 32 := Scf.iv c0_i32_462 c1_i32_464 k0_t31
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off484 (k0_t31 : Fin k0_t31_loop.trips) (c0_i32_1035 : BitVec 32) : Fin 2 → Nat :=
  let c2_i32_1034 : BitVec 32 := 2#32
  let c0_i32_462 : BitVec 32 := 0#32
  let c1_i32_464 : BitVec 32 := 1#32
  let arg29 : BitVec 32 := Scf.iv c0_i32_462 c1_i32_464 k0_t31
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off485 (k0_t31 : Fin k0_t31_loop.trips) (c0_i32_1041 : BitVec 32) : Fin 2 → Nat :=
  let c2_i32_1040 : BitVec 32 := 2#32
  let c0_i32_462 : BitVec 32 := 0#32
  let c1_i32_464 : BitVec 32 := 1#32
  let arg29 : BitVec 32 := Scf.iv c0_i32_462 c1_i32_464 k0_t31
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off486 (k0_t31 : Fin k0_t31_loop.trips) (c0_i32_1047 : BitVec 32) : Fin 2 → Nat :=
  let c2_i32_1046 : BitVec 32 := 2#32
  let c0_i32_462 : BitVec 32 := 0#32
  let c1_i32_464 : BitVec 32 := 1#32
  let arg29 : BitVec 32 := Scf.iv c0_i32_462 c1_i32_464 k0_t31
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off487 (k0_t31 : Fin k0_t31_loop.trips) (c0_i32_1053 : BitVec 32) : Fin 2 → Nat :=
  let c2_i32_1052 : BitVec 32 := 2#32
  let c0_i32_462 : BitVec 32 := 0#32
  let c1_i32_464 : BitVec 32 := 1#32
  let arg29 : BitVec 32 := Scf.iv c0_i32_462 c1_i32_464 k0_t31
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off488 (k0_t31 : Fin k0_t31_loop.trips) (c0_i32_1059 : BitVec 32) : Fin 2 → Nat :=
  let c2_i32_1058 : BitVec 32 := 2#32
  let c0_i32_462 : BitVec 32 := 0#32
  let c1_i32_464 : BitVec 32 := 1#32
  let arg29 : BitVec 32 := Scf.iv c0_i32_462 c1_i32_464 k0_t31
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off489 (k0_t31 : Fin k0_t31_loop.trips) (c0_i32_1065 : BitVec 32) : Fin 2 → Nat :=
  let c2_i32_1064 : BitVec 32 := 2#32
  let c0_i32_462 : BitVec 32 := 0#32
  let c1_i32_464 : BitVec 32 := 1#32
  let arg29 : BitVec 32 := Scf.iv c0_i32_462 c1_i32_464 k0_t31
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off490 (k0_t31 : Fin k0_t31_loop.trips) (c0_i32_1071 : BitVec 32) : Fin 2 → Nat :=
  let c2_i32_1070 : BitVec 32 := 2#32
  let c0_i32_462 : BitVec 32 := 0#32
  let c1_i32_464 : BitVec 32 := 1#32
  let arg29 : BitVec 32 := Scf.iv c0_i32_462 c1_i32_464 k0_t31
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off491 (k0_t31 : Fin k0_t31_loop.trips) (c0_i32_1077 : BitVec 32) : Fin 2 → Nat :=
  let c2_i32_1076 : BitVec 32 := 2#32
  let c0_i32_462 : BitVec 32 := 0#32
  let c1_i32_464 : BitVec 32 := 1#32
  let arg29 : BitVec 32 := Scf.iv c0_i32_462 c1_i32_464 k0_t31
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off492 (k0_t31 : Fin k0_t31_loop.trips) (c0_i32_1083 : BitVec 32) : Fin 2 → Nat :=
  let c2_i32_1082 : BitVec 32 := 2#32
  let c0_i32_462 : BitVec 32 := 0#32
  let c1_i32_464 : BitVec 32 := 1#32
  let arg29 : BitVec 32 := Scf.iv c0_i32_462 c1_i32_464 k0_t31
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off493 (k0_t31 : Fin k0_t31_loop.trips) (c0_i32_1089 : BitVec 32) : Fin 2 → Nat :=
  let c2_i32_1088 : BitVec 32 := 2#32
  let c0_i32_462 : BitVec 32 := 0#32
  let c1_i32_464 : BitVec 32 := 1#32
  let arg29 : BitVec 32 := Scf.iv c0_i32_462 c1_i32_464 k0_t31
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off494 (k0_t31 : Fin k0_t31_loop.trips) (c0_i32_1095 : BitVec 32) : Fin 2 → Nat :=
  let c2_i32_1094 : BitVec 32 := 2#32
  let c0_i32_462 : BitVec 32 := 0#32
  let c1_i32_464 : BitVec 32 := 1#32
  let arg29 : BitVec 32 := Scf.iv c0_i32_462 c1_i32_464 k0_t31
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off495 (k0_t31 : Fin k0_t31_loop.trips) (c0_i32_1101 : BitVec 32) : Fin 2 → Nat :=
  let c2_i32_1100 : BitVec 32 := 2#32
  let c0_i32_462 : BitVec 32 := 0#32
  let c1_i32_464 : BitVec 32 := 1#32
  let arg29 : BitVec 32 := Scf.iv c0_i32_462 c1_i32_464 k0_t31
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off496 (k0_t31 : Fin k0_t31_loop.trips) (c0_i32_1107 : BitVec 32) : Fin 2 → Nat :=
  let c2_i32_1106 : BitVec 32 := 2#32
  let c0_i32_462 : BitVec 32 := 0#32
  let c1_i32_464 : BitVec 32 := 1#32
  let arg29 : BitVec 32 := Scf.iv c0_i32_462 c1_i32_464 k0_t31
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off497 (k0_t31 : Fin k0_t31_loop.trips) (c0_i32_1113 : BitVec 32) : Fin 2 → Nat :=
  let c2_i32_1112 : BitVec 32 := 2#32
  let c0_i32_462 : BitVec 32 := 0#32
  let c1_i32_464 : BitVec 32 := 1#32
  let arg29 : BitVec 32 := Scf.iv c0_i32_462 c1_i32_464 k0_t31
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t32_loop : Scf.Loop 32 :=
  let c0_i32_472 : BitVec 32 := 0#32
  let c32_i32_473 : BitVec 32 := 32#32
  let v816 : BitVec 32 := Scalar.addi c0_i32_472 c32_i32_473
  let c1_i32_474 : BitVec 32 := 1#32
  ⟨c0_i32_472, v816, c1_i32_474⟩
def k0_off498 (k0_t32 : Fin k0_t32_loop.trips) (c0_i32_1023 : BitVec 32) : Fin 2 → Nat :=
  let c2_i32_1022 : BitVec 32 := 2#32
  let c0_i32_472 : BitVec 32 := 0#32
  let c1_i32_474 : BitVec 32 := 1#32
  let arg29 : BitVec 32 := Scf.iv c0_i32_472 c1_i32_474 k0_t32
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off499 (k0_t32 : Fin k0_t32_loop.trips) (c0_i32_1029 : BitVec 32) : Fin 2 → Nat :=
  let c2_i32_1028 : BitVec 32 := 2#32
  let c0_i32_472 : BitVec 32 := 0#32
  let c1_i32_474 : BitVec 32 := 1#32
  let arg29 : BitVec 32 := Scf.iv c0_i32_472 c1_i32_474 k0_t32
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off500 (k0_t32 : Fin k0_t32_loop.trips) (c0_i32_1035 : BitVec 32) : Fin 2 → Nat :=
  let c2_i32_1034 : BitVec 32 := 2#32
  let c0_i32_472 : BitVec 32 := 0#32
  let c1_i32_474 : BitVec 32 := 1#32
  let arg29 : BitVec 32 := Scf.iv c0_i32_472 c1_i32_474 k0_t32
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off501 (k0_t32 : Fin k0_t32_loop.trips) (c0_i32_1041 : BitVec 32) : Fin 2 → Nat :=
  let c2_i32_1040 : BitVec 32 := 2#32
  let c0_i32_472 : BitVec 32 := 0#32
  let c1_i32_474 : BitVec 32 := 1#32
  let arg29 : BitVec 32 := Scf.iv c0_i32_472 c1_i32_474 k0_t32
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off502 (k0_t32 : Fin k0_t32_loop.trips) (c0_i32_1047 : BitVec 32) : Fin 2 → Nat :=
  let c2_i32_1046 : BitVec 32 := 2#32
  let c0_i32_472 : BitVec 32 := 0#32
  let c1_i32_474 : BitVec 32 := 1#32
  let arg29 : BitVec 32 := Scf.iv c0_i32_472 c1_i32_474 k0_t32
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off503 (k0_t32 : Fin k0_t32_loop.trips) (c0_i32_1053 : BitVec 32) : Fin 2 → Nat :=
  let c2_i32_1052 : BitVec 32 := 2#32
  let c0_i32_472 : BitVec 32 := 0#32
  let c1_i32_474 : BitVec 32 := 1#32
  let arg29 : BitVec 32 := Scf.iv c0_i32_472 c1_i32_474 k0_t32
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off504 (k0_t32 : Fin k0_t32_loop.trips) (c0_i32_1059 : BitVec 32) : Fin 2 → Nat :=
  let c2_i32_1058 : BitVec 32 := 2#32
  let c0_i32_472 : BitVec 32 := 0#32
  let c1_i32_474 : BitVec 32 := 1#32
  let arg29 : BitVec 32 := Scf.iv c0_i32_472 c1_i32_474 k0_t32
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off505 (k0_t32 : Fin k0_t32_loop.trips) (c0_i32_1065 : BitVec 32) : Fin 2 → Nat :=
  let c2_i32_1064 : BitVec 32 := 2#32
  let c0_i32_472 : BitVec 32 := 0#32
  let c1_i32_474 : BitVec 32 := 1#32
  let arg29 : BitVec 32 := Scf.iv c0_i32_472 c1_i32_474 k0_t32
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off506 (k0_t32 : Fin k0_t32_loop.trips) (c0_i32_1071 : BitVec 32) : Fin 2 → Nat :=
  let c2_i32_1070 : BitVec 32 := 2#32
  let c0_i32_472 : BitVec 32 := 0#32
  let c1_i32_474 : BitVec 32 := 1#32
  let arg29 : BitVec 32 := Scf.iv c0_i32_472 c1_i32_474 k0_t32
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off507 (k0_t32 : Fin k0_t32_loop.trips) (c0_i32_1077 : BitVec 32) : Fin 2 → Nat :=
  let c2_i32_1076 : BitVec 32 := 2#32
  let c0_i32_472 : BitVec 32 := 0#32
  let c1_i32_474 : BitVec 32 := 1#32
  let arg29 : BitVec 32 := Scf.iv c0_i32_472 c1_i32_474 k0_t32
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off508 (k0_t32 : Fin k0_t32_loop.trips) (c0_i32_1083 : BitVec 32) : Fin 2 → Nat :=
  let c2_i32_1082 : BitVec 32 := 2#32
  let c0_i32_472 : BitVec 32 := 0#32
  let c1_i32_474 : BitVec 32 := 1#32
  let arg29 : BitVec 32 := Scf.iv c0_i32_472 c1_i32_474 k0_t32
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off509 (k0_t32 : Fin k0_t32_loop.trips) (c0_i32_1089 : BitVec 32) : Fin 2 → Nat :=
  let c2_i32_1088 : BitVec 32 := 2#32
  let c0_i32_472 : BitVec 32 := 0#32
  let c1_i32_474 : BitVec 32 := 1#32
  let arg29 : BitVec 32 := Scf.iv c0_i32_472 c1_i32_474 k0_t32
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off510 (k0_t32 : Fin k0_t32_loop.trips) (c0_i32_1095 : BitVec 32) : Fin 2 → Nat :=
  let c2_i32_1094 : BitVec 32 := 2#32
  let c0_i32_472 : BitVec 32 := 0#32
  let c1_i32_474 : BitVec 32 := 1#32
  let arg29 : BitVec 32 := Scf.iv c0_i32_472 c1_i32_474 k0_t32
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off511 (k0_t32 : Fin k0_t32_loop.trips) (c0_i32_1101 : BitVec 32) : Fin 2 → Nat :=
  let c2_i32_1100 : BitVec 32 := 2#32
  let c0_i32_472 : BitVec 32 := 0#32
  let c1_i32_474 : BitVec 32 := 1#32
  let arg29 : BitVec 32 := Scf.iv c0_i32_472 c1_i32_474 k0_t32
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off512 (k0_t32 : Fin k0_t32_loop.trips) (c0_i32_1107 : BitVec 32) : Fin 2 → Nat :=
  let c2_i32_1106 : BitVec 32 := 2#32
  let c0_i32_472 : BitVec 32 := 0#32
  let c1_i32_474 : BitVec 32 := 1#32
  let arg29 : BitVec 32 := Scf.iv c0_i32_472 c1_i32_474 k0_t32
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off513 (k0_t32 : Fin k0_t32_loop.trips) (c0_i32_1113 : BitVec 32) : Fin 2 → Nat :=
  let c2_i32_1112 : BitVec 32 := 2#32
  let c0_i32_472 : BitVec 32 := 0#32
  let c1_i32_474 : BitVec 32 := 1#32
  let arg29 : BitVec 32 := Scf.iv c0_i32_472 c1_i32_474 k0_t32
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t33_loop : Scf.Loop 32 :=
  let c0_i32_514 : BitVec 32 := 0#32
  let c32_i32_515 : BitVec 32 := 32#32
  let v856 : BitVec 32 := Scalar.addi c0_i32_514 c32_i32_515
  let c1_i32_516 : BitVec 32 := 1#32
  ⟨c0_i32_514, v856, c1_i32_516⟩
def k0_off514 (k0_t33 : Fin k0_t33_loop.trips) (c0_i32_1023 : BitVec 32) : Fin 2 → Nat :=
  let c2_i32_1022 : BitVec 32 := 2#32
  let c0_i32_514 : BitVec 32 := 0#32
  let c1_i32_516 : BitVec 32 := 1#32
  let arg29 : BitVec 32 := Scf.iv c0_i32_514 c1_i32_516 k0_t33
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off515 (k0_t33 : Fin k0_t33_loop.trips) (c0_i32_1026 : BitVec 32) : Fin 2 → Nat :=
  let c2_i32_1025 : BitVec 32 := 2#32
  let c0_i32_514 : BitVec 32 := 0#32
  let c1_i32_516 : BitVec 32 := 1#32
  let arg29 : BitVec 32 := Scf.iv c0_i32_514 c1_i32_516 k0_t33
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off516 (k0_t33 : Fin k0_t33_loop.trips) (c0_i32_1029 : BitVec 32) : Fin 2 → Nat :=
  let c2_i32_1028 : BitVec 32 := 2#32
  let c0_i32_514 : BitVec 32 := 0#32
  let c1_i32_516 : BitVec 32 := 1#32
  let arg29 : BitVec 32 := Scf.iv c0_i32_514 c1_i32_516 k0_t33
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off517 (k0_t33 : Fin k0_t33_loop.trips) (c0_i32_1032 : BitVec 32) : Fin 2 → Nat :=
  let c2_i32_1031 : BitVec 32 := 2#32
  let c0_i32_514 : BitVec 32 := 0#32
  let c1_i32_516 : BitVec 32 := 1#32
  let arg29 : BitVec 32 := Scf.iv c0_i32_514 c1_i32_516 k0_t33
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off518 (k0_t33 : Fin k0_t33_loop.trips) (c0_i32_1035 : BitVec 32) : Fin 2 → Nat :=
  let c2_i32_1034 : BitVec 32 := 2#32
  let c0_i32_514 : BitVec 32 := 0#32
  let c1_i32_516 : BitVec 32 := 1#32
  let arg29 : BitVec 32 := Scf.iv c0_i32_514 c1_i32_516 k0_t33
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off519 (k0_t33 : Fin k0_t33_loop.trips) (c0_i32_1038 : BitVec 32) : Fin 2 → Nat :=
  let c2_i32_1037 : BitVec 32 := 2#32
  let c0_i32_514 : BitVec 32 := 0#32
  let c1_i32_516 : BitVec 32 := 1#32
  let arg29 : BitVec 32 := Scf.iv c0_i32_514 c1_i32_516 k0_t33
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off520 (k0_t33 : Fin k0_t33_loop.trips) (c0_i32_1041 : BitVec 32) : Fin 2 → Nat :=
  let c2_i32_1040 : BitVec 32 := 2#32
  let c0_i32_514 : BitVec 32 := 0#32
  let c1_i32_516 : BitVec 32 := 1#32
  let arg29 : BitVec 32 := Scf.iv c0_i32_514 c1_i32_516 k0_t33
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off521 (k0_t33 : Fin k0_t33_loop.trips) (c0_i32_1044 : BitVec 32) : Fin 2 → Nat :=
  let c2_i32_1043 : BitVec 32 := 2#32
  let c0_i32_514 : BitVec 32 := 0#32
  let c1_i32_516 : BitVec 32 := 1#32
  let arg29 : BitVec 32 := Scf.iv c0_i32_514 c1_i32_516 k0_t33
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off522 (k0_t33 : Fin k0_t33_loop.trips) (c0_i32_1047 : BitVec 32) : Fin 2 → Nat :=
  let c2_i32_1046 : BitVec 32 := 2#32
  let c0_i32_514 : BitVec 32 := 0#32
  let c1_i32_516 : BitVec 32 := 1#32
  let arg29 : BitVec 32 := Scf.iv c0_i32_514 c1_i32_516 k0_t33
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off523 (k0_t33 : Fin k0_t33_loop.trips) (c0_i32_1050 : BitVec 32) : Fin 2 → Nat :=
  let c2_i32_1049 : BitVec 32 := 2#32
  let c0_i32_514 : BitVec 32 := 0#32
  let c1_i32_516 : BitVec 32 := 1#32
  let arg29 : BitVec 32 := Scf.iv c0_i32_514 c1_i32_516 k0_t33
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off524 (k0_t33 : Fin k0_t33_loop.trips) (c0_i32_1053 : BitVec 32) : Fin 2 → Nat :=
  let c2_i32_1052 : BitVec 32 := 2#32
  let c0_i32_514 : BitVec 32 := 0#32
  let c1_i32_516 : BitVec 32 := 1#32
  let arg29 : BitVec 32 := Scf.iv c0_i32_514 c1_i32_516 k0_t33
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off525 (k0_t33 : Fin k0_t33_loop.trips) (c0_i32_1056 : BitVec 32) : Fin 2 → Nat :=
  let c2_i32_1055 : BitVec 32 := 2#32
  let c0_i32_514 : BitVec 32 := 0#32
  let c1_i32_516 : BitVec 32 := 1#32
  let arg29 : BitVec 32 := Scf.iv c0_i32_514 c1_i32_516 k0_t33
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off526 (k0_t33 : Fin k0_t33_loop.trips) (c0_i32_1059 : BitVec 32) : Fin 2 → Nat :=
  let c2_i32_1058 : BitVec 32 := 2#32
  let c0_i32_514 : BitVec 32 := 0#32
  let c1_i32_516 : BitVec 32 := 1#32
  let arg29 : BitVec 32 := Scf.iv c0_i32_514 c1_i32_516 k0_t33
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off527 (k0_t33 : Fin k0_t33_loop.trips) (c0_i32_1062 : BitVec 32) : Fin 2 → Nat :=
  let c2_i32_1061 : BitVec 32 := 2#32
  let c0_i32_514 : BitVec 32 := 0#32
  let c1_i32_516 : BitVec 32 := 1#32
  let arg29 : BitVec 32 := Scf.iv c0_i32_514 c1_i32_516 k0_t33
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off528 (k0_t33 : Fin k0_t33_loop.trips) (c0_i32_1065 : BitVec 32) : Fin 2 → Nat :=
  let c2_i32_1064 : BitVec 32 := 2#32
  let c0_i32_514 : BitVec 32 := 0#32
  let c1_i32_516 : BitVec 32 := 1#32
  let arg29 : BitVec 32 := Scf.iv c0_i32_514 c1_i32_516 k0_t33
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off529 (k0_t33 : Fin k0_t33_loop.trips) (c0_i32_1068 : BitVec 32) : Fin 2 → Nat :=
  let c2_i32_1067 : BitVec 32 := 2#32
  let c0_i32_514 : BitVec 32 := 0#32
  let c1_i32_516 : BitVec 32 := 1#32
  let arg29 : BitVec 32 := Scf.iv c0_i32_514 c1_i32_516 k0_t33
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t34_loop : Scf.Loop 32 :=
  let c0_i32_523 : BitVec 32 := 0#32
  let c32_i32_524 : BitVec 32 := 32#32
  let v863 : BitVec 32 := Scalar.addi c0_i32_523 c32_i32_524
  let c1_i32_525 : BitVec 32 := 1#32
  ⟨c0_i32_523, v863, c1_i32_525⟩
def k0_off530 (k0_t34 : Fin k0_t34_loop.trips) (c0_i32_1023 : BitVec 32) : Fin 2 → Nat :=
  let c2_i32_1022 : BitVec 32 := 2#32
  let c0_i32_523 : BitVec 32 := 0#32
  let c1_i32_525 : BitVec 32 := 1#32
  let arg29 : BitVec 32 := Scf.iv c0_i32_523 c1_i32_525 k0_t34
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off531 (k0_t34 : Fin k0_t34_loop.trips) (c0_i32_1026 : BitVec 32) : Fin 2 → Nat :=
  let c2_i32_1025 : BitVec 32 := 2#32
  let c0_i32_523 : BitVec 32 := 0#32
  let c1_i32_525 : BitVec 32 := 1#32
  let arg29 : BitVec 32 := Scf.iv c0_i32_523 c1_i32_525 k0_t34
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off532 (k0_t34 : Fin k0_t34_loop.trips) (c0_i32_1029 : BitVec 32) : Fin 2 → Nat :=
  let c2_i32_1028 : BitVec 32 := 2#32
  let c0_i32_523 : BitVec 32 := 0#32
  let c1_i32_525 : BitVec 32 := 1#32
  let arg29 : BitVec 32 := Scf.iv c0_i32_523 c1_i32_525 k0_t34
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off533 (k0_t34 : Fin k0_t34_loop.trips) (c0_i32_1032 : BitVec 32) : Fin 2 → Nat :=
  let c2_i32_1031 : BitVec 32 := 2#32
  let c0_i32_523 : BitVec 32 := 0#32
  let c1_i32_525 : BitVec 32 := 1#32
  let arg29 : BitVec 32 := Scf.iv c0_i32_523 c1_i32_525 k0_t34
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off534 (k0_t34 : Fin k0_t34_loop.trips) (c0_i32_1035 : BitVec 32) : Fin 2 → Nat :=
  let c2_i32_1034 : BitVec 32 := 2#32
  let c0_i32_523 : BitVec 32 := 0#32
  let c1_i32_525 : BitVec 32 := 1#32
  let arg29 : BitVec 32 := Scf.iv c0_i32_523 c1_i32_525 k0_t34
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off535 (k0_t34 : Fin k0_t34_loop.trips) (c0_i32_1038 : BitVec 32) : Fin 2 → Nat :=
  let c2_i32_1037 : BitVec 32 := 2#32
  let c0_i32_523 : BitVec 32 := 0#32
  let c1_i32_525 : BitVec 32 := 1#32
  let arg29 : BitVec 32 := Scf.iv c0_i32_523 c1_i32_525 k0_t34
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off536 (k0_t34 : Fin k0_t34_loop.trips) (c0_i32_1041 : BitVec 32) : Fin 2 → Nat :=
  let c2_i32_1040 : BitVec 32 := 2#32
  let c0_i32_523 : BitVec 32 := 0#32
  let c1_i32_525 : BitVec 32 := 1#32
  let arg29 : BitVec 32 := Scf.iv c0_i32_523 c1_i32_525 k0_t34
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off537 (k0_t34 : Fin k0_t34_loop.trips) (c0_i32_1044 : BitVec 32) : Fin 2 → Nat :=
  let c2_i32_1043 : BitVec 32 := 2#32
  let c0_i32_523 : BitVec 32 := 0#32
  let c1_i32_525 : BitVec 32 := 1#32
  let arg29 : BitVec 32 := Scf.iv c0_i32_523 c1_i32_525 k0_t34
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off538 (k0_t34 : Fin k0_t34_loop.trips) (c0_i32_1047 : BitVec 32) : Fin 2 → Nat :=
  let c2_i32_1046 : BitVec 32 := 2#32
  let c0_i32_523 : BitVec 32 := 0#32
  let c1_i32_525 : BitVec 32 := 1#32
  let arg29 : BitVec 32 := Scf.iv c0_i32_523 c1_i32_525 k0_t34
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off539 (k0_t34 : Fin k0_t34_loop.trips) (c0_i32_1050 : BitVec 32) : Fin 2 → Nat :=
  let c2_i32_1049 : BitVec 32 := 2#32
  let c0_i32_523 : BitVec 32 := 0#32
  let c1_i32_525 : BitVec 32 := 1#32
  let arg29 : BitVec 32 := Scf.iv c0_i32_523 c1_i32_525 k0_t34
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off540 (k0_t34 : Fin k0_t34_loop.trips) (c0_i32_1053 : BitVec 32) : Fin 2 → Nat :=
  let c2_i32_1052 : BitVec 32 := 2#32
  let c0_i32_523 : BitVec 32 := 0#32
  let c1_i32_525 : BitVec 32 := 1#32
  let arg29 : BitVec 32 := Scf.iv c0_i32_523 c1_i32_525 k0_t34
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off541 (k0_t34 : Fin k0_t34_loop.trips) (c0_i32_1056 : BitVec 32) : Fin 2 → Nat :=
  let c2_i32_1055 : BitVec 32 := 2#32
  let c0_i32_523 : BitVec 32 := 0#32
  let c1_i32_525 : BitVec 32 := 1#32
  let arg29 : BitVec 32 := Scf.iv c0_i32_523 c1_i32_525 k0_t34
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off542 (k0_t34 : Fin k0_t34_loop.trips) (c0_i32_1059 : BitVec 32) : Fin 2 → Nat :=
  let c2_i32_1058 : BitVec 32 := 2#32
  let c0_i32_523 : BitVec 32 := 0#32
  let c1_i32_525 : BitVec 32 := 1#32
  let arg29 : BitVec 32 := Scf.iv c0_i32_523 c1_i32_525 k0_t34
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off543 (k0_t34 : Fin k0_t34_loop.trips) (c0_i32_1062 : BitVec 32) : Fin 2 → Nat :=
  let c2_i32_1061 : BitVec 32 := 2#32
  let c0_i32_523 : BitVec 32 := 0#32
  let c1_i32_525 : BitVec 32 := 1#32
  let arg29 : BitVec 32 := Scf.iv c0_i32_523 c1_i32_525 k0_t34
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off544 (k0_t34 : Fin k0_t34_loop.trips) (c0_i32_1065 : BitVec 32) : Fin 2 → Nat :=
  let c2_i32_1064 : BitVec 32 := 2#32
  let c0_i32_523 : BitVec 32 := 0#32
  let c1_i32_525 : BitVec 32 := 1#32
  let arg29 : BitVec 32 := Scf.iv c0_i32_523 c1_i32_525 k0_t34
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off545 (k0_t34 : Fin k0_t34_loop.trips) (c0_i32_1068 : BitVec 32) : Fin 2 → Nat :=
  let c2_i32_1067 : BitVec 32 := 2#32
  let c0_i32_523 : BitVec 32 := 0#32
  let c1_i32_525 : BitVec 32 := 1#32
  let arg29 : BitVec 32 := Scf.iv c0_i32_523 c1_i32_525 k0_t34
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t35_loop : Scf.Loop 32 :=
  let c0_i32_532 : BitVec 32 := 0#32
  let c32_i32_533 : BitVec 32 := 32#32
  let v870 : BitVec 32 := Scalar.addi c0_i32_532 c32_i32_533
  let c1_i32_534 : BitVec 32 := 1#32
  ⟨c0_i32_532, v870, c1_i32_534⟩
def k0_off546 (k0_t35 : Fin k0_t35_loop.trips) (c0_i32_1023 : BitVec 32) : Fin 2 → Nat :=
  let c2_i32_1022 : BitVec 32 := 2#32
  let c0_i32_532 : BitVec 32 := 0#32
  let c1_i32_534 : BitVec 32 := 1#32
  let arg29 : BitVec 32 := Scf.iv c0_i32_532 c1_i32_534 k0_t35
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off547 (k0_t35 : Fin k0_t35_loop.trips) (c0_i32_1026 : BitVec 32) : Fin 2 → Nat :=
  let c2_i32_1025 : BitVec 32 := 2#32
  let c0_i32_532 : BitVec 32 := 0#32
  let c1_i32_534 : BitVec 32 := 1#32
  let arg29 : BitVec 32 := Scf.iv c0_i32_532 c1_i32_534 k0_t35
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off548 (k0_t35 : Fin k0_t35_loop.trips) (c0_i32_1029 : BitVec 32) : Fin 2 → Nat :=
  let c2_i32_1028 : BitVec 32 := 2#32
  let c0_i32_532 : BitVec 32 := 0#32
  let c1_i32_534 : BitVec 32 := 1#32
  let arg29 : BitVec 32 := Scf.iv c0_i32_532 c1_i32_534 k0_t35
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off549 (k0_t35 : Fin k0_t35_loop.trips) (c0_i32_1032 : BitVec 32) : Fin 2 → Nat :=
  let c2_i32_1031 : BitVec 32 := 2#32
  let c0_i32_532 : BitVec 32 := 0#32
  let c1_i32_534 : BitVec 32 := 1#32
  let arg29 : BitVec 32 := Scf.iv c0_i32_532 c1_i32_534 k0_t35
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off550 (k0_t35 : Fin k0_t35_loop.trips) (c0_i32_1035 : BitVec 32) : Fin 2 → Nat :=
  let c2_i32_1034 : BitVec 32 := 2#32
  let c0_i32_532 : BitVec 32 := 0#32
  let c1_i32_534 : BitVec 32 := 1#32
  let arg29 : BitVec 32 := Scf.iv c0_i32_532 c1_i32_534 k0_t35
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off551 (k0_t35 : Fin k0_t35_loop.trips) (c0_i32_1038 : BitVec 32) : Fin 2 → Nat :=
  let c2_i32_1037 : BitVec 32 := 2#32
  let c0_i32_532 : BitVec 32 := 0#32
  let c1_i32_534 : BitVec 32 := 1#32
  let arg29 : BitVec 32 := Scf.iv c0_i32_532 c1_i32_534 k0_t35
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off552 (k0_t35 : Fin k0_t35_loop.trips) (c0_i32_1041 : BitVec 32) : Fin 2 → Nat :=
  let c2_i32_1040 : BitVec 32 := 2#32
  let c0_i32_532 : BitVec 32 := 0#32
  let c1_i32_534 : BitVec 32 := 1#32
  let arg29 : BitVec 32 := Scf.iv c0_i32_532 c1_i32_534 k0_t35
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off553 (k0_t35 : Fin k0_t35_loop.trips) (c0_i32_1044 : BitVec 32) : Fin 2 → Nat :=
  let c2_i32_1043 : BitVec 32 := 2#32
  let c0_i32_532 : BitVec 32 := 0#32
  let c1_i32_534 : BitVec 32 := 1#32
  let arg29 : BitVec 32 := Scf.iv c0_i32_532 c1_i32_534 k0_t35
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off554 (k0_t35 : Fin k0_t35_loop.trips) (c0_i32_1047 : BitVec 32) : Fin 2 → Nat :=
  let c2_i32_1046 : BitVec 32 := 2#32
  let c0_i32_532 : BitVec 32 := 0#32
  let c1_i32_534 : BitVec 32 := 1#32
  let arg29 : BitVec 32 := Scf.iv c0_i32_532 c1_i32_534 k0_t35
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off555 (k0_t35 : Fin k0_t35_loop.trips) (c0_i32_1050 : BitVec 32) : Fin 2 → Nat :=
  let c2_i32_1049 : BitVec 32 := 2#32
  let c0_i32_532 : BitVec 32 := 0#32
  let c1_i32_534 : BitVec 32 := 1#32
  let arg29 : BitVec 32 := Scf.iv c0_i32_532 c1_i32_534 k0_t35
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off556 (k0_t35 : Fin k0_t35_loop.trips) (c0_i32_1053 : BitVec 32) : Fin 2 → Nat :=
  let c2_i32_1052 : BitVec 32 := 2#32
  let c0_i32_532 : BitVec 32 := 0#32
  let c1_i32_534 : BitVec 32 := 1#32
  let arg29 : BitVec 32 := Scf.iv c0_i32_532 c1_i32_534 k0_t35
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off557 (k0_t35 : Fin k0_t35_loop.trips) (c0_i32_1056 : BitVec 32) : Fin 2 → Nat :=
  let c2_i32_1055 : BitVec 32 := 2#32
  let c0_i32_532 : BitVec 32 := 0#32
  let c1_i32_534 : BitVec 32 := 1#32
  let arg29 : BitVec 32 := Scf.iv c0_i32_532 c1_i32_534 k0_t35
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off558 (k0_t35 : Fin k0_t35_loop.trips) (c0_i32_1059 : BitVec 32) : Fin 2 → Nat :=
  let c2_i32_1058 : BitVec 32 := 2#32
  let c0_i32_532 : BitVec 32 := 0#32
  let c1_i32_534 : BitVec 32 := 1#32
  let arg29 : BitVec 32 := Scf.iv c0_i32_532 c1_i32_534 k0_t35
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off559 (k0_t35 : Fin k0_t35_loop.trips) (c0_i32_1062 : BitVec 32) : Fin 2 → Nat :=
  let c2_i32_1061 : BitVec 32 := 2#32
  let c0_i32_532 : BitVec 32 := 0#32
  let c1_i32_534 : BitVec 32 := 1#32
  let arg29 : BitVec 32 := Scf.iv c0_i32_532 c1_i32_534 k0_t35
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off560 (k0_t35 : Fin k0_t35_loop.trips) (c0_i32_1065 : BitVec 32) : Fin 2 → Nat :=
  let c2_i32_1064 : BitVec 32 := 2#32
  let c0_i32_532 : BitVec 32 := 0#32
  let c1_i32_534 : BitVec 32 := 1#32
  let arg29 : BitVec 32 := Scf.iv c0_i32_532 c1_i32_534 k0_t35
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off561 (k0_t35 : Fin k0_t35_loop.trips) (c0_i32_1068 : BitVec 32) : Fin 2 → Nat :=
  let c2_i32_1067 : BitVec 32 := 2#32
  let c0_i32_532 : BitVec 32 := 0#32
  let c1_i32_534 : BitVec 32 := 1#32
  let arg29 : BitVec 32 := Scf.iv c0_i32_532 c1_i32_534 k0_t35
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t36_loop : Scf.Loop 32 :=
  let c0_i32_541 : BitVec 32 := 0#32
  let c32_i32_542 : BitVec 32 := 32#32
  let v877 : BitVec 32 := Scalar.addi c0_i32_541 c32_i32_542
  let c1_i32_543 : BitVec 32 := 1#32
  ⟨c0_i32_541, v877, c1_i32_543⟩
def k0_off562 (k0_t36 : Fin k0_t36_loop.trips) (c0_i32_1023 : BitVec 32) : Fin 2 → Nat :=
  let c2_i32_1022 : BitVec 32 := 2#32
  let c0_i32_541 : BitVec 32 := 0#32
  let c1_i32_543 : BitVec 32 := 1#32
  let arg29 : BitVec 32 := Scf.iv c0_i32_541 c1_i32_543 k0_t36
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off563 (k0_t36 : Fin k0_t36_loop.trips) (c0_i32_1026 : BitVec 32) : Fin 2 → Nat :=
  let c2_i32_1025 : BitVec 32 := 2#32
  let c0_i32_541 : BitVec 32 := 0#32
  let c1_i32_543 : BitVec 32 := 1#32
  let arg29 : BitVec 32 := Scf.iv c0_i32_541 c1_i32_543 k0_t36
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off564 (k0_t36 : Fin k0_t36_loop.trips) (c0_i32_1029 : BitVec 32) : Fin 2 → Nat :=
  let c2_i32_1028 : BitVec 32 := 2#32
  let c0_i32_541 : BitVec 32 := 0#32
  let c1_i32_543 : BitVec 32 := 1#32
  let arg29 : BitVec 32 := Scf.iv c0_i32_541 c1_i32_543 k0_t36
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off565 (k0_t36 : Fin k0_t36_loop.trips) (c0_i32_1032 : BitVec 32) : Fin 2 → Nat :=
  let c2_i32_1031 : BitVec 32 := 2#32
  let c0_i32_541 : BitVec 32 := 0#32
  let c1_i32_543 : BitVec 32 := 1#32
  let arg29 : BitVec 32 := Scf.iv c0_i32_541 c1_i32_543 k0_t36
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off566 (k0_t36 : Fin k0_t36_loop.trips) (c0_i32_1035 : BitVec 32) : Fin 2 → Nat :=
  let c2_i32_1034 : BitVec 32 := 2#32
  let c0_i32_541 : BitVec 32 := 0#32
  let c1_i32_543 : BitVec 32 := 1#32
  let arg29 : BitVec 32 := Scf.iv c0_i32_541 c1_i32_543 k0_t36
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off567 (k0_t36 : Fin k0_t36_loop.trips) (c0_i32_1038 : BitVec 32) : Fin 2 → Nat :=
  let c2_i32_1037 : BitVec 32 := 2#32
  let c0_i32_541 : BitVec 32 := 0#32
  let c1_i32_543 : BitVec 32 := 1#32
  let arg29 : BitVec 32 := Scf.iv c0_i32_541 c1_i32_543 k0_t36
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off568 (k0_t36 : Fin k0_t36_loop.trips) (c0_i32_1041 : BitVec 32) : Fin 2 → Nat :=
  let c2_i32_1040 : BitVec 32 := 2#32
  let c0_i32_541 : BitVec 32 := 0#32
  let c1_i32_543 : BitVec 32 := 1#32
  let arg29 : BitVec 32 := Scf.iv c0_i32_541 c1_i32_543 k0_t36
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off569 (k0_t36 : Fin k0_t36_loop.trips) (c0_i32_1044 : BitVec 32) : Fin 2 → Nat :=
  let c2_i32_1043 : BitVec 32 := 2#32
  let c0_i32_541 : BitVec 32 := 0#32
  let c1_i32_543 : BitVec 32 := 1#32
  let arg29 : BitVec 32 := Scf.iv c0_i32_541 c1_i32_543 k0_t36
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off570 (k0_t36 : Fin k0_t36_loop.trips) (c0_i32_1047 : BitVec 32) : Fin 2 → Nat :=
  let c2_i32_1046 : BitVec 32 := 2#32
  let c0_i32_541 : BitVec 32 := 0#32
  let c1_i32_543 : BitVec 32 := 1#32
  let arg29 : BitVec 32 := Scf.iv c0_i32_541 c1_i32_543 k0_t36
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off571 (k0_t36 : Fin k0_t36_loop.trips) (c0_i32_1050 : BitVec 32) : Fin 2 → Nat :=
  let c2_i32_1049 : BitVec 32 := 2#32
  let c0_i32_541 : BitVec 32 := 0#32
  let c1_i32_543 : BitVec 32 := 1#32
  let arg29 : BitVec 32 := Scf.iv c0_i32_541 c1_i32_543 k0_t36
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off572 (k0_t36 : Fin k0_t36_loop.trips) (c0_i32_1053 : BitVec 32) : Fin 2 → Nat :=
  let c2_i32_1052 : BitVec 32 := 2#32
  let c0_i32_541 : BitVec 32 := 0#32
  let c1_i32_543 : BitVec 32 := 1#32
  let arg29 : BitVec 32 := Scf.iv c0_i32_541 c1_i32_543 k0_t36
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off573 (k0_t36 : Fin k0_t36_loop.trips) (c0_i32_1056 : BitVec 32) : Fin 2 → Nat :=
  let c2_i32_1055 : BitVec 32 := 2#32
  let c0_i32_541 : BitVec 32 := 0#32
  let c1_i32_543 : BitVec 32 := 1#32
  let arg29 : BitVec 32 := Scf.iv c0_i32_541 c1_i32_543 k0_t36
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off574 (k0_t36 : Fin k0_t36_loop.trips) (c0_i32_1059 : BitVec 32) : Fin 2 → Nat :=
  let c2_i32_1058 : BitVec 32 := 2#32
  let c0_i32_541 : BitVec 32 := 0#32
  let c1_i32_543 : BitVec 32 := 1#32
  let arg29 : BitVec 32 := Scf.iv c0_i32_541 c1_i32_543 k0_t36
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off575 (k0_t36 : Fin k0_t36_loop.trips) (c0_i32_1062 : BitVec 32) : Fin 2 → Nat :=
  let c2_i32_1061 : BitVec 32 := 2#32
  let c0_i32_541 : BitVec 32 := 0#32
  let c1_i32_543 : BitVec 32 := 1#32
  let arg29 : BitVec 32 := Scf.iv c0_i32_541 c1_i32_543 k0_t36
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off576 (k0_t36 : Fin k0_t36_loop.trips) (c0_i32_1065 : BitVec 32) : Fin 2 → Nat :=
  let c2_i32_1064 : BitVec 32 := 2#32
  let c0_i32_541 : BitVec 32 := 0#32
  let c1_i32_543 : BitVec 32 := 1#32
  let arg29 : BitVec 32 := Scf.iv c0_i32_541 c1_i32_543 k0_t36
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off577 (k0_t36 : Fin k0_t36_loop.trips) (c0_i32_1068 : BitVec 32) : Fin 2 → Nat :=
  let c2_i32_1067 : BitVec 32 := 2#32
  let c0_i32_541 : BitVec 32 := 0#32
  let c1_i32_543 : BitVec 32 := 1#32
  let arg29 : BitVec 32 := Scf.iv c0_i32_541 c1_i32_543 k0_t36
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t37_loop : Scf.Loop 32 :=
  let c0_i32_550 : BitVec 32 := 0#32
  let c32_i32_551 : BitVec 32 := 32#32
  let v884 : BitVec 32 := Scalar.addi c0_i32_550 c32_i32_551
  let c1_i32_552 : BitVec 32 := 1#32
  ⟨c0_i32_550, v884, c1_i32_552⟩
def k0_off578 (k0_t37 : Fin k0_t37_loop.trips) (c0_i32_1023 : BitVec 32) : Fin 2 → Nat :=
  let c2_i32_1022 : BitVec 32 := 2#32
  let c0_i32_550 : BitVec 32 := 0#32
  let c1_i32_552 : BitVec 32 := 1#32
  let arg29 : BitVec 32 := Scf.iv c0_i32_550 c1_i32_552 k0_t37
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off579 (k0_t37 : Fin k0_t37_loop.trips) (c0_i32_1026 : BitVec 32) : Fin 2 → Nat :=
  let c2_i32_1025 : BitVec 32 := 2#32
  let c0_i32_550 : BitVec 32 := 0#32
  let c1_i32_552 : BitVec 32 := 1#32
  let arg29 : BitVec 32 := Scf.iv c0_i32_550 c1_i32_552 k0_t37
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off580 (k0_t37 : Fin k0_t37_loop.trips) (c0_i32_1029 : BitVec 32) : Fin 2 → Nat :=
  let c2_i32_1028 : BitVec 32 := 2#32
  let c0_i32_550 : BitVec 32 := 0#32
  let c1_i32_552 : BitVec 32 := 1#32
  let arg29 : BitVec 32 := Scf.iv c0_i32_550 c1_i32_552 k0_t37
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off581 (k0_t37 : Fin k0_t37_loop.trips) (c0_i32_1032 : BitVec 32) : Fin 2 → Nat :=
  let c2_i32_1031 : BitVec 32 := 2#32
  let c0_i32_550 : BitVec 32 := 0#32
  let c1_i32_552 : BitVec 32 := 1#32
  let arg29 : BitVec 32 := Scf.iv c0_i32_550 c1_i32_552 k0_t37
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off582 (k0_t37 : Fin k0_t37_loop.trips) (c0_i32_1035 : BitVec 32) : Fin 2 → Nat :=
  let c2_i32_1034 : BitVec 32 := 2#32
  let c0_i32_550 : BitVec 32 := 0#32
  let c1_i32_552 : BitVec 32 := 1#32
  let arg29 : BitVec 32 := Scf.iv c0_i32_550 c1_i32_552 k0_t37
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off583 (k0_t37 : Fin k0_t37_loop.trips) (c0_i32_1038 : BitVec 32) : Fin 2 → Nat :=
  let c2_i32_1037 : BitVec 32 := 2#32
  let c0_i32_550 : BitVec 32 := 0#32
  let c1_i32_552 : BitVec 32 := 1#32
  let arg29 : BitVec 32 := Scf.iv c0_i32_550 c1_i32_552 k0_t37
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off584 (k0_t37 : Fin k0_t37_loop.trips) (c0_i32_1041 : BitVec 32) : Fin 2 → Nat :=
  let c2_i32_1040 : BitVec 32 := 2#32
  let c0_i32_550 : BitVec 32 := 0#32
  let c1_i32_552 : BitVec 32 := 1#32
  let arg29 : BitVec 32 := Scf.iv c0_i32_550 c1_i32_552 k0_t37
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off585 (k0_t37 : Fin k0_t37_loop.trips) (c0_i32_1044 : BitVec 32) : Fin 2 → Nat :=
  let c2_i32_1043 : BitVec 32 := 2#32
  let c0_i32_550 : BitVec 32 := 0#32
  let c1_i32_552 : BitVec 32 := 1#32
  let arg29 : BitVec 32 := Scf.iv c0_i32_550 c1_i32_552 k0_t37
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off586 (k0_t37 : Fin k0_t37_loop.trips) (c0_i32_1047 : BitVec 32) : Fin 2 → Nat :=
  let c2_i32_1046 : BitVec 32 := 2#32
  let c0_i32_550 : BitVec 32 := 0#32
  let c1_i32_552 : BitVec 32 := 1#32
  let arg29 : BitVec 32 := Scf.iv c0_i32_550 c1_i32_552 k0_t37
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off587 (k0_t37 : Fin k0_t37_loop.trips) (c0_i32_1050 : BitVec 32) : Fin 2 → Nat :=
  let c2_i32_1049 : BitVec 32 := 2#32
  let c0_i32_550 : BitVec 32 := 0#32
  let c1_i32_552 : BitVec 32 := 1#32
  let arg29 : BitVec 32 := Scf.iv c0_i32_550 c1_i32_552 k0_t37
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off588 (k0_t37 : Fin k0_t37_loop.trips) (c0_i32_1053 : BitVec 32) : Fin 2 → Nat :=
  let c2_i32_1052 : BitVec 32 := 2#32
  let c0_i32_550 : BitVec 32 := 0#32
  let c1_i32_552 : BitVec 32 := 1#32
  let arg29 : BitVec 32 := Scf.iv c0_i32_550 c1_i32_552 k0_t37
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off589 (k0_t37 : Fin k0_t37_loop.trips) (c0_i32_1056 : BitVec 32) : Fin 2 → Nat :=
  let c2_i32_1055 : BitVec 32 := 2#32
  let c0_i32_550 : BitVec 32 := 0#32
  let c1_i32_552 : BitVec 32 := 1#32
  let arg29 : BitVec 32 := Scf.iv c0_i32_550 c1_i32_552 k0_t37
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off590 (k0_t37 : Fin k0_t37_loop.trips) (c0_i32_1059 : BitVec 32) : Fin 2 → Nat :=
  let c2_i32_1058 : BitVec 32 := 2#32
  let c0_i32_550 : BitVec 32 := 0#32
  let c1_i32_552 : BitVec 32 := 1#32
  let arg29 : BitVec 32 := Scf.iv c0_i32_550 c1_i32_552 k0_t37
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off591 (k0_t37 : Fin k0_t37_loop.trips) (c0_i32_1062 : BitVec 32) : Fin 2 → Nat :=
  let c2_i32_1061 : BitVec 32 := 2#32
  let c0_i32_550 : BitVec 32 := 0#32
  let c1_i32_552 : BitVec 32 := 1#32
  let arg29 : BitVec 32 := Scf.iv c0_i32_550 c1_i32_552 k0_t37
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off592 (k0_t37 : Fin k0_t37_loop.trips) (c0_i32_1065 : BitVec 32) : Fin 2 → Nat :=
  let c2_i32_1064 : BitVec 32 := 2#32
  let c0_i32_550 : BitVec 32 := 0#32
  let c1_i32_552 : BitVec 32 := 1#32
  let arg29 : BitVec 32 := Scf.iv c0_i32_550 c1_i32_552 k0_t37
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off593 (k0_t37 : Fin k0_t37_loop.trips) (c0_i32_1068 : BitVec 32) : Fin 2 → Nat :=
  let c2_i32_1067 : BitVec 32 := 2#32
  let c0_i32_550 : BitVec 32 := 0#32
  let c1_i32_552 : BitVec 32 := 1#32
  let arg29 : BitVec 32 := Scf.iv c0_i32_550 c1_i32_552 k0_t37
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t38_loop : Scf.Loop 32 :=
  let c0_i32_559 : BitVec 32 := 0#32
  let c32_i32_560 : BitVec 32 := 32#32
  let v891 : BitVec 32 := Scalar.addi c0_i32_559 c32_i32_560
  let c1_i32_561 : BitVec 32 := 1#32
  ⟨c0_i32_559, v891, c1_i32_561⟩
def k0_off594 (k0_t38 : Fin k0_t38_loop.trips) (c0_i32_1023 : BitVec 32) : Fin 2 → Nat :=
  let c2_i32_1022 : BitVec 32 := 2#32
  let c0_i32_559 : BitVec 32 := 0#32
  let c1_i32_561 : BitVec 32 := 1#32
  let arg29 : BitVec 32 := Scf.iv c0_i32_559 c1_i32_561 k0_t38
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off595 (k0_t38 : Fin k0_t38_loop.trips) (c0_i32_1026 : BitVec 32) : Fin 2 → Nat :=
  let c2_i32_1025 : BitVec 32 := 2#32
  let c0_i32_559 : BitVec 32 := 0#32
  let c1_i32_561 : BitVec 32 := 1#32
  let arg29 : BitVec 32 := Scf.iv c0_i32_559 c1_i32_561 k0_t38
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off596 (k0_t38 : Fin k0_t38_loop.trips) (c0_i32_1029 : BitVec 32) : Fin 2 → Nat :=
  let c2_i32_1028 : BitVec 32 := 2#32
  let c0_i32_559 : BitVec 32 := 0#32
  let c1_i32_561 : BitVec 32 := 1#32
  let arg29 : BitVec 32 := Scf.iv c0_i32_559 c1_i32_561 k0_t38
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off597 (k0_t38 : Fin k0_t38_loop.trips) (c0_i32_1032 : BitVec 32) : Fin 2 → Nat :=
  let c2_i32_1031 : BitVec 32 := 2#32
  let c0_i32_559 : BitVec 32 := 0#32
  let c1_i32_561 : BitVec 32 := 1#32
  let arg29 : BitVec 32 := Scf.iv c0_i32_559 c1_i32_561 k0_t38
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off598 (k0_t38 : Fin k0_t38_loop.trips) (c0_i32_1035 : BitVec 32) : Fin 2 → Nat :=
  let c2_i32_1034 : BitVec 32 := 2#32
  let c0_i32_559 : BitVec 32 := 0#32
  let c1_i32_561 : BitVec 32 := 1#32
  let arg29 : BitVec 32 := Scf.iv c0_i32_559 c1_i32_561 k0_t38
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off599 (k0_t38 : Fin k0_t38_loop.trips) (c0_i32_1038 : BitVec 32) : Fin 2 → Nat :=
  let c2_i32_1037 : BitVec 32 := 2#32
  let c0_i32_559 : BitVec 32 := 0#32
  let c1_i32_561 : BitVec 32 := 1#32
  let arg29 : BitVec 32 := Scf.iv c0_i32_559 c1_i32_561 k0_t38
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off600 (k0_t38 : Fin k0_t38_loop.trips) (c0_i32_1041 : BitVec 32) : Fin 2 → Nat :=
  let c2_i32_1040 : BitVec 32 := 2#32
  let c0_i32_559 : BitVec 32 := 0#32
  let c1_i32_561 : BitVec 32 := 1#32
  let arg29 : BitVec 32 := Scf.iv c0_i32_559 c1_i32_561 k0_t38
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off601 (k0_t38 : Fin k0_t38_loop.trips) (c0_i32_1044 : BitVec 32) : Fin 2 → Nat :=
  let c2_i32_1043 : BitVec 32 := 2#32
  let c0_i32_559 : BitVec 32 := 0#32
  let c1_i32_561 : BitVec 32 := 1#32
  let arg29 : BitVec 32 := Scf.iv c0_i32_559 c1_i32_561 k0_t38
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off602 (k0_t38 : Fin k0_t38_loop.trips) (c0_i32_1047 : BitVec 32) : Fin 2 → Nat :=
  let c2_i32_1046 : BitVec 32 := 2#32
  let c0_i32_559 : BitVec 32 := 0#32
  let c1_i32_561 : BitVec 32 := 1#32
  let arg29 : BitVec 32 := Scf.iv c0_i32_559 c1_i32_561 k0_t38
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off603 (k0_t38 : Fin k0_t38_loop.trips) (c0_i32_1050 : BitVec 32) : Fin 2 → Nat :=
  let c2_i32_1049 : BitVec 32 := 2#32
  let c0_i32_559 : BitVec 32 := 0#32
  let c1_i32_561 : BitVec 32 := 1#32
  let arg29 : BitVec 32 := Scf.iv c0_i32_559 c1_i32_561 k0_t38
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off604 (k0_t38 : Fin k0_t38_loop.trips) (c0_i32_1053 : BitVec 32) : Fin 2 → Nat :=
  let c2_i32_1052 : BitVec 32 := 2#32
  let c0_i32_559 : BitVec 32 := 0#32
  let c1_i32_561 : BitVec 32 := 1#32
  let arg29 : BitVec 32 := Scf.iv c0_i32_559 c1_i32_561 k0_t38
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off605 (k0_t38 : Fin k0_t38_loop.trips) (c0_i32_1056 : BitVec 32) : Fin 2 → Nat :=
  let c2_i32_1055 : BitVec 32 := 2#32
  let c0_i32_559 : BitVec 32 := 0#32
  let c1_i32_561 : BitVec 32 := 1#32
  let arg29 : BitVec 32 := Scf.iv c0_i32_559 c1_i32_561 k0_t38
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off606 (k0_t38 : Fin k0_t38_loop.trips) (c0_i32_1059 : BitVec 32) : Fin 2 → Nat :=
  let c2_i32_1058 : BitVec 32 := 2#32
  let c0_i32_559 : BitVec 32 := 0#32
  let c1_i32_561 : BitVec 32 := 1#32
  let arg29 : BitVec 32 := Scf.iv c0_i32_559 c1_i32_561 k0_t38
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off607 (k0_t38 : Fin k0_t38_loop.trips) (c0_i32_1062 : BitVec 32) : Fin 2 → Nat :=
  let c2_i32_1061 : BitVec 32 := 2#32
  let c0_i32_559 : BitVec 32 := 0#32
  let c1_i32_561 : BitVec 32 := 1#32
  let arg29 : BitVec 32 := Scf.iv c0_i32_559 c1_i32_561 k0_t38
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off608 (k0_t38 : Fin k0_t38_loop.trips) (c0_i32_1065 : BitVec 32) : Fin 2 → Nat :=
  let c2_i32_1064 : BitVec 32 := 2#32
  let c0_i32_559 : BitVec 32 := 0#32
  let c1_i32_561 : BitVec 32 := 1#32
  let arg29 : BitVec 32 := Scf.iv c0_i32_559 c1_i32_561 k0_t38
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off609 (k0_t38 : Fin k0_t38_loop.trips) (c0_i32_1068 : BitVec 32) : Fin 2 → Nat :=
  let c2_i32_1067 : BitVec 32 := 2#32
  let c0_i32_559 : BitVec 32 := 0#32
  let c1_i32_561 : BitVec 32 := 1#32
  let arg29 : BitVec 32 := Scf.iv c0_i32_559 c1_i32_561 k0_t38
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t39_loop : Scf.Loop 32 :=
  let c0_i32_568 : BitVec 32 := 0#32
  let c32_i32_569 : BitVec 32 := 32#32
  let v898 : BitVec 32 := Scalar.addi c0_i32_568 c32_i32_569
  let c1_i32_570 : BitVec 32 := 1#32
  ⟨c0_i32_568, v898, c1_i32_570⟩
def k0_off610 (k0_t39 : Fin k0_t39_loop.trips) (c0_i32_1023 : BitVec 32) : Fin 2 → Nat :=
  let c2_i32_1022 : BitVec 32 := 2#32
  let c0_i32_568 : BitVec 32 := 0#32
  let c1_i32_570 : BitVec 32 := 1#32
  let arg29 : BitVec 32 := Scf.iv c0_i32_568 c1_i32_570 k0_t39
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off611 (k0_t39 : Fin k0_t39_loop.trips) (c0_i32_1026 : BitVec 32) : Fin 2 → Nat :=
  let c2_i32_1025 : BitVec 32 := 2#32
  let c0_i32_568 : BitVec 32 := 0#32
  let c1_i32_570 : BitVec 32 := 1#32
  let arg29 : BitVec 32 := Scf.iv c0_i32_568 c1_i32_570 k0_t39
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off612 (k0_t39 : Fin k0_t39_loop.trips) (c0_i32_1029 : BitVec 32) : Fin 2 → Nat :=
  let c2_i32_1028 : BitVec 32 := 2#32
  let c0_i32_568 : BitVec 32 := 0#32
  let c1_i32_570 : BitVec 32 := 1#32
  let arg29 : BitVec 32 := Scf.iv c0_i32_568 c1_i32_570 k0_t39
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off613 (k0_t39 : Fin k0_t39_loop.trips) (c0_i32_1032 : BitVec 32) : Fin 2 → Nat :=
  let c2_i32_1031 : BitVec 32 := 2#32
  let c0_i32_568 : BitVec 32 := 0#32
  let c1_i32_570 : BitVec 32 := 1#32
  let arg29 : BitVec 32 := Scf.iv c0_i32_568 c1_i32_570 k0_t39
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off614 (k0_t39 : Fin k0_t39_loop.trips) (c0_i32_1035 : BitVec 32) : Fin 2 → Nat :=
  let c2_i32_1034 : BitVec 32 := 2#32
  let c0_i32_568 : BitVec 32 := 0#32
  let c1_i32_570 : BitVec 32 := 1#32
  let arg29 : BitVec 32 := Scf.iv c0_i32_568 c1_i32_570 k0_t39
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off615 (k0_t39 : Fin k0_t39_loop.trips) (c0_i32_1038 : BitVec 32) : Fin 2 → Nat :=
  let c2_i32_1037 : BitVec 32 := 2#32
  let c0_i32_568 : BitVec 32 := 0#32
  let c1_i32_570 : BitVec 32 := 1#32
  let arg29 : BitVec 32 := Scf.iv c0_i32_568 c1_i32_570 k0_t39
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off616 (k0_t39 : Fin k0_t39_loop.trips) (c0_i32_1041 : BitVec 32) : Fin 2 → Nat :=
  let c2_i32_1040 : BitVec 32 := 2#32
  let c0_i32_568 : BitVec 32 := 0#32
  let c1_i32_570 : BitVec 32 := 1#32
  let arg29 : BitVec 32 := Scf.iv c0_i32_568 c1_i32_570 k0_t39
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off617 (k0_t39 : Fin k0_t39_loop.trips) (c0_i32_1044 : BitVec 32) : Fin 2 → Nat :=
  let c2_i32_1043 : BitVec 32 := 2#32
  let c0_i32_568 : BitVec 32 := 0#32
  let c1_i32_570 : BitVec 32 := 1#32
  let arg29 : BitVec 32 := Scf.iv c0_i32_568 c1_i32_570 k0_t39
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off618 (k0_t39 : Fin k0_t39_loop.trips) (c0_i32_1047 : BitVec 32) : Fin 2 → Nat :=
  let c2_i32_1046 : BitVec 32 := 2#32
  let c0_i32_568 : BitVec 32 := 0#32
  let c1_i32_570 : BitVec 32 := 1#32
  let arg29 : BitVec 32 := Scf.iv c0_i32_568 c1_i32_570 k0_t39
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off619 (k0_t39 : Fin k0_t39_loop.trips) (c0_i32_1050 : BitVec 32) : Fin 2 → Nat :=
  let c2_i32_1049 : BitVec 32 := 2#32
  let c0_i32_568 : BitVec 32 := 0#32
  let c1_i32_570 : BitVec 32 := 1#32
  let arg29 : BitVec 32 := Scf.iv c0_i32_568 c1_i32_570 k0_t39
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off620 (k0_t39 : Fin k0_t39_loop.trips) (c0_i32_1053 : BitVec 32) : Fin 2 → Nat :=
  let c2_i32_1052 : BitVec 32 := 2#32
  let c0_i32_568 : BitVec 32 := 0#32
  let c1_i32_570 : BitVec 32 := 1#32
  let arg29 : BitVec 32 := Scf.iv c0_i32_568 c1_i32_570 k0_t39
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off621 (k0_t39 : Fin k0_t39_loop.trips) (c0_i32_1056 : BitVec 32) : Fin 2 → Nat :=
  let c2_i32_1055 : BitVec 32 := 2#32
  let c0_i32_568 : BitVec 32 := 0#32
  let c1_i32_570 : BitVec 32 := 1#32
  let arg29 : BitVec 32 := Scf.iv c0_i32_568 c1_i32_570 k0_t39
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off622 (k0_t39 : Fin k0_t39_loop.trips) (c0_i32_1059 : BitVec 32) : Fin 2 → Nat :=
  let c2_i32_1058 : BitVec 32 := 2#32
  let c0_i32_568 : BitVec 32 := 0#32
  let c1_i32_570 : BitVec 32 := 1#32
  let arg29 : BitVec 32 := Scf.iv c0_i32_568 c1_i32_570 k0_t39
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off623 (k0_t39 : Fin k0_t39_loop.trips) (c0_i32_1062 : BitVec 32) : Fin 2 → Nat :=
  let c2_i32_1061 : BitVec 32 := 2#32
  let c0_i32_568 : BitVec 32 := 0#32
  let c1_i32_570 : BitVec 32 := 1#32
  let arg29 : BitVec 32 := Scf.iv c0_i32_568 c1_i32_570 k0_t39
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off624 (k0_t39 : Fin k0_t39_loop.trips) (c0_i32_1065 : BitVec 32) : Fin 2 → Nat :=
  let c2_i32_1064 : BitVec 32 := 2#32
  let c0_i32_568 : BitVec 32 := 0#32
  let c1_i32_570 : BitVec 32 := 1#32
  let arg29 : BitVec 32 := Scf.iv c0_i32_568 c1_i32_570 k0_t39
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off625 (k0_t39 : Fin k0_t39_loop.trips) (c0_i32_1068 : BitVec 32) : Fin 2 → Nat :=
  let c2_i32_1067 : BitVec 32 := 2#32
  let c0_i32_568 : BitVec 32 := 0#32
  let c1_i32_570 : BitVec 32 := 1#32
  let arg29 : BitVec 32 := Scf.iv c0_i32_568 c1_i32_570 k0_t39
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t40_loop : Scf.Loop 32 :=
  let c0_i32_577 : BitVec 32 := 0#32
  let c32_i32_578 : BitVec 32 := 32#32
  let v905 : BitVec 32 := Scalar.addi c0_i32_577 c32_i32_578
  let c1_i32_579 : BitVec 32 := 1#32
  ⟨c0_i32_577, v905, c1_i32_579⟩
def k0_off626 (k0_t40 : Fin k0_t40_loop.trips) (c0_i32_1023 : BitVec 32) : Fin 2 → Nat :=
  let c2_i32_1022 : BitVec 32 := 2#32
  let c0_i32_577 : BitVec 32 := 0#32
  let c1_i32_579 : BitVec 32 := 1#32
  let arg29 : BitVec 32 := Scf.iv c0_i32_577 c1_i32_579 k0_t40
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off627 (k0_t40 : Fin k0_t40_loop.trips) (c0_i32_1026 : BitVec 32) : Fin 2 → Nat :=
  let c2_i32_1025 : BitVec 32 := 2#32
  let c0_i32_577 : BitVec 32 := 0#32
  let c1_i32_579 : BitVec 32 := 1#32
  let arg29 : BitVec 32 := Scf.iv c0_i32_577 c1_i32_579 k0_t40
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off628 (k0_t40 : Fin k0_t40_loop.trips) (c0_i32_1029 : BitVec 32) : Fin 2 → Nat :=
  let c2_i32_1028 : BitVec 32 := 2#32
  let c0_i32_577 : BitVec 32 := 0#32
  let c1_i32_579 : BitVec 32 := 1#32
  let arg29 : BitVec 32 := Scf.iv c0_i32_577 c1_i32_579 k0_t40
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off629 (k0_t40 : Fin k0_t40_loop.trips) (c0_i32_1032 : BitVec 32) : Fin 2 → Nat :=
  let c2_i32_1031 : BitVec 32 := 2#32
  let c0_i32_577 : BitVec 32 := 0#32
  let c1_i32_579 : BitVec 32 := 1#32
  let arg29 : BitVec 32 := Scf.iv c0_i32_577 c1_i32_579 k0_t40
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off630 (k0_t40 : Fin k0_t40_loop.trips) (c0_i32_1035 : BitVec 32) : Fin 2 → Nat :=
  let c2_i32_1034 : BitVec 32 := 2#32
  let c0_i32_577 : BitVec 32 := 0#32
  let c1_i32_579 : BitVec 32 := 1#32
  let arg29 : BitVec 32 := Scf.iv c0_i32_577 c1_i32_579 k0_t40
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off631 (k0_t40 : Fin k0_t40_loop.trips) (c0_i32_1038 : BitVec 32) : Fin 2 → Nat :=
  let c2_i32_1037 : BitVec 32 := 2#32
  let c0_i32_577 : BitVec 32 := 0#32
  let c1_i32_579 : BitVec 32 := 1#32
  let arg29 : BitVec 32 := Scf.iv c0_i32_577 c1_i32_579 k0_t40
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off632 (k0_t40 : Fin k0_t40_loop.trips) (c0_i32_1041 : BitVec 32) : Fin 2 → Nat :=
  let c2_i32_1040 : BitVec 32 := 2#32
  let c0_i32_577 : BitVec 32 := 0#32
  let c1_i32_579 : BitVec 32 := 1#32
  let arg29 : BitVec 32 := Scf.iv c0_i32_577 c1_i32_579 k0_t40
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off633 (k0_t40 : Fin k0_t40_loop.trips) (c0_i32_1044 : BitVec 32) : Fin 2 → Nat :=
  let c2_i32_1043 : BitVec 32 := 2#32
  let c0_i32_577 : BitVec 32 := 0#32
  let c1_i32_579 : BitVec 32 := 1#32
  let arg29 : BitVec 32 := Scf.iv c0_i32_577 c1_i32_579 k0_t40
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off634 (k0_t40 : Fin k0_t40_loop.trips) (c0_i32_1047 : BitVec 32) : Fin 2 → Nat :=
  let c2_i32_1046 : BitVec 32 := 2#32
  let c0_i32_577 : BitVec 32 := 0#32
  let c1_i32_579 : BitVec 32 := 1#32
  let arg29 : BitVec 32 := Scf.iv c0_i32_577 c1_i32_579 k0_t40
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off635 (k0_t40 : Fin k0_t40_loop.trips) (c0_i32_1050 : BitVec 32) : Fin 2 → Nat :=
  let c2_i32_1049 : BitVec 32 := 2#32
  let c0_i32_577 : BitVec 32 := 0#32
  let c1_i32_579 : BitVec 32 := 1#32
  let arg29 : BitVec 32 := Scf.iv c0_i32_577 c1_i32_579 k0_t40
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off636 (k0_t40 : Fin k0_t40_loop.trips) (c0_i32_1053 : BitVec 32) : Fin 2 → Nat :=
  let c2_i32_1052 : BitVec 32 := 2#32
  let c0_i32_577 : BitVec 32 := 0#32
  let c1_i32_579 : BitVec 32 := 1#32
  let arg29 : BitVec 32 := Scf.iv c0_i32_577 c1_i32_579 k0_t40
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off637 (k0_t40 : Fin k0_t40_loop.trips) (c0_i32_1056 : BitVec 32) : Fin 2 → Nat :=
  let c2_i32_1055 : BitVec 32 := 2#32
  let c0_i32_577 : BitVec 32 := 0#32
  let c1_i32_579 : BitVec 32 := 1#32
  let arg29 : BitVec 32 := Scf.iv c0_i32_577 c1_i32_579 k0_t40
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off638 (k0_t40 : Fin k0_t40_loop.trips) (c0_i32_1059 : BitVec 32) : Fin 2 → Nat :=
  let c2_i32_1058 : BitVec 32 := 2#32
  let c0_i32_577 : BitVec 32 := 0#32
  let c1_i32_579 : BitVec 32 := 1#32
  let arg29 : BitVec 32 := Scf.iv c0_i32_577 c1_i32_579 k0_t40
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off639 (k0_t40 : Fin k0_t40_loop.trips) (c0_i32_1062 : BitVec 32) : Fin 2 → Nat :=
  let c2_i32_1061 : BitVec 32 := 2#32
  let c0_i32_577 : BitVec 32 := 0#32
  let c1_i32_579 : BitVec 32 := 1#32
  let arg29 : BitVec 32 := Scf.iv c0_i32_577 c1_i32_579 k0_t40
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off640 (k0_t40 : Fin k0_t40_loop.trips) (c0_i32_1065 : BitVec 32) : Fin 2 → Nat :=
  let c2_i32_1064 : BitVec 32 := 2#32
  let c0_i32_577 : BitVec 32 := 0#32
  let c1_i32_579 : BitVec 32 := 1#32
  let arg29 : BitVec 32 := Scf.iv c0_i32_577 c1_i32_579 k0_t40
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off641 (k0_t40 : Fin k0_t40_loop.trips) (c0_i32_1068 : BitVec 32) : Fin 2 → Nat :=
  let c2_i32_1067 : BitVec 32 := 2#32
  let c0_i32_577 : BitVec 32 := 0#32
  let c1_i32_579 : BitVec 32 := 1#32
  let arg29 : BitVec 32 := Scf.iv c0_i32_577 c1_i32_579 k0_t40
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t41_loop : Scf.Loop 32 :=
  let c0_i32_586 : BitVec 32 := 0#32
  let c32_i32_587 : BitVec 32 := 32#32
  let v912 : BitVec 32 := Scalar.addi c0_i32_586 c32_i32_587
  let c1_i32_588 : BitVec 32 := 1#32
  ⟨c0_i32_586, v912, c1_i32_588⟩
def k0_off642 (k0_t41 : Fin k0_t41_loop.trips) (c0_i32_1023 : BitVec 32) : Fin 2 → Nat :=
  let c2_i32_1022 : BitVec 32 := 2#32
  let c0_i32_586 : BitVec 32 := 0#32
  let c1_i32_588 : BitVec 32 := 1#32
  let arg29 : BitVec 32 := Scf.iv c0_i32_586 c1_i32_588 k0_t41
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off643 (k0_t41 : Fin k0_t41_loop.trips) (c0_i32_1026 : BitVec 32) : Fin 2 → Nat :=
  let c2_i32_1025 : BitVec 32 := 2#32
  let c0_i32_586 : BitVec 32 := 0#32
  let c1_i32_588 : BitVec 32 := 1#32
  let arg29 : BitVec 32 := Scf.iv c0_i32_586 c1_i32_588 k0_t41
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off644 (k0_t41 : Fin k0_t41_loop.trips) (c0_i32_1029 : BitVec 32) : Fin 2 → Nat :=
  let c2_i32_1028 : BitVec 32 := 2#32
  let c0_i32_586 : BitVec 32 := 0#32
  let c1_i32_588 : BitVec 32 := 1#32
  let arg29 : BitVec 32 := Scf.iv c0_i32_586 c1_i32_588 k0_t41
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off645 (k0_t41 : Fin k0_t41_loop.trips) (c0_i32_1032 : BitVec 32) : Fin 2 → Nat :=
  let c2_i32_1031 : BitVec 32 := 2#32
  let c0_i32_586 : BitVec 32 := 0#32
  let c1_i32_588 : BitVec 32 := 1#32
  let arg29 : BitVec 32 := Scf.iv c0_i32_586 c1_i32_588 k0_t41
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off646 (k0_t41 : Fin k0_t41_loop.trips) (c0_i32_1035 : BitVec 32) : Fin 2 → Nat :=
  let c2_i32_1034 : BitVec 32 := 2#32
  let c0_i32_586 : BitVec 32 := 0#32
  let c1_i32_588 : BitVec 32 := 1#32
  let arg29 : BitVec 32 := Scf.iv c0_i32_586 c1_i32_588 k0_t41
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off647 (k0_t41 : Fin k0_t41_loop.trips) (c0_i32_1038 : BitVec 32) : Fin 2 → Nat :=
  let c2_i32_1037 : BitVec 32 := 2#32
  let c0_i32_586 : BitVec 32 := 0#32
  let c1_i32_588 : BitVec 32 := 1#32
  let arg29 : BitVec 32 := Scf.iv c0_i32_586 c1_i32_588 k0_t41
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off648 (k0_t41 : Fin k0_t41_loop.trips) (c0_i32_1041 : BitVec 32) : Fin 2 → Nat :=
  let c2_i32_1040 : BitVec 32 := 2#32
  let c0_i32_586 : BitVec 32 := 0#32
  let c1_i32_588 : BitVec 32 := 1#32
  let arg29 : BitVec 32 := Scf.iv c0_i32_586 c1_i32_588 k0_t41
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off649 (k0_t41 : Fin k0_t41_loop.trips) (c0_i32_1044 : BitVec 32) : Fin 2 → Nat :=
  let c2_i32_1043 : BitVec 32 := 2#32
  let c0_i32_586 : BitVec 32 := 0#32
  let c1_i32_588 : BitVec 32 := 1#32
  let arg29 : BitVec 32 := Scf.iv c0_i32_586 c1_i32_588 k0_t41
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off650 (k0_t41 : Fin k0_t41_loop.trips) (c0_i32_1047 : BitVec 32) : Fin 2 → Nat :=
  let c2_i32_1046 : BitVec 32 := 2#32
  let c0_i32_586 : BitVec 32 := 0#32
  let c1_i32_588 : BitVec 32 := 1#32
  let arg29 : BitVec 32 := Scf.iv c0_i32_586 c1_i32_588 k0_t41
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off651 (k0_t41 : Fin k0_t41_loop.trips) (c0_i32_1050 : BitVec 32) : Fin 2 → Nat :=
  let c2_i32_1049 : BitVec 32 := 2#32
  let c0_i32_586 : BitVec 32 := 0#32
  let c1_i32_588 : BitVec 32 := 1#32
  let arg29 : BitVec 32 := Scf.iv c0_i32_586 c1_i32_588 k0_t41
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off652 (k0_t41 : Fin k0_t41_loop.trips) (c0_i32_1053 : BitVec 32) : Fin 2 → Nat :=
  let c2_i32_1052 : BitVec 32 := 2#32
  let c0_i32_586 : BitVec 32 := 0#32
  let c1_i32_588 : BitVec 32 := 1#32
  let arg29 : BitVec 32 := Scf.iv c0_i32_586 c1_i32_588 k0_t41
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off653 (k0_t41 : Fin k0_t41_loop.trips) (c0_i32_1056 : BitVec 32) : Fin 2 → Nat :=
  let c2_i32_1055 : BitVec 32 := 2#32
  let c0_i32_586 : BitVec 32 := 0#32
  let c1_i32_588 : BitVec 32 := 1#32
  let arg29 : BitVec 32 := Scf.iv c0_i32_586 c1_i32_588 k0_t41
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off654 (k0_t41 : Fin k0_t41_loop.trips) (c0_i32_1059 : BitVec 32) : Fin 2 → Nat :=
  let c2_i32_1058 : BitVec 32 := 2#32
  let c0_i32_586 : BitVec 32 := 0#32
  let c1_i32_588 : BitVec 32 := 1#32
  let arg29 : BitVec 32 := Scf.iv c0_i32_586 c1_i32_588 k0_t41
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off655 (k0_t41 : Fin k0_t41_loop.trips) (c0_i32_1062 : BitVec 32) : Fin 2 → Nat :=
  let c2_i32_1061 : BitVec 32 := 2#32
  let c0_i32_586 : BitVec 32 := 0#32
  let c1_i32_588 : BitVec 32 := 1#32
  let arg29 : BitVec 32 := Scf.iv c0_i32_586 c1_i32_588 k0_t41
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off656 (k0_t41 : Fin k0_t41_loop.trips) (c0_i32_1065 : BitVec 32) : Fin 2 → Nat :=
  let c2_i32_1064 : BitVec 32 := 2#32
  let c0_i32_586 : BitVec 32 := 0#32
  let c1_i32_588 : BitVec 32 := 1#32
  let arg29 : BitVec 32 := Scf.iv c0_i32_586 c1_i32_588 k0_t41
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off657 (k0_t41 : Fin k0_t41_loop.trips) (c0_i32_1068 : BitVec 32) : Fin 2 → Nat :=
  let c2_i32_1067 : BitVec 32 := 2#32
  let c0_i32_586 : BitVec 32 := 0#32
  let c1_i32_588 : BitVec 32 := 1#32
  let arg29 : BitVec 32 := Scf.iv c0_i32_586 c1_i32_588 k0_t41
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t42_loop : Scf.Loop 32 :=
  let c0_i32_595 : BitVec 32 := 0#32
  let c32_i32_596 : BitVec 32 := 32#32
  let v919 : BitVec 32 := Scalar.addi c0_i32_595 c32_i32_596
  let c1_i32_597 : BitVec 32 := 1#32
  ⟨c0_i32_595, v919, c1_i32_597⟩
def k0_off658 (k0_t42 : Fin k0_t42_loop.trips) (c0_i32_1023 : BitVec 32) : Fin 2 → Nat :=
  let c2_i32_1022 : BitVec 32 := 2#32
  let c0_i32_595 : BitVec 32 := 0#32
  let c1_i32_597 : BitVec 32 := 1#32
  let arg29 : BitVec 32 := Scf.iv c0_i32_595 c1_i32_597 k0_t42
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off659 (k0_t42 : Fin k0_t42_loop.trips) (c0_i32_1026 : BitVec 32) : Fin 2 → Nat :=
  let c2_i32_1025 : BitVec 32 := 2#32
  let c0_i32_595 : BitVec 32 := 0#32
  let c1_i32_597 : BitVec 32 := 1#32
  let arg29 : BitVec 32 := Scf.iv c0_i32_595 c1_i32_597 k0_t42
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off660 (k0_t42 : Fin k0_t42_loop.trips) (c0_i32_1029 : BitVec 32) : Fin 2 → Nat :=
  let c2_i32_1028 : BitVec 32 := 2#32
  let c0_i32_595 : BitVec 32 := 0#32
  let c1_i32_597 : BitVec 32 := 1#32
  let arg29 : BitVec 32 := Scf.iv c0_i32_595 c1_i32_597 k0_t42
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off661 (k0_t42 : Fin k0_t42_loop.trips) (c0_i32_1032 : BitVec 32) : Fin 2 → Nat :=
  let c2_i32_1031 : BitVec 32 := 2#32
  let c0_i32_595 : BitVec 32 := 0#32
  let c1_i32_597 : BitVec 32 := 1#32
  let arg29 : BitVec 32 := Scf.iv c0_i32_595 c1_i32_597 k0_t42
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off662 (k0_t42 : Fin k0_t42_loop.trips) (c0_i32_1035 : BitVec 32) : Fin 2 → Nat :=
  let c2_i32_1034 : BitVec 32 := 2#32
  let c0_i32_595 : BitVec 32 := 0#32
  let c1_i32_597 : BitVec 32 := 1#32
  let arg29 : BitVec 32 := Scf.iv c0_i32_595 c1_i32_597 k0_t42
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off663 (k0_t42 : Fin k0_t42_loop.trips) (c0_i32_1038 : BitVec 32) : Fin 2 → Nat :=
  let c2_i32_1037 : BitVec 32 := 2#32
  let c0_i32_595 : BitVec 32 := 0#32
  let c1_i32_597 : BitVec 32 := 1#32
  let arg29 : BitVec 32 := Scf.iv c0_i32_595 c1_i32_597 k0_t42
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off664 (k0_t42 : Fin k0_t42_loop.trips) (c0_i32_1041 : BitVec 32) : Fin 2 → Nat :=
  let c2_i32_1040 : BitVec 32 := 2#32
  let c0_i32_595 : BitVec 32 := 0#32
  let c1_i32_597 : BitVec 32 := 1#32
  let arg29 : BitVec 32 := Scf.iv c0_i32_595 c1_i32_597 k0_t42
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off665 (k0_t42 : Fin k0_t42_loop.trips) (c0_i32_1044 : BitVec 32) : Fin 2 → Nat :=
  let c2_i32_1043 : BitVec 32 := 2#32
  let c0_i32_595 : BitVec 32 := 0#32
  let c1_i32_597 : BitVec 32 := 1#32
  let arg29 : BitVec 32 := Scf.iv c0_i32_595 c1_i32_597 k0_t42
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off666 (k0_t42 : Fin k0_t42_loop.trips) (c0_i32_1047 : BitVec 32) : Fin 2 → Nat :=
  let c2_i32_1046 : BitVec 32 := 2#32
  let c0_i32_595 : BitVec 32 := 0#32
  let c1_i32_597 : BitVec 32 := 1#32
  let arg29 : BitVec 32 := Scf.iv c0_i32_595 c1_i32_597 k0_t42
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off667 (k0_t42 : Fin k0_t42_loop.trips) (c0_i32_1050 : BitVec 32) : Fin 2 → Nat :=
  let c2_i32_1049 : BitVec 32 := 2#32
  let c0_i32_595 : BitVec 32 := 0#32
  let c1_i32_597 : BitVec 32 := 1#32
  let arg29 : BitVec 32 := Scf.iv c0_i32_595 c1_i32_597 k0_t42
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off668 (k0_t42 : Fin k0_t42_loop.trips) (c0_i32_1053 : BitVec 32) : Fin 2 → Nat :=
  let c2_i32_1052 : BitVec 32 := 2#32
  let c0_i32_595 : BitVec 32 := 0#32
  let c1_i32_597 : BitVec 32 := 1#32
  let arg29 : BitVec 32 := Scf.iv c0_i32_595 c1_i32_597 k0_t42
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off669 (k0_t42 : Fin k0_t42_loop.trips) (c0_i32_1056 : BitVec 32) : Fin 2 → Nat :=
  let c2_i32_1055 : BitVec 32 := 2#32
  let c0_i32_595 : BitVec 32 := 0#32
  let c1_i32_597 : BitVec 32 := 1#32
  let arg29 : BitVec 32 := Scf.iv c0_i32_595 c1_i32_597 k0_t42
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off670 (k0_t42 : Fin k0_t42_loop.trips) (c0_i32_1059 : BitVec 32) : Fin 2 → Nat :=
  let c2_i32_1058 : BitVec 32 := 2#32
  let c0_i32_595 : BitVec 32 := 0#32
  let c1_i32_597 : BitVec 32 := 1#32
  let arg29 : BitVec 32 := Scf.iv c0_i32_595 c1_i32_597 k0_t42
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off671 (k0_t42 : Fin k0_t42_loop.trips) (c0_i32_1062 : BitVec 32) : Fin 2 → Nat :=
  let c2_i32_1061 : BitVec 32 := 2#32
  let c0_i32_595 : BitVec 32 := 0#32
  let c1_i32_597 : BitVec 32 := 1#32
  let arg29 : BitVec 32 := Scf.iv c0_i32_595 c1_i32_597 k0_t42
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off672 (k0_t42 : Fin k0_t42_loop.trips) (c0_i32_1065 : BitVec 32) : Fin 2 → Nat :=
  let c2_i32_1064 : BitVec 32 := 2#32
  let c0_i32_595 : BitVec 32 := 0#32
  let c1_i32_597 : BitVec 32 := 1#32
  let arg29 : BitVec 32 := Scf.iv c0_i32_595 c1_i32_597 k0_t42
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off673 (k0_t42 : Fin k0_t42_loop.trips) (c0_i32_1068 : BitVec 32) : Fin 2 → Nat :=
  let c2_i32_1067 : BitVec 32 := 2#32
  let c0_i32_595 : BitVec 32 := 0#32
  let c1_i32_597 : BitVec 32 := 1#32
  let arg29 : BitVec 32 := Scf.iv c0_i32_595 c1_i32_597 k0_t42
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t43_loop : Scf.Loop 32 :=
  let c0_i32_604 : BitVec 32 := 0#32
  let c32_i32_605 : BitVec 32 := 32#32
  let v926 : BitVec 32 := Scalar.addi c0_i32_604 c32_i32_605
  let c1_i32_606 : BitVec 32 := 1#32
  ⟨c0_i32_604, v926, c1_i32_606⟩
def k0_off674 (k0_t43 : Fin k0_t43_loop.trips) (c0_i32_1023 : BitVec 32) : Fin 2 → Nat :=
  let c2_i32_1022 : BitVec 32 := 2#32
  let c0_i32_604 : BitVec 32 := 0#32
  let c1_i32_606 : BitVec 32 := 1#32
  let arg29 : BitVec 32 := Scf.iv c0_i32_604 c1_i32_606 k0_t43
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off675 (k0_t43 : Fin k0_t43_loop.trips) (c0_i32_1026 : BitVec 32) : Fin 2 → Nat :=
  let c2_i32_1025 : BitVec 32 := 2#32
  let c0_i32_604 : BitVec 32 := 0#32
  let c1_i32_606 : BitVec 32 := 1#32
  let arg29 : BitVec 32 := Scf.iv c0_i32_604 c1_i32_606 k0_t43
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off676 (k0_t43 : Fin k0_t43_loop.trips) (c0_i32_1029 : BitVec 32) : Fin 2 → Nat :=
  let c2_i32_1028 : BitVec 32 := 2#32
  let c0_i32_604 : BitVec 32 := 0#32
  let c1_i32_606 : BitVec 32 := 1#32
  let arg29 : BitVec 32 := Scf.iv c0_i32_604 c1_i32_606 k0_t43
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off677 (k0_t43 : Fin k0_t43_loop.trips) (c0_i32_1032 : BitVec 32) : Fin 2 → Nat :=
  let c2_i32_1031 : BitVec 32 := 2#32
  let c0_i32_604 : BitVec 32 := 0#32
  let c1_i32_606 : BitVec 32 := 1#32
  let arg29 : BitVec 32 := Scf.iv c0_i32_604 c1_i32_606 k0_t43
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off678 (k0_t43 : Fin k0_t43_loop.trips) (c0_i32_1035 : BitVec 32) : Fin 2 → Nat :=
  let c2_i32_1034 : BitVec 32 := 2#32
  let c0_i32_604 : BitVec 32 := 0#32
  let c1_i32_606 : BitVec 32 := 1#32
  let arg29 : BitVec 32 := Scf.iv c0_i32_604 c1_i32_606 k0_t43
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off679 (k0_t43 : Fin k0_t43_loop.trips) (c0_i32_1038 : BitVec 32) : Fin 2 → Nat :=
  let c2_i32_1037 : BitVec 32 := 2#32
  let c0_i32_604 : BitVec 32 := 0#32
  let c1_i32_606 : BitVec 32 := 1#32
  let arg29 : BitVec 32 := Scf.iv c0_i32_604 c1_i32_606 k0_t43
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off680 (k0_t43 : Fin k0_t43_loop.trips) (c0_i32_1041 : BitVec 32) : Fin 2 → Nat :=
  let c2_i32_1040 : BitVec 32 := 2#32
  let c0_i32_604 : BitVec 32 := 0#32
  let c1_i32_606 : BitVec 32 := 1#32
  let arg29 : BitVec 32 := Scf.iv c0_i32_604 c1_i32_606 k0_t43
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off681 (k0_t43 : Fin k0_t43_loop.trips) (c0_i32_1044 : BitVec 32) : Fin 2 → Nat :=
  let c2_i32_1043 : BitVec 32 := 2#32
  let c0_i32_604 : BitVec 32 := 0#32
  let c1_i32_606 : BitVec 32 := 1#32
  let arg29 : BitVec 32 := Scf.iv c0_i32_604 c1_i32_606 k0_t43
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off682 (k0_t43 : Fin k0_t43_loop.trips) (c0_i32_1047 : BitVec 32) : Fin 2 → Nat :=
  let c2_i32_1046 : BitVec 32 := 2#32
  let c0_i32_604 : BitVec 32 := 0#32
  let c1_i32_606 : BitVec 32 := 1#32
  let arg29 : BitVec 32 := Scf.iv c0_i32_604 c1_i32_606 k0_t43
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off683 (k0_t43 : Fin k0_t43_loop.trips) (c0_i32_1050 : BitVec 32) : Fin 2 → Nat :=
  let c2_i32_1049 : BitVec 32 := 2#32
  let c0_i32_604 : BitVec 32 := 0#32
  let c1_i32_606 : BitVec 32 := 1#32
  let arg29 : BitVec 32 := Scf.iv c0_i32_604 c1_i32_606 k0_t43
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off684 (k0_t43 : Fin k0_t43_loop.trips) (c0_i32_1053 : BitVec 32) : Fin 2 → Nat :=
  let c2_i32_1052 : BitVec 32 := 2#32
  let c0_i32_604 : BitVec 32 := 0#32
  let c1_i32_606 : BitVec 32 := 1#32
  let arg29 : BitVec 32 := Scf.iv c0_i32_604 c1_i32_606 k0_t43
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off685 (k0_t43 : Fin k0_t43_loop.trips) (c0_i32_1056 : BitVec 32) : Fin 2 → Nat :=
  let c2_i32_1055 : BitVec 32 := 2#32
  let c0_i32_604 : BitVec 32 := 0#32
  let c1_i32_606 : BitVec 32 := 1#32
  let arg29 : BitVec 32 := Scf.iv c0_i32_604 c1_i32_606 k0_t43
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off686 (k0_t43 : Fin k0_t43_loop.trips) (c0_i32_1059 : BitVec 32) : Fin 2 → Nat :=
  let c2_i32_1058 : BitVec 32 := 2#32
  let c0_i32_604 : BitVec 32 := 0#32
  let c1_i32_606 : BitVec 32 := 1#32
  let arg29 : BitVec 32 := Scf.iv c0_i32_604 c1_i32_606 k0_t43
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off687 (k0_t43 : Fin k0_t43_loop.trips) (c0_i32_1062 : BitVec 32) : Fin 2 → Nat :=
  let c2_i32_1061 : BitVec 32 := 2#32
  let c0_i32_604 : BitVec 32 := 0#32
  let c1_i32_606 : BitVec 32 := 1#32
  let arg29 : BitVec 32 := Scf.iv c0_i32_604 c1_i32_606 k0_t43
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off688 (k0_t43 : Fin k0_t43_loop.trips) (c0_i32_1065 : BitVec 32) : Fin 2 → Nat :=
  let c2_i32_1064 : BitVec 32 := 2#32
  let c0_i32_604 : BitVec 32 := 0#32
  let c1_i32_606 : BitVec 32 := 1#32
  let arg29 : BitVec 32 := Scf.iv c0_i32_604 c1_i32_606 k0_t43
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off689 (k0_t43 : Fin k0_t43_loop.trips) (c0_i32_1068 : BitVec 32) : Fin 2 → Nat :=
  let c2_i32_1067 : BitVec 32 := 2#32
  let c0_i32_604 : BitVec 32 := 0#32
  let c1_i32_606 : BitVec 32 := 1#32
  let arg29 : BitVec 32 := Scf.iv c0_i32_604 c1_i32_606 k0_t43
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t44_loop : Scf.Loop 32 :=
  let c0_i32_613 : BitVec 32 := 0#32
  let c32_i32_614 : BitVec 32 := 32#32
  let v933 : BitVec 32 := Scalar.addi c0_i32_613 c32_i32_614
  let c1_i32_615 : BitVec 32 := 1#32
  ⟨c0_i32_613, v933, c1_i32_615⟩
def k0_off690 (k0_t44 : Fin k0_t44_loop.trips) (c0_i32_1023 : BitVec 32) : Fin 2 → Nat :=
  let c2_i32_1022 : BitVec 32 := 2#32
  let c0_i32_613 : BitVec 32 := 0#32
  let c1_i32_615 : BitVec 32 := 1#32
  let arg29 : BitVec 32 := Scf.iv c0_i32_613 c1_i32_615 k0_t44
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off691 (k0_t44 : Fin k0_t44_loop.trips) (c0_i32_1026 : BitVec 32) : Fin 2 → Nat :=
  let c2_i32_1025 : BitVec 32 := 2#32
  let c0_i32_613 : BitVec 32 := 0#32
  let c1_i32_615 : BitVec 32 := 1#32
  let arg29 : BitVec 32 := Scf.iv c0_i32_613 c1_i32_615 k0_t44
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off692 (k0_t44 : Fin k0_t44_loop.trips) (c0_i32_1029 : BitVec 32) : Fin 2 → Nat :=
  let c2_i32_1028 : BitVec 32 := 2#32
  let c0_i32_613 : BitVec 32 := 0#32
  let c1_i32_615 : BitVec 32 := 1#32
  let arg29 : BitVec 32 := Scf.iv c0_i32_613 c1_i32_615 k0_t44
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off693 (k0_t44 : Fin k0_t44_loop.trips) (c0_i32_1032 : BitVec 32) : Fin 2 → Nat :=
  let c2_i32_1031 : BitVec 32 := 2#32
  let c0_i32_613 : BitVec 32 := 0#32
  let c1_i32_615 : BitVec 32 := 1#32
  let arg29 : BitVec 32 := Scf.iv c0_i32_613 c1_i32_615 k0_t44
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off694 (k0_t44 : Fin k0_t44_loop.trips) (c0_i32_1035 : BitVec 32) : Fin 2 → Nat :=
  let c2_i32_1034 : BitVec 32 := 2#32
  let c0_i32_613 : BitVec 32 := 0#32
  let c1_i32_615 : BitVec 32 := 1#32
  let arg29 : BitVec 32 := Scf.iv c0_i32_613 c1_i32_615 k0_t44
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off695 (k0_t44 : Fin k0_t44_loop.trips) (c0_i32_1038 : BitVec 32) : Fin 2 → Nat :=
  let c2_i32_1037 : BitVec 32 := 2#32
  let c0_i32_613 : BitVec 32 := 0#32
  let c1_i32_615 : BitVec 32 := 1#32
  let arg29 : BitVec 32 := Scf.iv c0_i32_613 c1_i32_615 k0_t44
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off696 (k0_t44 : Fin k0_t44_loop.trips) (c0_i32_1041 : BitVec 32) : Fin 2 → Nat :=
  let c2_i32_1040 : BitVec 32 := 2#32
  let c0_i32_613 : BitVec 32 := 0#32
  let c1_i32_615 : BitVec 32 := 1#32
  let arg29 : BitVec 32 := Scf.iv c0_i32_613 c1_i32_615 k0_t44
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off697 (k0_t44 : Fin k0_t44_loop.trips) (c0_i32_1044 : BitVec 32) : Fin 2 → Nat :=
  let c2_i32_1043 : BitVec 32 := 2#32
  let c0_i32_613 : BitVec 32 := 0#32
  let c1_i32_615 : BitVec 32 := 1#32
  let arg29 : BitVec 32 := Scf.iv c0_i32_613 c1_i32_615 k0_t44
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off698 (k0_t44 : Fin k0_t44_loop.trips) (c0_i32_1047 : BitVec 32) : Fin 2 → Nat :=
  let c2_i32_1046 : BitVec 32 := 2#32
  let c0_i32_613 : BitVec 32 := 0#32
  let c1_i32_615 : BitVec 32 := 1#32
  let arg29 : BitVec 32 := Scf.iv c0_i32_613 c1_i32_615 k0_t44
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off699 (k0_t44 : Fin k0_t44_loop.trips) (c0_i32_1050 : BitVec 32) : Fin 2 → Nat :=
  let c2_i32_1049 : BitVec 32 := 2#32
  let c0_i32_613 : BitVec 32 := 0#32
  let c1_i32_615 : BitVec 32 := 1#32
  let arg29 : BitVec 32 := Scf.iv c0_i32_613 c1_i32_615 k0_t44
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off700 (k0_t44 : Fin k0_t44_loop.trips) (c0_i32_1053 : BitVec 32) : Fin 2 → Nat :=
  let c2_i32_1052 : BitVec 32 := 2#32
  let c0_i32_613 : BitVec 32 := 0#32
  let c1_i32_615 : BitVec 32 := 1#32
  let arg29 : BitVec 32 := Scf.iv c0_i32_613 c1_i32_615 k0_t44
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off701 (k0_t44 : Fin k0_t44_loop.trips) (c0_i32_1056 : BitVec 32) : Fin 2 → Nat :=
  let c2_i32_1055 : BitVec 32 := 2#32
  let c0_i32_613 : BitVec 32 := 0#32
  let c1_i32_615 : BitVec 32 := 1#32
  let arg29 : BitVec 32 := Scf.iv c0_i32_613 c1_i32_615 k0_t44
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off702 (k0_t44 : Fin k0_t44_loop.trips) (c0_i32_1059 : BitVec 32) : Fin 2 → Nat :=
  let c2_i32_1058 : BitVec 32 := 2#32
  let c0_i32_613 : BitVec 32 := 0#32
  let c1_i32_615 : BitVec 32 := 1#32
  let arg29 : BitVec 32 := Scf.iv c0_i32_613 c1_i32_615 k0_t44
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off703 (k0_t44 : Fin k0_t44_loop.trips) (c0_i32_1062 : BitVec 32) : Fin 2 → Nat :=
  let c2_i32_1061 : BitVec 32 := 2#32
  let c0_i32_613 : BitVec 32 := 0#32
  let c1_i32_615 : BitVec 32 := 1#32
  let arg29 : BitVec 32 := Scf.iv c0_i32_613 c1_i32_615 k0_t44
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off704 (k0_t44 : Fin k0_t44_loop.trips) (c0_i32_1065 : BitVec 32) : Fin 2 → Nat :=
  let c2_i32_1064 : BitVec 32 := 2#32
  let c0_i32_613 : BitVec 32 := 0#32
  let c1_i32_615 : BitVec 32 := 1#32
  let arg29 : BitVec 32 := Scf.iv c0_i32_613 c1_i32_615 k0_t44
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off705 (k0_t44 : Fin k0_t44_loop.trips) (c0_i32_1068 : BitVec 32) : Fin 2 → Nat :=
  let c2_i32_1067 : BitVec 32 := 2#32
  let c0_i32_613 : BitVec 32 := 0#32
  let c1_i32_615 : BitVec 32 := 1#32
  let arg29 : BitVec 32 := Scf.iv c0_i32_613 c1_i32_615 k0_t44
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t45_loop : Scf.Loop 32 :=
  let c0_i32_619 : BitVec 32 := 0#32
  let c32_i32_620 : BitVec 32 := 32#32
  let v937 : BitVec 32 := Scalar.addi c0_i32_619 c32_i32_620
  let c1_i32_621 : BitVec 32 := 1#32
  ⟨c0_i32_619, v937, c1_i32_621⟩
def k0_off706 (k0_t45 : Fin k0_t45_loop.trips) (c0_i32_1023 : BitVec 32) : Fin 2 → Nat :=
  let c2_i32_1022 : BitVec 32 := 2#32
  let c0_i32_619 : BitVec 32 := 0#32
  let c1_i32_621 : BitVec 32 := 1#32
  let arg29 : BitVec 32 := Scf.iv c0_i32_619 c1_i32_621 k0_t45
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off707 (k0_t45 : Fin k0_t45_loop.trips) (c0_i32_1026 : BitVec 32) : Fin 2 → Nat :=
  let c2_i32_1025 : BitVec 32 := 2#32
  let c0_i32_619 : BitVec 32 := 0#32
  let c1_i32_621 : BitVec 32 := 1#32
  let arg29 : BitVec 32 := Scf.iv c0_i32_619 c1_i32_621 k0_t45
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off708 (k0_t45 : Fin k0_t45_loop.trips) (c0_i32_1029 : BitVec 32) : Fin 2 → Nat :=
  let c2_i32_1028 : BitVec 32 := 2#32
  let c0_i32_619 : BitVec 32 := 0#32
  let c1_i32_621 : BitVec 32 := 1#32
  let arg29 : BitVec 32 := Scf.iv c0_i32_619 c1_i32_621 k0_t45
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off709 (k0_t45 : Fin k0_t45_loop.trips) (c0_i32_1032 : BitVec 32) : Fin 2 → Nat :=
  let c2_i32_1031 : BitVec 32 := 2#32
  let c0_i32_619 : BitVec 32 := 0#32
  let c1_i32_621 : BitVec 32 := 1#32
  let arg29 : BitVec 32 := Scf.iv c0_i32_619 c1_i32_621 k0_t45
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off710 (k0_t45 : Fin k0_t45_loop.trips) (c0_i32_1035 : BitVec 32) : Fin 2 → Nat :=
  let c2_i32_1034 : BitVec 32 := 2#32
  let c0_i32_619 : BitVec 32 := 0#32
  let c1_i32_621 : BitVec 32 := 1#32
  let arg29 : BitVec 32 := Scf.iv c0_i32_619 c1_i32_621 k0_t45
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off711 (k0_t45 : Fin k0_t45_loop.trips) (c0_i32_1038 : BitVec 32) : Fin 2 → Nat :=
  let c2_i32_1037 : BitVec 32 := 2#32
  let c0_i32_619 : BitVec 32 := 0#32
  let c1_i32_621 : BitVec 32 := 1#32
  let arg29 : BitVec 32 := Scf.iv c0_i32_619 c1_i32_621 k0_t45
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off712 (k0_t45 : Fin k0_t45_loop.trips) (c0_i32_1041 : BitVec 32) : Fin 2 → Nat :=
  let c2_i32_1040 : BitVec 32 := 2#32
  let c0_i32_619 : BitVec 32 := 0#32
  let c1_i32_621 : BitVec 32 := 1#32
  let arg29 : BitVec 32 := Scf.iv c0_i32_619 c1_i32_621 k0_t45
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off713 (k0_t45 : Fin k0_t45_loop.trips) (c0_i32_1044 : BitVec 32) : Fin 2 → Nat :=
  let c2_i32_1043 : BitVec 32 := 2#32
  let c0_i32_619 : BitVec 32 := 0#32
  let c1_i32_621 : BitVec 32 := 1#32
  let arg29 : BitVec 32 := Scf.iv c0_i32_619 c1_i32_621 k0_t45
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off714 (k0_t45 : Fin k0_t45_loop.trips) (c0_i32_1047 : BitVec 32) : Fin 2 → Nat :=
  let c2_i32_1046 : BitVec 32 := 2#32
  let c0_i32_619 : BitVec 32 := 0#32
  let c1_i32_621 : BitVec 32 := 1#32
  let arg29 : BitVec 32 := Scf.iv c0_i32_619 c1_i32_621 k0_t45
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off715 (k0_t45 : Fin k0_t45_loop.trips) (c0_i32_1050 : BitVec 32) : Fin 2 → Nat :=
  let c2_i32_1049 : BitVec 32 := 2#32
  let c0_i32_619 : BitVec 32 := 0#32
  let c1_i32_621 : BitVec 32 := 1#32
  let arg29 : BitVec 32 := Scf.iv c0_i32_619 c1_i32_621 k0_t45
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off716 (k0_t45 : Fin k0_t45_loop.trips) (c0_i32_1053 : BitVec 32) : Fin 2 → Nat :=
  let c2_i32_1052 : BitVec 32 := 2#32
  let c0_i32_619 : BitVec 32 := 0#32
  let c1_i32_621 : BitVec 32 := 1#32
  let arg29 : BitVec 32 := Scf.iv c0_i32_619 c1_i32_621 k0_t45
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off717 (k0_t45 : Fin k0_t45_loop.trips) (c0_i32_1056 : BitVec 32) : Fin 2 → Nat :=
  let c2_i32_1055 : BitVec 32 := 2#32
  let c0_i32_619 : BitVec 32 := 0#32
  let c1_i32_621 : BitVec 32 := 1#32
  let arg29 : BitVec 32 := Scf.iv c0_i32_619 c1_i32_621 k0_t45
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off718 (k0_t45 : Fin k0_t45_loop.trips) (c0_i32_1059 : BitVec 32) : Fin 2 → Nat :=
  let c2_i32_1058 : BitVec 32 := 2#32
  let c0_i32_619 : BitVec 32 := 0#32
  let c1_i32_621 : BitVec 32 := 1#32
  let arg29 : BitVec 32 := Scf.iv c0_i32_619 c1_i32_621 k0_t45
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off719 (k0_t45 : Fin k0_t45_loop.trips) (c0_i32_1062 : BitVec 32) : Fin 2 → Nat :=
  let c2_i32_1061 : BitVec 32 := 2#32
  let c0_i32_619 : BitVec 32 := 0#32
  let c1_i32_621 : BitVec 32 := 1#32
  let arg29 : BitVec 32 := Scf.iv c0_i32_619 c1_i32_621 k0_t45
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off720 (k0_t45 : Fin k0_t45_loop.trips) (c0_i32_1065 : BitVec 32) : Fin 2 → Nat :=
  let c2_i32_1064 : BitVec 32 := 2#32
  let c0_i32_619 : BitVec 32 := 0#32
  let c1_i32_621 : BitVec 32 := 1#32
  let arg29 : BitVec 32 := Scf.iv c0_i32_619 c1_i32_621 k0_t45
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off721 (k0_t45 : Fin k0_t45_loop.trips) (c0_i32_1068 : BitVec 32) : Fin 2 → Nat :=
  let c2_i32_1067 : BitVec 32 := 2#32
  let c0_i32_619 : BitVec 32 := 0#32
  let c1_i32_621 : BitVec 32 := 1#32
  let arg29 : BitVec 32 := Scf.iv c0_i32_619 c1_i32_621 k0_t45
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t46_loop : Scf.Loop 32 :=
  let c0_i32_625 : BitVec 32 := 0#32
  let c32_i32_626 : BitVec 32 := 32#32
  let v941 : BitVec 32 := Scalar.addi c0_i32_625 c32_i32_626
  let c1_i32_627 : BitVec 32 := 1#32
  ⟨c0_i32_625, v941, c1_i32_627⟩
def k0_off722 (k0_t46 : Fin k0_t46_loop.trips) (c0_i32_1023 : BitVec 32) : Fin 2 → Nat :=
  let c2_i32_1022 : BitVec 32 := 2#32
  let c0_i32_625 : BitVec 32 := 0#32
  let c1_i32_627 : BitVec 32 := 1#32
  let arg29 : BitVec 32 := Scf.iv c0_i32_625 c1_i32_627 k0_t46
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off723 (k0_t46 : Fin k0_t46_loop.trips) (c0_i32_1026 : BitVec 32) : Fin 2 → Nat :=
  let c2_i32_1025 : BitVec 32 := 2#32
  let c0_i32_625 : BitVec 32 := 0#32
  let c1_i32_627 : BitVec 32 := 1#32
  let arg29 : BitVec 32 := Scf.iv c0_i32_625 c1_i32_627 k0_t46
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off724 (k0_t46 : Fin k0_t46_loop.trips) (c0_i32_1029 : BitVec 32) : Fin 2 → Nat :=
  let c2_i32_1028 : BitVec 32 := 2#32
  let c0_i32_625 : BitVec 32 := 0#32
  let c1_i32_627 : BitVec 32 := 1#32
  let arg29 : BitVec 32 := Scf.iv c0_i32_625 c1_i32_627 k0_t46
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off725 (k0_t46 : Fin k0_t46_loop.trips) (c0_i32_1032 : BitVec 32) : Fin 2 → Nat :=
  let c2_i32_1031 : BitVec 32 := 2#32
  let c0_i32_625 : BitVec 32 := 0#32
  let c1_i32_627 : BitVec 32 := 1#32
  let arg29 : BitVec 32 := Scf.iv c0_i32_625 c1_i32_627 k0_t46
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off726 (k0_t46 : Fin k0_t46_loop.trips) (c0_i32_1035 : BitVec 32) : Fin 2 → Nat :=
  let c2_i32_1034 : BitVec 32 := 2#32
  let c0_i32_625 : BitVec 32 := 0#32
  let c1_i32_627 : BitVec 32 := 1#32
  let arg29 : BitVec 32 := Scf.iv c0_i32_625 c1_i32_627 k0_t46
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off727 (k0_t46 : Fin k0_t46_loop.trips) (c0_i32_1038 : BitVec 32) : Fin 2 → Nat :=
  let c2_i32_1037 : BitVec 32 := 2#32
  let c0_i32_625 : BitVec 32 := 0#32
  let c1_i32_627 : BitVec 32 := 1#32
  let arg29 : BitVec 32 := Scf.iv c0_i32_625 c1_i32_627 k0_t46
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off728 (k0_t46 : Fin k0_t46_loop.trips) (c0_i32_1041 : BitVec 32) : Fin 2 → Nat :=
  let c2_i32_1040 : BitVec 32 := 2#32
  let c0_i32_625 : BitVec 32 := 0#32
  let c1_i32_627 : BitVec 32 := 1#32
  let arg29 : BitVec 32 := Scf.iv c0_i32_625 c1_i32_627 k0_t46
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off729 (k0_t46 : Fin k0_t46_loop.trips) (c0_i32_1044 : BitVec 32) : Fin 2 → Nat :=
  let c2_i32_1043 : BitVec 32 := 2#32
  let c0_i32_625 : BitVec 32 := 0#32
  let c1_i32_627 : BitVec 32 := 1#32
  let arg29 : BitVec 32 := Scf.iv c0_i32_625 c1_i32_627 k0_t46
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off730 (k0_t46 : Fin k0_t46_loop.trips) (c0_i32_1047 : BitVec 32) : Fin 2 → Nat :=
  let c2_i32_1046 : BitVec 32 := 2#32
  let c0_i32_625 : BitVec 32 := 0#32
  let c1_i32_627 : BitVec 32 := 1#32
  let arg29 : BitVec 32 := Scf.iv c0_i32_625 c1_i32_627 k0_t46
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off731 (k0_t46 : Fin k0_t46_loop.trips) (c0_i32_1050 : BitVec 32) : Fin 2 → Nat :=
  let c2_i32_1049 : BitVec 32 := 2#32
  let c0_i32_625 : BitVec 32 := 0#32
  let c1_i32_627 : BitVec 32 := 1#32
  let arg29 : BitVec 32 := Scf.iv c0_i32_625 c1_i32_627 k0_t46
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off732 (k0_t46 : Fin k0_t46_loop.trips) (c0_i32_1053 : BitVec 32) : Fin 2 → Nat :=
  let c2_i32_1052 : BitVec 32 := 2#32
  let c0_i32_625 : BitVec 32 := 0#32
  let c1_i32_627 : BitVec 32 := 1#32
  let arg29 : BitVec 32 := Scf.iv c0_i32_625 c1_i32_627 k0_t46
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off733 (k0_t46 : Fin k0_t46_loop.trips) (c0_i32_1056 : BitVec 32) : Fin 2 → Nat :=
  let c2_i32_1055 : BitVec 32 := 2#32
  let c0_i32_625 : BitVec 32 := 0#32
  let c1_i32_627 : BitVec 32 := 1#32
  let arg29 : BitVec 32 := Scf.iv c0_i32_625 c1_i32_627 k0_t46
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off734 (k0_t46 : Fin k0_t46_loop.trips) (c0_i32_1059 : BitVec 32) : Fin 2 → Nat :=
  let c2_i32_1058 : BitVec 32 := 2#32
  let c0_i32_625 : BitVec 32 := 0#32
  let c1_i32_627 : BitVec 32 := 1#32
  let arg29 : BitVec 32 := Scf.iv c0_i32_625 c1_i32_627 k0_t46
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off735 (k0_t46 : Fin k0_t46_loop.trips) (c0_i32_1062 : BitVec 32) : Fin 2 → Nat :=
  let c2_i32_1061 : BitVec 32 := 2#32
  let c0_i32_625 : BitVec 32 := 0#32
  let c1_i32_627 : BitVec 32 := 1#32
  let arg29 : BitVec 32 := Scf.iv c0_i32_625 c1_i32_627 k0_t46
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off736 (k0_t46 : Fin k0_t46_loop.trips) (c0_i32_1065 : BitVec 32) : Fin 2 → Nat :=
  let c2_i32_1064 : BitVec 32 := 2#32
  let c0_i32_625 : BitVec 32 := 0#32
  let c1_i32_627 : BitVec 32 := 1#32
  let arg29 : BitVec 32 := Scf.iv c0_i32_625 c1_i32_627 k0_t46
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off737 (k0_t46 : Fin k0_t46_loop.trips) (c0_i32_1068 : BitVec 32) : Fin 2 → Nat :=
  let c2_i32_1067 : BitVec 32 := 2#32
  let c0_i32_625 : BitVec 32 := 0#32
  let c1_i32_627 : BitVec 32 := 1#32
  let arg29 : BitVec 32 := Scf.iv c0_i32_625 c1_i32_627 k0_t46
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t47_loop : Scf.Loop 32 :=
  let c0_i32_631 : BitVec 32 := 0#32
  let c32_i32_632 : BitVec 32 := 32#32
  let v945 : BitVec 32 := Scalar.addi c0_i32_631 c32_i32_632
  let c1_i32_633 : BitVec 32 := 1#32
  ⟨c0_i32_631, v945, c1_i32_633⟩
def k0_off738 (k0_t47 : Fin k0_t47_loop.trips) (c0_i32_1023 : BitVec 32) : Fin 2 → Nat :=
  let c2_i32_1022 : BitVec 32 := 2#32
  let c0_i32_631 : BitVec 32 := 0#32
  let c1_i32_633 : BitVec 32 := 1#32
  let arg29 : BitVec 32 := Scf.iv c0_i32_631 c1_i32_633 k0_t47
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off739 (k0_t47 : Fin k0_t47_loop.trips) (c0_i32_1026 : BitVec 32) : Fin 2 → Nat :=
  let c2_i32_1025 : BitVec 32 := 2#32
  let c0_i32_631 : BitVec 32 := 0#32
  let c1_i32_633 : BitVec 32 := 1#32
  let arg29 : BitVec 32 := Scf.iv c0_i32_631 c1_i32_633 k0_t47
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off740 (k0_t47 : Fin k0_t47_loop.trips) (c0_i32_1029 : BitVec 32) : Fin 2 → Nat :=
  let c2_i32_1028 : BitVec 32 := 2#32
  let c0_i32_631 : BitVec 32 := 0#32
  let c1_i32_633 : BitVec 32 := 1#32
  let arg29 : BitVec 32 := Scf.iv c0_i32_631 c1_i32_633 k0_t47
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off741 (k0_t47 : Fin k0_t47_loop.trips) (c0_i32_1032 : BitVec 32) : Fin 2 → Nat :=
  let c2_i32_1031 : BitVec 32 := 2#32
  let c0_i32_631 : BitVec 32 := 0#32
  let c1_i32_633 : BitVec 32 := 1#32
  let arg29 : BitVec 32 := Scf.iv c0_i32_631 c1_i32_633 k0_t47
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off742 (k0_t47 : Fin k0_t47_loop.trips) (c0_i32_1035 : BitVec 32) : Fin 2 → Nat :=
  let c2_i32_1034 : BitVec 32 := 2#32
  let c0_i32_631 : BitVec 32 := 0#32
  let c1_i32_633 : BitVec 32 := 1#32
  let arg29 : BitVec 32 := Scf.iv c0_i32_631 c1_i32_633 k0_t47
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off743 (k0_t47 : Fin k0_t47_loop.trips) (c0_i32_1038 : BitVec 32) : Fin 2 → Nat :=
  let c2_i32_1037 : BitVec 32 := 2#32
  let c0_i32_631 : BitVec 32 := 0#32
  let c1_i32_633 : BitVec 32 := 1#32
  let arg29 : BitVec 32 := Scf.iv c0_i32_631 c1_i32_633 k0_t47
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off744 (k0_t47 : Fin k0_t47_loop.trips) (c0_i32_1041 : BitVec 32) : Fin 2 → Nat :=
  let c2_i32_1040 : BitVec 32 := 2#32
  let c0_i32_631 : BitVec 32 := 0#32
  let c1_i32_633 : BitVec 32 := 1#32
  let arg29 : BitVec 32 := Scf.iv c0_i32_631 c1_i32_633 k0_t47
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off745 (k0_t47 : Fin k0_t47_loop.trips) (c0_i32_1044 : BitVec 32) : Fin 2 → Nat :=
  let c2_i32_1043 : BitVec 32 := 2#32
  let c0_i32_631 : BitVec 32 := 0#32
  let c1_i32_633 : BitVec 32 := 1#32
  let arg29 : BitVec 32 := Scf.iv c0_i32_631 c1_i32_633 k0_t47
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off746 (k0_t47 : Fin k0_t47_loop.trips) (c0_i32_1047 : BitVec 32) : Fin 2 → Nat :=
  let c2_i32_1046 : BitVec 32 := 2#32
  let c0_i32_631 : BitVec 32 := 0#32
  let c1_i32_633 : BitVec 32 := 1#32
  let arg29 : BitVec 32 := Scf.iv c0_i32_631 c1_i32_633 k0_t47
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off747 (k0_t47 : Fin k0_t47_loop.trips) (c0_i32_1050 : BitVec 32) : Fin 2 → Nat :=
  let c2_i32_1049 : BitVec 32 := 2#32
  let c0_i32_631 : BitVec 32 := 0#32
  let c1_i32_633 : BitVec 32 := 1#32
  let arg29 : BitVec 32 := Scf.iv c0_i32_631 c1_i32_633 k0_t47
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off748 (k0_t47 : Fin k0_t47_loop.trips) (c0_i32_1053 : BitVec 32) : Fin 2 → Nat :=
  let c2_i32_1052 : BitVec 32 := 2#32
  let c0_i32_631 : BitVec 32 := 0#32
  let c1_i32_633 : BitVec 32 := 1#32
  let arg29 : BitVec 32 := Scf.iv c0_i32_631 c1_i32_633 k0_t47
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off749 (k0_t47 : Fin k0_t47_loop.trips) (c0_i32_1056 : BitVec 32) : Fin 2 → Nat :=
  let c2_i32_1055 : BitVec 32 := 2#32
  let c0_i32_631 : BitVec 32 := 0#32
  let c1_i32_633 : BitVec 32 := 1#32
  let arg29 : BitVec 32 := Scf.iv c0_i32_631 c1_i32_633 k0_t47
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off750 (k0_t47 : Fin k0_t47_loop.trips) (c0_i32_1059 : BitVec 32) : Fin 2 → Nat :=
  let c2_i32_1058 : BitVec 32 := 2#32
  let c0_i32_631 : BitVec 32 := 0#32
  let c1_i32_633 : BitVec 32 := 1#32
  let arg29 : BitVec 32 := Scf.iv c0_i32_631 c1_i32_633 k0_t47
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off751 (k0_t47 : Fin k0_t47_loop.trips) (c0_i32_1062 : BitVec 32) : Fin 2 → Nat :=
  let c2_i32_1061 : BitVec 32 := 2#32
  let c0_i32_631 : BitVec 32 := 0#32
  let c1_i32_633 : BitVec 32 := 1#32
  let arg29 : BitVec 32 := Scf.iv c0_i32_631 c1_i32_633 k0_t47
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off752 (k0_t47 : Fin k0_t47_loop.trips) (c0_i32_1065 : BitVec 32) : Fin 2 → Nat :=
  let c2_i32_1064 : BitVec 32 := 2#32
  let c0_i32_631 : BitVec 32 := 0#32
  let c1_i32_633 : BitVec 32 := 1#32
  let arg29 : BitVec 32 := Scf.iv c0_i32_631 c1_i32_633 k0_t47
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off753 (k0_t47 : Fin k0_t47_loop.trips) (c0_i32_1068 : BitVec 32) : Fin 2 → Nat :=
  let c2_i32_1067 : BitVec 32 := 2#32
  let c0_i32_631 : BitVec 32 := 0#32
  let c1_i32_633 : BitVec 32 := 1#32
  let arg29 : BitVec 32 := Scf.iv c0_i32_631 c1_i32_633 k0_t47
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t48_loop : Scf.Loop 32 :=
  let c0_i32_637 : BitVec 32 := 0#32
  let c32_i32_638 : BitVec 32 := 32#32
  let v949 : BitVec 32 := Scalar.addi c0_i32_637 c32_i32_638
  let c1_i32_639 : BitVec 32 := 1#32
  ⟨c0_i32_637, v949, c1_i32_639⟩
def k0_off754 (k0_t48 : Fin k0_t48_loop.trips) (c0_i32_1023 : BitVec 32) : Fin 2 → Nat :=
  let c2_i32_1022 : BitVec 32 := 2#32
  let c0_i32_637 : BitVec 32 := 0#32
  let c1_i32_639 : BitVec 32 := 1#32
  let arg29 : BitVec 32 := Scf.iv c0_i32_637 c1_i32_639 k0_t48
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off755 (k0_t48 : Fin k0_t48_loop.trips) (c0_i32_1026 : BitVec 32) : Fin 2 → Nat :=
  let c2_i32_1025 : BitVec 32 := 2#32
  let c0_i32_637 : BitVec 32 := 0#32
  let c1_i32_639 : BitVec 32 := 1#32
  let arg29 : BitVec 32 := Scf.iv c0_i32_637 c1_i32_639 k0_t48
  let v1675 : BitVec 32 := Scalar.muli c2_i32_1025 arg29
  let v1676 : BitVec 32 := Scalar.addi v1675 c0_i32_1026
  let v1677 : Index := Scalar.indexCast v1676
  let c16_1027 : Index := 16#32
  ![v1677.toNat, 16]
def k0_off756 (k0_t48 : Fin k0_t48_loop.trips) (c0_i32_1029 : BitVec 32) : Fin 2 → Nat :=
  let c2_i32_1028 : BitVec 32 := 2#32
  let c0_i32_637 : BitVec 32 := 0#32
  let c1_i32_639 : BitVec 32 := 1#32
  let arg29 : BitVec 32 := Scf.iv c0_i32_637 c1_i32_639 k0_t48
  let v1682 : BitVec 32 := Scalar.muli c2_i32_1028 arg29
  let v1683 : BitVec 32 := Scalar.addi v1682 c0_i32_1029
  let v1684 : Index := Scalar.indexCast v1683
  let c32_1030 : Index := 32#32
  ![v1684.toNat, 32]
def k0_off757 (k0_t48 : Fin k0_t48_loop.trips) (c0_i32_1032 : BitVec 32) : Fin 2 → Nat :=
  let c2_i32_1031 : BitVec 32 := 2#32
  let c0_i32_637 : BitVec 32 := 0#32
  let c1_i32_639 : BitVec 32 := 1#32
  let arg29 : BitVec 32 := Scf.iv c0_i32_637 c1_i32_639 k0_t48
  let v1689 : BitVec 32 := Scalar.muli c2_i32_1031 arg29
  let v1690 : BitVec 32 := Scalar.addi v1689 c0_i32_1032
  let v1691 : Index := Scalar.indexCast v1690
  let c48_1033 : Index := 48#32
  ![v1691.toNat, 48]
def k0_off758 (k0_t48 : Fin k0_t48_loop.trips) (c0_i32_1035 : BitVec 32) : Fin 2 → Nat :=
  let c2_i32_1034 : BitVec 32 := 2#32
  let c0_i32_637 : BitVec 32 := 0#32
  let c1_i32_639 : BitVec 32 := 1#32
  let arg29 : BitVec 32 := Scf.iv c0_i32_637 c1_i32_639 k0_t48
  let v1696 : BitVec 32 := Scalar.muli c2_i32_1034 arg29
  let v1697 : BitVec 32 := Scalar.addi v1696 c0_i32_1035
  let v1698 : Index := Scalar.indexCast v1697
  let c64_1036 : Index := 64#32
  ![v1698.toNat, 64]
def k0_off759 (k0_t48 : Fin k0_t48_loop.trips) (c0_i32_1038 : BitVec 32) : Fin 2 → Nat :=
  let c2_i32_1037 : BitVec 32 := 2#32
  let c0_i32_637 : BitVec 32 := 0#32
  let c1_i32_639 : BitVec 32 := 1#32
  let arg29 : BitVec 32 := Scf.iv c0_i32_637 c1_i32_639 k0_t48
  let v1703 : BitVec 32 := Scalar.muli c2_i32_1037 arg29
  let v1704 : BitVec 32 := Scalar.addi v1703 c0_i32_1038
  let v1705 : Index := Scalar.indexCast v1704
  let c80_1039 : Index := 80#32
  ![v1705.toNat, 80]
def k0_off760 (k0_t48 : Fin k0_t48_loop.trips) (c0_i32_1041 : BitVec 32) : Fin 2 → Nat :=
  let c2_i32_1040 : BitVec 32 := 2#32
  let c0_i32_637 : BitVec 32 := 0#32
  let c1_i32_639 : BitVec 32 := 1#32
  let arg29 : BitVec 32 := Scf.iv c0_i32_637 c1_i32_639 k0_t48
  let v1710 : BitVec 32 := Scalar.muli c2_i32_1040 arg29
  let v1711 : BitVec 32 := Scalar.addi v1710 c0_i32_1041
  let v1712 : Index := Scalar.indexCast v1711
  let c96_1042 : Index := 96#32
  ![v1712.toNat, 96]
def k0_off761 (k0_t48 : Fin k0_t48_loop.trips) (c0_i32_1044 : BitVec 32) : Fin 2 → Nat :=
  let c2_i32_1043 : BitVec 32 := 2#32
  let c0_i32_637 : BitVec 32 := 0#32
  let c1_i32_639 : BitVec 32 := 1#32
  let arg29 : BitVec 32 := Scf.iv c0_i32_637 c1_i32_639 k0_t48
  let v1717 : BitVec 32 := Scalar.muli c2_i32_1043 arg29
  let v1718 : BitVec 32 := Scalar.addi v1717 c0_i32_1044
  let v1719 : Index := Scalar.indexCast v1718
  let c112_1045 : Index := 112#32
  ![v1719.toNat, 112]
def k0_off762 (k0_t48 : Fin k0_t48_loop.trips) (c0_i32_1047 : BitVec 32) : Fin 2 → Nat :=
  let c2_i32_1046 : BitVec 32 := 2#32
  let c0_i32_637 : BitVec 32 := 0#32
  let c1_i32_639 : BitVec 32 := 1#32
  let arg29 : BitVec 32 := Scf.iv c0_i32_637 c1_i32_639 k0_t48
  let v1724 : BitVec 32 := Scalar.muli c2_i32_1046 arg29
  let v1725 : BitVec 32 := Scalar.addi v1724 c0_i32_1047
  let v1726 : Index := Scalar.indexCast v1725
  let c128_1048 : Index := 128#32
  ![v1726.toNat, 128]
def k0_off763 (k0_t48 : Fin k0_t48_loop.trips) (c0_i32_1050 : BitVec 32) : Fin 2 → Nat :=
  let c2_i32_1049 : BitVec 32 := 2#32
  let c0_i32_637 : BitVec 32 := 0#32
  let c1_i32_639 : BitVec 32 := 1#32
  let arg29 : BitVec 32 := Scf.iv c0_i32_637 c1_i32_639 k0_t48
  let v1731 : BitVec 32 := Scalar.muli c2_i32_1049 arg29
  let v1732 : BitVec 32 := Scalar.addi v1731 c0_i32_1050
  let v1733 : Index := Scalar.indexCast v1732
  let c144_1051 : Index := 144#32
  ![v1733.toNat, 144]
def k0_off764 (k0_t48 : Fin k0_t48_loop.trips) (c0_i32_1053 : BitVec 32) : Fin 2 → Nat :=
  let c2_i32_1052 : BitVec 32 := 2#32
  let c0_i32_637 : BitVec 32 := 0#32
  let c1_i32_639 : BitVec 32 := 1#32
  let arg29 : BitVec 32 := Scf.iv c0_i32_637 c1_i32_639 k0_t48
  let v1738 : BitVec 32 := Scalar.muli c2_i32_1052 arg29
  let v1739 : BitVec 32 := Scalar.addi v1738 c0_i32_1053
  let v1740 : Index := Scalar.indexCast v1739
  let c160_1054 : Index := 160#32
  ![v1740.toNat, 160]
def k0_off765 (k0_t48 : Fin k0_t48_loop.trips) (c0_i32_1056 : BitVec 32) : Fin 2 → Nat :=
  let c2_i32_1055 : BitVec 32 := 2#32
  let c0_i32_637 : BitVec 32 := 0#32
  let c1_i32_639 : BitVec 32 := 1#32
  let arg29 : BitVec 32 := Scf.iv c0_i32_637 c1_i32_639 k0_t48
  let v1745 : BitVec 32 := Scalar.muli c2_i32_1055 arg29
  let v1746 : BitVec 32 := Scalar.addi v1745 c0_i32_1056
  let v1747 : Index := Scalar.indexCast v1746
  let c176_1057 : Index := 176#32
  ![v1747.toNat, 176]
def k0_off766 (k0_t48 : Fin k0_t48_loop.trips) (c0_i32_1059 : BitVec 32) : Fin 2 → Nat :=
  let c2_i32_1058 : BitVec 32 := 2#32
  let c0_i32_637 : BitVec 32 := 0#32
  let c1_i32_639 : BitVec 32 := 1#32
  let arg29 : BitVec 32 := Scf.iv c0_i32_637 c1_i32_639 k0_t48
  let v1752 : BitVec 32 := Scalar.muli c2_i32_1058 arg29
  let v1753 : BitVec 32 := Scalar.addi v1752 c0_i32_1059
  let v1754 : Index := Scalar.indexCast v1753
  let c192_1060 : Index := 192#32
  ![v1754.toNat, 192]
def k0_off767 (k0_t48 : Fin k0_t48_loop.trips) (c0_i32_1062 : BitVec 32) : Fin 2 → Nat :=
  let c2_i32_1061 : BitVec 32 := 2#32
  let c0_i32_637 : BitVec 32 := 0#32
  let c1_i32_639 : BitVec 32 := 1#32
  let arg29 : BitVec 32 := Scf.iv c0_i32_637 c1_i32_639 k0_t48
  let v1759 : BitVec 32 := Scalar.muli c2_i32_1061 arg29
  let v1760 : BitVec 32 := Scalar.addi v1759 c0_i32_1062
  let v1761 : Index := Scalar.indexCast v1760
  let c208_1063 : Index := 208#32
  ![v1761.toNat, 208]
def k0_off768 (k0_t48 : Fin k0_t48_loop.trips) (c0_i32_1065 : BitVec 32) : Fin 2 → Nat :=
  let c2_i32_1064 : BitVec 32 := 2#32
  let c0_i32_637 : BitVec 32 := 0#32
  let c1_i32_639 : BitVec 32 := 1#32
  let arg29 : BitVec 32 := Scf.iv c0_i32_637 c1_i32_639 k0_t48
  let v1766 : BitVec 32 := Scalar.muli c2_i32_1064 arg29
  let v1767 : BitVec 32 := Scalar.addi v1766 c0_i32_1065
  let v1768 : Index := Scalar.indexCast v1767
  let c224_1066 : Index := 224#32
  ![v1768.toNat, 224]
def k0_off769 (k0_t48 : Fin k0_t48_loop.trips) (c0_i32_1068 : BitVec 32) : Fin 2 → Nat :=
  let c2_i32_1067 : BitVec 32 := 2#32
  let c0_i32_637 : BitVec 32 := 0#32
  let c1_i32_639 : BitVec 32 := 1#32
  let arg29 : BitVec 32 := Scf.iv c0_i32_637 c1_i32_639 k0_t48
  let v1773 : BitVec 32 := Scalar.muli c2_i32_1067 arg29
  let v1774 : BitVec 32 := Scalar.addi v1773 c0_i32_1068
  let v1775 : Index := Scalar.indexCast v1774
  let c240_1069 : Index := 240#32
  ![v1775.toNat, 240]
@[reducible] def k0_t49_loop : Scf.Loop 32 :=
  let c0_i32_818 : BitVec 32 := 0#32
  let c32_i32_819 : BitVec 32 := 32#32
  let v1511 : BitVec 32 := Scalar.addi c0_i32_818 c32_i32_819
  let c1_i32_820 : BitVec 32 := 1#32
  ⟨c0_i32_818, v1511, c1_i32_820⟩
def k0_off770 (k0_t49 : Fin k0_t49_loop.trips) (c0_i32_1023 : BitVec 32) : Fin 2 → Nat :=
  let c2_i32_1022 : BitVec 32 := 2#32
  let c0_i32_818 : BitVec 32 := 0#32
  let c1_i32_820 : BitVec 32 := 1#32
  let arg29 : BitVec 32 := Scf.iv c0_i32_818 c1_i32_820 k0_t49
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off771 (k0_t49 : Fin k0_t49_loop.trips) (c0_i32_1029 : BitVec 32) : Fin 2 → Nat :=
  let c2_i32_1028 : BitVec 32 := 2#32
  let c0_i32_818 : BitVec 32 := 0#32
  let c1_i32_820 : BitVec 32 := 1#32
  let arg29 : BitVec 32 := Scf.iv c0_i32_818 c1_i32_820 k0_t49
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off772 (k0_t49 : Fin k0_t49_loop.trips) (c0_i32_1035 : BitVec 32) : Fin 2 → Nat :=
  let c2_i32_1034 : BitVec 32 := 2#32
  let c0_i32_818 : BitVec 32 := 0#32
  let c1_i32_820 : BitVec 32 := 1#32
  let arg29 : BitVec 32 := Scf.iv c0_i32_818 c1_i32_820 k0_t49
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off773 (k0_t49 : Fin k0_t49_loop.trips) (c0_i32_1041 : BitVec 32) : Fin 2 → Nat :=
  let c2_i32_1040 : BitVec 32 := 2#32
  let c0_i32_818 : BitVec 32 := 0#32
  let c1_i32_820 : BitVec 32 := 1#32
  let arg29 : BitVec 32 := Scf.iv c0_i32_818 c1_i32_820 k0_t49
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off774 (k0_t49 : Fin k0_t49_loop.trips) (c0_i32_1047 : BitVec 32) : Fin 2 → Nat :=
  let c2_i32_1046 : BitVec 32 := 2#32
  let c0_i32_818 : BitVec 32 := 0#32
  let c1_i32_820 : BitVec 32 := 1#32
  let arg29 : BitVec 32 := Scf.iv c0_i32_818 c1_i32_820 k0_t49
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off775 (k0_t49 : Fin k0_t49_loop.trips) (c0_i32_1053 : BitVec 32) : Fin 2 → Nat :=
  let c2_i32_1052 : BitVec 32 := 2#32
  let c0_i32_818 : BitVec 32 := 0#32
  let c1_i32_820 : BitVec 32 := 1#32
  let arg29 : BitVec 32 := Scf.iv c0_i32_818 c1_i32_820 k0_t49
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off776 (k0_t49 : Fin k0_t49_loop.trips) (c0_i32_1059 : BitVec 32) : Fin 2 → Nat :=
  let c2_i32_1058 : BitVec 32 := 2#32
  let c0_i32_818 : BitVec 32 := 0#32
  let c1_i32_820 : BitVec 32 := 1#32
  let arg29 : BitVec 32 := Scf.iv c0_i32_818 c1_i32_820 k0_t49
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off777 (k0_t49 : Fin k0_t49_loop.trips) (c0_i32_1065 : BitVec 32) : Fin 2 → Nat :=
  let c2_i32_1064 : BitVec 32 := 2#32
  let c0_i32_818 : BitVec 32 := 0#32
  let c1_i32_820 : BitVec 32 := 1#32
  let arg29 : BitVec 32 := Scf.iv c0_i32_818 c1_i32_820 k0_t49
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off778 (k0_t49 : Fin k0_t49_loop.trips) (c0_i32_1071 : BitVec 32) : Fin 2 → Nat :=
  let c2_i32_1070 : BitVec 32 := 2#32
  let c0_i32_818 : BitVec 32 := 0#32
  let c1_i32_820 : BitVec 32 := 1#32
  let arg29 : BitVec 32 := Scf.iv c0_i32_818 c1_i32_820 k0_t49
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off779 (k0_t49 : Fin k0_t49_loop.trips) (c0_i32_1077 : BitVec 32) : Fin 2 → Nat :=
  let c2_i32_1076 : BitVec 32 := 2#32
  let c0_i32_818 : BitVec 32 := 0#32
  let c1_i32_820 : BitVec 32 := 1#32
  let arg29 : BitVec 32 := Scf.iv c0_i32_818 c1_i32_820 k0_t49
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off780 (k0_t49 : Fin k0_t49_loop.trips) (c0_i32_1083 : BitVec 32) : Fin 2 → Nat :=
  let c2_i32_1082 : BitVec 32 := 2#32
  let c0_i32_818 : BitVec 32 := 0#32
  let c1_i32_820 : BitVec 32 := 1#32
  let arg29 : BitVec 32 := Scf.iv c0_i32_818 c1_i32_820 k0_t49
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off781 (k0_t49 : Fin k0_t49_loop.trips) (c0_i32_1089 : BitVec 32) : Fin 2 → Nat :=
  let c2_i32_1088 : BitVec 32 := 2#32
  let c0_i32_818 : BitVec 32 := 0#32
  let c1_i32_820 : BitVec 32 := 1#32
  let arg29 : BitVec 32 := Scf.iv c0_i32_818 c1_i32_820 k0_t49
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off782 (k0_t49 : Fin k0_t49_loop.trips) (c0_i32_1095 : BitVec 32) : Fin 2 → Nat :=
  let c2_i32_1094 : BitVec 32 := 2#32
  let c0_i32_818 : BitVec 32 := 0#32
  let c1_i32_820 : BitVec 32 := 1#32
  let arg29 : BitVec 32 := Scf.iv c0_i32_818 c1_i32_820 k0_t49
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off783 (k0_t49 : Fin k0_t49_loop.trips) (c0_i32_1101 : BitVec 32) : Fin 2 → Nat :=
  let c2_i32_1100 : BitVec 32 := 2#32
  let c0_i32_818 : BitVec 32 := 0#32
  let c1_i32_820 : BitVec 32 := 1#32
  let arg29 : BitVec 32 := Scf.iv c0_i32_818 c1_i32_820 k0_t49
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off784 (k0_t49 : Fin k0_t49_loop.trips) (c0_i32_1107 : BitVec 32) : Fin 2 → Nat :=
  let c2_i32_1106 : BitVec 32 := 2#32
  let c0_i32_818 : BitVec 32 := 0#32
  let c1_i32_820 : BitVec 32 := 1#32
  let arg29 : BitVec 32 := Scf.iv c0_i32_818 c1_i32_820 k0_t49
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off785 (k0_t49 : Fin k0_t49_loop.trips) (c0_i32_1113 : BitVec 32) : Fin 2 → Nat :=
  let c2_i32_1112 : BitVec 32 := 2#32
  let c0_i32_818 : BitVec 32 := 0#32
  let c1_i32_820 : BitVec 32 := 1#32
  let arg29 : BitVec 32 := Scf.iv c0_i32_818 c1_i32_820 k0_t49
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t50_loop : Scf.Loop 32 :=
  let c0_i32_826 : BitVec 32 := 0#32
  let c32_i32_827 : BitVec 32 := 32#32
  let v1516 : BitVec 32 := Scalar.addi c0_i32_826 c32_i32_827
  let c1_i32_828 : BitVec 32 := 1#32
  ⟨c0_i32_826, v1516, c1_i32_828⟩
def k0_off786 (k0_t50 : Fin k0_t50_loop.trips) (c0_i32_1023 : BitVec 32) : Fin 2 → Nat :=
  let c2_i32_1022 : BitVec 32 := 2#32
  let c0_i32_826 : BitVec 32 := 0#32
  let c1_i32_828 : BitVec 32 := 1#32
  let arg29 : BitVec 32 := Scf.iv c0_i32_826 c1_i32_828 k0_t50
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off787 (k0_t50 : Fin k0_t50_loop.trips) (c0_i32_1029 : BitVec 32) : Fin 2 → Nat :=
  let c2_i32_1028 : BitVec 32 := 2#32
  let c0_i32_826 : BitVec 32 := 0#32
  let c1_i32_828 : BitVec 32 := 1#32
  let arg29 : BitVec 32 := Scf.iv c0_i32_826 c1_i32_828 k0_t50
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off788 (k0_t50 : Fin k0_t50_loop.trips) (c0_i32_1035 : BitVec 32) : Fin 2 → Nat :=
  let c2_i32_1034 : BitVec 32 := 2#32
  let c0_i32_826 : BitVec 32 := 0#32
  let c1_i32_828 : BitVec 32 := 1#32
  let arg29 : BitVec 32 := Scf.iv c0_i32_826 c1_i32_828 k0_t50
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off789 (k0_t50 : Fin k0_t50_loop.trips) (c0_i32_1041 : BitVec 32) : Fin 2 → Nat :=
  let c2_i32_1040 : BitVec 32 := 2#32
  let c0_i32_826 : BitVec 32 := 0#32
  let c1_i32_828 : BitVec 32 := 1#32
  let arg29 : BitVec 32 := Scf.iv c0_i32_826 c1_i32_828 k0_t50
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off790 (k0_t50 : Fin k0_t50_loop.trips) (c0_i32_1047 : BitVec 32) : Fin 2 → Nat :=
  let c2_i32_1046 : BitVec 32 := 2#32
  let c0_i32_826 : BitVec 32 := 0#32
  let c1_i32_828 : BitVec 32 := 1#32
  let arg29 : BitVec 32 := Scf.iv c0_i32_826 c1_i32_828 k0_t50
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off791 (k0_t50 : Fin k0_t50_loop.trips) (c0_i32_1053 : BitVec 32) : Fin 2 → Nat :=
  let c2_i32_1052 : BitVec 32 := 2#32
  let c0_i32_826 : BitVec 32 := 0#32
  let c1_i32_828 : BitVec 32 := 1#32
  let arg29 : BitVec 32 := Scf.iv c0_i32_826 c1_i32_828 k0_t50
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off792 (k0_t50 : Fin k0_t50_loop.trips) (c0_i32_1059 : BitVec 32) : Fin 2 → Nat :=
  let c2_i32_1058 : BitVec 32 := 2#32
  let c0_i32_826 : BitVec 32 := 0#32
  let c1_i32_828 : BitVec 32 := 1#32
  let arg29 : BitVec 32 := Scf.iv c0_i32_826 c1_i32_828 k0_t50
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off793 (k0_t50 : Fin k0_t50_loop.trips) (c0_i32_1065 : BitVec 32) : Fin 2 → Nat :=
  let c2_i32_1064 : BitVec 32 := 2#32
  let c0_i32_826 : BitVec 32 := 0#32
  let c1_i32_828 : BitVec 32 := 1#32
  let arg29 : BitVec 32 := Scf.iv c0_i32_826 c1_i32_828 k0_t50
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off794 (k0_t50 : Fin k0_t50_loop.trips) (c0_i32_1071 : BitVec 32) : Fin 2 → Nat :=
  let c2_i32_1070 : BitVec 32 := 2#32
  let c0_i32_826 : BitVec 32 := 0#32
  let c1_i32_828 : BitVec 32 := 1#32
  let arg29 : BitVec 32 := Scf.iv c0_i32_826 c1_i32_828 k0_t50
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off795 (k0_t50 : Fin k0_t50_loop.trips) (c0_i32_1077 : BitVec 32) : Fin 2 → Nat :=
  let c2_i32_1076 : BitVec 32 := 2#32
  let c0_i32_826 : BitVec 32 := 0#32
  let c1_i32_828 : BitVec 32 := 1#32
  let arg29 : BitVec 32 := Scf.iv c0_i32_826 c1_i32_828 k0_t50
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off796 (k0_t50 : Fin k0_t50_loop.trips) (c0_i32_1083 : BitVec 32) : Fin 2 → Nat :=
  let c2_i32_1082 : BitVec 32 := 2#32
  let c0_i32_826 : BitVec 32 := 0#32
  let c1_i32_828 : BitVec 32 := 1#32
  let arg29 : BitVec 32 := Scf.iv c0_i32_826 c1_i32_828 k0_t50
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off797 (k0_t50 : Fin k0_t50_loop.trips) (c0_i32_1089 : BitVec 32) : Fin 2 → Nat :=
  let c2_i32_1088 : BitVec 32 := 2#32
  let c0_i32_826 : BitVec 32 := 0#32
  let c1_i32_828 : BitVec 32 := 1#32
  let arg29 : BitVec 32 := Scf.iv c0_i32_826 c1_i32_828 k0_t50
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off798 (k0_t50 : Fin k0_t50_loop.trips) (c0_i32_1095 : BitVec 32) : Fin 2 → Nat :=
  let c2_i32_1094 : BitVec 32 := 2#32
  let c0_i32_826 : BitVec 32 := 0#32
  let c1_i32_828 : BitVec 32 := 1#32
  let arg29 : BitVec 32 := Scf.iv c0_i32_826 c1_i32_828 k0_t50
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off799 (k0_t50 : Fin k0_t50_loop.trips) (c0_i32_1101 : BitVec 32) : Fin 2 → Nat :=
  let c2_i32_1100 : BitVec 32 := 2#32
  let c0_i32_826 : BitVec 32 := 0#32
  let c1_i32_828 : BitVec 32 := 1#32
  let arg29 : BitVec 32 := Scf.iv c0_i32_826 c1_i32_828 k0_t50
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off800 (k0_t50 : Fin k0_t50_loop.trips) (c0_i32_1107 : BitVec 32) : Fin 2 → Nat :=
  let c2_i32_1106 : BitVec 32 := 2#32
  let c0_i32_826 : BitVec 32 := 0#32
  let c1_i32_828 : BitVec 32 := 1#32
  let arg29 : BitVec 32 := Scf.iv c0_i32_826 c1_i32_828 k0_t50
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off801 (k0_t50 : Fin k0_t50_loop.trips) (c0_i32_1113 : BitVec 32) : Fin 2 → Nat :=
  let c2_i32_1112 : BitVec 32 := 2#32
  let c0_i32_826 : BitVec 32 := 0#32
  let c1_i32_828 : BitVec 32 := 1#32
  let arg29 : BitVec 32 := Scf.iv c0_i32_826 c1_i32_828 k0_t50
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t51_loop : Scf.Loop 32 :=
  let c0_i32_834 : BitVec 32 := 0#32
  let c32_i32_835 : BitVec 32 := 32#32
  let v1521 : BitVec 32 := Scalar.addi c0_i32_834 c32_i32_835
  let c1_i32_836 : BitVec 32 := 1#32
  ⟨c0_i32_834, v1521, c1_i32_836⟩
def k0_off802 (k0_t51 : Fin k0_t51_loop.trips) (c0_i32_1023 : BitVec 32) : Fin 2 → Nat :=
  let c2_i32_1022 : BitVec 32 := 2#32
  let c0_i32_834 : BitVec 32 := 0#32
  let c1_i32_836 : BitVec 32 := 1#32
  let arg29 : BitVec 32 := Scf.iv c0_i32_834 c1_i32_836 k0_t51
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off803 (k0_t51 : Fin k0_t51_loop.trips) (c0_i32_1029 : BitVec 32) : Fin 2 → Nat :=
  let c2_i32_1028 : BitVec 32 := 2#32
  let c0_i32_834 : BitVec 32 := 0#32
  let c1_i32_836 : BitVec 32 := 1#32
  let arg29 : BitVec 32 := Scf.iv c0_i32_834 c1_i32_836 k0_t51
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off804 (k0_t51 : Fin k0_t51_loop.trips) (c0_i32_1035 : BitVec 32) : Fin 2 → Nat :=
  let c2_i32_1034 : BitVec 32 := 2#32
  let c0_i32_834 : BitVec 32 := 0#32
  let c1_i32_836 : BitVec 32 := 1#32
  let arg29 : BitVec 32 := Scf.iv c0_i32_834 c1_i32_836 k0_t51
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off805 (k0_t51 : Fin k0_t51_loop.trips) (c0_i32_1041 : BitVec 32) : Fin 2 → Nat :=
  let c2_i32_1040 : BitVec 32 := 2#32
  let c0_i32_834 : BitVec 32 := 0#32
  let c1_i32_836 : BitVec 32 := 1#32
  let arg29 : BitVec 32 := Scf.iv c0_i32_834 c1_i32_836 k0_t51
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off806 (k0_t51 : Fin k0_t51_loop.trips) (c0_i32_1047 : BitVec 32) : Fin 2 → Nat :=
  let c2_i32_1046 : BitVec 32 := 2#32
  let c0_i32_834 : BitVec 32 := 0#32
  let c1_i32_836 : BitVec 32 := 1#32
  let arg29 : BitVec 32 := Scf.iv c0_i32_834 c1_i32_836 k0_t51
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off807 (k0_t51 : Fin k0_t51_loop.trips) (c0_i32_1053 : BitVec 32) : Fin 2 → Nat :=
  let c2_i32_1052 : BitVec 32 := 2#32
  let c0_i32_834 : BitVec 32 := 0#32
  let c1_i32_836 : BitVec 32 := 1#32
  let arg29 : BitVec 32 := Scf.iv c0_i32_834 c1_i32_836 k0_t51
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off808 (k0_t51 : Fin k0_t51_loop.trips) (c0_i32_1059 : BitVec 32) : Fin 2 → Nat :=
  let c2_i32_1058 : BitVec 32 := 2#32
  let c0_i32_834 : BitVec 32 := 0#32
  let c1_i32_836 : BitVec 32 := 1#32
  let arg29 : BitVec 32 := Scf.iv c0_i32_834 c1_i32_836 k0_t51
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off809 (k0_t51 : Fin k0_t51_loop.trips) (c0_i32_1065 : BitVec 32) : Fin 2 → Nat :=
  let c2_i32_1064 : BitVec 32 := 2#32
  let c0_i32_834 : BitVec 32 := 0#32
  let c1_i32_836 : BitVec 32 := 1#32
  let arg29 : BitVec 32 := Scf.iv c0_i32_834 c1_i32_836 k0_t51
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off810 (k0_t51 : Fin k0_t51_loop.trips) (c0_i32_1071 : BitVec 32) : Fin 2 → Nat :=
  let c2_i32_1070 : BitVec 32 := 2#32
  let c0_i32_834 : BitVec 32 := 0#32
  let c1_i32_836 : BitVec 32 := 1#32
  let arg29 : BitVec 32 := Scf.iv c0_i32_834 c1_i32_836 k0_t51
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off811 (k0_t51 : Fin k0_t51_loop.trips) (c0_i32_1077 : BitVec 32) : Fin 2 → Nat :=
  let c2_i32_1076 : BitVec 32 := 2#32
  let c0_i32_834 : BitVec 32 := 0#32
  let c1_i32_836 : BitVec 32 := 1#32
  let arg29 : BitVec 32 := Scf.iv c0_i32_834 c1_i32_836 k0_t51
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off812 (k0_t51 : Fin k0_t51_loop.trips) (c0_i32_1083 : BitVec 32) : Fin 2 → Nat :=
  let c2_i32_1082 : BitVec 32 := 2#32
  let c0_i32_834 : BitVec 32 := 0#32
  let c1_i32_836 : BitVec 32 := 1#32
  let arg29 : BitVec 32 := Scf.iv c0_i32_834 c1_i32_836 k0_t51
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off813 (k0_t51 : Fin k0_t51_loop.trips) (c0_i32_1089 : BitVec 32) : Fin 2 → Nat :=
  let c2_i32_1088 : BitVec 32 := 2#32
  let c0_i32_834 : BitVec 32 := 0#32
  let c1_i32_836 : BitVec 32 := 1#32
  let arg29 : BitVec 32 := Scf.iv c0_i32_834 c1_i32_836 k0_t51
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off814 (k0_t51 : Fin k0_t51_loop.trips) (c0_i32_1095 : BitVec 32) : Fin 2 → Nat :=
  let c2_i32_1094 : BitVec 32 := 2#32
  let c0_i32_834 : BitVec 32 := 0#32
  let c1_i32_836 : BitVec 32 := 1#32
  let arg29 : BitVec 32 := Scf.iv c0_i32_834 c1_i32_836 k0_t51
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off815 (k0_t51 : Fin k0_t51_loop.trips) (c0_i32_1101 : BitVec 32) : Fin 2 → Nat :=
  let c2_i32_1100 : BitVec 32 := 2#32
  let c0_i32_834 : BitVec 32 := 0#32
  let c1_i32_836 : BitVec 32 := 1#32
  let arg29 : BitVec 32 := Scf.iv c0_i32_834 c1_i32_836 k0_t51
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off816 (k0_t51 : Fin k0_t51_loop.trips) (c0_i32_1107 : BitVec 32) : Fin 2 → Nat :=
  let c2_i32_1106 : BitVec 32 := 2#32
  let c0_i32_834 : BitVec 32 := 0#32
  let c1_i32_836 : BitVec 32 := 1#32
  let arg29 : BitVec 32 := Scf.iv c0_i32_834 c1_i32_836 k0_t51
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off817 (k0_t51 : Fin k0_t51_loop.trips) (c0_i32_1113 : BitVec 32) : Fin 2 → Nat :=
  let c2_i32_1112 : BitVec 32 := 2#32
  let c0_i32_834 : BitVec 32 := 0#32
  let c1_i32_836 : BitVec 32 := 1#32
  let arg29 : BitVec 32 := Scf.iv c0_i32_834 c1_i32_836 k0_t51
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t52_loop : Scf.Loop 32 :=
  let c0_i32_842 : BitVec 32 := 0#32
  let c32_i32_843 : BitVec 32 := 32#32
  let v1526 : BitVec 32 := Scalar.addi c0_i32_842 c32_i32_843
  let c1_i32_844 : BitVec 32 := 1#32
  ⟨c0_i32_842, v1526, c1_i32_844⟩
def k0_off818 (k0_t52 : Fin k0_t52_loop.trips) (c0_i32_1023 : BitVec 32) : Fin 2 → Nat :=
  let c2_i32_1022 : BitVec 32 := 2#32
  let c0_i32_842 : BitVec 32 := 0#32
  let c1_i32_844 : BitVec 32 := 1#32
  let arg29 : BitVec 32 := Scf.iv c0_i32_842 c1_i32_844 k0_t52
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off819 (k0_t52 : Fin k0_t52_loop.trips) (c0_i32_1029 : BitVec 32) : Fin 2 → Nat :=
  let c2_i32_1028 : BitVec 32 := 2#32
  let c0_i32_842 : BitVec 32 := 0#32
  let c1_i32_844 : BitVec 32 := 1#32
  let arg29 : BitVec 32 := Scf.iv c0_i32_842 c1_i32_844 k0_t52
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off820 (k0_t52 : Fin k0_t52_loop.trips) (c0_i32_1035 : BitVec 32) : Fin 2 → Nat :=
  let c2_i32_1034 : BitVec 32 := 2#32
  let c0_i32_842 : BitVec 32 := 0#32
  let c1_i32_844 : BitVec 32 := 1#32
  let arg29 : BitVec 32 := Scf.iv c0_i32_842 c1_i32_844 k0_t52
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off821 (k0_t52 : Fin k0_t52_loop.trips) (c0_i32_1041 : BitVec 32) : Fin 2 → Nat :=
  let c2_i32_1040 : BitVec 32 := 2#32
  let c0_i32_842 : BitVec 32 := 0#32
  let c1_i32_844 : BitVec 32 := 1#32
  let arg29 : BitVec 32 := Scf.iv c0_i32_842 c1_i32_844 k0_t52
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off822 (k0_t52 : Fin k0_t52_loop.trips) (c0_i32_1047 : BitVec 32) : Fin 2 → Nat :=
  let c2_i32_1046 : BitVec 32 := 2#32
  let c0_i32_842 : BitVec 32 := 0#32
  let c1_i32_844 : BitVec 32 := 1#32
  let arg29 : BitVec 32 := Scf.iv c0_i32_842 c1_i32_844 k0_t52
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off823 (k0_t52 : Fin k0_t52_loop.trips) (c0_i32_1053 : BitVec 32) : Fin 2 → Nat :=
  let c2_i32_1052 : BitVec 32 := 2#32
  let c0_i32_842 : BitVec 32 := 0#32
  let c1_i32_844 : BitVec 32 := 1#32
  let arg29 : BitVec 32 := Scf.iv c0_i32_842 c1_i32_844 k0_t52
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off824 (k0_t52 : Fin k0_t52_loop.trips) (c0_i32_1059 : BitVec 32) : Fin 2 → Nat :=
  let c2_i32_1058 : BitVec 32 := 2#32
  let c0_i32_842 : BitVec 32 := 0#32
  let c1_i32_844 : BitVec 32 := 1#32
  let arg29 : BitVec 32 := Scf.iv c0_i32_842 c1_i32_844 k0_t52
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off825 (k0_t52 : Fin k0_t52_loop.trips) (c0_i32_1065 : BitVec 32) : Fin 2 → Nat :=
  let c2_i32_1064 : BitVec 32 := 2#32
  let c0_i32_842 : BitVec 32 := 0#32
  let c1_i32_844 : BitVec 32 := 1#32
  let arg29 : BitVec 32 := Scf.iv c0_i32_842 c1_i32_844 k0_t52
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off826 (k0_t52 : Fin k0_t52_loop.trips) (c0_i32_1071 : BitVec 32) : Fin 2 → Nat :=
  let c2_i32_1070 : BitVec 32 := 2#32
  let c0_i32_842 : BitVec 32 := 0#32
  let c1_i32_844 : BitVec 32 := 1#32
  let arg29 : BitVec 32 := Scf.iv c0_i32_842 c1_i32_844 k0_t52
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off827 (k0_t52 : Fin k0_t52_loop.trips) (c0_i32_1077 : BitVec 32) : Fin 2 → Nat :=
  let c2_i32_1076 : BitVec 32 := 2#32
  let c0_i32_842 : BitVec 32 := 0#32
  let c1_i32_844 : BitVec 32 := 1#32
  let arg29 : BitVec 32 := Scf.iv c0_i32_842 c1_i32_844 k0_t52
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off828 (k0_t52 : Fin k0_t52_loop.trips) (c0_i32_1083 : BitVec 32) : Fin 2 → Nat :=
  let c2_i32_1082 : BitVec 32 := 2#32
  let c0_i32_842 : BitVec 32 := 0#32
  let c1_i32_844 : BitVec 32 := 1#32
  let arg29 : BitVec 32 := Scf.iv c0_i32_842 c1_i32_844 k0_t52
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off829 (k0_t52 : Fin k0_t52_loop.trips) (c0_i32_1089 : BitVec 32) : Fin 2 → Nat :=
  let c2_i32_1088 : BitVec 32 := 2#32
  let c0_i32_842 : BitVec 32 := 0#32
  let c1_i32_844 : BitVec 32 := 1#32
  let arg29 : BitVec 32 := Scf.iv c0_i32_842 c1_i32_844 k0_t52
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off830 (k0_t52 : Fin k0_t52_loop.trips) (c0_i32_1095 : BitVec 32) : Fin 2 → Nat :=
  let c2_i32_1094 : BitVec 32 := 2#32
  let c0_i32_842 : BitVec 32 := 0#32
  let c1_i32_844 : BitVec 32 := 1#32
  let arg29 : BitVec 32 := Scf.iv c0_i32_842 c1_i32_844 k0_t52
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off831 (k0_t52 : Fin k0_t52_loop.trips) (c0_i32_1101 : BitVec 32) : Fin 2 → Nat :=
  let c2_i32_1100 : BitVec 32 := 2#32
  let c0_i32_842 : BitVec 32 := 0#32
  let c1_i32_844 : BitVec 32 := 1#32
  let arg29 : BitVec 32 := Scf.iv c0_i32_842 c1_i32_844 k0_t52
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off832 (k0_t52 : Fin k0_t52_loop.trips) (c0_i32_1107 : BitVec 32) : Fin 2 → Nat :=
  let c2_i32_1106 : BitVec 32 := 2#32
  let c0_i32_842 : BitVec 32 := 0#32
  let c1_i32_844 : BitVec 32 := 1#32
  let arg29 : BitVec 32 := Scf.iv c0_i32_842 c1_i32_844 k0_t52
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off833 (k0_t52 : Fin k0_t52_loop.trips) (c0_i32_1113 : BitVec 32) : Fin 2 → Nat :=
  let c2_i32_1112 : BitVec 32 := 2#32
  let c0_i32_842 : BitVec 32 := 0#32
  let c1_i32_844 : BitVec 32 := 1#32
  let arg29 : BitVec 32 := Scf.iv c0_i32_842 c1_i32_844 k0_t52
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t53_loop : Scf.Loop 32 :=
  let c0_i32_855 : BitVec 32 := 0#32
  let c32_i32_856 : BitVec 32 := 32#32
  let v1536 : BitVec 32 := Scalar.addi c0_i32_855 c32_i32_856
  let c1_i32_857 : BitVec 32 := 1#32
  ⟨c0_i32_855, v1536, c1_i32_857⟩
def k0_off834 (k0_t53 : Fin k0_t53_loop.trips) (c0_i32_1023 : BitVec 32) : Fin 2 → Nat :=
  let c2_i32_1022 : BitVec 32 := 2#32
  let c0_i32_855 : BitVec 32 := 0#32
  let c1_i32_857 : BitVec 32 := 1#32
  let arg29 : BitVec 32 := Scf.iv c0_i32_855 c1_i32_857 k0_t53
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off835 (k0_t53 : Fin k0_t53_loop.trips) (c0_i32_1029 : BitVec 32) : Fin 2 → Nat :=
  let c2_i32_1028 : BitVec 32 := 2#32
  let c0_i32_855 : BitVec 32 := 0#32
  let c1_i32_857 : BitVec 32 := 1#32
  let arg29 : BitVec 32 := Scf.iv c0_i32_855 c1_i32_857 k0_t53
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off836 (k0_t53 : Fin k0_t53_loop.trips) (c0_i32_1035 : BitVec 32) : Fin 2 → Nat :=
  let c2_i32_1034 : BitVec 32 := 2#32
  let c0_i32_855 : BitVec 32 := 0#32
  let c1_i32_857 : BitVec 32 := 1#32
  let arg29 : BitVec 32 := Scf.iv c0_i32_855 c1_i32_857 k0_t53
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off837 (k0_t53 : Fin k0_t53_loop.trips) (c0_i32_1041 : BitVec 32) : Fin 2 → Nat :=
  let c2_i32_1040 : BitVec 32 := 2#32
  let c0_i32_855 : BitVec 32 := 0#32
  let c1_i32_857 : BitVec 32 := 1#32
  let arg29 : BitVec 32 := Scf.iv c0_i32_855 c1_i32_857 k0_t53
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off838 (k0_t53 : Fin k0_t53_loop.trips) (c0_i32_1047 : BitVec 32) : Fin 2 → Nat :=
  let c2_i32_1046 : BitVec 32 := 2#32
  let c0_i32_855 : BitVec 32 := 0#32
  let c1_i32_857 : BitVec 32 := 1#32
  let arg29 : BitVec 32 := Scf.iv c0_i32_855 c1_i32_857 k0_t53
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off839 (k0_t53 : Fin k0_t53_loop.trips) (c0_i32_1053 : BitVec 32) : Fin 2 → Nat :=
  let c2_i32_1052 : BitVec 32 := 2#32
  let c0_i32_855 : BitVec 32 := 0#32
  let c1_i32_857 : BitVec 32 := 1#32
  let arg29 : BitVec 32 := Scf.iv c0_i32_855 c1_i32_857 k0_t53
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off840 (k0_t53 : Fin k0_t53_loop.trips) (c0_i32_1059 : BitVec 32) : Fin 2 → Nat :=
  let c2_i32_1058 : BitVec 32 := 2#32
  let c0_i32_855 : BitVec 32 := 0#32
  let c1_i32_857 : BitVec 32 := 1#32
  let arg29 : BitVec 32 := Scf.iv c0_i32_855 c1_i32_857 k0_t53
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off841 (k0_t53 : Fin k0_t53_loop.trips) (c0_i32_1065 : BitVec 32) : Fin 2 → Nat :=
  let c2_i32_1064 : BitVec 32 := 2#32
  let c0_i32_855 : BitVec 32 := 0#32
  let c1_i32_857 : BitVec 32 := 1#32
  let arg29 : BitVec 32 := Scf.iv c0_i32_855 c1_i32_857 k0_t53
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off842 (k0_t53 : Fin k0_t53_loop.trips) (c0_i32_1071 : BitVec 32) : Fin 2 → Nat :=
  let c2_i32_1070 : BitVec 32 := 2#32
  let c0_i32_855 : BitVec 32 := 0#32
  let c1_i32_857 : BitVec 32 := 1#32
  let arg29 : BitVec 32 := Scf.iv c0_i32_855 c1_i32_857 k0_t53
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off843 (k0_t53 : Fin k0_t53_loop.trips) (c0_i32_1077 : BitVec 32) : Fin 2 → Nat :=
  let c2_i32_1076 : BitVec 32 := 2#32
  let c0_i32_855 : BitVec 32 := 0#32
  let c1_i32_857 : BitVec 32 := 1#32
  let arg29 : BitVec 32 := Scf.iv c0_i32_855 c1_i32_857 k0_t53
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off844 (k0_t53 : Fin k0_t53_loop.trips) (c0_i32_1083 : BitVec 32) : Fin 2 → Nat :=
  let c2_i32_1082 : BitVec 32 := 2#32
  let c0_i32_855 : BitVec 32 := 0#32
  let c1_i32_857 : BitVec 32 := 1#32
  let arg29 : BitVec 32 := Scf.iv c0_i32_855 c1_i32_857 k0_t53
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off845 (k0_t53 : Fin k0_t53_loop.trips) (c0_i32_1089 : BitVec 32) : Fin 2 → Nat :=
  let c2_i32_1088 : BitVec 32 := 2#32
  let c0_i32_855 : BitVec 32 := 0#32
  let c1_i32_857 : BitVec 32 := 1#32
  let arg29 : BitVec 32 := Scf.iv c0_i32_855 c1_i32_857 k0_t53
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off846 (k0_t53 : Fin k0_t53_loop.trips) (c0_i32_1095 : BitVec 32) : Fin 2 → Nat :=
  let c2_i32_1094 : BitVec 32 := 2#32
  let c0_i32_855 : BitVec 32 := 0#32
  let c1_i32_857 : BitVec 32 := 1#32
  let arg29 : BitVec 32 := Scf.iv c0_i32_855 c1_i32_857 k0_t53
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off847 (k0_t53 : Fin k0_t53_loop.trips) (c0_i32_1101 : BitVec 32) : Fin 2 → Nat :=
  let c2_i32_1100 : BitVec 32 := 2#32
  let c0_i32_855 : BitVec 32 := 0#32
  let c1_i32_857 : BitVec 32 := 1#32
  let arg29 : BitVec 32 := Scf.iv c0_i32_855 c1_i32_857 k0_t53
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off848 (k0_t53 : Fin k0_t53_loop.trips) (c0_i32_1107 : BitVec 32) : Fin 2 → Nat :=
  let c2_i32_1106 : BitVec 32 := 2#32
  let c0_i32_855 : BitVec 32 := 0#32
  let c1_i32_857 : BitVec 32 := 1#32
  let arg29 : BitVec 32 := Scf.iv c0_i32_855 c1_i32_857 k0_t53
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off849 (k0_t53 : Fin k0_t53_loop.trips) (c0_i32_1113 : BitVec 32) : Fin 2 → Nat :=
  let c2_i32_1112 : BitVec 32 := 2#32
  let c0_i32_855 : BitVec 32 := 0#32
  let c1_i32_857 : BitVec 32 := 1#32
  let arg29 : BitVec 32 := Scf.iv c0_i32_855 c1_i32_857 k0_t53
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t54_loop : Scf.Loop 32 :=
  let c0_i32_868 : BitVec 32 := 0#32
  let c32_i32_869 : BitVec 32 := 32#32
  let v1546 : BitVec 32 := Scalar.addi c0_i32_868 c32_i32_869
  let c1_i32_870 : BitVec 32 := 1#32
  ⟨c0_i32_868, v1546, c1_i32_870⟩
def k0_off850 (k0_t54 : Fin k0_t54_loop.trips) (c0_i32_1023 : BitVec 32) : Fin 2 → Nat :=
  let c2_i32_1022 : BitVec 32 := 2#32
  let c0_i32_868 : BitVec 32 := 0#32
  let c1_i32_870 : BitVec 32 := 1#32
  let arg29 : BitVec 32 := Scf.iv c0_i32_868 c1_i32_870 k0_t54
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off851 (k0_t54 : Fin k0_t54_loop.trips) (c0_i32_1029 : BitVec 32) : Fin 2 → Nat :=
  let c2_i32_1028 : BitVec 32 := 2#32
  let c0_i32_868 : BitVec 32 := 0#32
  let c1_i32_870 : BitVec 32 := 1#32
  let arg29 : BitVec 32 := Scf.iv c0_i32_868 c1_i32_870 k0_t54
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off852 (k0_t54 : Fin k0_t54_loop.trips) (c0_i32_1035 : BitVec 32) : Fin 2 → Nat :=
  let c2_i32_1034 : BitVec 32 := 2#32
  let c0_i32_868 : BitVec 32 := 0#32
  let c1_i32_870 : BitVec 32 := 1#32
  let arg29 : BitVec 32 := Scf.iv c0_i32_868 c1_i32_870 k0_t54
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off853 (k0_t54 : Fin k0_t54_loop.trips) (c0_i32_1041 : BitVec 32) : Fin 2 → Nat :=
  let c2_i32_1040 : BitVec 32 := 2#32
  let c0_i32_868 : BitVec 32 := 0#32
  let c1_i32_870 : BitVec 32 := 1#32
  let arg29 : BitVec 32 := Scf.iv c0_i32_868 c1_i32_870 k0_t54
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off854 (k0_t54 : Fin k0_t54_loop.trips) (c0_i32_1047 : BitVec 32) : Fin 2 → Nat :=
  let c2_i32_1046 : BitVec 32 := 2#32
  let c0_i32_868 : BitVec 32 := 0#32
  let c1_i32_870 : BitVec 32 := 1#32
  let arg29 : BitVec 32 := Scf.iv c0_i32_868 c1_i32_870 k0_t54
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off855 (k0_t54 : Fin k0_t54_loop.trips) (c0_i32_1053 : BitVec 32) : Fin 2 → Nat :=
  let c2_i32_1052 : BitVec 32 := 2#32
  let c0_i32_868 : BitVec 32 := 0#32
  let c1_i32_870 : BitVec 32 := 1#32
  let arg29 : BitVec 32 := Scf.iv c0_i32_868 c1_i32_870 k0_t54
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off856 (k0_t54 : Fin k0_t54_loop.trips) (c0_i32_1059 : BitVec 32) : Fin 2 → Nat :=
  let c2_i32_1058 : BitVec 32 := 2#32
  let c0_i32_868 : BitVec 32 := 0#32
  let c1_i32_870 : BitVec 32 := 1#32
  let arg29 : BitVec 32 := Scf.iv c0_i32_868 c1_i32_870 k0_t54
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off857 (k0_t54 : Fin k0_t54_loop.trips) (c0_i32_1065 : BitVec 32) : Fin 2 → Nat :=
  let c2_i32_1064 : BitVec 32 := 2#32
  let c0_i32_868 : BitVec 32 := 0#32
  let c1_i32_870 : BitVec 32 := 1#32
  let arg29 : BitVec 32 := Scf.iv c0_i32_868 c1_i32_870 k0_t54
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off858 (k0_t54 : Fin k0_t54_loop.trips) (c0_i32_1071 : BitVec 32) : Fin 2 → Nat :=
  let c2_i32_1070 : BitVec 32 := 2#32
  let c0_i32_868 : BitVec 32 := 0#32
  let c1_i32_870 : BitVec 32 := 1#32
  let arg29 : BitVec 32 := Scf.iv c0_i32_868 c1_i32_870 k0_t54
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off859 (k0_t54 : Fin k0_t54_loop.trips) (c0_i32_1077 : BitVec 32) : Fin 2 → Nat :=
  let c2_i32_1076 : BitVec 32 := 2#32
  let c0_i32_868 : BitVec 32 := 0#32
  let c1_i32_870 : BitVec 32 := 1#32
  let arg29 : BitVec 32 := Scf.iv c0_i32_868 c1_i32_870 k0_t54
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off860 (k0_t54 : Fin k0_t54_loop.trips) (c0_i32_1083 : BitVec 32) : Fin 2 → Nat :=
  let c2_i32_1082 : BitVec 32 := 2#32
  let c0_i32_868 : BitVec 32 := 0#32
  let c1_i32_870 : BitVec 32 := 1#32
  let arg29 : BitVec 32 := Scf.iv c0_i32_868 c1_i32_870 k0_t54
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off861 (k0_t54 : Fin k0_t54_loop.trips) (c0_i32_1089 : BitVec 32) : Fin 2 → Nat :=
  let c2_i32_1088 : BitVec 32 := 2#32
  let c0_i32_868 : BitVec 32 := 0#32
  let c1_i32_870 : BitVec 32 := 1#32
  let arg29 : BitVec 32 := Scf.iv c0_i32_868 c1_i32_870 k0_t54
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off862 (k0_t54 : Fin k0_t54_loop.trips) (c0_i32_1095 : BitVec 32) : Fin 2 → Nat :=
  let c2_i32_1094 : BitVec 32 := 2#32
  let c0_i32_868 : BitVec 32 := 0#32
  let c1_i32_870 : BitVec 32 := 1#32
  let arg29 : BitVec 32 := Scf.iv c0_i32_868 c1_i32_870 k0_t54
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off863 (k0_t54 : Fin k0_t54_loop.trips) (c0_i32_1101 : BitVec 32) : Fin 2 → Nat :=
  let c2_i32_1100 : BitVec 32 := 2#32
  let c0_i32_868 : BitVec 32 := 0#32
  let c1_i32_870 : BitVec 32 := 1#32
  let arg29 : BitVec 32 := Scf.iv c0_i32_868 c1_i32_870 k0_t54
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off864 (k0_t54 : Fin k0_t54_loop.trips) (c0_i32_1107 : BitVec 32) : Fin 2 → Nat :=
  let c2_i32_1106 : BitVec 32 := 2#32
  let c0_i32_868 : BitVec 32 := 0#32
  let c1_i32_870 : BitVec 32 := 1#32
  let arg29 : BitVec 32 := Scf.iv c0_i32_868 c1_i32_870 k0_t54
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off865 (k0_t54 : Fin k0_t54_loop.trips) (c0_i32_1113 : BitVec 32) : Fin 2 → Nat :=
  let c2_i32_1112 : BitVec 32 := 2#32
  let c0_i32_868 : BitVec 32 := 0#32
  let c1_i32_870 : BitVec 32 := 1#32
  let arg29 : BitVec 32 := Scf.iv c0_i32_868 c1_i32_870 k0_t54
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t55_loop : Scf.Loop 32 :=
  let c0_i32_881 : BitVec 32 := 0#32
  let c32_i32_882 : BitVec 32 := 32#32
  let v1556 : BitVec 32 := Scalar.addi c0_i32_881 c32_i32_882
  let c1_i32_883 : BitVec 32 := 1#32
  ⟨c0_i32_881, v1556, c1_i32_883⟩
def k0_off866 (k0_t55 : Fin k0_t55_loop.trips) (c0_i32_1023 : BitVec 32) : Fin 2 → Nat :=
  let c2_i32_1022 : BitVec 32 := 2#32
  let c0_i32_881 : BitVec 32 := 0#32
  let c1_i32_883 : BitVec 32 := 1#32
  let arg29 : BitVec 32 := Scf.iv c0_i32_881 c1_i32_883 k0_t55
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off867 (k0_t55 : Fin k0_t55_loop.trips) (c0_i32_1029 : BitVec 32) : Fin 2 → Nat :=
  let c2_i32_1028 : BitVec 32 := 2#32
  let c0_i32_881 : BitVec 32 := 0#32
  let c1_i32_883 : BitVec 32 := 1#32
  let arg29 : BitVec 32 := Scf.iv c0_i32_881 c1_i32_883 k0_t55
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off868 (k0_t55 : Fin k0_t55_loop.trips) (c0_i32_1035 : BitVec 32) : Fin 2 → Nat :=
  let c2_i32_1034 : BitVec 32 := 2#32
  let c0_i32_881 : BitVec 32 := 0#32
  let c1_i32_883 : BitVec 32 := 1#32
  let arg29 : BitVec 32 := Scf.iv c0_i32_881 c1_i32_883 k0_t55
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off869 (k0_t55 : Fin k0_t55_loop.trips) (c0_i32_1041 : BitVec 32) : Fin 2 → Nat :=
  let c2_i32_1040 : BitVec 32 := 2#32
  let c0_i32_881 : BitVec 32 := 0#32
  let c1_i32_883 : BitVec 32 := 1#32
  let arg29 : BitVec 32 := Scf.iv c0_i32_881 c1_i32_883 k0_t55
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off870 (k0_t55 : Fin k0_t55_loop.trips) (c0_i32_1047 : BitVec 32) : Fin 2 → Nat :=
  let c2_i32_1046 : BitVec 32 := 2#32
  let c0_i32_881 : BitVec 32 := 0#32
  let c1_i32_883 : BitVec 32 := 1#32
  let arg29 : BitVec 32 := Scf.iv c0_i32_881 c1_i32_883 k0_t55
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off871 (k0_t55 : Fin k0_t55_loop.trips) (c0_i32_1053 : BitVec 32) : Fin 2 → Nat :=
  let c2_i32_1052 : BitVec 32 := 2#32
  let c0_i32_881 : BitVec 32 := 0#32
  let c1_i32_883 : BitVec 32 := 1#32
  let arg29 : BitVec 32 := Scf.iv c0_i32_881 c1_i32_883 k0_t55
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off872 (k0_t55 : Fin k0_t55_loop.trips) (c0_i32_1059 : BitVec 32) : Fin 2 → Nat :=
  let c2_i32_1058 : BitVec 32 := 2#32
  let c0_i32_881 : BitVec 32 := 0#32
  let c1_i32_883 : BitVec 32 := 1#32
  let arg29 : BitVec 32 := Scf.iv c0_i32_881 c1_i32_883 k0_t55
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off873 (k0_t55 : Fin k0_t55_loop.trips) (c0_i32_1065 : BitVec 32) : Fin 2 → Nat :=
  let c2_i32_1064 : BitVec 32 := 2#32
  let c0_i32_881 : BitVec 32 := 0#32
  let c1_i32_883 : BitVec 32 := 1#32
  let arg29 : BitVec 32 := Scf.iv c0_i32_881 c1_i32_883 k0_t55
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off874 (k0_t55 : Fin k0_t55_loop.trips) (c0_i32_1071 : BitVec 32) : Fin 2 → Nat :=
  let c2_i32_1070 : BitVec 32 := 2#32
  let c0_i32_881 : BitVec 32 := 0#32
  let c1_i32_883 : BitVec 32 := 1#32
  let arg29 : BitVec 32 := Scf.iv c0_i32_881 c1_i32_883 k0_t55
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off875 (k0_t55 : Fin k0_t55_loop.trips) (c0_i32_1077 : BitVec 32) : Fin 2 → Nat :=
  let c2_i32_1076 : BitVec 32 := 2#32
  let c0_i32_881 : BitVec 32 := 0#32
  let c1_i32_883 : BitVec 32 := 1#32
  let arg29 : BitVec 32 := Scf.iv c0_i32_881 c1_i32_883 k0_t55
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off876 (k0_t55 : Fin k0_t55_loop.trips) (c0_i32_1083 : BitVec 32) : Fin 2 → Nat :=
  let c2_i32_1082 : BitVec 32 := 2#32
  let c0_i32_881 : BitVec 32 := 0#32
  let c1_i32_883 : BitVec 32 := 1#32
  let arg29 : BitVec 32 := Scf.iv c0_i32_881 c1_i32_883 k0_t55
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off877 (k0_t55 : Fin k0_t55_loop.trips) (c0_i32_1089 : BitVec 32) : Fin 2 → Nat :=
  let c2_i32_1088 : BitVec 32 := 2#32
  let c0_i32_881 : BitVec 32 := 0#32
  let c1_i32_883 : BitVec 32 := 1#32
  let arg29 : BitVec 32 := Scf.iv c0_i32_881 c1_i32_883 k0_t55
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off878 (k0_t55 : Fin k0_t55_loop.trips) (c0_i32_1095 : BitVec 32) : Fin 2 → Nat :=
  let c2_i32_1094 : BitVec 32 := 2#32
  let c0_i32_881 : BitVec 32 := 0#32
  let c1_i32_883 : BitVec 32 := 1#32
  let arg29 : BitVec 32 := Scf.iv c0_i32_881 c1_i32_883 k0_t55
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off879 (k0_t55 : Fin k0_t55_loop.trips) (c0_i32_1101 : BitVec 32) : Fin 2 → Nat :=
  let c2_i32_1100 : BitVec 32 := 2#32
  let c0_i32_881 : BitVec 32 := 0#32
  let c1_i32_883 : BitVec 32 := 1#32
  let arg29 : BitVec 32 := Scf.iv c0_i32_881 c1_i32_883 k0_t55
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off880 (k0_t55 : Fin k0_t55_loop.trips) (c0_i32_1107 : BitVec 32) : Fin 2 → Nat :=
  let c2_i32_1106 : BitVec 32 := 2#32
  let c0_i32_881 : BitVec 32 := 0#32
  let c1_i32_883 : BitVec 32 := 1#32
  let arg29 : BitVec 32 := Scf.iv c0_i32_881 c1_i32_883 k0_t55
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off881 (k0_t55 : Fin k0_t55_loop.trips) (c0_i32_1113 : BitVec 32) : Fin 2 → Nat :=
  let c2_i32_1112 : BitVec 32 := 2#32
  let c0_i32_881 : BitVec 32 := 0#32
  let c1_i32_883 : BitVec 32 := 1#32
  let arg29 : BitVec 32 := Scf.iv c0_i32_881 c1_i32_883 k0_t55
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t56_loop : Scf.Loop 32 :=
  let c0_i32_896 : BitVec 32 := 0#32
  let c32_i32_897 : BitVec 32 := 32#32
  let v1568 : BitVec 32 := Scalar.addi c0_i32_896 c32_i32_897
  let c1_i32_898 : BitVec 32 := 1#32
  ⟨c0_i32_896, v1568, c1_i32_898⟩
def k0_off882 (k0_t56 : Fin k0_t56_loop.trips) (c0_i32_1023 : BitVec 32) : Fin 2 → Nat :=
  let c2_i32_1022 : BitVec 32 := 2#32
  let c0_i32_896 : BitVec 32 := 0#32
  let c1_i32_898 : BitVec 32 := 1#32
  let arg29 : BitVec 32 := Scf.iv c0_i32_896 c1_i32_898 k0_t56
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off883 (k0_t56 : Fin k0_t56_loop.trips) (c0_i32_1029 : BitVec 32) : Fin 2 → Nat :=
  let c2_i32_1028 : BitVec 32 := 2#32
  let c0_i32_896 : BitVec 32 := 0#32
  let c1_i32_898 : BitVec 32 := 1#32
  let arg29 : BitVec 32 := Scf.iv c0_i32_896 c1_i32_898 k0_t56
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off884 (k0_t56 : Fin k0_t56_loop.trips) (c0_i32_1035 : BitVec 32) : Fin 2 → Nat :=
  let c2_i32_1034 : BitVec 32 := 2#32
  let c0_i32_896 : BitVec 32 := 0#32
  let c1_i32_898 : BitVec 32 := 1#32
  let arg29 : BitVec 32 := Scf.iv c0_i32_896 c1_i32_898 k0_t56
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off885 (k0_t56 : Fin k0_t56_loop.trips) (c0_i32_1041 : BitVec 32) : Fin 2 → Nat :=
  let c2_i32_1040 : BitVec 32 := 2#32
  let c0_i32_896 : BitVec 32 := 0#32
  let c1_i32_898 : BitVec 32 := 1#32
  let arg29 : BitVec 32 := Scf.iv c0_i32_896 c1_i32_898 k0_t56
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off886 (k0_t56 : Fin k0_t56_loop.trips) (c0_i32_1047 : BitVec 32) : Fin 2 → Nat :=
  let c2_i32_1046 : BitVec 32 := 2#32
  let c0_i32_896 : BitVec 32 := 0#32
  let c1_i32_898 : BitVec 32 := 1#32
  let arg29 : BitVec 32 := Scf.iv c0_i32_896 c1_i32_898 k0_t56
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off887 (k0_t56 : Fin k0_t56_loop.trips) (c0_i32_1053 : BitVec 32) : Fin 2 → Nat :=
  let c2_i32_1052 : BitVec 32 := 2#32
  let c0_i32_896 : BitVec 32 := 0#32
  let c1_i32_898 : BitVec 32 := 1#32
  let arg29 : BitVec 32 := Scf.iv c0_i32_896 c1_i32_898 k0_t56
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off888 (k0_t56 : Fin k0_t56_loop.trips) (c0_i32_1059 : BitVec 32) : Fin 2 → Nat :=
  let c2_i32_1058 : BitVec 32 := 2#32
  let c0_i32_896 : BitVec 32 := 0#32
  let c1_i32_898 : BitVec 32 := 1#32
  let arg29 : BitVec 32 := Scf.iv c0_i32_896 c1_i32_898 k0_t56
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off889 (k0_t56 : Fin k0_t56_loop.trips) (c0_i32_1065 : BitVec 32) : Fin 2 → Nat :=
  let c2_i32_1064 : BitVec 32 := 2#32
  let c0_i32_896 : BitVec 32 := 0#32
  let c1_i32_898 : BitVec 32 := 1#32
  let arg29 : BitVec 32 := Scf.iv c0_i32_896 c1_i32_898 k0_t56
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off890 (k0_t56 : Fin k0_t56_loop.trips) (c0_i32_1071 : BitVec 32) : Fin 2 → Nat :=
  let c2_i32_1070 : BitVec 32 := 2#32
  let c0_i32_896 : BitVec 32 := 0#32
  let c1_i32_898 : BitVec 32 := 1#32
  let arg29 : BitVec 32 := Scf.iv c0_i32_896 c1_i32_898 k0_t56
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off891 (k0_t56 : Fin k0_t56_loop.trips) (c0_i32_1077 : BitVec 32) : Fin 2 → Nat :=
  let c2_i32_1076 : BitVec 32 := 2#32
  let c0_i32_896 : BitVec 32 := 0#32
  let c1_i32_898 : BitVec 32 := 1#32
  let arg29 : BitVec 32 := Scf.iv c0_i32_896 c1_i32_898 k0_t56
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off892 (k0_t56 : Fin k0_t56_loop.trips) (c0_i32_1083 : BitVec 32) : Fin 2 → Nat :=
  let c2_i32_1082 : BitVec 32 := 2#32
  let c0_i32_896 : BitVec 32 := 0#32
  let c1_i32_898 : BitVec 32 := 1#32
  let arg29 : BitVec 32 := Scf.iv c0_i32_896 c1_i32_898 k0_t56
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off893 (k0_t56 : Fin k0_t56_loop.trips) (c0_i32_1089 : BitVec 32) : Fin 2 → Nat :=
  let c2_i32_1088 : BitVec 32 := 2#32
  let c0_i32_896 : BitVec 32 := 0#32
  let c1_i32_898 : BitVec 32 := 1#32
  let arg29 : BitVec 32 := Scf.iv c0_i32_896 c1_i32_898 k0_t56
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off894 (k0_t56 : Fin k0_t56_loop.trips) (c0_i32_1095 : BitVec 32) : Fin 2 → Nat :=
  let c2_i32_1094 : BitVec 32 := 2#32
  let c0_i32_896 : BitVec 32 := 0#32
  let c1_i32_898 : BitVec 32 := 1#32
  let arg29 : BitVec 32 := Scf.iv c0_i32_896 c1_i32_898 k0_t56
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off895 (k0_t56 : Fin k0_t56_loop.trips) (c0_i32_1101 : BitVec 32) : Fin 2 → Nat :=
  let c2_i32_1100 : BitVec 32 := 2#32
  let c0_i32_896 : BitVec 32 := 0#32
  let c1_i32_898 : BitVec 32 := 1#32
  let arg29 : BitVec 32 := Scf.iv c0_i32_896 c1_i32_898 k0_t56
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off896 (k0_t56 : Fin k0_t56_loop.trips) (c0_i32_1107 : BitVec 32) : Fin 2 → Nat :=
  let c2_i32_1106 : BitVec 32 := 2#32
  let c0_i32_896 : BitVec 32 := 0#32
  let c1_i32_898 : BitVec 32 := 1#32
  let arg29 : BitVec 32 := Scf.iv c0_i32_896 c1_i32_898 k0_t56
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off897 (k0_t56 : Fin k0_t56_loop.trips) (c0_i32_1113 : BitVec 32) : Fin 2 → Nat :=
  let c2_i32_1112 : BitVec 32 := 2#32
  let c0_i32_896 : BitVec 32 := 0#32
  let c1_i32_898 : BitVec 32 := 1#32
  let arg29 : BitVec 32 := Scf.iv c0_i32_896 c1_i32_898 k0_t56
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t57_loop : Scf.Loop 32 :=
  let c0_i32_911 : BitVec 32 := 0#32
  let c32_i32_912 : BitVec 32 := 32#32
  let v1580 : BitVec 32 := Scalar.addi c0_i32_911 c32_i32_912
  let c1_i32_913 : BitVec 32 := 1#32
  ⟨c0_i32_911, v1580, c1_i32_913⟩
def k0_off898 (k0_t57 : Fin k0_t57_loop.trips) (c0_i32_1023 : BitVec 32) : Fin 2 → Nat :=
  let c2_i32_1022 : BitVec 32 := 2#32
  let c0_i32_911 : BitVec 32 := 0#32
  let c1_i32_913 : BitVec 32 := 1#32
  let arg29 : BitVec 32 := Scf.iv c0_i32_911 c1_i32_913 k0_t57
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off899 (k0_t57 : Fin k0_t57_loop.trips) (c0_i32_1029 : BitVec 32) : Fin 2 → Nat :=
  let c2_i32_1028 : BitVec 32 := 2#32
  let c0_i32_911 : BitVec 32 := 0#32
  let c1_i32_913 : BitVec 32 := 1#32
  let arg29 : BitVec 32 := Scf.iv c0_i32_911 c1_i32_913 k0_t57
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off900 (k0_t57 : Fin k0_t57_loop.trips) (c0_i32_1035 : BitVec 32) : Fin 2 → Nat :=
  let c2_i32_1034 : BitVec 32 := 2#32
  let c0_i32_911 : BitVec 32 := 0#32
  let c1_i32_913 : BitVec 32 := 1#32
  let arg29 : BitVec 32 := Scf.iv c0_i32_911 c1_i32_913 k0_t57
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off901 (k0_t57 : Fin k0_t57_loop.trips) (c0_i32_1041 : BitVec 32) : Fin 2 → Nat :=
  let c2_i32_1040 : BitVec 32 := 2#32
  let c0_i32_911 : BitVec 32 := 0#32
  let c1_i32_913 : BitVec 32 := 1#32
  let arg29 : BitVec 32 := Scf.iv c0_i32_911 c1_i32_913 k0_t57
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off902 (k0_t57 : Fin k0_t57_loop.trips) (c0_i32_1047 : BitVec 32) : Fin 2 → Nat :=
  let c2_i32_1046 : BitVec 32 := 2#32
  let c0_i32_911 : BitVec 32 := 0#32
  let c1_i32_913 : BitVec 32 := 1#32
  let arg29 : BitVec 32 := Scf.iv c0_i32_911 c1_i32_913 k0_t57
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off903 (k0_t57 : Fin k0_t57_loop.trips) (c0_i32_1053 : BitVec 32) : Fin 2 → Nat :=
  let c2_i32_1052 : BitVec 32 := 2#32
  let c0_i32_911 : BitVec 32 := 0#32
  let c1_i32_913 : BitVec 32 := 1#32
  let arg29 : BitVec 32 := Scf.iv c0_i32_911 c1_i32_913 k0_t57
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off904 (k0_t57 : Fin k0_t57_loop.trips) (c0_i32_1059 : BitVec 32) : Fin 2 → Nat :=
  let c2_i32_1058 : BitVec 32 := 2#32
  let c0_i32_911 : BitVec 32 := 0#32
  let c1_i32_913 : BitVec 32 := 1#32
  let arg29 : BitVec 32 := Scf.iv c0_i32_911 c1_i32_913 k0_t57
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off905 (k0_t57 : Fin k0_t57_loop.trips) (c0_i32_1065 : BitVec 32) : Fin 2 → Nat :=
  let c2_i32_1064 : BitVec 32 := 2#32
  let c0_i32_911 : BitVec 32 := 0#32
  let c1_i32_913 : BitVec 32 := 1#32
  let arg29 : BitVec 32 := Scf.iv c0_i32_911 c1_i32_913 k0_t57
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off906 (k0_t57 : Fin k0_t57_loop.trips) (c0_i32_1071 : BitVec 32) : Fin 2 → Nat :=
  let c2_i32_1070 : BitVec 32 := 2#32
  let c0_i32_911 : BitVec 32 := 0#32
  let c1_i32_913 : BitVec 32 := 1#32
  let arg29 : BitVec 32 := Scf.iv c0_i32_911 c1_i32_913 k0_t57
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off907 (k0_t57 : Fin k0_t57_loop.trips) (c0_i32_1077 : BitVec 32) : Fin 2 → Nat :=
  let c2_i32_1076 : BitVec 32 := 2#32
  let c0_i32_911 : BitVec 32 := 0#32
  let c1_i32_913 : BitVec 32 := 1#32
  let arg29 : BitVec 32 := Scf.iv c0_i32_911 c1_i32_913 k0_t57
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off908 (k0_t57 : Fin k0_t57_loop.trips) (c0_i32_1083 : BitVec 32) : Fin 2 → Nat :=
  let c2_i32_1082 : BitVec 32 := 2#32
  let c0_i32_911 : BitVec 32 := 0#32
  let c1_i32_913 : BitVec 32 := 1#32
  let arg29 : BitVec 32 := Scf.iv c0_i32_911 c1_i32_913 k0_t57
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off909 (k0_t57 : Fin k0_t57_loop.trips) (c0_i32_1089 : BitVec 32) : Fin 2 → Nat :=
  let c2_i32_1088 : BitVec 32 := 2#32
  let c0_i32_911 : BitVec 32 := 0#32
  let c1_i32_913 : BitVec 32 := 1#32
  let arg29 : BitVec 32 := Scf.iv c0_i32_911 c1_i32_913 k0_t57
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off910 (k0_t57 : Fin k0_t57_loop.trips) (c0_i32_1095 : BitVec 32) : Fin 2 → Nat :=
  let c2_i32_1094 : BitVec 32 := 2#32
  let c0_i32_911 : BitVec 32 := 0#32
  let c1_i32_913 : BitVec 32 := 1#32
  let arg29 : BitVec 32 := Scf.iv c0_i32_911 c1_i32_913 k0_t57
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off911 (k0_t57 : Fin k0_t57_loop.trips) (c0_i32_1101 : BitVec 32) : Fin 2 → Nat :=
  let c2_i32_1100 : BitVec 32 := 2#32
  let c0_i32_911 : BitVec 32 := 0#32
  let c1_i32_913 : BitVec 32 := 1#32
  let arg29 : BitVec 32 := Scf.iv c0_i32_911 c1_i32_913 k0_t57
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off912 (k0_t57 : Fin k0_t57_loop.trips) (c0_i32_1107 : BitVec 32) : Fin 2 → Nat :=
  let c2_i32_1106 : BitVec 32 := 2#32
  let c0_i32_911 : BitVec 32 := 0#32
  let c1_i32_913 : BitVec 32 := 1#32
  let arg29 : BitVec 32 := Scf.iv c0_i32_911 c1_i32_913 k0_t57
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off913 (k0_t57 : Fin k0_t57_loop.trips) (c0_i32_1113 : BitVec 32) : Fin 2 → Nat :=
  let c2_i32_1112 : BitVec 32 := 2#32
  let c0_i32_911 : BitVec 32 := 0#32
  let c1_i32_913 : BitVec 32 := 1#32
  let arg29 : BitVec 32 := Scf.iv c0_i32_911 c1_i32_913 k0_t57
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t58_loop : Scf.Loop 32 :=
  let c0_i32_926 : BitVec 32 := 0#32
  let c32_i32_927 : BitVec 32 := 32#32
  let v1592 : BitVec 32 := Scalar.addi c0_i32_926 c32_i32_927
  let c1_i32_928 : BitVec 32 := 1#32
  ⟨c0_i32_926, v1592, c1_i32_928⟩
def k0_off914 (k0_t58 : Fin k0_t58_loop.trips) (c0_i32_1023 : BitVec 32) : Fin 2 → Nat :=
  let c2_i32_1022 : BitVec 32 := 2#32
  let c0_i32_926 : BitVec 32 := 0#32
  let c1_i32_928 : BitVec 32 := 1#32
  let arg29 : BitVec 32 := Scf.iv c0_i32_926 c1_i32_928 k0_t58
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off915 (k0_t58 : Fin k0_t58_loop.trips) (c0_i32_1029 : BitVec 32) : Fin 2 → Nat :=
  let c2_i32_1028 : BitVec 32 := 2#32
  let c0_i32_926 : BitVec 32 := 0#32
  let c1_i32_928 : BitVec 32 := 1#32
  let arg29 : BitVec 32 := Scf.iv c0_i32_926 c1_i32_928 k0_t58
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off916 (k0_t58 : Fin k0_t58_loop.trips) (c0_i32_1035 : BitVec 32) : Fin 2 → Nat :=
  let c2_i32_1034 : BitVec 32 := 2#32
  let c0_i32_926 : BitVec 32 := 0#32
  let c1_i32_928 : BitVec 32 := 1#32
  let arg29 : BitVec 32 := Scf.iv c0_i32_926 c1_i32_928 k0_t58
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off917 (k0_t58 : Fin k0_t58_loop.trips) (c0_i32_1041 : BitVec 32) : Fin 2 → Nat :=
  let c2_i32_1040 : BitVec 32 := 2#32
  let c0_i32_926 : BitVec 32 := 0#32
  let c1_i32_928 : BitVec 32 := 1#32
  let arg29 : BitVec 32 := Scf.iv c0_i32_926 c1_i32_928 k0_t58
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off918 (k0_t58 : Fin k0_t58_loop.trips) (c0_i32_1047 : BitVec 32) : Fin 2 → Nat :=
  let c2_i32_1046 : BitVec 32 := 2#32
  let c0_i32_926 : BitVec 32 := 0#32
  let c1_i32_928 : BitVec 32 := 1#32
  let arg29 : BitVec 32 := Scf.iv c0_i32_926 c1_i32_928 k0_t58
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off919 (k0_t58 : Fin k0_t58_loop.trips) (c0_i32_1053 : BitVec 32) : Fin 2 → Nat :=
  let c2_i32_1052 : BitVec 32 := 2#32
  let c0_i32_926 : BitVec 32 := 0#32
  let c1_i32_928 : BitVec 32 := 1#32
  let arg29 : BitVec 32 := Scf.iv c0_i32_926 c1_i32_928 k0_t58
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off920 (k0_t58 : Fin k0_t58_loop.trips) (c0_i32_1059 : BitVec 32) : Fin 2 → Nat :=
  let c2_i32_1058 : BitVec 32 := 2#32
  let c0_i32_926 : BitVec 32 := 0#32
  let c1_i32_928 : BitVec 32 := 1#32
  let arg29 : BitVec 32 := Scf.iv c0_i32_926 c1_i32_928 k0_t58
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off921 (k0_t58 : Fin k0_t58_loop.trips) (c0_i32_1065 : BitVec 32) : Fin 2 → Nat :=
  let c2_i32_1064 : BitVec 32 := 2#32
  let c0_i32_926 : BitVec 32 := 0#32
  let c1_i32_928 : BitVec 32 := 1#32
  let arg29 : BitVec 32 := Scf.iv c0_i32_926 c1_i32_928 k0_t58
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off922 (k0_t58 : Fin k0_t58_loop.trips) (c0_i32_1071 : BitVec 32) : Fin 2 → Nat :=
  let c2_i32_1070 : BitVec 32 := 2#32
  let c0_i32_926 : BitVec 32 := 0#32
  let c1_i32_928 : BitVec 32 := 1#32
  let arg29 : BitVec 32 := Scf.iv c0_i32_926 c1_i32_928 k0_t58
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off923 (k0_t58 : Fin k0_t58_loop.trips) (c0_i32_1077 : BitVec 32) : Fin 2 → Nat :=
  let c2_i32_1076 : BitVec 32 := 2#32
  let c0_i32_926 : BitVec 32 := 0#32
  let c1_i32_928 : BitVec 32 := 1#32
  let arg29 : BitVec 32 := Scf.iv c0_i32_926 c1_i32_928 k0_t58
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off924 (k0_t58 : Fin k0_t58_loop.trips) (c0_i32_1083 : BitVec 32) : Fin 2 → Nat :=
  let c2_i32_1082 : BitVec 32 := 2#32
  let c0_i32_926 : BitVec 32 := 0#32
  let c1_i32_928 : BitVec 32 := 1#32
  let arg29 : BitVec 32 := Scf.iv c0_i32_926 c1_i32_928 k0_t58
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off925 (k0_t58 : Fin k0_t58_loop.trips) (c0_i32_1089 : BitVec 32) : Fin 2 → Nat :=
  let c2_i32_1088 : BitVec 32 := 2#32
  let c0_i32_926 : BitVec 32 := 0#32
  let c1_i32_928 : BitVec 32 := 1#32
  let arg29 : BitVec 32 := Scf.iv c0_i32_926 c1_i32_928 k0_t58
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off926 (k0_t58 : Fin k0_t58_loop.trips) (c0_i32_1095 : BitVec 32) : Fin 2 → Nat :=
  let c2_i32_1094 : BitVec 32 := 2#32
  let c0_i32_926 : BitVec 32 := 0#32
  let c1_i32_928 : BitVec 32 := 1#32
  let arg29 : BitVec 32 := Scf.iv c0_i32_926 c1_i32_928 k0_t58
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off927 (k0_t58 : Fin k0_t58_loop.trips) (c0_i32_1101 : BitVec 32) : Fin 2 → Nat :=
  let c2_i32_1100 : BitVec 32 := 2#32
  let c0_i32_926 : BitVec 32 := 0#32
  let c1_i32_928 : BitVec 32 := 1#32
  let arg29 : BitVec 32 := Scf.iv c0_i32_926 c1_i32_928 k0_t58
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off928 (k0_t58 : Fin k0_t58_loop.trips) (c0_i32_1107 : BitVec 32) : Fin 2 → Nat :=
  let c2_i32_1106 : BitVec 32 := 2#32
  let c0_i32_926 : BitVec 32 := 0#32
  let c1_i32_928 : BitVec 32 := 1#32
  let arg29 : BitVec 32 := Scf.iv c0_i32_926 c1_i32_928 k0_t58
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off929 (k0_t58 : Fin k0_t58_loop.trips) (c0_i32_1113 : BitVec 32) : Fin 2 → Nat :=
  let c2_i32_1112 : BitVec 32 := 2#32
  let c0_i32_926 : BitVec 32 := 0#32
  let c1_i32_928 : BitVec 32 := 1#32
  let arg29 : BitVec 32 := Scf.iv c0_i32_926 c1_i32_928 k0_t58
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t59_loop : Scf.Loop 32 :=
  let c0_i32_941 : BitVec 32 := 0#32
  let c32_i32_942 : BitVec 32 := 32#32
  let v1604 : BitVec 32 := Scalar.addi c0_i32_941 c32_i32_942
  let c1_i32_943 : BitVec 32 := 1#32
  ⟨c0_i32_941, v1604, c1_i32_943⟩
def k0_off930 (k0_t59 : Fin k0_t59_loop.trips) (c0_i32_1023 : BitVec 32) : Fin 2 → Nat :=
  let c2_i32_1022 : BitVec 32 := 2#32
  let c0_i32_941 : BitVec 32 := 0#32
  let c1_i32_943 : BitVec 32 := 1#32
  let arg29 : BitVec 32 := Scf.iv c0_i32_941 c1_i32_943 k0_t59
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off931 (k0_t59 : Fin k0_t59_loop.trips) (c0_i32_1029 : BitVec 32) : Fin 2 → Nat :=
  let c2_i32_1028 : BitVec 32 := 2#32
  let c0_i32_941 : BitVec 32 := 0#32
  let c1_i32_943 : BitVec 32 := 1#32
  let arg29 : BitVec 32 := Scf.iv c0_i32_941 c1_i32_943 k0_t59
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off932 (k0_t59 : Fin k0_t59_loop.trips) (c0_i32_1035 : BitVec 32) : Fin 2 → Nat :=
  let c2_i32_1034 : BitVec 32 := 2#32
  let c0_i32_941 : BitVec 32 := 0#32
  let c1_i32_943 : BitVec 32 := 1#32
  let arg29 : BitVec 32 := Scf.iv c0_i32_941 c1_i32_943 k0_t59
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off933 (k0_t59 : Fin k0_t59_loop.trips) (c0_i32_1041 : BitVec 32) : Fin 2 → Nat :=
  let c2_i32_1040 : BitVec 32 := 2#32
  let c0_i32_941 : BitVec 32 := 0#32
  let c1_i32_943 : BitVec 32 := 1#32
  let arg29 : BitVec 32 := Scf.iv c0_i32_941 c1_i32_943 k0_t59
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off934 (k0_t59 : Fin k0_t59_loop.trips) (c0_i32_1047 : BitVec 32) : Fin 2 → Nat :=
  let c2_i32_1046 : BitVec 32 := 2#32
  let c0_i32_941 : BitVec 32 := 0#32
  let c1_i32_943 : BitVec 32 := 1#32
  let arg29 : BitVec 32 := Scf.iv c0_i32_941 c1_i32_943 k0_t59
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off935 (k0_t59 : Fin k0_t59_loop.trips) (c0_i32_1053 : BitVec 32) : Fin 2 → Nat :=
  let c2_i32_1052 : BitVec 32 := 2#32
  let c0_i32_941 : BitVec 32 := 0#32
  let c1_i32_943 : BitVec 32 := 1#32
  let arg29 : BitVec 32 := Scf.iv c0_i32_941 c1_i32_943 k0_t59
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off936 (k0_t59 : Fin k0_t59_loop.trips) (c0_i32_1059 : BitVec 32) : Fin 2 → Nat :=
  let c2_i32_1058 : BitVec 32 := 2#32
  let c0_i32_941 : BitVec 32 := 0#32
  let c1_i32_943 : BitVec 32 := 1#32
  let arg29 : BitVec 32 := Scf.iv c0_i32_941 c1_i32_943 k0_t59
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off937 (k0_t59 : Fin k0_t59_loop.trips) (c0_i32_1065 : BitVec 32) : Fin 2 → Nat :=
  let c2_i32_1064 : BitVec 32 := 2#32
  let c0_i32_941 : BitVec 32 := 0#32
  let c1_i32_943 : BitVec 32 := 1#32
  let arg29 : BitVec 32 := Scf.iv c0_i32_941 c1_i32_943 k0_t59
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off938 (k0_t59 : Fin k0_t59_loop.trips) (c0_i32_1071 : BitVec 32) : Fin 2 → Nat :=
  let c2_i32_1070 : BitVec 32 := 2#32
  let c0_i32_941 : BitVec 32 := 0#32
  let c1_i32_943 : BitVec 32 := 1#32
  let arg29 : BitVec 32 := Scf.iv c0_i32_941 c1_i32_943 k0_t59
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off939 (k0_t59 : Fin k0_t59_loop.trips) (c0_i32_1077 : BitVec 32) : Fin 2 → Nat :=
  let c2_i32_1076 : BitVec 32 := 2#32
  let c0_i32_941 : BitVec 32 := 0#32
  let c1_i32_943 : BitVec 32 := 1#32
  let arg29 : BitVec 32 := Scf.iv c0_i32_941 c1_i32_943 k0_t59
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off940 (k0_t59 : Fin k0_t59_loop.trips) (c0_i32_1083 : BitVec 32) : Fin 2 → Nat :=
  let c2_i32_1082 : BitVec 32 := 2#32
  let c0_i32_941 : BitVec 32 := 0#32
  let c1_i32_943 : BitVec 32 := 1#32
  let arg29 : BitVec 32 := Scf.iv c0_i32_941 c1_i32_943 k0_t59
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off941 (k0_t59 : Fin k0_t59_loop.trips) (c0_i32_1089 : BitVec 32) : Fin 2 → Nat :=
  let c2_i32_1088 : BitVec 32 := 2#32
  let c0_i32_941 : BitVec 32 := 0#32
  let c1_i32_943 : BitVec 32 := 1#32
  let arg29 : BitVec 32 := Scf.iv c0_i32_941 c1_i32_943 k0_t59
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off942 (k0_t59 : Fin k0_t59_loop.trips) (c0_i32_1095 : BitVec 32) : Fin 2 → Nat :=
  let c2_i32_1094 : BitVec 32 := 2#32
  let c0_i32_941 : BitVec 32 := 0#32
  let c1_i32_943 : BitVec 32 := 1#32
  let arg29 : BitVec 32 := Scf.iv c0_i32_941 c1_i32_943 k0_t59
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off943 (k0_t59 : Fin k0_t59_loop.trips) (c0_i32_1101 : BitVec 32) : Fin 2 → Nat :=
  let c2_i32_1100 : BitVec 32 := 2#32
  let c0_i32_941 : BitVec 32 := 0#32
  let c1_i32_943 : BitVec 32 := 1#32
  let arg29 : BitVec 32 := Scf.iv c0_i32_941 c1_i32_943 k0_t59
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off944 (k0_t59 : Fin k0_t59_loop.trips) (c0_i32_1107 : BitVec 32) : Fin 2 → Nat :=
  let c2_i32_1106 : BitVec 32 := 2#32
  let c0_i32_941 : BitVec 32 := 0#32
  let c1_i32_943 : BitVec 32 := 1#32
  let arg29 : BitVec 32 := Scf.iv c0_i32_941 c1_i32_943 k0_t59
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off945 (k0_t59 : Fin k0_t59_loop.trips) (c0_i32_1113 : BitVec 32) : Fin 2 → Nat :=
  let c2_i32_1112 : BitVec 32 := 2#32
  let c0_i32_941 : BitVec 32 := 0#32
  let c1_i32_943 : BitVec 32 := 1#32
  let arg29 : BitVec 32 := Scf.iv c0_i32_941 c1_i32_943 k0_t59
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t60_loop : Scf.Loop 32 :=
  let c0_i32_956 : BitVec 32 := 0#32
  let c32_i32_957 : BitVec 32 := 32#32
  let v1616 : BitVec 32 := Scalar.addi c0_i32_956 c32_i32_957
  let c1_i32_958 : BitVec 32 := 1#32
  ⟨c0_i32_956, v1616, c1_i32_958⟩
def k0_off946 (k0_t60 : Fin k0_t60_loop.trips) (c0_i32_1023 : BitVec 32) : Fin 2 → Nat :=
  let c2_i32_1022 : BitVec 32 := 2#32
  let c0_i32_956 : BitVec 32 := 0#32
  let c1_i32_958 : BitVec 32 := 1#32
  let arg29 : BitVec 32 := Scf.iv c0_i32_956 c1_i32_958 k0_t60
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off947 (k0_t60 : Fin k0_t60_loop.trips) (c0_i32_1029 : BitVec 32) : Fin 2 → Nat :=
  let c2_i32_1028 : BitVec 32 := 2#32
  let c0_i32_956 : BitVec 32 := 0#32
  let c1_i32_958 : BitVec 32 := 1#32
  let arg29 : BitVec 32 := Scf.iv c0_i32_956 c1_i32_958 k0_t60
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off948 (k0_t60 : Fin k0_t60_loop.trips) (c0_i32_1035 : BitVec 32) : Fin 2 → Nat :=
  let c2_i32_1034 : BitVec 32 := 2#32
  let c0_i32_956 : BitVec 32 := 0#32
  let c1_i32_958 : BitVec 32 := 1#32
  let arg29 : BitVec 32 := Scf.iv c0_i32_956 c1_i32_958 k0_t60
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off949 (k0_t60 : Fin k0_t60_loop.trips) (c0_i32_1041 : BitVec 32) : Fin 2 → Nat :=
  let c2_i32_1040 : BitVec 32 := 2#32
  let c0_i32_956 : BitVec 32 := 0#32
  let c1_i32_958 : BitVec 32 := 1#32
  let arg29 : BitVec 32 := Scf.iv c0_i32_956 c1_i32_958 k0_t60
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off950 (k0_t60 : Fin k0_t60_loop.trips) (c0_i32_1047 : BitVec 32) : Fin 2 → Nat :=
  let c2_i32_1046 : BitVec 32 := 2#32
  let c0_i32_956 : BitVec 32 := 0#32
  let c1_i32_958 : BitVec 32 := 1#32
  let arg29 : BitVec 32 := Scf.iv c0_i32_956 c1_i32_958 k0_t60
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off951 (k0_t60 : Fin k0_t60_loop.trips) (c0_i32_1053 : BitVec 32) : Fin 2 → Nat :=
  let c2_i32_1052 : BitVec 32 := 2#32
  let c0_i32_956 : BitVec 32 := 0#32
  let c1_i32_958 : BitVec 32 := 1#32
  let arg29 : BitVec 32 := Scf.iv c0_i32_956 c1_i32_958 k0_t60
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off952 (k0_t60 : Fin k0_t60_loop.trips) (c0_i32_1059 : BitVec 32) : Fin 2 → Nat :=
  let c2_i32_1058 : BitVec 32 := 2#32
  let c0_i32_956 : BitVec 32 := 0#32
  let c1_i32_958 : BitVec 32 := 1#32
  let arg29 : BitVec 32 := Scf.iv c0_i32_956 c1_i32_958 k0_t60
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off953 (k0_t60 : Fin k0_t60_loop.trips) (c0_i32_1065 : BitVec 32) : Fin 2 → Nat :=
  let c2_i32_1064 : BitVec 32 := 2#32
  let c0_i32_956 : BitVec 32 := 0#32
  let c1_i32_958 : BitVec 32 := 1#32
  let arg29 : BitVec 32 := Scf.iv c0_i32_956 c1_i32_958 k0_t60
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off954 (k0_t60 : Fin k0_t60_loop.trips) (c0_i32_1071 : BitVec 32) : Fin 2 → Nat :=
  let c2_i32_1070 : BitVec 32 := 2#32
  let c0_i32_956 : BitVec 32 := 0#32
  let c1_i32_958 : BitVec 32 := 1#32
  let arg29 : BitVec 32 := Scf.iv c0_i32_956 c1_i32_958 k0_t60
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off955 (k0_t60 : Fin k0_t60_loop.trips) (c0_i32_1077 : BitVec 32) : Fin 2 → Nat :=
  let c2_i32_1076 : BitVec 32 := 2#32
  let c0_i32_956 : BitVec 32 := 0#32
  let c1_i32_958 : BitVec 32 := 1#32
  let arg29 : BitVec 32 := Scf.iv c0_i32_956 c1_i32_958 k0_t60
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off956 (k0_t60 : Fin k0_t60_loop.trips) (c0_i32_1083 : BitVec 32) : Fin 2 → Nat :=
  let c2_i32_1082 : BitVec 32 := 2#32
  let c0_i32_956 : BitVec 32 := 0#32
  let c1_i32_958 : BitVec 32 := 1#32
  let arg29 : BitVec 32 := Scf.iv c0_i32_956 c1_i32_958 k0_t60
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off957 (k0_t60 : Fin k0_t60_loop.trips) (c0_i32_1089 : BitVec 32) : Fin 2 → Nat :=
  let c2_i32_1088 : BitVec 32 := 2#32
  let c0_i32_956 : BitVec 32 := 0#32
  let c1_i32_958 : BitVec 32 := 1#32
  let arg29 : BitVec 32 := Scf.iv c0_i32_956 c1_i32_958 k0_t60
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off958 (k0_t60 : Fin k0_t60_loop.trips) (c0_i32_1095 : BitVec 32) : Fin 2 → Nat :=
  let c2_i32_1094 : BitVec 32 := 2#32
  let c0_i32_956 : BitVec 32 := 0#32
  let c1_i32_958 : BitVec 32 := 1#32
  let arg29 : BitVec 32 := Scf.iv c0_i32_956 c1_i32_958 k0_t60
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off959 (k0_t60 : Fin k0_t60_loop.trips) (c0_i32_1101 : BitVec 32) : Fin 2 → Nat :=
  let c2_i32_1100 : BitVec 32 := 2#32
  let c0_i32_956 : BitVec 32 := 0#32
  let c1_i32_958 : BitVec 32 := 1#32
  let arg29 : BitVec 32 := Scf.iv c0_i32_956 c1_i32_958 k0_t60
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off960 (k0_t60 : Fin k0_t60_loop.trips) (c0_i32_1107 : BitVec 32) : Fin 2 → Nat :=
  let c2_i32_1106 : BitVec 32 := 2#32
  let c0_i32_956 : BitVec 32 := 0#32
  let c1_i32_958 : BitVec 32 := 1#32
  let arg29 : BitVec 32 := Scf.iv c0_i32_956 c1_i32_958 k0_t60
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off961 (k0_t60 : Fin k0_t60_loop.trips) (c0_i32_1113 : BitVec 32) : Fin 2 → Nat :=
  let c2_i32_1112 : BitVec 32 := 2#32
  let c0_i32_956 : BitVec 32 := 0#32
  let c1_i32_958 : BitVec 32 := 1#32
  let arg29 : BitVec 32 := Scf.iv c0_i32_956 c1_i32_958 k0_t60
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t61_loop : Scf.Loop 32 :=
  let c0_i32_971 : BitVec 32 := 0#32
  let c32_i32_972 : BitVec 32 := 32#32
  let v1628 : BitVec 32 := Scalar.addi c0_i32_971 c32_i32_972
  let c1_i32_973 : BitVec 32 := 1#32
  ⟨c0_i32_971, v1628, c1_i32_973⟩
def k0_off962 (k0_t61 : Fin k0_t61_loop.trips) (c0_i32_1023 : BitVec 32) : Fin 2 → Nat :=
  let c2_i32_1022 : BitVec 32 := 2#32
  let c0_i32_971 : BitVec 32 := 0#32
  let c1_i32_973 : BitVec 32 := 1#32
  let arg29 : BitVec 32 := Scf.iv c0_i32_971 c1_i32_973 k0_t61
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off963 (k0_t61 : Fin k0_t61_loop.trips) (c0_i32_1029 : BitVec 32) : Fin 2 → Nat :=
  let c2_i32_1028 : BitVec 32 := 2#32
  let c0_i32_971 : BitVec 32 := 0#32
  let c1_i32_973 : BitVec 32 := 1#32
  let arg29 : BitVec 32 := Scf.iv c0_i32_971 c1_i32_973 k0_t61
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off964 (k0_t61 : Fin k0_t61_loop.trips) (c0_i32_1035 : BitVec 32) : Fin 2 → Nat :=
  let c2_i32_1034 : BitVec 32 := 2#32
  let c0_i32_971 : BitVec 32 := 0#32
  let c1_i32_973 : BitVec 32 := 1#32
  let arg29 : BitVec 32 := Scf.iv c0_i32_971 c1_i32_973 k0_t61
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off965 (k0_t61 : Fin k0_t61_loop.trips) (c0_i32_1041 : BitVec 32) : Fin 2 → Nat :=
  let c2_i32_1040 : BitVec 32 := 2#32
  let c0_i32_971 : BitVec 32 := 0#32
  let c1_i32_973 : BitVec 32 := 1#32
  let arg29 : BitVec 32 := Scf.iv c0_i32_971 c1_i32_973 k0_t61
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off966 (k0_t61 : Fin k0_t61_loop.trips) (c0_i32_1047 : BitVec 32) : Fin 2 → Nat :=
  let c2_i32_1046 : BitVec 32 := 2#32
  let c0_i32_971 : BitVec 32 := 0#32
  let c1_i32_973 : BitVec 32 := 1#32
  let arg29 : BitVec 32 := Scf.iv c0_i32_971 c1_i32_973 k0_t61
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off967 (k0_t61 : Fin k0_t61_loop.trips) (c0_i32_1053 : BitVec 32) : Fin 2 → Nat :=
  let c2_i32_1052 : BitVec 32 := 2#32
  let c0_i32_971 : BitVec 32 := 0#32
  let c1_i32_973 : BitVec 32 := 1#32
  let arg29 : BitVec 32 := Scf.iv c0_i32_971 c1_i32_973 k0_t61
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off968 (k0_t61 : Fin k0_t61_loop.trips) (c0_i32_1059 : BitVec 32) : Fin 2 → Nat :=
  let c2_i32_1058 : BitVec 32 := 2#32
  let c0_i32_971 : BitVec 32 := 0#32
  let c1_i32_973 : BitVec 32 := 1#32
  let arg29 : BitVec 32 := Scf.iv c0_i32_971 c1_i32_973 k0_t61
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off969 (k0_t61 : Fin k0_t61_loop.trips) (c0_i32_1065 : BitVec 32) : Fin 2 → Nat :=
  let c2_i32_1064 : BitVec 32 := 2#32
  let c0_i32_971 : BitVec 32 := 0#32
  let c1_i32_973 : BitVec 32 := 1#32
  let arg29 : BitVec 32 := Scf.iv c0_i32_971 c1_i32_973 k0_t61
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off970 (k0_t61 : Fin k0_t61_loop.trips) (c0_i32_1071 : BitVec 32) : Fin 2 → Nat :=
  let c2_i32_1070 : BitVec 32 := 2#32
  let c0_i32_971 : BitVec 32 := 0#32
  let c1_i32_973 : BitVec 32 := 1#32
  let arg29 : BitVec 32 := Scf.iv c0_i32_971 c1_i32_973 k0_t61
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off971 (k0_t61 : Fin k0_t61_loop.trips) (c0_i32_1077 : BitVec 32) : Fin 2 → Nat :=
  let c2_i32_1076 : BitVec 32 := 2#32
  let c0_i32_971 : BitVec 32 := 0#32
  let c1_i32_973 : BitVec 32 := 1#32
  let arg29 : BitVec 32 := Scf.iv c0_i32_971 c1_i32_973 k0_t61
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off972 (k0_t61 : Fin k0_t61_loop.trips) (c0_i32_1083 : BitVec 32) : Fin 2 → Nat :=
  let c2_i32_1082 : BitVec 32 := 2#32
  let c0_i32_971 : BitVec 32 := 0#32
  let c1_i32_973 : BitVec 32 := 1#32
  let arg29 : BitVec 32 := Scf.iv c0_i32_971 c1_i32_973 k0_t61
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off973 (k0_t61 : Fin k0_t61_loop.trips) (c0_i32_1089 : BitVec 32) : Fin 2 → Nat :=
  let c2_i32_1088 : BitVec 32 := 2#32
  let c0_i32_971 : BitVec 32 := 0#32
  let c1_i32_973 : BitVec 32 := 1#32
  let arg29 : BitVec 32 := Scf.iv c0_i32_971 c1_i32_973 k0_t61
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off974 (k0_t61 : Fin k0_t61_loop.trips) (c0_i32_1095 : BitVec 32) : Fin 2 → Nat :=
  let c2_i32_1094 : BitVec 32 := 2#32
  let c0_i32_971 : BitVec 32 := 0#32
  let c1_i32_973 : BitVec 32 := 1#32
  let arg29 : BitVec 32 := Scf.iv c0_i32_971 c1_i32_973 k0_t61
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off975 (k0_t61 : Fin k0_t61_loop.trips) (c0_i32_1101 : BitVec 32) : Fin 2 → Nat :=
  let c2_i32_1100 : BitVec 32 := 2#32
  let c0_i32_971 : BitVec 32 := 0#32
  let c1_i32_973 : BitVec 32 := 1#32
  let arg29 : BitVec 32 := Scf.iv c0_i32_971 c1_i32_973 k0_t61
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off976 (k0_t61 : Fin k0_t61_loop.trips) (c0_i32_1107 : BitVec 32) : Fin 2 → Nat :=
  let c2_i32_1106 : BitVec 32 := 2#32
  let c0_i32_971 : BitVec 32 := 0#32
  let c1_i32_973 : BitVec 32 := 1#32
  let arg29 : BitVec 32 := Scf.iv c0_i32_971 c1_i32_973 k0_t61
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off977 (k0_t61 : Fin k0_t61_loop.trips) (c0_i32_1113 : BitVec 32) : Fin 2 → Nat :=
  let c2_i32_1112 : BitVec 32 := 2#32
  let c0_i32_971 : BitVec 32 := 0#32
  let c1_i32_973 : BitVec 32 := 1#32
  let arg29 : BitVec 32 := Scf.iv c0_i32_971 c1_i32_973 k0_t61
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t62_loop : Scf.Loop 32 :=
  let c0_i32_981 : BitVec 32 := 0#32
  let c32_i32_982 : BitVec 32 := 32#32
  let v1635 : BitVec 32 := Scalar.addi c0_i32_981 c32_i32_982
  let c1_i32_983 : BitVec 32 := 1#32
  ⟨c0_i32_981, v1635, c1_i32_983⟩
def k0_off978 (k0_t62 : Fin k0_t62_loop.trips) (c0_i32_1023 : BitVec 32) : Fin 2 → Nat :=
  let c2_i32_1022 : BitVec 32 := 2#32
  let c0_i32_981 : BitVec 32 := 0#32
  let c1_i32_983 : BitVec 32 := 1#32
  let arg29 : BitVec 32 := Scf.iv c0_i32_981 c1_i32_983 k0_t62
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off979 (k0_t62 : Fin k0_t62_loop.trips) (c0_i32_1029 : BitVec 32) : Fin 2 → Nat :=
  let c2_i32_1028 : BitVec 32 := 2#32
  let c0_i32_981 : BitVec 32 := 0#32
  let c1_i32_983 : BitVec 32 := 1#32
  let arg29 : BitVec 32 := Scf.iv c0_i32_981 c1_i32_983 k0_t62
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off980 (k0_t62 : Fin k0_t62_loop.trips) (c0_i32_1035 : BitVec 32) : Fin 2 → Nat :=
  let c2_i32_1034 : BitVec 32 := 2#32
  let c0_i32_981 : BitVec 32 := 0#32
  let c1_i32_983 : BitVec 32 := 1#32
  let arg29 : BitVec 32 := Scf.iv c0_i32_981 c1_i32_983 k0_t62
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off981 (k0_t62 : Fin k0_t62_loop.trips) (c0_i32_1041 : BitVec 32) : Fin 2 → Nat :=
  let c2_i32_1040 : BitVec 32 := 2#32
  let c0_i32_981 : BitVec 32 := 0#32
  let c1_i32_983 : BitVec 32 := 1#32
  let arg29 : BitVec 32 := Scf.iv c0_i32_981 c1_i32_983 k0_t62
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off982 (k0_t62 : Fin k0_t62_loop.trips) (c0_i32_1047 : BitVec 32) : Fin 2 → Nat :=
  let c2_i32_1046 : BitVec 32 := 2#32
  let c0_i32_981 : BitVec 32 := 0#32
  let c1_i32_983 : BitVec 32 := 1#32
  let arg29 : BitVec 32 := Scf.iv c0_i32_981 c1_i32_983 k0_t62
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off983 (k0_t62 : Fin k0_t62_loop.trips) (c0_i32_1053 : BitVec 32) : Fin 2 → Nat :=
  let c2_i32_1052 : BitVec 32 := 2#32
  let c0_i32_981 : BitVec 32 := 0#32
  let c1_i32_983 : BitVec 32 := 1#32
  let arg29 : BitVec 32 := Scf.iv c0_i32_981 c1_i32_983 k0_t62
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off984 (k0_t62 : Fin k0_t62_loop.trips) (c0_i32_1059 : BitVec 32) : Fin 2 → Nat :=
  let c2_i32_1058 : BitVec 32 := 2#32
  let c0_i32_981 : BitVec 32 := 0#32
  let c1_i32_983 : BitVec 32 := 1#32
  let arg29 : BitVec 32 := Scf.iv c0_i32_981 c1_i32_983 k0_t62
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off985 (k0_t62 : Fin k0_t62_loop.trips) (c0_i32_1065 : BitVec 32) : Fin 2 → Nat :=
  let c2_i32_1064 : BitVec 32 := 2#32
  let c0_i32_981 : BitVec 32 := 0#32
  let c1_i32_983 : BitVec 32 := 1#32
  let arg29 : BitVec 32 := Scf.iv c0_i32_981 c1_i32_983 k0_t62
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off986 (k0_t62 : Fin k0_t62_loop.trips) (c0_i32_1071 : BitVec 32) : Fin 2 → Nat :=
  let c2_i32_1070 : BitVec 32 := 2#32
  let c0_i32_981 : BitVec 32 := 0#32
  let c1_i32_983 : BitVec 32 := 1#32
  let arg29 : BitVec 32 := Scf.iv c0_i32_981 c1_i32_983 k0_t62
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off987 (k0_t62 : Fin k0_t62_loop.trips) (c0_i32_1077 : BitVec 32) : Fin 2 → Nat :=
  let c2_i32_1076 : BitVec 32 := 2#32
  let c0_i32_981 : BitVec 32 := 0#32
  let c1_i32_983 : BitVec 32 := 1#32
  let arg29 : BitVec 32 := Scf.iv c0_i32_981 c1_i32_983 k0_t62
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off988 (k0_t62 : Fin k0_t62_loop.trips) (c0_i32_1083 : BitVec 32) : Fin 2 → Nat :=
  let c2_i32_1082 : BitVec 32 := 2#32
  let c0_i32_981 : BitVec 32 := 0#32
  let c1_i32_983 : BitVec 32 := 1#32
  let arg29 : BitVec 32 := Scf.iv c0_i32_981 c1_i32_983 k0_t62
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off989 (k0_t62 : Fin k0_t62_loop.trips) (c0_i32_1089 : BitVec 32) : Fin 2 → Nat :=
  let c2_i32_1088 : BitVec 32 := 2#32
  let c0_i32_981 : BitVec 32 := 0#32
  let c1_i32_983 : BitVec 32 := 1#32
  let arg29 : BitVec 32 := Scf.iv c0_i32_981 c1_i32_983 k0_t62
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off990 (k0_t62 : Fin k0_t62_loop.trips) (c0_i32_1095 : BitVec 32) : Fin 2 → Nat :=
  let c2_i32_1094 : BitVec 32 := 2#32
  let c0_i32_981 : BitVec 32 := 0#32
  let c1_i32_983 : BitVec 32 := 1#32
  let arg29 : BitVec 32 := Scf.iv c0_i32_981 c1_i32_983 k0_t62
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off991 (k0_t62 : Fin k0_t62_loop.trips) (c0_i32_1101 : BitVec 32) : Fin 2 → Nat :=
  let c2_i32_1100 : BitVec 32 := 2#32
  let c0_i32_981 : BitVec 32 := 0#32
  let c1_i32_983 : BitVec 32 := 1#32
  let arg29 : BitVec 32 := Scf.iv c0_i32_981 c1_i32_983 k0_t62
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off992 (k0_t62 : Fin k0_t62_loop.trips) (c0_i32_1107 : BitVec 32) : Fin 2 → Nat :=
  let c2_i32_1106 : BitVec 32 := 2#32
  let c0_i32_981 : BitVec 32 := 0#32
  let c1_i32_983 : BitVec 32 := 1#32
  let arg29 : BitVec 32 := Scf.iv c0_i32_981 c1_i32_983 k0_t62
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off993 (k0_t62 : Fin k0_t62_loop.trips) (c0_i32_1113 : BitVec 32) : Fin 2 → Nat :=
  let c2_i32_1112 : BitVec 32 := 2#32
  let c0_i32_981 : BitVec 32 := 0#32
  let c1_i32_983 : BitVec 32 := 1#32
  let arg29 : BitVec 32 := Scf.iv c0_i32_981 c1_i32_983 k0_t62
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t63_loop : Scf.Loop 32 :=
  let c0_i32_991 : BitVec 32 := 0#32
  let c32_i32_992 : BitVec 32 := 32#32
  let v1642 : BitVec 32 := Scalar.addi c0_i32_991 c32_i32_992
  let c1_i32_993 : BitVec 32 := 1#32
  ⟨c0_i32_991, v1642, c1_i32_993⟩
def k0_off994 (k0_t63 : Fin k0_t63_loop.trips) (c0_i32_1023 : BitVec 32) : Fin 2 → Nat :=
  let c2_i32_1022 : BitVec 32 := 2#32
  let c0_i32_991 : BitVec 32 := 0#32
  let c1_i32_993 : BitVec 32 := 1#32
  let arg29 : BitVec 32 := Scf.iv c0_i32_991 c1_i32_993 k0_t63
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off995 (k0_t63 : Fin k0_t63_loop.trips) (c0_i32_1029 : BitVec 32) : Fin 2 → Nat :=
  let c2_i32_1028 : BitVec 32 := 2#32
  let c0_i32_991 : BitVec 32 := 0#32
  let c1_i32_993 : BitVec 32 := 1#32
  let arg29 : BitVec 32 := Scf.iv c0_i32_991 c1_i32_993 k0_t63
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off996 (k0_t63 : Fin k0_t63_loop.trips) (c0_i32_1035 : BitVec 32) : Fin 2 → Nat :=
  let c2_i32_1034 : BitVec 32 := 2#32
  let c0_i32_991 : BitVec 32 := 0#32
  let c1_i32_993 : BitVec 32 := 1#32
  let arg29 : BitVec 32 := Scf.iv c0_i32_991 c1_i32_993 k0_t63
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off997 (k0_t63 : Fin k0_t63_loop.trips) (c0_i32_1041 : BitVec 32) : Fin 2 → Nat :=
  let c2_i32_1040 : BitVec 32 := 2#32
  let c0_i32_991 : BitVec 32 := 0#32
  let c1_i32_993 : BitVec 32 := 1#32
  let arg29 : BitVec 32 := Scf.iv c0_i32_991 c1_i32_993 k0_t63
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off998 (k0_t63 : Fin k0_t63_loop.trips) (c0_i32_1047 : BitVec 32) : Fin 2 → Nat :=
  let c2_i32_1046 : BitVec 32 := 2#32
  let c0_i32_991 : BitVec 32 := 0#32
  let c1_i32_993 : BitVec 32 := 1#32
  let arg29 : BitVec 32 := Scf.iv c0_i32_991 c1_i32_993 k0_t63
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off999 (k0_t63 : Fin k0_t63_loop.trips) (c0_i32_1053 : BitVec 32) : Fin 2 → Nat :=
  let c2_i32_1052 : BitVec 32 := 2#32
  let c0_i32_991 : BitVec 32 := 0#32
  let c1_i32_993 : BitVec 32 := 1#32
  let arg29 : BitVec 32 := Scf.iv c0_i32_991 c1_i32_993 k0_t63
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off1000 (k0_t63 : Fin k0_t63_loop.trips) (c0_i32_1059 : BitVec 32) : Fin 2 → Nat :=
  let c2_i32_1058 : BitVec 32 := 2#32
  let c0_i32_991 : BitVec 32 := 0#32
  let c1_i32_993 : BitVec 32 := 1#32
  let arg29 : BitVec 32 := Scf.iv c0_i32_991 c1_i32_993 k0_t63
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off1001 (k0_t63 : Fin k0_t63_loop.trips) (c0_i32_1065 : BitVec 32) : Fin 2 → Nat :=
  let c2_i32_1064 : BitVec 32 := 2#32
  let c0_i32_991 : BitVec 32 := 0#32
  let c1_i32_993 : BitVec 32 := 1#32
  let arg29 : BitVec 32 := Scf.iv c0_i32_991 c1_i32_993 k0_t63
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off1002 (k0_t63 : Fin k0_t63_loop.trips) (c0_i32_1071 : BitVec 32) : Fin 2 → Nat :=
  let c2_i32_1070 : BitVec 32 := 2#32
  let c0_i32_991 : BitVec 32 := 0#32
  let c1_i32_993 : BitVec 32 := 1#32
  let arg29 : BitVec 32 := Scf.iv c0_i32_991 c1_i32_993 k0_t63
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off1003 (k0_t63 : Fin k0_t63_loop.trips) (c0_i32_1077 : BitVec 32) : Fin 2 → Nat :=
  let c2_i32_1076 : BitVec 32 := 2#32
  let c0_i32_991 : BitVec 32 := 0#32
  let c1_i32_993 : BitVec 32 := 1#32
  let arg29 : BitVec 32 := Scf.iv c0_i32_991 c1_i32_993 k0_t63
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off1004 (k0_t63 : Fin k0_t63_loop.trips) (c0_i32_1083 : BitVec 32) : Fin 2 → Nat :=
  let c2_i32_1082 : BitVec 32 := 2#32
  let c0_i32_991 : BitVec 32 := 0#32
  let c1_i32_993 : BitVec 32 := 1#32
  let arg29 : BitVec 32 := Scf.iv c0_i32_991 c1_i32_993 k0_t63
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off1005 (k0_t63 : Fin k0_t63_loop.trips) (c0_i32_1089 : BitVec 32) : Fin 2 → Nat :=
  let c2_i32_1088 : BitVec 32 := 2#32
  let c0_i32_991 : BitVec 32 := 0#32
  let c1_i32_993 : BitVec 32 := 1#32
  let arg29 : BitVec 32 := Scf.iv c0_i32_991 c1_i32_993 k0_t63
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off1006 (k0_t63 : Fin k0_t63_loop.trips) (c0_i32_1095 : BitVec 32) : Fin 2 → Nat :=
  let c2_i32_1094 : BitVec 32 := 2#32
  let c0_i32_991 : BitVec 32 := 0#32
  let c1_i32_993 : BitVec 32 := 1#32
  let arg29 : BitVec 32 := Scf.iv c0_i32_991 c1_i32_993 k0_t63
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off1007 (k0_t63 : Fin k0_t63_loop.trips) (c0_i32_1101 : BitVec 32) : Fin 2 → Nat :=
  let c2_i32_1100 : BitVec 32 := 2#32
  let c0_i32_991 : BitVec 32 := 0#32
  let c1_i32_993 : BitVec 32 := 1#32
  let arg29 : BitVec 32 := Scf.iv c0_i32_991 c1_i32_993 k0_t63
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off1008 (k0_t63 : Fin k0_t63_loop.trips) (c0_i32_1107 : BitVec 32) : Fin 2 → Nat :=
  let c2_i32_1106 : BitVec 32 := 2#32
  let c0_i32_991 : BitVec 32 := 0#32
  let c1_i32_993 : BitVec 32 := 1#32
  let arg29 : BitVec 32 := Scf.iv c0_i32_991 c1_i32_993 k0_t63
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off1009 (k0_t63 : Fin k0_t63_loop.trips) (c0_i32_1113 : BitVec 32) : Fin 2 → Nat :=
  let c2_i32_1112 : BitVec 32 := 2#32
  let c0_i32_991 : BitVec 32 := 0#32
  let c1_i32_993 : BitVec 32 := 1#32
  let arg29 : BitVec 32 := Scf.iv c0_i32_991 c1_i32_993 k0_t63
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
@[reducible] def k0_t64_loop : Scf.Loop 32 :=
  let c0_i32_1001 : BitVec 32 := 0#32
  let c32_i32_1002 : BitVec 32 := 32#32
  let v1649 : BitVec 32 := Scalar.addi c0_i32_1001 c32_i32_1002
  let c1_i32_1003 : BitVec 32 := 1#32
  ⟨c0_i32_1001, v1649, c1_i32_1003⟩
def k0_off1010 (k0_t64 : Fin k0_t64_loop.trips) (c0_i32_1023 : BitVec 32) : Fin 2 → Nat :=
  let c2_i32_1022 : BitVec 32 := 2#32
  let c0_i32_1001 : BitVec 32 := 0#32
  let c1_i32_1003 : BitVec 32 := 1#32
  let arg29 : BitVec 32 := Scf.iv c0_i32_1001 c1_i32_1003 k0_t64
  let v1668 : BitVec 32 := Scalar.muli c2_i32_1022 arg29
  let v1669 : BitVec 32 := Scalar.addi v1668 c0_i32_1023
  let v1670 : Index := Scalar.indexCast v1669
  let c0_1024 : Index := 0#32
  ![v1670.toNat, 0]
def k0_off1011 (k0_t64 : Fin k0_t64_loop.trips) (c0_i32_1029 : BitVec 32) : Fin 2 → Nat :=
  let c2_i32_1028 : BitVec 32 := 2#32
  let c0_i32_1001 : BitVec 32 := 0#32
  let c1_i32_1003 : BitVec 32 := 1#32
  let arg29 : BitVec 32 := Scf.iv c0_i32_1001 c1_i32_1003 k0_t64
  let v1678 : BitVec 32 := Scalar.muli c2_i32_1028 arg29
  let v1679 : BitVec 32 := Scalar.addi v1678 c0_i32_1029
  let v1680 : Index := Scalar.indexCast v1679
  let c16_1030 : Index := 16#32
  ![v1680.toNat, 16]
def k0_off1012 (k0_t64 : Fin k0_t64_loop.trips) (c0_i32_1035 : BitVec 32) : Fin 2 → Nat :=
  let c2_i32_1034 : BitVec 32 := 2#32
  let c0_i32_1001 : BitVec 32 := 0#32
  let c1_i32_1003 : BitVec 32 := 1#32
  let arg29 : BitVec 32 := Scf.iv c0_i32_1001 c1_i32_1003 k0_t64
  let v1688 : BitVec 32 := Scalar.muli c2_i32_1034 arg29
  let v1689 : BitVec 32 := Scalar.addi v1688 c0_i32_1035
  let v1690 : Index := Scalar.indexCast v1689
  let c32_1036 : Index := 32#32
  ![v1690.toNat, 32]
def k0_off1013 (k0_t64 : Fin k0_t64_loop.trips) (c0_i32_1041 : BitVec 32) : Fin 2 → Nat :=
  let c2_i32_1040 : BitVec 32 := 2#32
  let c0_i32_1001 : BitVec 32 := 0#32
  let c1_i32_1003 : BitVec 32 := 1#32
  let arg29 : BitVec 32 := Scf.iv c0_i32_1001 c1_i32_1003 k0_t64
  let v1698 : BitVec 32 := Scalar.muli c2_i32_1040 arg29
  let v1699 : BitVec 32 := Scalar.addi v1698 c0_i32_1041
  let v1700 : Index := Scalar.indexCast v1699
  let c48_1042 : Index := 48#32
  ![v1700.toNat, 48]
def k0_off1014 (k0_t64 : Fin k0_t64_loop.trips) (c0_i32_1047 : BitVec 32) : Fin 2 → Nat :=
  let c2_i32_1046 : BitVec 32 := 2#32
  let c0_i32_1001 : BitVec 32 := 0#32
  let c1_i32_1003 : BitVec 32 := 1#32
  let arg29 : BitVec 32 := Scf.iv c0_i32_1001 c1_i32_1003 k0_t64
  let v1708 : BitVec 32 := Scalar.muli c2_i32_1046 arg29
  let v1709 : BitVec 32 := Scalar.addi v1708 c0_i32_1047
  let v1710 : Index := Scalar.indexCast v1709
  let c64_1048 : Index := 64#32
  ![v1710.toNat, 64]
def k0_off1015 (k0_t64 : Fin k0_t64_loop.trips) (c0_i32_1053 : BitVec 32) : Fin 2 → Nat :=
  let c2_i32_1052 : BitVec 32 := 2#32
  let c0_i32_1001 : BitVec 32 := 0#32
  let c1_i32_1003 : BitVec 32 := 1#32
  let arg29 : BitVec 32 := Scf.iv c0_i32_1001 c1_i32_1003 k0_t64
  let v1718 : BitVec 32 := Scalar.muli c2_i32_1052 arg29
  let v1719 : BitVec 32 := Scalar.addi v1718 c0_i32_1053
  let v1720 : Index := Scalar.indexCast v1719
  let c80_1054 : Index := 80#32
  ![v1720.toNat, 80]
def k0_off1016 (k0_t64 : Fin k0_t64_loop.trips) (c0_i32_1059 : BitVec 32) : Fin 2 → Nat :=
  let c2_i32_1058 : BitVec 32 := 2#32
  let c0_i32_1001 : BitVec 32 := 0#32
  let c1_i32_1003 : BitVec 32 := 1#32
  let arg29 : BitVec 32 := Scf.iv c0_i32_1001 c1_i32_1003 k0_t64
  let v1728 : BitVec 32 := Scalar.muli c2_i32_1058 arg29
  let v1729 : BitVec 32 := Scalar.addi v1728 c0_i32_1059
  let v1730 : Index := Scalar.indexCast v1729
  let c96_1060 : Index := 96#32
  ![v1730.toNat, 96]
def k0_off1017 (k0_t64 : Fin k0_t64_loop.trips) (c0_i32_1065 : BitVec 32) : Fin 2 → Nat :=
  let c2_i32_1064 : BitVec 32 := 2#32
  let c0_i32_1001 : BitVec 32 := 0#32
  let c1_i32_1003 : BitVec 32 := 1#32
  let arg29 : BitVec 32 := Scf.iv c0_i32_1001 c1_i32_1003 k0_t64
  let v1738 : BitVec 32 := Scalar.muli c2_i32_1064 arg29
  let v1739 : BitVec 32 := Scalar.addi v1738 c0_i32_1065
  let v1740 : Index := Scalar.indexCast v1739
  let c112_1066 : Index := 112#32
  ![v1740.toNat, 112]
def k0_off1018 (k0_t64 : Fin k0_t64_loop.trips) (c0_i32_1071 : BitVec 32) : Fin 2 → Nat :=
  let c2_i32_1070 : BitVec 32 := 2#32
  let c0_i32_1001 : BitVec 32 := 0#32
  let c1_i32_1003 : BitVec 32 := 1#32
  let arg29 : BitVec 32 := Scf.iv c0_i32_1001 c1_i32_1003 k0_t64
  let v1748 : BitVec 32 := Scalar.muli c2_i32_1070 arg29
  let v1749 : BitVec 32 := Scalar.addi v1748 c0_i32_1071
  let v1750 : Index := Scalar.indexCast v1749
  let c128_1072 : Index := 128#32
  ![v1750.toNat, 128]
def k0_off1019 (k0_t64 : Fin k0_t64_loop.trips) (c0_i32_1077 : BitVec 32) : Fin 2 → Nat :=
  let c2_i32_1076 : BitVec 32 := 2#32
  let c0_i32_1001 : BitVec 32 := 0#32
  let c1_i32_1003 : BitVec 32 := 1#32
  let arg29 : BitVec 32 := Scf.iv c0_i32_1001 c1_i32_1003 k0_t64
  let v1758 : BitVec 32 := Scalar.muli c2_i32_1076 arg29
  let v1759 : BitVec 32 := Scalar.addi v1758 c0_i32_1077
  let v1760 : Index := Scalar.indexCast v1759
  let c144_1078 : Index := 144#32
  ![v1760.toNat, 144]
def k0_off1020 (k0_t64 : Fin k0_t64_loop.trips) (c0_i32_1083 : BitVec 32) : Fin 2 → Nat :=
  let c2_i32_1082 : BitVec 32 := 2#32
  let c0_i32_1001 : BitVec 32 := 0#32
  let c1_i32_1003 : BitVec 32 := 1#32
  let arg29 : BitVec 32 := Scf.iv c0_i32_1001 c1_i32_1003 k0_t64
  let v1768 : BitVec 32 := Scalar.muli c2_i32_1082 arg29
  let v1769 : BitVec 32 := Scalar.addi v1768 c0_i32_1083
  let v1770 : Index := Scalar.indexCast v1769
  let c160_1084 : Index := 160#32
  ![v1770.toNat, 160]
def k0_off1021 (k0_t64 : Fin k0_t64_loop.trips) (c0_i32_1089 : BitVec 32) : Fin 2 → Nat :=
  let c2_i32_1088 : BitVec 32 := 2#32
  let c0_i32_1001 : BitVec 32 := 0#32
  let c1_i32_1003 : BitVec 32 := 1#32
  let arg29 : BitVec 32 := Scf.iv c0_i32_1001 c1_i32_1003 k0_t64
  let v1778 : BitVec 32 := Scalar.muli c2_i32_1088 arg29
  let v1779 : BitVec 32 := Scalar.addi v1778 c0_i32_1089
  let v1780 : Index := Scalar.indexCast v1779
  let c176_1090 : Index := 176#32
  ![v1780.toNat, 176]
def k0_off1022 (k0_t64 : Fin k0_t64_loop.trips) (c0_i32_1095 : BitVec 32) : Fin 2 → Nat :=
  let c2_i32_1094 : BitVec 32 := 2#32
  let c0_i32_1001 : BitVec 32 := 0#32
  let c1_i32_1003 : BitVec 32 := 1#32
  let arg29 : BitVec 32 := Scf.iv c0_i32_1001 c1_i32_1003 k0_t64
  let v1788 : BitVec 32 := Scalar.muli c2_i32_1094 arg29
  let v1789 : BitVec 32 := Scalar.addi v1788 c0_i32_1095
  let v1790 : Index := Scalar.indexCast v1789
  let c192_1096 : Index := 192#32
  ![v1790.toNat, 192]
def k0_off1023 (k0_t64 : Fin k0_t64_loop.trips) (c0_i32_1101 : BitVec 32) : Fin 2 → Nat :=
  let c2_i32_1100 : BitVec 32 := 2#32
  let c0_i32_1001 : BitVec 32 := 0#32
  let c1_i32_1003 : BitVec 32 := 1#32
  let arg29 : BitVec 32 := Scf.iv c0_i32_1001 c1_i32_1003 k0_t64
  let v1798 : BitVec 32 := Scalar.muli c2_i32_1100 arg29
  let v1799 : BitVec 32 := Scalar.addi v1798 c0_i32_1101
  let v1800 : Index := Scalar.indexCast v1799
  let c208_1102 : Index := 208#32
  ![v1800.toNat, 208]
def k0_off1024 (k0_t64 : Fin k0_t64_loop.trips) (c0_i32_1107 : BitVec 32) : Fin 2 → Nat :=
  let c2_i32_1106 : BitVec 32 := 2#32
  let c0_i32_1001 : BitVec 32 := 0#32
  let c1_i32_1003 : BitVec 32 := 1#32
  let arg29 : BitVec 32 := Scf.iv c0_i32_1001 c1_i32_1003 k0_t64
  let v1808 : BitVec 32 := Scalar.muli c2_i32_1106 arg29
  let v1809 : BitVec 32 := Scalar.addi v1808 c0_i32_1107
  let v1810 : Index := Scalar.indexCast v1809
  let c224_1108 : Index := 224#32
  ![v1810.toNat, 224]
def k0_off1025 (k0_t64 : Fin k0_t64_loop.trips) (c0_i32_1113 : BitVec 32) : Fin 2 → Nat :=
  let c2_i32_1112 : BitVec 32 := 2#32
  let c0_i32_1001 : BitVec 32 := 0#32
  let c1_i32_1003 : BitVec 32 := 1#32
  let arg29 : BitVec 32 := Scf.iv c0_i32_1001 c1_i32_1003 k0_t64
  let v1818 : BitVec 32 := Scalar.muli c2_i32_1112 arg29
  let v1819 : BitVec 32 := Scalar.addi v1818 c0_i32_1113
  let v1820 : Index := Scalar.indexCast v1819
  let c240_1114 : Index := 240#32
  ![v1820.toNat, 240]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x16384x256 : Shape := ⟨3, ![4, 16384, 256]⟩
abbrev S17 : Shape := ⟨1, ![17]⟩
abbrev S16384 : Shape := ⟨1, ![16384]⟩
abbrev S256 : Shape := ⟨1, ![256]⟩
abbrev S1x17 : Shape := ⟨2, ![1, 17]⟩
abbrev S16384x1 : Shape := ⟨2, ![16384, 1]⟩
abbrev S16384x17 : Shape := ⟨2, ![16384, 17]⟩
abbrev S_ : Shape := ⟨0, ![]⟩
abbrev S16384x4x256 : Shape := ⟨3, ![16384, 4, 256]⟩
abbrev S16x4x256 : Shape := ⟨3, ![16, 4, 256]⟩
abbrev S16 : Shape := ⟨1, ![16]⟩
abbrev S16x1x1 : Shape := ⟨3, ![16, 1, 1]⟩
abbrev S4x16x256 : Shape := ⟨3, ![4, 16, 256]⟩
abbrev S1x1x256 : Shape := ⟨3, ![1, 1, 256]⟩

abbrev nBuf : Space → Nat
  | .hbm => 112
  | .vmem => 0
  | .smem => 0
  | _ => 0

abbrev bufTy : (tb : Table) → Fin (tcTables nBuf tb) → BufTy
  | .hbm, ⟨0, _⟩ => ⟨S4x16384x256, .f32⟩
  | .hbm, ⟨1, _⟩ => ⟨S17, .i32⟩
  | .hbm, ⟨2, _⟩ => ⟨S16384, .i32⟩
  | .hbm, ⟨3, _⟩ => ⟨S256, .f32⟩
  | .hbm, ⟨4, _⟩ => ⟨S256, .f32⟩
  | .hbm, ⟨5, _⟩ => ⟨S1x17, .i32⟩
  | .hbm, ⟨6, _⟩ => ⟨S16384, .i32⟩
  | .hbm, ⟨7, _⟩ => ⟨S16384x1, .i32⟩
  | .hbm, ⟨8, _⟩ => ⟨S16384x17, .i32⟩
  | .hbm, ⟨9, _⟩ => ⟨S16384x17, .i32⟩
  | .hbm, ⟨10, _⟩ => ⟨S16384x17, .i1⟩
  | .hbm, ⟨11, _⟩ => ⟨S16384x17, .i32⟩
  | .hbm, ⟨12, _⟩ => ⟨S_, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384x4x256, .f32⟩
  | .hbm, ⟨26, _⟩ => ⟨S_, .f32⟩
  | .hbm, ⟨27, _⟩ => ⟨S16x4x256, .f32⟩
  | .hbm, ⟨28, _⟩ => ⟨S16384x1, .i32⟩
  | .hbm, ⟨29, _⟩ => ⟨S16x4x256, .f32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16, .f32⟩
  | .hbm, ⟨34, _⟩ => ⟨S16384x1, .i32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S16x1x1, .f32⟩
  | .hbm, ⟨40, _⟩ => ⟨S16x4x256, .f32⟩
  | .hbm, ⟨41, _⟩ => ⟨S16x4x256, .f32⟩
  | .hbm, ⟨42, _⟩ => ⟨S4x16x256, .f32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S4x16384x256, .f32⟩
  | .hbm, ⟨52, _⟩ => ⟨S4x16384x256, .f32⟩
  | .hbm, ⟨53, _⟩ => ⟨S4x16384x256, .f32⟩
  | .hbm, ⟨54, _⟩ => ⟨S1x17, .i32⟩
  | .hbm, ⟨55, _⟩ => ⟨S16384, .i32⟩
  | .hbm, ⟨56, _⟩ => ⟨S16384x1, .i32⟩
  | .hbm, ⟨57, _⟩ => ⟨S16384x17, .i32⟩
  | .hbm, ⟨58, _⟩ => ⟨S16384x17, .i32⟩
  | .hbm, ⟨59, _⟩ => ⟨S16384x17, .i1⟩
  | .hbm, ⟨60, _⟩ => ⟨S16384x17, .i32⟩
  | .hbm, ⟨61, _⟩ => ⟨S_, .i32⟩
  | .hbm, ⟨62, _⟩ => ⟨S16384, .i32⟩
  | .hbm, ⟨63, _⟩ => ⟨S_, .i32⟩
  | .hbm, ⟨64, _⟩ => ⟨S16384, .i32⟩
  | .hbm, ⟨65, _⟩ => ⟨S16384, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S16384, .i32⟩
  | .hbm, ⟨70, _⟩ => ⟨S16384, .i32⟩
  | .hbm, ⟨71, _⟩ => ⟨S_, .i32⟩
  | .hbm, ⟨72, _⟩ => ⟨S16384, .i32⟩
  | .hbm, ⟨73, _⟩ => ⟨S16384, .i32⟩
  | .hbm, ⟨74, _⟩ => ⟨S16384x4x256, .f32⟩
  | .hbm, ⟨75, _⟩ => ⟨S_, .f32⟩
  | .hbm, ⟨76, _⟩ => ⟨S16x4x256, .f32⟩
  | .hbm, ⟨77, _⟩ => ⟨S16384x1, .i32⟩
  | .hbm, ⟨78, _⟩ => ⟨S16x4x256, .f32⟩
  | .hbm, ⟨79, _⟩ => ⟨S_, .f32⟩
  | .hbm, ⟨80, _⟩ => ⟨S16384, .f32⟩
  | .hbm, ⟨81, _⟩ => ⟨S_, .f32⟩
  | .hbm, ⟨82, _⟩ => ⟨S16, .f32⟩
  | .hbm, ⟨83, _⟩ => ⟨S16384x1, .i32⟩
  | .hbm, ⟨84, _⟩ => ⟨S16, .f32⟩
  | .hbm, ⟨85, _⟩ => ⟨S_, .f32⟩
  | .hbm, ⟨86, _⟩ => ⟨S16, .f32⟩
  | .hbm, ⟨87, _⟩ => ⟨S16, .f32⟩
  | .hbm, ⟨88, _⟩ => ⟨S16x1x1, .f32⟩
  | .hbm, ⟨89, _⟩ => ⟨S16x4x256, .f32⟩
  | .hbm, ⟨90, _⟩ => ⟨S16x4x256, .f32⟩
  | .hbm, ⟨91, _⟩ => ⟨S4x16x256, .f32⟩
  | .hbm, ⟨92, _⟩ => ⟨S_, .f32⟩
  | .hbm, ⟨93, _⟩ => ⟨S4x16x256, .f32⟩
  | .hbm, ⟨94, _⟩ => ⟨S4x16x256, .f32⟩
  | .hbm, ⟨95, _⟩ => ⟨S4x16x256, .f32⟩
  | .hbm, ⟨96, _⟩ => ⟨S_, .i32⟩
  | .hbm, ⟨97, _⟩ => ⟨S16384, .i32⟩
  | .hbm, ⟨98, _⟩ => ⟨S16384, .i1⟩
  | .hbm, ⟨99, _⟩ => ⟨S_, .i32⟩
  | .hbm, ⟨100, _⟩ => ⟨S16384, .i32⟩
  | .hbm, ⟨101, _⟩ => ⟨S16384, .i32⟩
  | .hbm, ⟨102, _⟩ => ⟨S16384, .i32⟩
  | .hbm, ⟨103, _⟩ => ⟨S16384x1, .i32⟩
  | .hbm, ⟨104, _⟩ => ⟨S4x16384x256, .f32⟩
  | .hbm, ⟨105, _⟩ => ⟨S4x16384x256, .f32⟩
  | .hbm, ⟨106, _⟩ => ⟨S1x1x256, .f32⟩
  | .hbm, ⟨107, _⟩ => ⟨S4x16384x256, .f32⟩
  | .hbm, ⟨108, _⟩ => ⟨S4x16384x256, .f32⟩
  | .hbm, ⟨109, _⟩ => ⟨S1x1x256, .f32⟩
  | .hbm, ⟨110, _⟩ => ⟨S4x16384x256, .f32⟩
  | .hbm, ⟨111, _⟩ => ⟨S4x16384x256, .f32⟩
  | _, _ => ⟨S4x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_c_11 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v44 : Ref sig .tc := ⟨.hbm, 73, rfl⟩
abbrev main_v45 : Ref sig .tc := ⟨.hbm, 74, rfl⟩
abbrev main_cst_12 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_13 : Ref sig .tc := ⟨.hbm, 79, rfl⟩
abbrev main_v49 : Ref sig .tc := ⟨.hbm, 80, rfl⟩
abbrev main_cst_14 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_15 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_16 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_17 : Ref sig .tc := ⟨.hbm, 96, rfl⟩
abbrev main_v62 : Ref sig .tc := ⟨.hbm, 97, rfl⟩
abbrev main_v63 : Ref sig .tc := ⟨.hbm, 98, rfl⟩
abbrev main_c_18 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩

abbrev nD : Nat := 1
abbrev τ : Topo := Topo.v7x

variable {F : FTy → Type} [FloatOps F]
-- ==== Proof.Struct.lean ====
/-
  The tile's program as this certificate reads it: two blocks, each a first pass over its sixteen chunks of rows (the
  sums), its coefficients, and a second pass (the normalised rows), every pass one recursion over the chunks. The
  printed body is this program (`Proof/Same.lean`).
-/
module

public import proofs.«01_k».proof.Proof.Gen.KernelIdeal

@[expose] public section

namespace Cert.KernelIdeal.Seg

open Idealize.ShloMosaic Idealize.SL.Sem K0.R1.Facts₀ K0.R2.Facts₀ Shapes1.Facts₀

noncomputable section

variable {F : FTy → Type} [FloatOps F]

/-- A lane vector. -/
abbrev V (F : FTy → Type) := FVec F S16 .f32

/-- A program of the tile at grid coordinates `i`. -/
abbrev TP (F : FTy → Type) [FloatOps F] (i : grid0.Coords) :=
  Prog (TpuEff nD τ sig (Elt F) Λ₀ (.scVector ((i 0).castLE hcore0) ((i 1).castLE hsub0)))

/-! ## The buffers and semaphores, by number -/

/-- The seven row buffers. -/
def buf : Fin 7 → Memref sig .scVector .vmem S64x256 .f32
  | 0 => Memref.whole cc0_scratch0
  | 1 => Memref.whole cc0_scratch1
  | 2 => Memref.whole cc0_scratch2
  | 3 => Memref.whole cc0_scratch3
  | 4 => Memref.whole cc0_scratch4
  | 5 => Memref.whole cc0_scratch5
  | 6 => Memref.whole cc0_scratch6

/-- Each row buffer is a whole array. -/
theorem buf_whole (j : Fin 7) : (buf j).IsWhole := by
  fin_cases j <;> exact Memref.isWhole_whole _

/-- The semaphore of buffer `j`'s loads -/
def lsem : Fin 7 → DmaSem sig
  | 0 => cc0_scratch9.sem
  | 1 => cc0_scratch10.sem
  | 2 => cc0_scratch11.sem
  | 3 => cc0_scratch12.sem
  | 4 => cc0_scratch13.sem
  | 5 => cc0_scratch14.sem
  | 6 => cc0_scratch15.sem

/-- and of its stores. -/
def ssem : Fin 7 → DmaSem sig
  | 0 => cc0_scratch16.sem
  | 1 => cc0_scratch17.sem
  | 2 => cc0_scratch18.sem
  | 3 => cc0_scratch19.sem
  | 4 => cc0_scratch20.sem
  | 5 => cc0_scratch21.sem
  | 6 => cc0_scratch22.sem

/-- The arrays in HBM and the tile's copies of the weight and the bias. -/
abbrev mx : Memref sig .scVector .hbm S65536x256 .f32 := Memref.whole main_v0_scv
abbrev mw : Memref sig .scVector .hbm S256 .f32 := Memref.whole main_arg3_scv
abbrev mb : Memref sig .scVector .hbm S256 .f32 := Memref.whole main_arg4_scv
abbrev mo : Memref sig .scVector .hbm S65536x256 .f32 := Memref.whole main_v1_scv
abbrev wv : Memref sig .scVector .vmem S256 .f32 := Memref.whole cc0_scratch7
abbrev bv : Memref sig .scVector .vmem S256 .f32 := Memref.whole cc0_scratch8

/-- The buffer of chunk `c` in the first pass; a chunk keeps it for as long as it stays in the tile's memory. -/
abbrev slot (k : Nat) : Fin 7 := ⟨k % 7, Nat.mod_lt _ (by decide)⟩
/-- Chunk `k`. -/
abbrev chunk (k : Nat) : Fin 16 := ⟨k % 16, Nat.mod_lt _ (by decide)⟩

/-- Where chunk `c` of block `b` starts in the flattened array. -/
abbrev chunkOff (i : grid0.Coords) (b : Fin 2) (c : Fin 16) : Fin 2 → Nat :=
  k0_off1 i (BitVec.ofNat 32 b.val) (BitVec.ofNat 32 (64 * c.val))

/-- Its rows, as a rectangle, -/
abbrev chunkRect (i : grid0.Coords) (b : Fin 2) (c : Fin 16) : Rect S65536x256 :=
  Rect.unit (s := S65536x256) (chunkOff i b c) S64x256.size (k0_off1_inb i b c)
/-- of the input -/
abbrev xChunk (i : grid0.Coords) (b : Fin 2) (c : Fin 16) : Memref sig .scVector .hbm S64x256 .f32 :=
  mx.slice (chunkRect i b c) (fun _ => rfl)
/-- and of the output. -/
abbrev oChunk (i : grid0.Coords) (b : Fin 2) (c : Fin 16) : Memref sig .scVector .hbm S64x256 .f32 :=
  mo.slice (chunkRect i b c) (fun _ => rfl)

/-! ## The transfers -/

def load (i : grid0.Coords) (b : Fin 2) (c : Fin 16) (j : Fin 7) : TP F i PUnit :=
  Prog.lift (.enqueueDma (xChunk i b c) (.here (buf j)) (.dma (lsem j)) (View.wordExact_bits rfl)
    (buf_whole _).wordExact ⟨Or.inl rfl, trivial⟩)

def loaded (i : grid0.Coords) (b : Fin 2) (c : Fin 16) (j : Fin 7) : TP F i PUnit :=
  Prog.lift (.waitDma2 (lsem j) (xChunk i b c) (buf j) (View.wordExact_bits rfl) (buf_whole _).wordExact)

def store (i : grid0.Coords) (b : Fin 2) (c : Fin 16) (j : Fin 7) : TP F i PUnit :=
  Prog.lift (.enqueueDma (buf j) (.here (oChunk i b c)) (.dma (ssem j)) (buf_whole _).wordExact
    (View.wordExact_bits rfl) ⟨Or.inl rfl, trivial⟩)

def stored (i : grid0.Coords) (b : Fin 2) (c : Fin 16) (j : Fin 7) : TP F i PUnit :=
  Prog.lift (.waitDma2 (ssem j) (buf j) (oChunk i b c) (buf_whole _).wordExact (View.wordExact_bits rfl))

/-! ## Summing rows -/

/-- A loop over a chunk's 32 pairs of rows. -/
abbrev rows : Scf.Loop 32 := ⟨0#32, Scalar.addi 0#32 32#32, 1#32⟩
/-- The loop over the rows of a buffer is well formed. -/
theorem rows_ok : rows.OK := by decide

/-- Where group `g` of row `2 k + p` lies. -/
def rowOff (k : Fin rows.trips) (p : Fin 2) (g : Fin 16) : Fin 2 → Nat :=
  ![(Scalar.indexCast (Scalar.addi (Scalar.muli 2#32 (Scf.iv 0#32 1#32 k)) (BitVec.ofNat 32 p.val))).toNat, 16 * g.val]

/-- Where a group of a row begins: at row `2 k + p`, channel `16 g`. -/
theorem rowOff_eq : ∀ (k : Fin rows.trips) (p : Fin 2) (g : Fin 16), rowOff k p g = ![2 * k.val + p.val, 16 * g.val] := by
  decide +kernel

/-- A group of a row lies within the buffer. -/
theorem rowOff_inb : ∀ (k : Fin rows.trips) (p : Fin 2) (g : Fin 16) a, rowOff k p g a + S1x16.size a ≤ S64x256.size a := by
  decide +kernel

/-- That group, as a rectangle. -/
abbrev rowRect (k : Fin rows.trips) (p : Fin 2) (g : Fin 16) : Rect S64x256 :=
  Rect.unit (s := S64x256) (rowOff k p g) S1x16.size (rowOff_inb k p g)

variable (i : grid0.Coords)

/-- Group `g` of row `2 k + p` of a buffer, read -/
def rowGet (b : Memref sig .scVector .vmem S64x256 .f32) (k : Fin rows.trips) (p : Fin 2) (g : Fin 16) : TP F i (V F) := do
  let v : Vec F S1x16 .f32 ← Prog.lift (.load b (rowRect k p g).toLoadRect (View.loadsAt_vmem h_S1x16))
  pure (shapeCast S16 v shapeCasts_S1x16_S16)

/-- and the whole row. -/
def row (b : Memref sig .scVector .vmem S64x256 .f32) (k : Fin rows.trips) (p : Fin 2) : TP F i (Fin 16 → V F) := do
  let v0 ← rowGet i b k p 0
  let v1 ← rowGet i b k p 1
  let v2 ← rowGet i b k p 2
  let v3 ← rowGet i b k p 3
  let v4 ← rowGet i b k p 4
  let v5 ← rowGet i b k p 5
  let v6 ← rowGet i b k p 6
  let v7 ← rowGet i b k p 7
  let v8 ← rowGet i b k p 8
  let v9 ← rowGet i b k p 9
  let v10 ← rowGet i b k p 10
  let v11 ← rowGet i b k p 11
  let v12 ← rowGet i b k p 12
  let v13 ← rowGet i b k p 13
  let v14 ← rowGet i b k p 14
  let v15 ← rowGet i b k p 15
  pure ![v0, v1, v2, v3, v4, v5, v6, v7, v8, v9, v10, v11, v12, v13, v14, v15]

/-- The loop's 32 carried lane vectors: sixteen sums, sixteen sums of squares. -/
abbrev Acc (F : FTy → Type) := V F × V F × V F × V F × V F × V F × V F × V F × V F × V F × V F × V F × V F × V F × V F × V F × V F × V F × V F × V F × V F × V F × V F × V F × V F × V F × V F × V F × V F × V F × V F × V F

def Acc.mk (s q : Fin 16 → V F) : Acc F :=
  (s 0, s 1, s 2, s 3, s 4, s 5, s 6, s 7, s 8, s 9, s 10, s 11, s 12, s 13, s 14, s 15, q 0, q 1, q 2, q 3, q 4, q 5, q 6, q 7, q 8, q 9, q 10, q 11, q 12, q 13, q 14, q 15)

def Acc.s (a : Acc F) : Fin 16 → V F := ![a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2.1, a.2.2.2.2.2.2.2.2.2.2.1, a.2.2.2.2.2.2.2.2.2.2.2.1, a.2.2.2.2.2.2.2.2.2.2.2.2.1, a.2.2.2.2.2.2.2.2.2.2.2.2.2.1, a.2.2.2.2.2.2.2.2.2.2.2.2.2.2.1, a.2.2.2.2.2.2.2.2.2.2.2.2.2.2.2.1]
def Acc.q (a : Acc F) : Fin 16 → V F := ![a.2.2.2.2.2.2.2.2.2.2.2.2.2.2.2.2.1, a.2.2.2.2.2.2.2.2.2.2.2.2.2.2.2.2.2.1, a.2.2.2.2.2.2.2.2.2.2.2.2.2.2.2.2.2.2.1, a.2.2.2.2.2.2.2.2.2.2.2.2.2.2.2.2.2.2.2.1, a.2.2.2.2.2.2.2.2.2.2.2.2.2.2.2.2.2.2.2.2.1, a.2.2.2.2.2.2.2.2.2.2.2.2.2.2.2.2.2.2.2.2.2.1, a.2.2.2.2.2.2.2.2.2.2.2.2.2.2.2.2.2.2.2.2.2.2.1, a.2.2.2.2.2.2.2.2.2.2.2.2.2.2.2.2.2.2.2.2.2.2.2.1, a.2.2.2.2.2.2.2.2.2.2.2.2.2.2.2.2.2.2.2.2.2.2.2.2.1, a.2.2.2.2.2.2.2.2.2.2.2.2.2.2.2.2.2.2.2.2.2.2.2.2.2.1, a.2.2.2.2.2.2.2.2.2.2.2.2.2.2.2.2.2.2.2.2.2.2.2.2.2.2.1, a.2.2.2.2.2.2.2.2.2.2.2.2.2.2.2.2.2.2.2.2.2.2.2.2.2.2.2.1, a.2.2.2.2.2.2.2.2.2.2.2.2.2.2.2.2.2.2.2.2.2.2.2.2.2.2.2.2.1, a.2.2.2.2.2.2.2.2.2.2.2.2.2.2.2.2.2.2.2.2.2.2.2.2.2.2.2.2.2.1, a.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2]

/-- One row added to what is carried. -/
def Acc.add (a : Acc F) (r : Fin 16 → V F) : Acc F :=
  Acc.mk (fun g => addf (a.s g) (r g)) (fun g => addf (a.q g) (mulf (r g) (r g)))

/-- The summing loop over a buffer. -/
def sumLoop (b : Memref sig .scVector .vmem S64x256 .f32) (a : Acc F) : TP F i (Acc F) :=
  Scf.Loop.for rows rows_ok a fun k a => do
    let r₀ ← row i b k 0
    let r₁ ← row i b k 1
    pure ((a.add r₀).add r₁)

/-! ## The coefficients -/

theorem vOff_inb : ∀ (g : Fin 16) a, (![16 * g.val] : Fin 1 → Nat) a + S16.size a ≤ S256.size a := by decide +kernel

/-- Group `g` of the 256 channels, as a rectangle. -/
abbrev vRect (g : Fin 16) : Rect S256 := Rect.unit (s := S256) ![16 * g.val] S16.size (vOff_inb g)

/-- Group `g` of the weight or of the bias. -/
def vGet (m : Memref sig .scVector .vmem S256 .f32) (g : Fin 16) : TP F i (V F) := do
  let v : Vec F S16 .f32 ← Prog.lift (.load m (vRect g).toLoadRect (View.loadsAt_vmem h_S16))
  pure v

/-- A float word on every lane. -/
abbrev lit (b : BitVec 32) : V F := broadcast S16 (Scalar.ofBits .f32 b : F .f32)

/-- One Newton step towards `1 / sqrt v` -/
def newton (v y : V F) : V F :=
  mulf y (subf (lit 0x3FC00000#32) (mulf (mulf (mulf (lit 0x3F000000#32) v) y) y))
/-- and three of them from the reciprocal square root itself. -/
def rstd (v : V F) : V F := newton v (newton v (newton v (rsqrt v)))

/-- The mean of a total -/
def mean (s : V F) : V F := mulf s (lit 0x3A800000#32)
/-- and `var + eps` of both totals. -/
def varEps (s q : V F) : V F :=
  addf (subf (mulf q (lit 0x3A800000#32)) (mulf (mean s) (mean s))) (lit 0x3727C5AC#32)

/-- A group's scale, of its totals and its weight -/
def scale (s q w : V F) : V F := mulf w (rstd (varEps s q))
/-- and its shift. -/
def shift (s q w b : V F) : V F := subf b (mulf (mean s) (scale s q w))

/-- Group `g`'s scale and shift. -/
def coef (a : Acc F) (g : Fin 16) : TP F i (V F × V F) := do
  let w ← vGet i wv g
  let b ← vGet i bv g
  pure (scale (a.s g) (a.q g) w, shift (a.s g) (a.q g) w b)

/-- The scales and shifts of the sixteen groups, from the totals. -/
def coefs (a : Acc F) : TP F i ((Fin 16 → V F) × (Fin 16 → V F)) := do
  let c0 ← coef i a 0
  let c1 ← coef i a 1
  let c2 ← coef i a 2
  let c3 ← coef i a 3
  let c4 ← coef i a 4
  let c5 ← coef i a 5
  let c6 ← coef i a 6
  let c7 ← coef i a 7
  let c8 ← coef i a 8
  let c9 ← coef i a 9
  let c10 ← coef i a 10
  let c11 ← coef i a 11
  let c12 ← coef i a 12
  let c13 ← coef i a 13
  let c14 ← coef i a 14
  let c15 ← coef i a 15
  pure (![c0.1, c1.1, c2.1, c3.1, c4.1, c5.1, c6.1, c7.1, c8.1, c9.1, c10.1, c11.1, c12.1, c13.1, c14.1, c15.1], ![c0.2, c1.2, c2.2, c3.2, c4.2, c5.2, c6.2, c7.2, c8.2, c9.2, c10.2, c11.2, c12.2, c13.2, c14.2, c15.2])

/-! ## Normalising rows -/

/-- A lane vector, scaled and shifted. -/
def nrm (v a c : V F) : V F := addf (mulf v a) c

/-- Group `g` of row `2 k + p` of a buffer, scaled and shifted in place -/
def nrmPut (b : Memref sig .scVector .vmem S64x256 .f32) (k : Fin rows.trips) (p : Fin 2) (g : Fin 16) (a c : V F) : TP F i PUnit := do
  let v : Vec F S1x16 .f32 ← Prog.lift (.load b (rowRect k p g).toLoadRect (View.loadsAt_vmem h_S1x16))
  let _ : Vec F S1x16 .f32 ← Prog.lift (.load b (rowRect k p g).toLoadRect (View.loadsAt_vmem h_S1x16))
  Prog.lift (.store b (rowRect k p g)
    (shapeCast S1x16 (nrm (shapeCast S16 v shapeCasts_S1x16_S16) a c) shapeCasts_S16_S1x16) Finset.univ
    (View.stores_vmem_bits_univ h_S1x16 rfl) (.inl rfl))

/-- and the whole row. -/
def nrmRow (b : Memref sig .scVector .vmem S64x256 .f32) (k : Fin rows.trips) (p : Fin 2) (a c : Fin 16 → V F) : TP F i PUnit := do
  nrmPut i b k p 0 (a 0) (c 0)
  nrmPut i b k p 1 (a 1) (c 1)
  nrmPut i b k p 2 (a 2) (c 2)
  nrmPut i b k p 3 (a 3) (c 3)
  nrmPut i b k p 4 (a 4) (c 4)
  nrmPut i b k p 5 (a 5) (c 5)
  nrmPut i b k p 6 (a 6) (c 6)
  nrmPut i b k p 7 (a 7) (c 7)
  nrmPut i b k p 8 (a 8) (c 8)
  nrmPut i b k p 9 (a 9) (c 9)
  nrmPut i b k p 10 (a 10) (c 10)
  nrmPut i b k p 11 (a 11) (c 11)
  nrmPut i b k p 12 (a 12) (c 12)
  nrmPut i b k p 13 (a 13) (c 13)
  nrmPut i b k p 14 (a 14) (c 14)
  nrmPut i b k p 15 (a 15) (c 15)

/-- The normalising loop over a buffer. -/
def nrmLoop (b : Memref sig .scVector .vmem S64x256 .f32) (a c : Fin 16 → V F) : TP F i (BitVec 32) :=
  Scf.Loop.for rows rows_ok 0#32 fun k _ => do
    nrmRow i b k 0 a c
    nrmRow i b k 1 a c
    pure 0#32

/-! ## A block, and the body -/

/-- `f k`, `f (k + 1)`, … in sequence, `n` of them. -/
def chain {α : Type} (f : Nat → α → TP F i α) : Nat → Nat → α → TP F i α
  | 0, _, a => pure a
  | n + 1, k, a => do
    let a' ← f k a
    chain f n (k + 1) a'

/-- Chunk `k` of the first pass: the load of the chunk four on is issued, the chunk awaited and summed. -/
def sumStep (b : Fin 2) (k : Nat) (a : Acc F) : TP F i (Acc F) := do
  if k < 12 then load i b (chunk (k + 4)) (slot (k + 4)) else pure ⟨⟩
  loaded i b (chunk k) (slot k)
  sumLoop i (buf (slot k)) a

/-- Step `k` of the second pass: chunk `(k + 9) % 16`, the chunks still held first. Once the held ones run out, the
    chunk three steps on is loaded into the buffer whose store was issued four steps ago. -/
def nrmStep (b : Fin 2) (a c : Fin 16 → V F) (k : Nat) (_ : PUnit) : TP F i PUnit := do
  if 4 ≤ k ∧ k < 13 then do
    stored i b (chunk (k + 5)) (slot (k + 5))
    load i b (chunk (k + 12)) (slot (k + 12))
  else pure ⟨⟩
  if 7 ≤ k then loaded i b (chunk (k + 9)) (slot (k + 9)) else pure ⟨⟩
  let _ ← nrmLoop i (buf (slot (k + 9))) a c
  store i b (chunk (k + 9)) (slot (k + 9))

/-- The wait for step `k`'s store. -/
def endStep (b : Fin 2) (k : Nat) (_ : PUnit) : TP F i PUnit := stored i b (chunk (k + 9)) (slot (k + 9))

/-- The first four loads. -/
def loadStep (b : Fin 2) (k : Nat) (_ : PUnit) : TP F i PUnit := load i b (chunk k) (slot k)

/-- The sums before any row. -/
def Acc.zero : Acc F := Acc.mk (fun _ => lit 0#32) (fun _ => lit 0#32)

/-- A block. -/
def block (b : Fin 2) : TP F i PUnit := do
  chain i (loadStep i b) 4 0 ⟨⟩
  let a ← chain i (sumStep i b) 16 0 Acc.zero
  let c ← coefs i a
  chain i (nrmStep i b c.1 c.2) 16 0 ⟨⟩
  chain i (endStep i b) 7 9 ⟨⟩

/-- Before the first block: the weight and the bias. -/
def enter : TP F i PUnit := do
  Prog.lift (.enqueueDma mw (.here wv) (.dma cc0_scoped0.sem) (Memref.isWhole_whole _).wordExact (Memref.isWhole_whole _).wordExact ⟨Or.inl rfl, trivial⟩)
  Prog.lift (.waitDma2 cc0_scoped0.sem mw wv (Memref.isWhole_whole _).wordExact (Memref.isWhole_whole _).wordExact)
  Prog.lift (.enqueueDma mb (.here bv) (.dma cc0_scoped1.sem) (Memref.isWhole_whole _).wordExact (Memref.isWhole_whole _).wordExact ⟨Or.inl rfl, trivial⟩)
  Prog.lift (.waitDma2 cc0_scoped1.sem mb bv (Memref.isWhole_whole _).wordExact (Memref.isWhole_whole _).wordExact)

/-- The tile's body. -/
def body : TP F i PUnit := do
  enter i
  block i 0
  block i 1

end

end Cert.KernelIdeal.Seg
-- ==== Proof.Rows.lean ====
/-
  What the tile's loops do to a row buffer: reading a row, summing a chunk, reading the weight and the bias, and
  normalising a chunk in place, each as the values it leaves.
-/
module

public import proofs.«01_k».proof.Proof.Struct
public import Idealize.ShloMosaic.Lib.SparseCore.Quiescent
public import Idealize.ShloMosaic.Lib.SparseCore.Ops
public import Idealize.ShloMosaic.Lib.Pipeline.Kit
public import Idealize.ShloMosaic.Lib.Tactic

@[expose] public section

namespace Cert.KernelIdeal.Seg

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open K0.R1.Facts₀ K0.R2.Facts₀ Shapes1.Facts₀

noncomputable section

variable {F : FTy → Type} [FloatOps F]

abbrev UH : Type := URounds (GSem nD τ sig) ℕ
abbrev UU : Type := UH × Counters

local notation "𝕄" => MT nD τ sig (HIx 1) (Elt F) ℕ UU ℕ

/-- The tile at grid coordinates `i` of device `d`. -/
abbrev tile (d : Dev nD) (i : grid0.Coords) : Thread nD τ :=
  SparseCore.V d ((i 0).castLE hcore0) ((i 1).castLE hsub0)

/-- A program of the tile, run from `P`, ends with `Q`. -/
abbrev Runs (d : Dev nD) (i : grid0.Coords) {α : Type} (P : sProp 𝕄) (p : TP F i α) (Q : α → sProp 𝕄) : Prop :=
  P ⊢ wp frame (wpE (defs₀ (F := F)) Variants.none (tile d i) none) Set.univ p Q

variable {d : Dev nD} {i : grid0.Coords}

/-- One program after another. -/
theorem Runs.bind {α β : Type} {P : sProp 𝕄} {p : TP F i α} {k : α → TP F i β} {R : α → sProp 𝕄} {Q : β → sProp 𝕄}
    (hp : Runs d i P p R) (hk : ∀ a, Runs d i (R a) (k a) Q) : Runs d i P (p >>= k) Q := by
  unfold Runs
  rw [wp_bind]
  exact hp.trans (wp_mono _ _ _ hk)

/-- A program that returns the value `x`, and then a program of that value. -/
theorem Runs.bindVal {α β : Type} {P P' : sProp 𝕄} {p : TP F i α} {k : α → TP F i β} {x : α} {Q : β → sProp 𝕄}
    (hp : Runs d i P p fun a => iprop(⌜a = x⌝ ∗ P')) (hk : Runs d i P' (k x) Q) : Runs d i P (p >>= k) Q := by
  refine hp.bind fun a => ?_
  unfold Runs
  iintro ⟨%h, H⟩
  subst h
  iapply hk $$ H

/-- A program that returns at once runs, if what it is given entails what it must leave. -/
theorem Runs.pure {α : Type} {P : sProp 𝕄} {a : α} {Q : α → sProp 𝕄} (h : P ⊢ Q a) : Runs d i P (Pure.pure a : TP F i α) Q := by
  unfold Runs
  rw [wp_pure]
  iintro H
  imodintro
  iapply h $$ H

/-- A program that returns at once returns the value it is equal to. -/
theorem Runs.val {α : Type} {P : sProp 𝕄} {a x : α} (h : a = x) : Runs d i P (Pure.pure a : TP F i α) fun b => iprop(⌜b = x⌝ ∗ P) := by
  refine Runs.pure ?_
  iintro H
  isplitr; · ipureintro; exact h
  iexact H

/-- A run with a weaker postcondition. -/
theorem Runs.post {α : Type} {P : sProp 𝕄} {p : TP F i α} {Q Q' : α → sProp 𝕄} (h : Runs d i P p Q) (hq : ∀ a, Q a ⊢ Q' a) :
    Runs d i P p Q' := h.trans (wp_mono _ _ _ hq)

/-- A run with a stronger precondition. -/
theorem Runs.pre {α : Type} {P P' : sProp 𝕄} {p : TP F i α} {Q : α → sProp 𝕄} (hq : P' ⊢ P) (h : Runs d i P p Q) :
    Runs d i P' p Q := hq.trans h

/-- A run beside what it does not touch. -/
theorem Runs.frameR {α : Type} {P R : sProp 𝕄} {p : TP F i α} {Q : α → sProp 𝕄} (h : Runs d i P p Q) :
    Runs d i iprop(P ∗ R) p fun a => iprop(Q a ∗ R) := by
  unfold Runs
  iintro ⟨HP, HR⟩
  iapply (wp_wand_r Idealize.ShloMosaic.frame (wpE (defs₀ (F := F)) Variants.none (tile d i) none) Set.univ)
  isplitl [HP]; · iapply h $$ HP
  iintro %a HQ
  isplitl [HQ] <;> iassumption

/-! ## Rows -/

/-- The contents of a row buffer, and of a channel buffer. -/
abbrev Rows (F : FTy → Type) := S64x256.Idx → Elt F .f32
abbrev Chans (F : FTy → Type) := S256.Idx → Elt F .f32

/-- The buffer of `b` holds `X`. -/
def holds (d : Dev nD) (i : grid0.Coords) {s : Shape} (b : Memref sig .scVector .vmem s .f32) (X : s.Idx → Elt F .f32) : sProp 𝕄 :=
  iprop(∃ f, ⌜b.view.read (Elt F) f = X⌝ ∗ b.view.loc (tile d i) ↦[b.view.set]{fullShare} f)

/-- Group `g` of row `2 k + p` of `X`. -/
def grp (X : Rows F) (k : Fin rows.trips) (p : Fin 2) (g : Fin 16) : V F :=
  shapeCast S16 (fun x : S1x16.Idx => X ((rowRect k p g).emb x)) shapeCasts_S1x16_S16

/-- A load of a rectangle of a buffer reads the contents there. -/
theorem load_runs {s : Shape} {b : Memref sig .scVector .vmem s .f32} {X : s.Idx → Elt F .f32} (r : Rect s)
    {hl : b.view.LoadsAt r.toLoadRect} :
    Runs d i (holds d i b X) (Prog.lift (.load b r.toLoadRect hl)) fun v => iprop(⌜v = fun x => X (r.emb x)⌝ ∗ holds d i b X) := by
  unfold Runs holds
  iintro ⟨%f, %hf, H⟩
  iapply (wp_load_rect Variants.none (tile d i) none Set.univ (b.setOn_access_subset r _)) $$ H
  iintro H
  rw [wp_ret]
  imodintro
  isplitr
  · ipureintro
    funext x
    rw [← hf]
    rfl
  iexists f
  isplitr; · ipureintro; exact hf
  iexact H

/-- The element of row `r`, channel `c` of a row buffer, -/
def pos (r c : Nat) : S64x256.Idx
  | 0 => ⟨r % 64, Nat.mod_lt _ (by decide)⟩
  | 1 => ⟨c % 256, Nat.mod_lt _ (by decide)⟩

/-- and lane `l` of a lane vector. -/
def lane (l : Nat) : S16.Idx
  | 0 => ⟨l % 16, Nat.mod_lt _ (by decide)⟩

/-- Group `g` of row `r` of `X`. -/
def rowOf (X : Rows F) (r : Nat) (g : Fin 16) : V F := fun l => X (pos r (16 * g.val + (l 0).val))

/-- A lane keeps its number when a row of one is flattened. -/
theorem reshape_lane : ∀ l : S16.Idx, ((Shape.reshapeEquiv shapeCasts_S1x16_S16 : S16.Idx ≃ S1x16.Idx) l 1).val = (l 0).val := by
  decide +kernel

/-- Where the lanes of group `g` of row `2 k + p` lie. -/
theorem rowRect_emb (k : Fin rows.trips) (p : Fin 2) (g : Fin 16) (x : S1x16.Idx) :
    (rowRect k p g).emb x = pos (2 * k.val + p.val) (16 * g.val + (x 1).val) := by
  have hk : k.val < 32 := k.isLt
  have hp := p.isLt
  have hg := g.isLt
  have h0 : (x 0).val < 1 := (x 0).isLt
  have h1 : (x 1).val < 16 := (x 1).isLt
  funext a
  apply Fin.ext
  fin_cases a
  · show rowOff k p g 0 + 1 * (x 0).val = (2 * k.val + p.val) % 64
    rw [rowOff_eq]
    show 2 * k.val + p.val + 1 * (x 0).val = _
    omega
  · show rowOff k p g 1 + 1 * (x 1).val = (16 * g.val + (x 1).val) % 256
    rw [rowOff_eq]
    show 16 * g.val + 1 * (x 1).val = _
    omega

/-- A group of a step of the loop is that group of row `2 k + p`. -/
theorem grp_eq (X : Rows F) (k : Fin rows.trips) (p : Fin 2) (g : Fin 16) : grp X k p g = rowOf X (2 * k.val + p.val) g := by
  funext l
  show X ((rowRect k p g).emb (Shape.reshapeEquiv _ l)) = X _
  rw [rowRect_emb, reshape_lane]

variable {b : Memref sig .scVector .vmem S64x256 .f32} {X : Rows F}

/-- A group of a row, as read. -/
theorem rowGet_runs (k : Fin rows.trips) (p : Fin 2) (g : Fin 16) :
    Runs d i (holds d i b X) (rowGet i b k p g) fun v => iprop(⌜v = rowOf X (2 * k.val + p.val) g⌝ ∗ holds d i b X) :=
  (load_runs _).bindVal (Runs.val (grp_eq X k p g))

/-- A row, as read. -/
theorem row_runs (k : Fin rows.trips) (p : Fin 2) :
    Runs d i (holds d i b X) (row i b k p) fun v => iprop(⌜v = rowOf X (2 * k.val + p.val)⌝ ∗ holds d i b X) := by
  unfold row
  refine (rowGet_runs k p 0).bindVal ?_
  refine (rowGet_runs k p 1).bindVal ?_
  refine (rowGet_runs k p 2).bindVal ?_
  refine (rowGet_runs k p 3).bindVal ?_
  refine (rowGet_runs k p 4).bindVal ?_
  refine (rowGet_runs k p 5).bindVal ?_
  refine (rowGet_runs k p 6).bindVal ?_
  refine (rowGet_runs k p 7).bindVal ?_
  refine (rowGet_runs k p 8).bindVal ?_
  refine (rowGet_runs k p 9).bindVal ?_
  refine (rowGet_runs k p 10).bindVal ?_
  refine (rowGet_runs k p 11).bindVal ?_
  refine (rowGet_runs k p 12).bindVal ?_
  refine (rowGet_runs k p 13).bindVal ?_
  refine (rowGet_runs k p 14).bindVal ?_
  refine (rowGet_runs k p 15).bindVal ?_
  refine Runs.val ?_
  funext g
  fin_cases g <;> rfl

/-- `a` with the first `n` rows of `X` added. -/
def sumRows (X : Rows F) (a : Acc F) : Nat → Acc F
  | 0 => a
  | n + 1 => (sumRows X a n).add (rowOf X n)

/-- The summing loop adds the buffer's 64 rows. -/
theorem sumLoop_runs (a : Acc F) :
    Runs d i (holds d i b X) (sumLoop i b a) fun r => iprop(⌜r = sumRows X a 64⌝ ∗ holds d i b X) := by
  unfold sumLoop
  refine Runs.pre ?_ (Scf.wp_for Idealize.ShloMosaic.frame (wpE (defs₀ (F := F)) Variants.none (tile d i) none) Set.univ _ _ _ _ _ _
    (fun k r => iprop(⌜r = sumRows X a (2 * k)⌝ ∗ holds d i b X)) ?_)
  · iintro H
    isplitl [H]
    · isplitr; · ipureintro; rfl
      iexact H
    iintro %r H
    iexact H
  · intro k r
    iintro ⟨%h, H⟩
    subst h
    iapply (show Runs d i (holds d i b X) _ _ from (row_runs k 0).bindVal ((row_runs k 1).bindVal (Runs.val (x := sumRows X a (2 * (k.val + 1))) rfl))) $$ H

/-! ## The weight and the bias -/

/-- Group `g` of the channels `w`. -/
def chans (w : Chans F) (g : Fin 16) : V F := fun l => w ((vRect g).emb l)

/-- A group of a parameter is read. -/
theorem vGet_runs {m : Memref sig .scVector .vmem S256 .f32} {w : Chans F} (g : Fin 16) :
    Runs d i (holds d i m w) (vGet i m g) fun v => iprop(⌜v = chans w g⌝ ∗ holds d i m w) :=
  (load_runs (vRect g)).bindVal (Runs.val rfl)

/-- Both channel buffers, holding `w` and `β`. -/
abbrev params (d : Dev nD) (i : grid0.Coords) (w β : Chans F) : sProp 𝕄 := iprop(holds d i wv w ∗ holds d i bv β)

/-- Group `g`'s scale and shift, of the totals `a`. -/
def coefOf (w β : Chans F) (a : Acc F) (g : Fin 16) : V F × V F :=
  (scale (a.s g) (a.q g) (chans w g), shift (a.s g) (a.q g) (chans w g) (chans β g))

/-- The scale and the shift of one group are computed. -/
theorem coef_runs {w β : Chans F} (a : Acc F) (g : Fin 16) :
    Runs d i (params d i w β) (coef i a g) fun v => iprop(⌜v = coefOf w β a g⌝ ∗ params d i w β) := by
  refine Runs.bindVal (x := chans w g) (P' := params d i w β) ?_ ?_
  · refine (Runs.frameR (vGet_runs g)).post fun v => ?_
    iintro ⟨⟨H, H1⟩, H2⟩
    isplitl [H]; · iexact H
    isplitl [H1] <;> iassumption
  refine Runs.bindVal (x := chans β g) (P' := params d i w β) ?_ (Runs.val rfl)
  refine Runs.pre (P := iprop(holds d i bv β ∗ holds d i wv w)) ?_ ((Runs.frameR (vGet_runs g)).post fun v => ?_)
  · iintro ⟨H1, H2⟩
    isplitl [H2] <;> iassumption
  · iintro ⟨⟨H, H1⟩, H2⟩
    isplitl [H]; · iexact H
    isplitl [H2] <;> iassumption

/-- All the scales, and all the shifts. -/
def coefsOf (w β : Chans F) (a : Acc F) : (Fin 16 → V F) × (Fin 16 → V F) :=
  (fun g => (coefOf w β a g).1, fun g => (coefOf w β a g).2)

/-- The scales and the shifts of all groups are computed. -/
theorem coefs_runs {w β : Chans F} (a : Acc F) :
    Runs d i (params d i w β) (coefs i a) fun v => iprop(⌜v = coefsOf w β a⌝ ∗ params d i w β) := by
  unfold coefs
  refine (coef_runs a 0).bindVal ?_
  refine (coef_runs a 1).bindVal ?_
  refine (coef_runs a 2).bindVal ?_
  refine (coef_runs a 3).bindVal ?_
  refine (coef_runs a 4).bindVal ?_
  refine (coef_runs a 5).bindVal ?_
  refine (coef_runs a 6).bindVal ?_
  refine (coef_runs a 7).bindVal ?_
  refine (coef_runs a 8).bindVal ?_
  refine (coef_runs a 9).bindVal ?_
  refine (coef_runs a 10).bindVal ?_
  refine (coef_runs a 11).bindVal ?_
  refine (coef_runs a 12).bindVal ?_
  refine (coef_runs a 13).bindVal ?_
  refine (coef_runs a 14).bindVal ?_
  refine (coef_runs a 15).bindVal ?_
  refine Runs.val (Prod.ext ?_ ?_)
  · funext g
    fin_cases g <;> rfl
  · funext g
    fin_cases g <;> rfl

/-! ## Normalising -/

/-- `X` with every row scaled by `c.1` and shifted by `c.2`. -/
def nval (c : (Fin 16 → V F) × (Fin 16 → V F)) (X : Rows F) : Rows F := fun y =>
  nrm (fun _ => X y) (c.1 ⟨(y 1).val / 16, Nat.div_lt_of_lt_mul (y 1).isLt⟩) (c.2 ⟨(y 1).val / 16, Nat.div_lt_of_lt_mul (y 1).isLt⟩)
    (lane (y 1).val)

/-- `X` with its first `n` elements, row by row, so treated. -/
def part (c : (Fin 16 → V F) × (Fin 16 → V F)) (X : Rows F) (n : Nat) : Rows F := fun y =>
  if 256 * (y 0).val + (y 1).val < n then nval c X y else X y

/-- A buffer holds whatever is equal to what it holds. -/
theorem holds_congr {X Y : Rows F} (h : X = Y) : holds d i b X ⊢ holds d i b Y := by
  rw [h]

/-- A store to a rectangle of a row buffer. -/
theorem store_runs {s : Shape} {b : Memref sig .scVector .vmem s .f32} {X Y : s.Idx → Elt F .f32} (r : Rect s) (w : r.shape.Idx → Elt F .f32)
    {hx : (b.access r).Stores Finset.univ} {hm : Finset.univ = Finset.univ ∨ ∀ a, r.stride a = 1}
    (hin : ∀ x, Y (r.emb x) = w x) (hout : ∀ y, (∀ x, r.emb x ≠ y) → Y y = X y) :
    Runs d i (holds d i b X) (Prog.lift (.store b r w Finset.univ hx hm)) fun _ => holds d i b Y := by
  unfold Runs holds
  iintro ⟨%f, %hf, H⟩
  iapply (wp_store Variants.none (tile d i) none Set.univ (b.setOn_access_subset r _)) $$ H
  iintro H
  rw [wp_ret]
  imodintro
  iexists ((b.access r).write (Elt F) f w Finset.univ)
  isplitr
  · ipureintro
    funext y
    by_cases hy : ∃ x, r.emb x = y
    · obtain ⟨x, rfl⟩ := hy
      rw [hin]
      exact View.read_slice_write_emb r f w (Finset.mem_univ x)
    · have hy' : ∀ x, r.emb x ≠ y := fun x h => hy ⟨x, h⟩
      rw [hout y hy', ← hf]
      exact View.read_slice_write_of_not_mem r f w Finset.univ (by simpa using hy')
  iexact H

/-- A lane of a group, taken by its channel number, is that lane. -/
theorem lane_val (l : S16.Idx) (g : Nat) : lane (16 * g + (l 0).val) = l := by
  have h : (l 0).val < 16 := (l 0).isLt
  funext a
  fin_cases a
  apply Fin.ext
  show (16 * g + (l 0).val) % 16 = (l 0).val
  omega

/-- A lane keeps its number when a vector becomes a row of one. -/
theorem reshape_lane' : ∀ x : S1x16.Idx, ((Shape.reshapeEquiv shapeCasts_S16_S1x16 : S1x16.Idx ≃ S16.Idx) x 0).val = (x 1).val := by
  decide +kernel

/-- A group of a row normalised in place: sixteen elements further. -/
theorem nrmPut_runs (c : (Fin 16 → V F) × (Fin 16 → V F)) (k : Fin rows.trips) (p : Fin 2) (g : Fin 16) (n : Nat)
    (hn : n = 256 * (2 * k.val + p.val) + 16 * g.val) :
    Runs d i (holds d i b (part c X n)) (nrmPut i b k p g (c.1 g) (c.2 g)) fun _ => holds d i b (part c X (n + 16)) := by
  unfold nrmPut
  refine (load_runs _).bindVal ((load_runs _).bindVal ?_)
  have hk : k.val < 32 := k.isLt
  have hp := p.isLt
  have hg := g.isLt
  refine store_runs _ _ (fun x => ?_) fun y hy => ?_
  · have h1 : (x 1).val < 16 := (x 1).isLt
    have e := rowRect_emb k p g x
    have e0 : ((rowRect k p g).emb x 0).val = 2 * k.val + p.val := by
      rw [e]; show (2 * k.val + p.val) % 64 = _; omega
    have e1 : ((rowRect k p g).emb x 1).val = 16 * g.val + (x 1).val := by
      rw [e]; show (16 * g.val + (x 1).val) % 256 = _; omega
    have el := reshape_lane' x
    generalize hl : (Shape.reshapeEquiv shapeCasts_S16_S1x16 : S1x16.Idx ≃ S16.Idx) x = l at el
    have hv : grp (part c X n) k p g l = X ((rowRect k p g).emb x) := by
      rw [grp_eq, rowOf, el, ← e, part, if_neg (by rw [e0, e1]; omega)]
    have hg' : ∀ h, (⟨((rowRect k p g).emb x 1).val / 16, h⟩ : Fin 16) = g := fun h => Fin.ext (by show _ / 16 = _; rw [e1]; omega)
    have hll : lane ((rowRect k p g).emb x 1).val = l := by rw [e1, ← el, lane_val]
    rw [part, if_pos (by rw [e0, e1]; omega), nval, hg', hll]
    show _ = nrm (grp (part c X n) k p g) (c.1 g) (c.2 g) ((Shape.reshapeEquiv shapeCasts_S16_S1x16 : S1x16.Idx ≃ S16.Idx) x)
    rw [hl]
    unfold nrm addf mulf
    rw [hv]
  · have h0 : (y 0).val < 64 := (y 0).isLt
    have h1 : (y 1).val < 256 := (y 1).isLt
    have hne : ¬ (n ≤ 256 * (y 0).val + (y 1).val ∧ 256 * (y 0).val + (y 1).val < n + 16) := by
      intro h
      refine hy (fun | 0 => ⟨0, by show 0 < 1; decide⟩ | 1 => ⟨(y 1).val - 16 * g.val, by show _ < 16; omega⟩) ?_
      rw [rowRect_emb]
      funext a
      apply Fin.ext
      fin_cases a
      · show (2 * k.val + p.val) % 64 = (y 0).val; omega
      · show (16 * g.val + ((y 1).val - 16 * g.val)) % 256 = (y 1).val; omega
    unfold part
    by_cases h : 256 * (y 0).val + (y 1).val < n
    · rw [if_pos h, if_pos (by omega)]
    · rw [if_neg h, if_neg (by omega)]

/-- A row normalised in place. -/
theorem nrmRow_runs (c : (Fin 16 → V F) × (Fin 16 → V F)) (k : Fin rows.trips) (p : Fin 2) :
    Runs d i (holds d i b (part c X (256 * (2 * k.val + p.val)))) (nrmRow i b k p c.1 c.2)
      fun _ => holds d i b (part c X (256 * (2 * k.val + p.val + 1))) := by
  unfold nrmRow
  refine (nrmPut_runs c k p 0 (256 * (2 * k.val + p.val) + 16 * 0) rfl).bind fun _ => ?_
  refine (nrmPut_runs c k p 1 (256 * (2 * k.val + p.val) + 16 * 1) rfl).bind fun _ => ?_
  refine (nrmPut_runs c k p 2 (256 * (2 * k.val + p.val) + 16 * 2) rfl).bind fun _ => ?_
  refine (nrmPut_runs c k p 3 (256 * (2 * k.val + p.val) + 16 * 3) rfl).bind fun _ => ?_
  refine (nrmPut_runs c k p 4 (256 * (2 * k.val + p.val) + 16 * 4) rfl).bind fun _ => ?_
  refine (nrmPut_runs c k p 5 (256 * (2 * k.val + p.val) + 16 * 5) rfl).bind fun _ => ?_
  refine (nrmPut_runs c k p 6 (256 * (2 * k.val + p.val) + 16 * 6) rfl).bind fun _ => ?_
  refine (nrmPut_runs c k p 7 (256 * (2 * k.val + p.val) + 16 * 7) rfl).bind fun _ => ?_
  refine (nrmPut_runs c k p 8 (256 * (2 * k.val + p.val) + 16 * 8) rfl).bind fun _ => ?_
  refine (nrmPut_runs c k p 9 (256 * (2 * k.val + p.val) + 16 * 9) rfl).bind fun _ => ?_
  refine (nrmPut_runs c k p 10 (256 * (2 * k.val + p.val) + 16 * 10) rfl).bind fun _ => ?_
  refine (nrmPut_runs c k p 11 (256 * (2 * k.val + p.val) + 16 * 11) rfl).bind fun _ => ?_
  refine (nrmPut_runs c k p 12 (256 * (2 * k.val + p.val) + 16 * 12) rfl).bind fun _ => ?_
  refine (nrmPut_runs c k p 13 (256 * (2 * k.val + p.val) + 16 * 13) rfl).bind fun _ => ?_
  refine (nrmPut_runs c k p 14 (256 * (2 * k.val + p.val) + 16 * 14) rfl).bind fun _ => ?_
  exact nrmPut_runs c k p 15 (256 * (2 * k.val + p.val) + 16 * 15) rfl

/-- The normalising loop treats all of the buffer. -/
theorem nrmLoop_runs (c : (Fin 16 → V F) × (Fin 16 → V F)) :
    Runs d i (holds d i b X) (nrmLoop i b c.1 c.2) fun _ => holds d i b (nval c X) := by
  unfold nrmLoop
  refine Runs.pre ?_ (Scf.wp_for Idealize.ShloMosaic.frame (wpE (defs₀ (F := F)) Variants.none (tile d i) none) Set.univ _ _ _ _ _ _
    (fun k _ => holds d i b (part c X (512 * k))) ?_)
  · iintro H
    isplitl [H]
    · iapply (holds_congr (funext fun y => (by rw [part, if_neg (by omega)] : X y = part c X (512 * 0) y))) $$ H
    rw [show Scf.trips rows.lb rows.ub rows.st = 32 by decide]
    iintro %r H
    iapply (holds_congr (X := part c X (512 * 32)) (funext fun y => (by
      have h0 : (y 0).val < 64 := (y 0).isLt
      have h1 : (y 1).val < 256 := (y 1).isLt
      rw [part, if_pos (by omega)] : part c X (512 * 32) y = nval c X y))) $$ H
  · intro k r
    have h0 : 512 * k.val = 256 * (2 * k.val + (0 : Fin 2).val) := by show _ = 256 * (2 * k.val + 0); omega
    have h1 : 512 * (k.val + 1) = 256 * (2 * k.val + (1 : Fin 2).val + 1) := by show _ = 256 * (2 * k.val + 1 + 1); omega
    rw [h0, h1]
    exact (show Runs d i _ _ _ from (nrmRow_runs c k 0).bind fun _ => (nrmRow_runs c k 1).bind fun _ => Runs.pure .rfl)

end

end Cert.KernelIdeal.Seg
-- ==== Proof.Passes.lean ====
/-
  What each of the seven row buffers is doing, as a state: the loads and stores in flight, the chunk a buffer holds,
  which chunks of the input are home and which of the output are written. Every step of the two passes moves this state.
-/
module

public import proofs.«01_k».proof.Proof.Rows

@[expose] public section

namespace Cert.KernelIdeal.Seg

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open K0.R1.Facts₀ K0.R2.Facts₀ Shapes1.Facts₀

noncomputable section

variable {F : FTy → Type} [FloatOps F]

local notation "𝕄" => MT nD τ sig (HIx 1) (Elt F) ℕ UU ℕ

/-- The arrays of one call: the rows `X`, the weight and the bias, the output as found and as left. -/
structure Arrays (F : FTy → Type) where
  X : S65536x256.Idx → Elt F .f32
  w : Chans F
  β : Chans F
  O₀ : S65536x256.Idx → Elt F .f32
  O : S65536x256.Idx → Elt F .f32

variable (A : Arrays F) (d : Dev nD) (i : grid0.Coords) (b : Fin 2)

/-- Chunk `c` of block `b` of the tile. -/
def Arrays.chunk (c : Fin 16) : Rows F := (xChunk i b c).view.read (Elt F) A.X

/-- The totals of the block's first `n` chunks. -/
def Arrays.total : Nat → Acc F
  | 0 => Acc.zero
  | n + 1 => sumRows (A.chunk i b (Seg.chunk n)) (Arrays.total n) 64

/-- The block's scales and shifts, -/
def Arrays.coefs : (Fin 16 → V F) × (Fin 16 → V F) := coefsOf A.w A.β (A.total i b 16)
/-- and chunk `c` as it leaves. -/
def Arrays.out (c : Fin 16) : Rows F := nval (A.coefs i b) (A.chunk i b c)

/-- The output as left is what the tile's chunks leave. -/
def Arrays.Fits : Prop := ∀ b c, (oChunk i b c).view.read (Elt F) A.O = A.out i b c

/-! ## States -/

/-- What a row buffer is doing. -/
inductive Slot
  | idle
  | loading (c : Fin 16)
  | held (c : Fin 16)
  | normed (c : Fin 16)
  | storing (c : Fin 16)
  deriving DecidableEq

/-- What a chunk of the output is. -/
inductive Out
  | init
  | flying
  | done
  deriving DecidableEq

/-- The buffers, the chunks of the input that are home, the chunks of the output. -/
@[ext]
structure St where
  slot : Fin 7 → Slot
  x : Fin 16 → Bool
  o : Fin 16 → Out

/-- A chunk of the input, -/
def xPiece (c : Fin 16) : sProp 𝕄 := (xChunk i b c).view.loc (tile d i) ↦[(xChunk i b c).view.set]{fullShare} A.X
/-- and one of the output, at `f`. -/
def oPiece (c : Fin 16) (f : S65536x256.Idx → Elt F .f32) : sProp 𝕄 := (oChunk i b c).view.loc (tile d i) ↦[(oChunk i b c).view.set]{fullShare} f

/-- A semaphore of the tile at zero. -/
abbrev zero (s : DmaSem sig) : sProp 𝕄 := semVal (tile d i, .dma s) 0

/-- The load in flight of chunk `c` to buffer `j`, -/
abbrev loadFlight (c : Fin 16) (j : Fin 7) : sProp 𝕄 :=
  Transfers.Flight countersEmb (tile d i) (.dma (lsem j)) (default : HIx 1) (buf j).view.dmaCredit
    iprop(holds d i (buf j) (A.chunk i b c) ∗ xPiece A d i b c)
/-- and the store in flight of chunk `c` from it. -/
abbrev storeFlight (c : Fin 16) (j : Fin 7) : sProp 𝕄 :=
  Transfers.Flight countersEmb (tile d i) (.dma (ssem j)) (default : HIx 1) (oChunk i b c).view.dmaCredit
    iprop(oPiece d i b c A.O ∗ ∃ Y, holds d i (buf j) Y)

/-- Buffer `j` in a state. -/
def slotIs (j : Fin 7) : Slot → sProp 𝕄
  | .idle => iprop((∃ Y, holds d i (buf j) Y) ∗ zero d i (lsem j) ∗ zero d i (ssem j))
  | .loading c => iprop(loadFlight A d i b c j ∗ zero d i (ssem j))
  | .held c => iprop(holds d i (buf j) (A.chunk i b c) ∗ zero d i (lsem j) ∗ zero d i (ssem j))
  | .normed c => iprop(holds d i (buf j) (A.out i b c) ∗ zero d i (lsem j) ∗ zero d i (ssem j))
  | .storing c => iprop(storeFlight A d i b c j ∗ zero d i (lsem j))

/-- A chunk of the input, home or out. -/
def xIs (c : Fin 16) : Bool → sProp 𝕄
  | true => xPiece A d i b c
  | false => iprop(emp)

/-- A chunk of the output. -/
def oIs (c : Fin 16) : Out → sProp 𝕄
  | .init => oPiece d i b c A.O₀
  | .flying => iprop(emp)
  | .done => oPiece d i b c A.O

variable (W : CellTallies nD τ sig (HIx 1))

/-- What the tile owes elsewhere, and that its waits are below that. -/
def dues : sProp 𝕄 := iprop(Transfers.MayWaits (tile d i) (default : HIx 1) W ∗ ∃ W', owes (tile d i) W W')

/-- Everything a pass holds, in a state. -/
def inState (T : St) : sProp 𝕄 :=
  iprop((bigSep Finset.univ fun j => slotIs A d i b j (T.slot j)) ∗ (bigSep Finset.univ fun c => xIs A d i b c (T.x c))
    ∗ (bigSep Finset.univ fun c => oIs A d i b c (T.o c)) ∗ dues d i W)

/-- One member of a family taken out, and put back changed. -/
theorem take {I S : Type} [Fintype I] [DecidableEq I] (Φ : I → S → sProp 𝕄) (f : I → S) (a : I) (v : S) :
    (bigSep Finset.univ fun j => Φ j (f j)) ⊢ iprop(Φ a (f a) ∗ (Φ a v -∗ bigSep Finset.univ fun j => Φ j (Function.update f a v j))) := by
  rw [SparseCore.bigSep_erase' (Finset.mem_univ a)]
  iintro ⟨H, HR⟩
  isplitl [H]; · iexact H
  iintro H
  rw [SparseCore.bigSep_erase' (s := Finset.univ) (Finset.mem_univ a), Function.update_self]
  isplitl [H]; · iexact H
  iapply (Entails.of_eq (bigSep_congr fun j hj => by rw [Function.update_of_ne (Finset.ne_of_mem_erase hj)]) :
    bigSep (Finset.univ.erase a) (fun j => Φ j (f j)) ⊢ bigSep (Finset.univ.erase a) fun j => Φ j (Function.update f a v j)) $$ HR

/-! ## Steps -/

def St.load (T : St) (c : Fin 16) (j : Fin 7) : St :=
  ⟨Function.update T.slot j (.loading c), Function.update T.x c false, T.o⟩
def St.loaded (T : St) (c : Fin 16) (j : Fin 7) : St :=
  ⟨Function.update T.slot j (.held c), Function.update T.x c true, T.o⟩
def St.norm (T : St) (c : Fin 16) (j : Fin 7) : St := ⟨Function.update T.slot j (.normed c), T.x, T.o⟩
def St.store (T : St) (c : Fin 16) (j : Fin 7) : St :=
  ⟨Function.update T.slot j (.storing c), T.x, Function.update T.o c .flying⟩
def St.stored (T : St) (c : Fin 16) (j : Fin 7) : St :=
  ⟨Function.update T.slot j .idle, T.x, Function.update T.o c .done⟩

/-- A buffer with nothing in flight. -/
def Slot.free : Slot → Bool
  | .idle => true
  | .held _ => true
  | .normed _ => true
  | _ => false

variable {A d i b W} {T : St} {c : Fin 16} {j : Fin 7}

/-- A free slot gives up its buffer and its two semaphores. -/
theorem slotIs_free {s : Slot} (h : s.free = true) : slotIs A d i b j s ⊢ iprop((∃ Y, holds d i (buf j) Y) ∗ zero d i (lsem j) ∗ zero d i (ssem j)) := by
  cases s with
  | idle => exact .rfl
  | held c =>
    unfold slotIs
    iintro ⟨H, H'⟩
    isplitl [H]
    · iexists _; iexact H
    iexact H'
  | normed c =>
    unfold slotIs
    iintro ⟨H, H'⟩
    isplitl [H]
    · iexists _; iexact H
    iexact H'
  | loading c => cases h
  | storing c => cases h

/-- A buffer's contents, read as rows. -/
theorem holds_open {Y : Rows F} :
    holds d i (buf j) Y ⊢ iprop(∃ f, ⌜(buf j).view.read (Elt F) f = Y⌝ ∗ (buf j).view.loc (tile d i) ↦[(buf j).view.set]{fullShare} f) := .rfl

/-- A load issued. -/
theorem load_step (hs : (T.slot j).free = true) (hx : T.x c = true) :
    Runs d i (inState A d i b W T) (load i b c j) fun _ => inState A d i b W (T.load c j) := by
  unfold Runs inState load
  iintro ⟨HS, HX, HO, HD⟩
  ihave HS := (take (slotIs A d i b) T.slot j (.loading c)) $$ HS
  icases HS with ⟨Hs, HS⟩
  ihave HX := (take (xIs A d i b) T.x c false) $$ HX
  icases HX with ⟨Hx, HX⟩
  rw [hx]
  ihave Hs := (slotIs_free hs) $$ Hs
  icases Hs with ⟨⟨%Y, Hb⟩, Hl, Hz⟩
  ihave Hb := holds_open $$ Hb
  icases Hb with ⟨%f, %hf, Hb⟩
  iapply (Transfers.wp_dmaLocal countersEmb Variants.none (tile d i) none (default : HIx 1) (buf j).view.dmaCredit (via := .same)
    (View.amount_dma _ _) (View.dmaCredit_pos _ (by decide)) (Finset.Subset.refl _)) $$ [Hx Hb Hl]
  · isplitl [Hx]; · unfold xIs xPiece; iexact Hx
    isplitl [Hb] <;> iassumption
  iintro HF
  rw [wp_ret]
  imodintro
  isplitl [HS HF Hz]
  · iapply HS $$ [HF Hz]
    unfold slotIs
    isplitl [HF]
    · iapply (Transfers.Flight_mono countersEmb (tile d i) ?_) $$ HF
      iintro ⟨Hb, Hx⟩
      isplitl [Hb]
      · unfold holds
        iexists _
        isplitr; rotate_left
        · iexact Hb
        · ipureintro
          exact View.read_write_univ _ _
      · unfold xPiece; iexact Hx
    iexact Hz
  isplitl [HX]
  · iapply HX
    unfold xIs
    iempintro
  isplitl [HO]; · iexact HO
  iexact HD

/-- A wait for a transfer in flight. -/
theorem wait_runs {s : DmaSem sig} {N : Nat} {D : sProp 𝕄} {κ' : Kind} {sp sp' : Space} {s' s'' : Shape} {e' e'' : EltTy}
    {srcw : Memref sig .scVector sp' s' e'} {dstw : Memref sig κ' sp s'' e''} {hsrc : srcw.view.WordExact} {hdst : dstw.view.WordExact}
    (hN : dstw.view.dmaCredit = N) :
    Runs d i iprop(Transfers.Flight countersEmb (tile d i) (.dma s) (default : HIx 1) N D ∗ dues d i W)
      (Prog.lift (.waitDma2 s srcw dstw hsrc hdst)) fun _ => iprop(D ∗ zero d i s ∗ dues d i W) := by
  unfold Runs dues
  iintro ⟨HF, #HM, %W', HO⟩
  ihave Hm := (Transfers.MayWaits.elim (.dma s)) $$ HM
  iapply (Transfers.wp_waitLocalO countersEmb Variants.none (tile d i) none (default : HIx 1) hN) $$ [HF HO Hm]
  · isplitl [HF]; · iexact HF
    isplitl [HO] <;> iassumption
  iintro ⟨HD, Hz, HO⟩
  rw [wp_ret]
  imodintro
  isplitl [HD]; · iexact HD
  isplitl [Hz]; · iexact Hz
  isplitr; · iexact HM
  iexists _; iexact HO

/-- A load awaited. -/
theorem loaded_step (hs : T.slot j = .loading c) :
    Runs d i (inState A d i b W T) (loaded i b c j) fun _ => inState A d i b W (T.loaded c j) := by
  unfold Runs inState loaded
  iintro ⟨HS, HX, HO, HD⟩
  ihave HS := (take (slotIs A d i b) T.slot j (.held c)) $$ HS
  icases HS with ⟨Hs, HS⟩
  ihave HX := (take (xIs A d i b) T.x c true) $$ HX
  icases HX with ⟨-, HX⟩
  rw [hs]
  ihave Hs := (show slotIs A d i b j (.loading c) ⊢ iprop(loadFlight A d i b c j ∗ zero d i (ssem j)) from .rfl) $$ Hs
  icases Hs with ⟨HF, Hz⟩
  iapply (wp_wand_r Idealize.ShloMosaic.frame (wpE (defs₀ (F := F)) Variants.none (tile d i) none) Set.univ)
  isplitl [HF HD]
  · iapply (wait_runs (W := W) rfl)
    isplitl [HF] <;> iassumption
  iintro %_ ⟨⟨Hb, Hx⟩, Hl, HD⟩
  isplitl [HS Hb Hl Hz]
  · iapply HS $$ [Hb Hl Hz]
    unfold slotIs
    isplitl [Hb]; · iexact Hb
    isplitl [Hl] <;> iassumption
  isplitl [HX Hx]
  · iapply HX
    unfold xIs
    iexact Hx
  isplitl [HO]; · iexact HO
  iexact HD

/-- A store issued. -/
theorem store_step (hA : A.Fits i) (hs : T.slot j = .normed c) (ho : T.o c = .init) :
    Runs d i (inState A d i b W T) (store i b c j) fun _ => inState A d i b W (T.store c j) := by
  unfold Runs inState store
  iintro ⟨HS, HX, HO, HD⟩
  ihave HS := (take (slotIs A d i b) T.slot j (.storing c)) $$ HS
  icases HS with ⟨Hs, HS⟩
  ihave HO := (take (oIs A d i b) T.o c .flying) $$ HO
  icases HO with ⟨Ho, HO⟩
  rw [hs, ho]
  ihave Hs := (show slotIs A d i b j (.normed c) ⊢ iprop(holds d i (buf j) (A.out i b c) ∗ zero d i (lsem j) ∗ zero d i (ssem j)) from .rfl) $$ Hs
  icases Hs with ⟨Hb, Hl, Hz⟩
  ihave Hb := holds_open $$ Hb
  icases Hb with ⟨%f, %hf, Hb⟩
  iapply (Transfers.wp_dmaLocal countersEmb Variants.none (tile d i) none (default : HIx 1) (oChunk i b c).view.dmaCredit (via := .same)
    (View.amount_dma _ _) (View.dmaCredit_pos _ (by decide)) (Finset.Subset.refl _)) $$ [Ho Hb Hz]
  · isplitl [Hb]; · iexact Hb
    isplitl [Ho]; · unfold oIs oPiece; iexact Ho
    iexact Hz
  iintro HF
  rw [wp_ret]
  imodintro
  isplitl [HS HF Hl]
  · iapply HS $$ [HF Hl]
    unfold slotIs
    isplitl [HF]
    · iapply (Transfers.Flight_mono countersEmb (tile d i) ?_) $$ HF
      iintro ⟨Ho, Hb⟩
      isplitl [Ho]
      · unfold oPiece
        iapply (Entails.of_eq (pointsTo_congr fun x hx => ?_)) $$ Ho
        obtain ⟨y, -, rfl⟩ := Finset.mem_map.mp hx
        rw [View.write_emb_of_mem _ _ (Finset.mem_univ y)]
        show (cast _ ((buf j).view.read (Elt F) f y)) = _
        rw [hf, ← hA b c]
        exact cast_cast _ _ _
      · iexists (A.out i b c)
        unfold holds
        iexists f
        isplitr
        · ipureintro; exact hf
        · iexact Hb
    iexact Hl
  isplitl [HX]; · iexact HX
  isplitl [HO]
  · iapply HO
    unfold oIs
    iempintro
  iexact HD

/-- A store awaited. -/
theorem stored_step (hs : T.slot j = .storing c) :
    Runs d i (inState A d i b W T) (stored i b c j) fun _ => inState A d i b W (T.stored c j) := by
  unfold Runs inState stored
  iintro ⟨HS, HX, HO, HD⟩
  ihave HS := (take (slotIs A d i b) T.slot j .idle) $$ HS
  icases HS with ⟨Hs, HS⟩
  ihave HO := (take (oIs A d i b) T.o c .done) $$ HO
  icases HO with ⟨-, HO⟩
  rw [hs]
  ihave Hs := (show slotIs A d i b j (.storing c) ⊢ iprop(storeFlight A d i b c j ∗ zero d i (lsem j)) from .rfl) $$ Hs
  icases Hs with ⟨HF, Hl⟩
  iapply (wp_wand_r Idealize.ShloMosaic.frame (wpE (defs₀ (F := F)) Variants.none (tile d i) none) Set.univ)
  isplitl [HF HD]
  · iapply (wait_runs (W := W) rfl)
    isplitl [HF] <;> iassumption
  iintro %_ ⟨⟨Ho, Hb⟩, Hz, HD⟩
  isplitl [HS Hb Hl Hz]
  · iapply HS $$ [Hb Hl Hz]
    unfold slotIs
    isplitl [Hb]; · iexact Hb
    isplitl [Hl] <;> iassumption
  isplitl [HX]; · iexact HX
  isplitl [HO Ho]
  · iapply HO
    unfold oIs
    iexact Ho
  iexact HD

/-- A chunk summed. -/
theorem sum_step (a : Acc F) (hs : T.slot j = .held c) :
    Runs d i (inState A d i b W T) (sumLoop i (buf j) a) fun r =>
      iprop(⌜r = sumRows (A.chunk i b c) a 64⌝ ∗ inState A d i b W T) := by
  unfold Runs inState
  iintro ⟨HS, HX, HO, HD⟩
  ihave HS := (take (slotIs A d i b) T.slot j (.held c)) $$ HS
  icases HS with ⟨Hs, HS⟩
  rw [hs]
  ihave Hs := (show slotIs A d i b j (.held c) ⊢ iprop(holds d i (buf j) (A.chunk i b c) ∗ zero d i (lsem j) ∗ zero d i (ssem j)) from .rfl) $$ Hs
  icases Hs with ⟨Hb, Hz⟩
  iapply (wp_wand_r Idealize.ShloMosaic.frame (wpE (defs₀ (F := F)) Variants.none (tile d i) none) Set.univ)
  isplitl [Hb]
  · iapply (sumLoop_runs (X := A.chunk i b c) a); iexact Hb
  iintro %r ⟨%hr, Hb⟩
  isplitr; · ipureintro; exact hr
  isplitl [HS Hb Hz]
  · ihave HS := HS $$ [Hb Hz]
    · unfold slotIs
      isplitl [Hb] <;> iassumption
    rw [show Function.update T.slot j (.held c) = T.slot by rw [← hs, Function.update_eq_self]]
    iexact HS
  isplitl [HX]; · iexact HX
  isplitl [HO]; · iexact HO
  iexact HD

/-- A chunk normalised. -/
theorem norm_step (hs : T.slot j = .held c) :
    Runs d i (inState A d i b W T) (nrmLoop i (buf j) (A.coefs i b).1 (A.coefs i b).2) fun _ => inState A d i b W (T.norm c j) := by
  unfold Runs inState
  iintro ⟨HS, HX, HO, HD⟩
  ihave HS := (take (slotIs A d i b) T.slot j (.normed c)) $$ HS
  icases HS with ⟨Hs, HS⟩
  rw [hs]
  ihave Hs := (show slotIs A d i b j (.held c) ⊢ iprop(holds d i (buf j) (A.chunk i b c) ∗ zero d i (lsem j) ∗ zero d i (ssem j)) from .rfl) $$ Hs
  icases Hs with ⟨Hb, Hz⟩
  iapply (wp_wand_r Idealize.ShloMosaic.frame (wpE (defs₀ (F := F)) Variants.none (tile d i) none) Set.univ)
  isplitl [Hb]
  · iapply (nrmLoop_runs (X := A.chunk i b c) (A.coefs i b)); iexact Hb
  iintro %r Hb
  isplitl [HS Hb Hz]
  · iapply HS $$ [Hb Hz]
    unfold slotIs
    isplitl [Hb]; · iexact Hb
    iexact Hz
  isplitl [HX]; · iexact HX
  isplitl [HO]; · iexact HO
  iexact HD

/-! ## A block -/

theorem chain_runs {α : Type} {f : Nat → α → TP F i α} {I : Nat → α → sProp 𝕄} (n : Nat) :
    ∀ k, (∀ m, k ≤ m → m < k + n → ∀ a, Runs d i (I m a) (f m a) (I (m + 1))) → ∀ a, Runs d i (I k a) (chain i f n k a) (I (k + n)) := by
  induction n with
  | zero => exact fun k _ a => Runs.pure .rfl
  | succ n ih =>
    intro k h a
    refine (h k le_rfl (by omega) a).bind fun a' => ?_
    have := ih (k + 1) (fun m h1 h2 => h m (by omega) (by omega)) a'
    rwa [show k + 1 + n = k + (n + 1) by omega] at this

/-- A program `p` that on a condition does something more before going on as `q`. -/
theorem ite_runs {α : Type} {P : Prop} [Decidable P] {p q : TP F i α} {T T' : St} {Q : α → sProp 𝕄}
    (h : P → Runs d i (inState A d i b W T') q Q → Runs d i (inState A d i b W T) p Q)
    (hq : Runs d i (inState A d i b W (if P then T' else T)) q Q) :
    Runs d i (inState A d i b W T) (if P then p else q) Q := by
  by_cases hP : P
  · rw [if_pos hP] at hq ⊢; exact h hP hq
  · rw [if_neg hP] at hq ⊢; exact hq

/-- The state before a block, -/
def St.start : St := ⟨fun _ => .idle, fun _ => true, fun _ => .init⟩
/-- after `n` first loads, -/
def loadSt : Nat → St
  | 0 => .start
  | n + 1 => (loadSt n).load (chunk n) (slot n)
/-- at step `k` of the first pass, before the wait -/
def sumMid (T : St) (k : Nat) : St := if k < 12 then T.load (chunk (k + 4)) (slot (k + 4)) else T
/-- and after it, -/
def sumSt : Nat → St
  | 0 => loadSt 4
  | k + 1 => (sumMid (sumSt k) k).loaded (chunk k) (slot k)
/-- at step `k` of the second, with its load issued, -/
def nrmMid (T : St) (k : Nat) : St :=
  if 4 ≤ k ∧ k < 13 then (T.stored (chunk (k + 5)) (slot (k + 5))).load (chunk (k + 12)) (slot (k + 12)) else T
/-- with its chunk in the buffer -/
def nrmMid' (T : St) (k : Nat) : St := if 7 ≤ k then T.loaded (chunk (k + 9)) (slot (k + 9)) else T
/-- and with its store issued, -/
def nrmSt : Nat → St
  | 0 => sumSt 16
  | k + 1 => ((nrmMid' (nrmMid (nrmSt k) k) k).norm (chunk (k + 9)) (slot (k + 9))).store (chunk (k + 9)) (slot (k + 9))
/-- at the `n`-th of the last waits, -/
def endSt : Nat → St
  | 0 => nrmSt 16
  | n + 1 => (endSt n).stored (chunk (n + 9 + 9)) (slot (n + 9 + 9))
/-- and after the block. -/
def St.finish : St := ⟨fun _ => .idle, fun _ => true, fun _ => .done⟩

/-- Each of the first four loads finds a free slot and its chunk at hand. -/
theorem load_ok : ∀ k < 4, ((loadSt k).slot (slot k)).free = true ∧ (loadSt k).x (chunk k) = true := by decide +kernel
/-- In each step of the first pass the load ahead finds a free slot, and the chunk to sum is on its way. -/
theorem sum_ok : ∀ k < 16, (k < 12 → ((sumSt k).slot (slot (k + 4))).free = true ∧ (sumSt k).x (chunk (k + 4)) = true)
    ∧ (sumMid (sumSt k) k).slot (slot k) = .loading (chunk k) := by decide +kernel
/-- In each step of the second pass the store waited for, the load ahead, the load waited for and the chunk to store are as the step needs them. -/
theorem nrm_ok : ∀ k < 16, (4 ≤ k ∧ k < 13 → (nrmSt k).slot (slot (k + 5)) = .storing (chunk (k + 5))
      ∧ (((nrmSt k).stored (chunk (k + 5)) (slot (k + 5))).slot (slot (k + 12))).free = true ∧ (nrmSt k).x (chunk (k + 12)) = true)
    ∧ (7 ≤ k → (nrmMid (nrmSt k) k).slot (slot (k + 9)) = .loading (chunk (k + 9)))
    ∧ (nrmMid' (nrmMid (nrmSt k) k) k).slot (slot (k + 9)) = .held (chunk (k + 9))
    ∧ (nrmMid' (nrmMid (nrmSt k) k) k).o (chunk (k + 9)) = .init := by decide +kernel
/-- Each of the last seven waits finds its store under way. -/
theorem end_ok : ∀ n < 7, (endSt n).slot (slot (n + 9 + 9)) = .storing (chunk (n + 9 + 9)) := by decide +kernel
/-- After the last wait the block is finished. -/
theorem finish_eq : endSt 7 = .finish := by
  have h : (∀ j, (endSt 7).slot j = .idle) ∧ (∀ c, (endSt 7).x c = true) ∧ ∀ c, (endSt 7).o c = .done := by decide +kernel
  exact St.ext (funext h.1) (funext h.2.1) (funext h.2.2)

/-- The first loads, -/
theorem loads_runs : Runs d i (inState A d i b W .start) (chain i (loadStep (F := F) i b) 4 0 PUnit.unit) fun _ => inState A d i b W (sumSt 0) :=
  chain_runs (I := fun k _ => inState A d i b W (loadSt k)) 4 0
    (fun m _ hm _ => show Runs d i _ (load i b (chunk m) (slot m)) _ from load_step (load_ok m (by omega)).1 (load_ok m (by omega)).2) PUnit.unit

/-- the first pass, -/
theorem sums_runs : Runs d i (inState A d i b W (sumSt 0)) (chain i (sumStep i b) 16 0 Acc.zero) fun a =>
    iprop(⌜a = A.total i b 16⌝ ∗ inState A d i b W (sumSt 16)) := by
  refine Runs.pre ?_ (chain_runs (I := fun k a => iprop(⌜a = A.total i b k⌝ ∗ inState A d i b W (sumSt k))) 16 0 (fun m _ hm a => ?_) Acc.zero)
  · iintro H
    isplitr; · ipureintro; rfl
    iexact H
  · have hk := sum_ok m (by omega)
    unfold Runs
    iintro ⟨%ha, H⟩
    subst ha
    have h : Runs d i (inState A d i b W (sumSt m)) (sumStep i b m (A.total i b m)) fun a =>
        iprop(⌜a = A.total i b (m + 1)⌝ ∗ inState A d i b W (sumSt (m + 1))) := by
      unfold sumStep
      dsimp only
      refine ite_runs (fun h hq => (load_step (hk.1 h).1 (hk.1 h).2).bind fun _ => hq) ?_
      refine (loaded_step hk.2).bind fun _ => ?_
      exact sum_step (T := sumSt (m + 1)) (A.total i b m) (Function.update_self _ _ _)
    iapply h $$ H

/-- the second, -/
theorem nrms_runs (hA : A.Fits i) : Runs d i (inState A d i b W (nrmSt 0)) (chain i (nrmStep (F := F) i b (A.coefs i b).1 (A.coefs i b).2) 16 0 PUnit.unit)
    fun _ => inState A d i b W (endSt 0) := by
  refine chain_runs (I := fun k _ => inState A d i b W (nrmSt k)) 16 0 (fun m _ hm _ => ?_) PUnit.unit
  have hk := nrm_ok m (by omega)
  unfold nrmStep
  dsimp only
  refine ite_runs (fun h hq => (stored_step (hk.1 h).1).bind fun _ => (load_step (hk.1 h).2.1 (hk.1 h).2.2).bind fun _ => hq) ?_
  refine ite_runs (fun h hq => (loaded_step (hk.2.1 h)).bind fun _ => hq) ?_
  exact (norm_step hk.2.2.1).bind fun _ => store_step hA (Function.update_self _ _ _) hk.2.2.2

/-- and the last waits. -/
theorem ends_runs : Runs d i (inState A d i b W (endSt 0)) (chain i (endStep (F := F) i b) 7 9 PUnit.unit) fun _ => inState A d i b W .finish := by
  rw [← finish_eq]
  refine chain_runs (I := fun k _ => inState A d i b W (endSt (k - 9))) 7 9 (fun m h9 hm _ => ?_) PUnit.unit
  obtain ⟨n, rfl⟩ : ∃ n, m = n + 9 := ⟨m - 9, by omega⟩
  rw [show n + 9 - 9 = n by omega, show n + 9 + 1 - 9 = n + 1 by omega]
  exact show Runs d i _ (stored i b (chunk (n + 9 + 9)) (slot (n + 9 + 9))) _ from stored_step (end_ok n (by omega))

/-- A block, from its chunks of the input and of the output as found to the output as left. -/
theorem block_runs (hA : A.Fits i) :
    Runs d i iprop(inState A d i b W .start ∗ params d i A.w A.β) (block i b)
      fun _ => iprop(inState A d i b W .finish ∗ params d i A.w A.β) := by
  refine (loads_runs.frameR).bind fun _ => ?_
  refine Runs.bindVal (x := A.total i b 16) (P' := iprop(inState A d i b W (nrmSt 0) ∗ params d i A.w A.β)) ?_ ?_
  · refine sums_runs.frameR.post fun a => ?_
    iintro ⟨⟨H, H1⟩, H2⟩
    isplitl [H]; · iexact H
    isplitl [H1]; · iexact H1
    iexact H2
  refine Runs.bindVal (x := A.coefs i b) (P' := iprop(inState A d i b W (nrmSt 0) ∗ params d i A.w A.β)) ?_ ?_
  · refine Runs.pre (P := iprop(params d i A.w A.β ∗ inState A d i b W (nrmSt 0))) ?_ ((coefs_runs (A.total i b 16)).frameR.post fun v => ?_)
    · iintro ⟨H1, H2⟩
      isplitl [H2]; · iexact H2
      iexact H1
    · iintro ⟨⟨H, H1⟩, H2⟩
      isplitl [H]; · iexact H
      isplitl [H2]; · iexact H2
      iexact H1
  exact (nrms_runs hA).frameR.bind fun _ => ends_runs.frameR

end

end Cert.KernelIdeal.Seg
-- ==== Proof.Tile.lean ====
/-
  One tile's work from end to end: the weight and the bias fetched, then its two blocks of 1024 rows.
-/
module

public import proofs.«01_k».proof.Proof.Passes

@[expose] public section

namespace Cert.KernelIdeal.Seg

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open K0.R1.Facts₀ K0.R2.Facts₀ Shapes1.Facts₀

noncomputable section

variable {F : FTy → Type} [FloatOps F]

local notation "𝕄" => MT nD τ sig (HIx 1) (Elt F) ℕ UU ℕ

omit [FloatOps F] in
/-- A family of two. -/
theorem bigSep_two (Φ : Fin 2 → sProp 𝕄) : bigSep Finset.univ Φ = iprop(Φ 0 ∗ Φ 1) := bigSep_fin_two Φ

variable (A : Arrays F) (d : Dev nD) (i : grid0.Coords) (b : Fin 2)

/-- The tile's read shares of the weight and of the bias. -/
def shares (q : PosShare TreeShare) : sProp 𝕄 :=
  iprop((mw.view.loc (tile d i) ↦[mw.view.set]{q} A.w) ∗ mb.view.loc (tile d i) ↦[mb.view.set]{q} A.β)

/-- Its chunks of the input, -/
def xs : sProp 𝕄 := bigSep Finset.univ fun b : Fin 2 => bigSep Finset.univ fun c => xPiece A d i b c
/-- and of the output, at `f`. -/
def os (f : S65536x256.Idx → Elt F .f32) : sProp 𝕄 := bigSep Finset.univ fun b : Fin 2 => bigSep Finset.univ fun c => oPiece d i b c f

/-- The tile's buffers at whatever they hold and its semaphores at zero: the row buffers with their two semaphores each, -/
def idles : sProp 𝕄 := bigSep Finset.univ fun j => iprop((∃ Y, holds (F := F) d i (buf j) Y) ∗ zero d i (lsem j) ∗ zero d i (ssem j))
/-- the two channel buffers, -/
def chanBufs : sProp 𝕄 := iprop((∃ Y, holds (F := F) d i wv Y) ∗ ∃ Y, holds (F := F) d i bv Y)
/-- and the semaphores of the two fetches into them. -/
def chanSems : sProp 𝕄 := iprop(zero d i cc0_scoped0.sem ∗ zero d i cc0_scoped1.sem)

variable {A d i b} {W : CellTallies nD τ sig (HIx 1)}

/-- A fetch of a channel array issued: it will land the array in the tile's buffer and give the read share back. -/
theorem issue_runs {src : Memref sig .scVector .hbm S256 .f32} {dst : Memref sig .scVector .vmem S256 .f32} {s : DmaSem sig}
    {hs : src.view.WordExact} {hd : dst.view.WordExact} {ha} {q : PosShare TreeShare}
    {v : Buf (Elt F) (src.view.loc (tile d i))} :
    Runs d i iprop((src.view.loc (tile d i) ↦[src.view.set]{q} v) ∗ (∃ Y, holds d i dst Y) ∗ zero d i s)
      (Prog.lift (.enqueueDma src (.here dst) (.dma s) hs hd ha))
      fun _ => Transfers.Flight countersEmb (tile d i) (.dma s) (default : HIx 1) dst.view.dmaCredit
        iprop(holds d i dst (src.view.read (Elt F) v) ∗ src.view.loc (tile d i) ↦[src.view.set]{q} v) := by
  unfold Runs holds
  iintro ⟨Hx, ⟨%Y, %f, %hf, Hb⟩, Hl⟩
  iapply (Transfers.wp_dmaLocal countersEmb Variants.none (tile d i) none (default : HIx 1) dst.view.dmaCredit (via := .same)
    (View.amount_dma _ _) (View.dmaCredit_pos _ (by decide)) (Finset.Subset.refl _)) $$ [Hx Hb Hl]
  · isplitl [Hx]; · iexact Hx
    isplitl [Hb] <;> iassumption
  iintro HF
  rw [wp_ret]
  imodintro
  iapply (Transfers.Flight_mono countersEmb (tile d i) ?_) $$ HF
  iintro ⟨Hb, Hx⟩
  isplitl [Hb]
  · iexists _
    isplitr; rotate_left
    · iexact Hb
    · ipureintro
      exact View.read_write_univ _ _
  iexact Hx

/-- The weight and the bias fetched. -/
theorem enter_runs {q : PosShare TreeShare} :
    Runs d i iprop(shares A d i q ∗ chanBufs (F := F) d i ∗ chanSems (F := F) d i ∗ dues d i W) (enter i)
      fun _ => iprop(params d i A.w A.β ∗ shares A d i q ∗ chanSems (F := F) d i ∗ dues d i W) := by
  unfold shares chanBufs chanSems enter
  refine Runs.pre (P := iprop(((mw.view.loc (tile d i) ↦[mw.view.set]{q} A.w) ∗ (∃ Y, holds (F := F) d i wv Y) ∗ zero d i cc0_scoped0.sem)
      ∗ (mb.view.loc (tile d i) ↦[mb.view.set]{q} A.β) ∗ (∃ Y, holds (F := F) d i bv Y) ∗ zero d i cc0_scoped1.sem ∗ dues d i W)) ?_ ?_
  · iintro ⟨⟨H1, H2⟩, ⟨H3, H4⟩, ⟨H5, H6⟩, H7⟩
    isplitl [H1 H3 H5]
    · isplitl [H1]; · iexact H1
      isplitl [H3] <;> iassumption
    isplitl [H2]; · iexact H2
    isplitl [H4]; · iexact H4
    isplitl [H6] <;> iassumption
  refine issue_runs.frameR.bind fun _ => ?_
  refine Runs.bind (Runs.pre ?_ ((wait_runs (W := W) (D := iprop(holds d i wv (mw.view.read (Elt F) A.w) ∗ mw.view.loc (tile d i) ↦[mw.view.set]{q} A.w)) rfl).frameR
    (R := iprop((mb.view.loc (tile d i) ↦[mb.view.set]{q} A.β) ∗ (∃ Y, holds (F := F) d i bv Y) ∗ zero d i cc0_scoped1.sem)))) fun _ => ?_
  · iintro ⟨H1, H2, H3, H4, H5⟩
    isplitl [H1 H5]
    · isplitl [H1] <;> iassumption
    isplitl [H2]; · iexact H2
    isplitl [H3] <;> iassumption
  refine Runs.bind (Runs.pre ?_ ((issue_runs (src := mb) (q := q) (v := A.β)).frameR
    (R := iprop(holds d i wv (mw.view.read (Elt F) A.w) ∗ (mw.view.loc (tile d i) ↦[mw.view.set]{q} A.w) ∗ zero d i cc0_scoped0.sem ∗ dues d i W)))) fun _ => ?_
  · iintro ⟨⟨⟨H1, H2⟩, H3, H4⟩, H5⟩
    isplitl [H5]; · iexact H5
    isplitl [H1]; · iexact H1
    isplitl [H2]; · iexact H2
    isplitl [H3] <;> iassumption
  refine Runs.pre ?_ (((wait_runs (W := W) (D := iprop(holds d i bv (mb.view.read (Elt F) A.β) ∗ mb.view.loc (tile d i) ↦[mb.view.set]{q} A.β)) rfl).frameR
    (R := iprop(holds d i wv (mw.view.read (Elt F) A.w) ∗ (mw.view.loc (tile d i) ↦[mw.view.set]{q} A.w) ∗ zero d i cc0_scoped0.sem))).post fun _ => ?_)
  · iintro ⟨H1, H2, H3, H4, H5⟩
    isplitl [H1 H5]
    · isplitl [H1] <;> iassumption
    isplitl [H2]; · iexact H2
    isplitl [H3] <;> iassumption
  · unfold params
    iintro ⟨⟨⟨H1, H2⟩, H3, H4⟩, H5, H6, H7⟩
    isplitl [H1 H5]
    · isplitl [H5]; · iexact H5
      iexact H1
    isplitl [H2 H6]
    · isplitl [H6] <;> iassumption
    isplitl [H3 H7]
    · isplitl [H7] <;> iassumption
    iexact H4

/-- Before and after a block the row buffers are idle. -/
theorem idles_start : idles (F := F) d i = bigSep Finset.univ fun j => slotIs A d i b j (St.start.slot j) := rfl
theorem idles_finish : idles (F := F) d i = bigSep Finset.univ fun j => slotIs A d i b j (St.finish.slot j) := rfl

/-- One block with its own chunks: the row buffers idle before and after. -/
theorem pass_runs (hA : A.Fits i) :
    Runs d i iprop((bigSep Finset.univ fun c => xPiece A d i b c) ∗ (bigSep Finset.univ fun c => oPiece d i b c A.O₀)
        ∗ idles (F := F) d i ∗ dues d i W ∗ params d i A.w A.β) (block i b)
      fun _ => iprop((bigSep Finset.univ fun c => xPiece A d i b c) ∗ (bigSep Finset.univ fun c => oPiece d i b c A.O)
        ∗ idles (F := F) d i ∗ dues d i W ∗ params d i A.w A.β) := by
  refine Runs.pre ?_ ((block_runs (b := b) (W := W) hA).post fun _ => ?_)
  · iintro ⟨H1, H2, H3, H4, H5⟩
    isplitr [H5]; rotate_left
    · iexact H5
    unfold inState
    isplitl [H3]; · iapply (Entails.of_eq idles_start) $$ H3
    isplitl [H1]; · iexact H1
    isplitl [H2]; · iexact H2
    iexact H4
  · unfold inState
    iintro ⟨⟨H3, H1, H2, H4⟩, H5⟩
    isplitl [H1]; · iexact H1
    isplitl [H2]; · iexact H2
    isplitl [H3]; · iapply (Entails.of_eq idles_finish.symm) $$ H3
    isplitl [H4] <;> iassumption

/-- The tile's body: from its chunks of the output as found to the output as left, everything else given back. -/
theorem body_runs (hA : A.Fits i) {q : PosShare TreeShare} :
    Runs d i iprop(shares A d i q ∗ xs A d i ∗ os d i A.O₀ ∗ idles (F := F) d i ∗ chanBufs (F := F) d i ∗ chanSems (F := F) d i ∗ dues d i W) (body i)
      fun _ => iprop(shares A d i q ∗ xs A d i ∗ os d i A.O ∗ idles (F := F) d i ∗ chanBufs (F := F) d i ∗ chanSems (F := F) d i ∗ dues d i W) := by
  unfold body xs os
  simp only [bigSep_two]
  refine Runs.bind (Runs.pre ?_ ((enter_runs (A := A) (W := W) (q := q)).frameR
    (R := iprop((bigSep Finset.univ fun c => xPiece A d i 0 c) ∗ (bigSep Finset.univ fun c => xPiece A d i 1 c)
      ∗ (bigSep Finset.univ fun c => oPiece d i 0 c A.O₀) ∗ (bigSep Finset.univ fun c => oPiece d i 1 c A.O₀) ∗ idles (F := F) d i)))) fun _ => ?_
  · iintro ⟨H1, ⟨H2, H3⟩, ⟨H4, H5⟩, H6, H7, H8, H9⟩
    isplitl [H1 H7 H8 H9]
    · isplitl [H1]; · iexact H1
      isplitl [H7]; · iexact H7
      isplitl [H8] <;> iassumption
    isplitl [H2]; · iexact H2
    isplitl [H3]; · iexact H3
    isplitl [H4]; · iexact H4
    isplitl [H5] <;> iassumption
  refine Runs.bind (Runs.pre ?_ ((pass_runs (b := 0) (W := W) hA).frameR
    (R := iprop(shares A d i q ∗ chanSems (F := F) d i ∗ (bigSep Finset.univ fun c => xPiece A d i 1 c)
      ∗ bigSep Finset.univ fun c => oPiece d i 1 c A.O₀)))) fun _ => ?_
  · iintro ⟨⟨H1, H2, H3, H4⟩, H5, H6, H7, H8, H9⟩
    isplitl [H1 H4 H5 H7 H9]
    · isplitl [H5]; · iexact H5
      isplitl [H7]; · iexact H7
      isplitl [H9]; · iexact H9
      isplitl [H4] <;> iassumption
    isplitl [H2]; · iexact H2
    isplitl [H3]; · iexact H3
    isplitl [H6] <;> iassumption
  refine Runs.pre ?_ (((pass_runs (b := 1) (W := W) hA).frameR
    (R := iprop(shares A d i q ∗ chanSems (F := F) d i ∗ (bigSep Finset.univ fun c => xPiece A d i 0 c)
      ∗ bigSep Finset.univ fun c => oPiece d i 0 c A.O))).post fun _ => ?_)
  · iintro ⟨⟨H1, H2, H3, H4, H5⟩, H6, H7, H8, H9⟩
    isplitl [H3 H4 H5 H8 H9]
    · isplitl [H8]; · iexact H8
      isplitl [H9]; · iexact H9
      isplitl [H3]; · iexact H3
      isplitl [H4] <;> iassumption
    isplitl [H6]; · iexact H6
    isplitl [H7]; · iexact H7
    isplitl [H1] <;> iassumption
  · unfold params chanBufs
    iintro ⟨⟨H1, H2, H3, H4, H5, H6⟩, H7, H8, H9, H10⟩
    isplitl [H7]; · iexact H7
    isplitl [H1 H9]
    · isplitl [H9] <;> iassumption
    isplitl [H2 H10]
    · isplitl [H10] <;> iassumption
    isplitl [H3]; · iexact H3
    isplitl [H5 H6]
    · isplitl [H5]
      · iexists _; iexact H5
      · iexists _; iexact H6
    isplitl [H8] <;> iassumption

end

end Cert.KernelIdeal.Seg
-- ==== Proof.Place.lean ====
/-
  Where the chunks lie: the 65536 rows are cut into the 1024 chunks of 64 rows of the 32 tiles' two blocks, and the
  output as one array of them.
-/
module

public import proofs.«01_k».proof.Proof.Tile
public import Idealize.ShloMosaic.Lib.Pipeline.ValueKit.Geometry

@[expose] public section

namespace Cert.KernelIdeal.Seg

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open K0.R1.Facts₀ K0.R2.Facts₀ Shapes1.Facts₀

noncomputable section

variable {F : FTy → Type} [FloatOps F]

local notation "𝕄" => MT nD τ sig (HIx 1) (Elt F) ℕ UU ℕ

/-- The grid coordinates of subcore `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

/-- A chunk's first row. -/
def base (i : grid0.Coords) (b : Fin 2) (c : Fin 16) : Nat := 4096 * (i 1).val + 2048 * (i 0).val + 1024 * b.val + 64 * c.val

/-- A chunk begins at its first row, in channel 0. -/
theorem chunkOff_eq (i : grid0.Coords) (b : Fin 2) (c : Fin 16) : chunkOff i b c = ![base i b c, 0] := by
  have h0 : (i 0).val < 2 := (i 0).isLt
  have h1 : (i 1).val < 16 := (i 1).isLt
  have hb := b.isLt
  have hc := c.isLt
  unfold chunkOff k0_off1 base
  simp only [Scalar.muli, Scalar.addi, IntOp.muli, IntOp.addi, BitVec.toNat_mul, BitVec.toNat_add, BitVec.toNat_ofNat]
  congr 1
  omega

/-- The elements of a chunk. -/
theorem mem_chunk {i : grid0.Coords} {b : Fin 2} {c : Fin 16} {x : S65536x256.Idx} :
    x ∈ (chunkRect i b c).set ↔ base i b c ≤ (x 0).val ∧ (x 0).val < base i b c + 64 := by
  have h1 : (x 1).val < 256 := (x 1).isLt
  rw [Rect.mem_set_unit]
  constructor
  · intro h
    have := h 0
    rw [chunkOff_eq] at this
    exact this
  · intro h a
    rw [chunkOff_eq]
    fin_cases a
    · exact h
    · exact ⟨Nat.zero_le _, (Nat.zero_add 256).symm ▸ h1⟩

/-- The elements of a chunk of the input, -/
theorem set_xChunk (i : grid0.Coords) (b : Fin 2) (c : Fin 16) : (xChunk i b c).view.set = (chunkRect i b c).set := by
  show ((View.whole (main_v0_scv : Ref sig .scVector)).slice (chunkRect i b c)).set = _
  rw [View.set_slice]; exact Finset.map_refl
/-- and of a chunk of the output, are those of its rectangle. -/
theorem set_oChunk (i : grid0.Coords) (b : Fin 2) (c : Fin 16) : (oChunk i b c).view.set = (chunkRect i b c).set := by
  show ((View.whole (main_v1_scv : Ref sig .scVector)).slice (chunkRect i b c)).set = _
  rw [View.set_slice]; exact Finset.map_refl

/-- A chunk by its SparseCore, its subcore, its block and its number. -/
abbrev Spot : Type := (Fin 2 × Fin 16) × Fin 2 × Fin 16
/-- The elements there. -/
def Spot.set (p : Spot) : Finset S65536x256.Idx := (chunkRect (coords p.1.1 p.1.2) p.2.1 p.2.2).set

/-- Which rows a chunk has. -/
theorem Spot.mem {p : Spot} {x : S65536x256.Idx} :
    x ∈ p.set ↔ 4096 * p.1.2.val + 2048 * p.1.1.val + 1024 * p.2.1.val + 64 * p.2.2.val ≤ (x 0).val
      ∧ (x 0).val < 4096 * p.1.2.val + 2048 * p.1.1.val + 1024 * p.2.1.val + 64 * p.2.2.val + 64 := mem_chunk

/-- The chunk of row `r`. -/
def spot (r : Nat) : Spot :=
  ((⟨r / 2048 % 2, Nat.mod_lt _ (by decide)⟩, ⟨r / 4096 % 16, Nat.mod_lt _ (by decide)⟩),
    ⟨r / 1024 % 2, Nat.mod_lt _ (by decide)⟩, ⟨r / 64 % 16, Nat.mod_lt _ (by decide)⟩)

/-- A row is in its chunk. -/
theorem mem_spot (x : S65536x256.Idx) : x ∈ (spot (x 0).val).set := by
  have h0 : (x 0).val < 65536 := (x 0).isLt
  rw [Spot.mem]
  simp only [spot]
  omega

/-- A row is in no other chunk. -/
theorem spot_of_mem {p : Spot} {x : S65536x256.Idx} (h : x ∈ p.set) : spot (x 0).val = p := by
  obtain ⟨⟨c, s⟩, b, k⟩ := p
  have hc := c.isLt
  have hs := s.isLt
  have hb := b.isLt
  have hk := k.isLt
  rw [Spot.mem] at h
  dsimp only at h
  unfold spot
  refine Prod.ext (Prod.ext (Fin.ext ?_) (Fin.ext ?_)) (Prod.ext (Fin.ext ?_) (Fin.ext ?_)) <;> dsimp only <;> omega

/-- Different chunks share no element. -/
theorem spots_disjoint : ∀ p ∈ (Finset.univ : Finset Spot), ∀ p' ∈ (Finset.univ : Finset Spot), p ≠ p' → Disjoint p.set p'.set := by
  intro p _ p' _ hne
  refine Finset.disjoint_left.mpr fun x hx hx' => hne ?_
  rw [← spot_of_mem hx, spot_of_mem hx']

/-- The chunks cover the rows. -/
theorem spots_cover : (Finset.univ : Finset Spot).biUnion Spot.set = Finset.univ := by
  refine Finset.eq_univ_of_forall fun x => ?_
  rw [Finset.mem_biUnion]
  exact ⟨spot (x 0).val, Finset.mem_univ _, mem_spot x⟩

/-! ## The output -/

variable (X : S65536x256.Idx → Elt F .f32) (w β : Chans F)

/-- The output of the rows `X`, the weight and the bias: each row as its chunk leaves it. -/
def result : S65536x256.Idx → Elt F .f32 := fun x =>
  Arrays.out ⟨X, w, β, X, X⟩ (coords (spot (x 0).val).1.1 (spot (x 0).val).1.2) (spot (x 0).val).2.1 (spot (x 0).val).2.2
    (pos (x 0).val (x 1).val)

/-- A pair of coordinates is the one of its two numbers. -/
theorem coords_eta (i : grid0.Coords) : coords (i 0) (i 1) = i := by
  funext a
  match a with
  | 0 => rfl
  | 1 => rfl

/-- Every tile's chunks leave it. -/
theorem fits (O₀ : S65536x256.Idx → Elt F .f32) (i : grid0.Coords) : Arrays.Fits ⟨X, w, β, O₀, result X w β⟩ i := by
  intro b c
  funext y
  have h0 : (y 0).val < 64 := (y 0).isLt
  have h1 : (y 1).val < 256 := (y 1).isLt
  have e0 : (((chunkRect i b c).emb y) 0).val = base i b c + (y 0).val := by
    show chunkOff i b c 0 + 1 * (y 0).val = _
    rw [chunkOff_eq, Nat.one_mul]; rfl
  have e1 : (((chunkRect i b c).emb y) 1).val = (y 1).val := by
    show chunkOff i b c 1 + 1 * (y 1).val = _
    rw [chunkOff_eq, Nat.one_mul]; exact Nat.zero_add _
  have hs : spot ((((chunkRect i b c).emb y) 0).val) = ((i 0, i 1), b, c) :=
    spot_of_mem (by
      show _ ∈ (chunkRect (coords (i 0) (i 1)) b c).set
      rw [coords_eta, mem_chunk, e0]; omega)
  show result X w β ((chunkRect i b c).emb y) = _
  unfold result
  rw [hs, e0, e1]
  dsimp only
  rw [coords_eta, show pos (base i b c + (y 0).val) (y 1).val = y from ?_]
  · rfl
  · funext a
    fin_cases a
    · refine Fin.ext ?_
      show (base i b c + (y 0).val) % 64 = (y 0).val
      unfold base
      omega
    · exact Fin.ext (Nat.mod_eq_of_lt h1)

/-! ## The whole array as its chunks -/

omit [FloatOps F] in
theorem rows_split (d : Dev nD) (f : S65536x256.Idx → Elt F .f32) :
    ((SparseCore.T d).loc main_v0 ↦{fullShare} f : sProp 𝕄)
      = bigSep Finset.univ fun p : Spot => (SparseCore.T d).loc main_v0 ↦[p.set]{fullShare} f := by
  rw [← pointsTo_biUnion Finset.univ (ℓ := (SparseCore.T d).loc main_v0) Spot.set spots_disjoint, spots_cover]; try rfl
omit [FloatOps F] in
theorem outs_split (d : Dev nD) (f : S65536x256.Idx → Elt F .f32) :
    ((SparseCore.T d).loc main_v1 ↦{fullShare} f : sProp 𝕄)
      = bigSep Finset.univ fun p : Spot => (SparseCore.T d).loc main_v1 ↦[p.set]{fullShare} f := by
  rw [← pointsTo_biUnion Finset.univ (ℓ := (SparseCore.T d).loc main_v1) Spot.set spots_disjoint, spots_cover]; try rfl

/-- The input whole is every tile's chunks of it, -/
theorem xs_all (A : Arrays F) (d : Dev nD) :
    ((SparseCore.T d).loc main_v0 ↦{fullShare} A.X : sProp 𝕄)
      = bigSep Finset.univ fun c : Fin 2 => bigSep Finset.univ fun s : Fin 16 => xs A d (coords c s) := by
  rw [rows_split, BI.bigSep_univ_prod, BI.bigSep_univ_prod]
  refine bigSep_congr fun c _ => bigSep_congr fun s _ => ?_
  rw [BI.bigSep_univ_prod]
  refine bigSep_congr fun b _ => bigSep_congr fun k _ => ?_
  unfold xPiece
  rw [set_xChunk]
  rfl
/-- and so the output. -/
theorem os_all (d : Dev nD) (f : S65536x256.Idx → Elt F .f32) :
    ((SparseCore.T d).loc main_v1 ↦{fullShare} f : sProp 𝕄)
      = bigSep Finset.univ fun c : Fin 2 => bigSep Finset.univ fun s : Fin 16 => os d (coords c s) f := by
  rw [outs_split, BI.bigSep_univ_prod, BI.bigSep_univ_prod]
  refine bigSep_congr fun c _ => bigSep_congr fun s _ => ?_
  rw [BI.bigSep_univ_prod]
  refine bigSep_congr fun b _ => bigSep_congr fun k _ => ?_
  unfold oPiece
  rw [set_oChunk]
  rfl

/-- The share of the weight and of the bias that the tile at `c`, `s` reads. -/
def part32 (c : Fin 2) (s : Fin 16) : PosShare TreeShare := Transfers.dealOf fullShare Finset.univ (finProdFinEquiv (c, s))

omit [FloatOps F] in
theorem deal_all {ℓ : Loc nD τ sig} (f : Buf (Elt F) ℓ) :
    (ℓ ↦{fullShare} f : sProp 𝕄) = bigSep Finset.univ fun c : Fin 2 => bigSep Finset.univ fun s : Fin 16 => ℓ ↦{part32 c s} f := by
  rw [← BI.bigSep_univ_prod (fun p : Fin 2 × Fin 16 => (ℓ ↦{part32 p.1 p.2} f : sProp 𝕄)),
    Transfers.pointsTo_deal (ℓ := ℓ) (f := f) (Finset.univ : Finset (Fin (2 * 16))) ⟨0, Finset.mem_univ _⟩ fullShare,
    bigSep_univ_equiv (finProdFinEquiv (m := 2) (n := 16))]
  rfl

/-- The weight and the bias whole are every tile's shares of them. -/
theorem shares_all (A : Arrays F) (d : Dev nD) :
    (iprop(((SparseCore.T d).loc main_arg3 ↦{fullShare} A.w) ∗ (SparseCore.T d).loc main_arg4 ↦{fullShare} A.β) : sProp 𝕄)
      = bigSep Finset.univ fun c : Fin 2 => bigSep Finset.univ fun s : Fin 16 => shares A d (coords c s) (part32 c s) := by
  rw [deal_all, deal_all, ← bigSep_sep']
  refine bigSep_congr fun c _ => ?_
  rw [← bigSep_sep']
  refine bigSep_congr fun s _ => ?_
  unfold shares
  rw [View.set_whole, View.set_whole]

end

end Cert.KernelIdeal.Seg
-- ==== Proof.Same.lean ====
/-
  The printed body is the body of `Proof/Struct.lean`: operation by operation, loop by loop.
-/
module

public import proofs.«01_k».proof.Proof.Struct

@[expose] public section

namespace Cert.KernelIdeal.Seg

open Idealize.ShloMosaic Idealize.SL.Sem K0.R1.Facts₀ K0.R2.Facts₀ Shapes1.Facts₀

noncomputable section

variable {F : FTy → Type} [FloatOps F]

section steps

universe u v
variable {E : Type → Type v} {α β γ δ : Type}

/-- Two programs that start with the same operation and agree after it. -/
theorem op_step {e : E α} {k k' : α → Prog E β} (h : ∀ r, k r = k' r) : Prog.op e k = Prog.op e k' := by
  rw [funext h]

/-- Two programs that start with loops of the same body and agree after them. -/
theorem for_step {w : Nat} {lb ub st : BitVec w} {ok : Scf.OK lb ub st} {a : α} {f f' : Fin (Scf.trips lb ub st) → α → Prog E α}
    {k k' : α → Prog E β} (hf : ∀ t a, f t a = f' t a) (h : ∀ r, k r = k' r) :
    Prog.bind (Scf.for lb ub st ok a f) k = Prog.bind (Scf.for lb ub st ok a f') k' := by
  rw [show f = f' from funext fun k => funext fun a => hf k a, funext h]

/-- Sequences in sequence, flattened: on the left of an equation -/
theorem assoc_left {p : Prog E α} {f : α → Prog E β} {g : β → Prog E γ} {q : Prog E γ}
    (h : Prog.bind p (fun a => Prog.bind (f a) g) = q) : Prog.bind (Prog.bind p f) g = q := by
  rw [← h]; exact Prog.bind_assoc ..

/-- and on its right. -/
theorem assoc_right {p : Prog E α} {f : α → Prog E β} {g : β → Prog E γ} {q : Prog E γ}
    (h : q = Prog.bind p (fun a => Prog.bind (f a) g)) : q = Prog.bind (Prog.bind p f) g := by
  rw [h]; exact (Prog.bind_assoc ..).symm

end steps

set_option maxHeartbeats 40000000 in
set_option maxRecDepth 100000 in
/-- The printed body is `body`. -/
theorem cc0_body_eq (i : grid0.Coords) : cc0__sc_body (F := F) i (Memref.whole main_v0_scv) (Memref.isWhole_whole _) (Memref.whole main_arg3_scv) (Memref.isWhole_whole _) (Memref.whole main_arg4_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 = body i := by
  repeat' first
    | refine op_step fun _ => ?_
    | refine for_step (fun _ _ => ?_) (fun _ => ?_)
    | refine assoc_left ?_
    | refine assoc_right ?_
    | exact rfl

end

end Cert.KernelIdeal.Seg
-- ==== Proof.Locals.lean ====
/-
  A tile's own buffers and semaphores as the body names them, and the body's run from what the launch deals the tile.
-/
module

public import proofs.«01_k».proof.Proof.Place
public import proofs.«01_k».proof.Proof.Same
public import Idealize.ShloMosaic.Lib.SparseCore.Quiescent
public import Idealize.ShloMosaic.Lib.StableHlo.Run
public import Idealize.ShloMosaic.Lib.Pipeline.Kit
public import Idealize.ShloMosaic.Lib.Tactic

@[expose] public section

namespace Cert.KernelIdeal.Seg

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open K0.R1.Facts₀ K0.R2.Facts₀ Shapes1.Facts₀

noncomputable section

variable {F : FTy → Type} [FloatOps F]

local notation "𝕄" => MT nD τ sig (HIx 1) (Elt F) ℕ UU ℕ

omit [FloatOps F] in
/-- Two assertions that entail each other are one. -/
theorem same {P Q : sProp 𝕄} (h : P ⊢ Q) (h' : Q ⊢ P) : P = Q := BI.Entails.antisymm h h'

/-! ## The tile's own buffers -/

/-- The nine buffers of a tile: seven for rows, two for channels. -/
def nine : Fin 7 ⊕ Fin 2 → Ref sig .scVector
  | .inl 0 => cc0_scratch0
  | .inl 1 => cc0_scratch1
  | .inl 2 => cc0_scratch2
  | .inl 3 => cc0_scratch3
  | .inl 4 => cc0_scratch4
  | .inl 5 => cc0_scratch5
  | .inl 6 => cc0_scratch6
  | .inr 0 => cc0_scratch7
  | .inr 1 => cc0_scratch8

/-- The nine buffers are different. -/
theorem nine_injective : Function.Injective nine := by
  have h : ∀ a b, nine a = nine b → a = b := by decide
  exact fun a b => h a b

omit [FloatOps F] in
/-- A family over a sum of index types. -/
theorem bigSep_sum {α β : Type} [Fintype α] [Fintype β] (Φ : α ⊕ β → sProp 𝕄) :
    bigSep Finset.univ Φ = iprop((bigSep Finset.univ fun a => Φ (.inl a)) ∗ bigSep Finset.univ fun b => Φ (.inr b)) := bigSep_univ_sum Φ

variable (d : Dev nD) (i : grid0.Coords)

omit [FloatOps F] in
/-- A buffer at some contents, in the two spellings. -/
theorem any_holds {s : Shape} {b : Memref sig .scVector .vmem s .f32} (h : b.view.set = Finset.univ) :
    (iprop(∃ f, b.view.loc (tile d i) ↦{fullShare} f) : sProp 𝕄) = iprop(∃ Y, holds (F := F) d i b Y) := by
  unfold holds
  rw [h]
  refine same ?_ ?_
  · iintro ⟨%f, H⟩
    iexists _
    iexists f
    isplitr; · ipureintro; exact rfl
    iexact H
  · iintro ⟨%Y, %f, -, H⟩
    iexists f
    iexact H

omit [FloatOps F] in
/-- One of the nine at some contents: a row buffer, -/
theorem own_buf (j : Fin 7) : (iprop(∃ f, (tile d i).loc (nine (.inl j)) ↦{fullShare} f) : sProp 𝕄) = iprop(∃ Y, holds (F := F) d i (buf j) Y) := by
  match j with
  | 0 => exact any_holds (b := Memref.whole cc0_scratch0) d i (View.set_whole _)
  | 1 => exact any_holds (b := Memref.whole cc0_scratch1) d i (View.set_whole _)
  | 2 => exact any_holds (b := Memref.whole cc0_scratch2) d i (View.set_whole _)
  | 3 => exact any_holds (b := Memref.whole cc0_scratch3) d i (View.set_whole _)
  | 4 => exact any_holds (b := Memref.whole cc0_scratch4) d i (View.set_whole _)
  | 5 => exact any_holds (b := Memref.whole cc0_scratch5) d i (View.set_whole _)
  | 6 => exact any_holds (b := Memref.whole cc0_scratch6) d i (View.set_whole _)
omit [FloatOps F] in
/-- the weight's copy -/
theorem own_wv : (iprop(∃ f, (tile d i).loc (nine (.inr 0)) ↦{fullShare} f) : sProp 𝕄) = iprop(∃ Y, holds (F := F) d i wv Y) :=
  any_holds (b := Memref.whole cc0_scratch7) d i (View.set_whole _)
omit [FloatOps F] in
/-- or the bias's. -/
theorem own_bv : (iprop(∃ f, (tile d i).loc (nine (.inr 1)) ↦{fullShare} f) : sProp 𝕄) = iprop(∃ Y, holds (F := F) d i bv Y) :=
  any_holds (b := Memref.whole cc0_scratch8) d i (View.set_whole _)

/-- The row buffers at some contents. -/
abbrev rowBufs : sProp 𝕄 := bigSep Finset.univ fun j => iprop(∃ Y, holds (F := F) d i (buf j) Y)

/-- The tile's other buffers, -/
abbrev otherRefs : Finset (DevRef τ sig) := ownRefs (τ := τ) (tile d i).2 \ Finset.univ.image fun k => (tile d i).2.devRef (nine k)
/-- at some contents. -/
abbrev otherBufs : sProp 𝕄 := bigSep (otherRefs d i) fun b => iprop(∃ f, ((d, b) : Loc nD τ sig) ↦{fullShare} f)

omit [FloatOps F] in
/-- A tile's own buffers are the nine and the others. -/
theorem ownBufs_tile : (ownBufs (tile d i) : sProp 𝕄) = iprop((rowBufs (F := F) d i ∗ chanBufs (F := F) d i) ∗ otherBufs (F := F) d i) := by
  unfold SparseCore.Cfg.ownBufs
  rw [SparseCore.bigSep_sdiff_split' (t := Finset.univ.image fun k => (tile d i).2.devRef (nine k))
      (Finset.image_subset_iff.mpr fun k _ => SparseCore.Cfg.mem_ownRefs_of_owner (p := (tile d i).2) (b := (tile d i).2.devRef (nine k))
        (by rcases k with k | k <;> fin_cases k <;> rfl)),
    SparseCore.bigSep_image_of_injOn (fun a _ b _ h => nine_injective (Proc.devRef_injective _ h))]
  have h : (bigSep Finset.univ fun k => (iprop(∃ f, (tile d i).loc (nine k) ↦{fullShare} f) : sProp 𝕄))
      = iprop(rowBufs (F := F) d i ∗ chanBufs (F := F) d i) := by
    rw [bigSep_sum, bigSep_two, own_wv, own_bv]
    unfold chanBufs rowBufs
    rw [bigSep_congr fun j _ => own_buf d i j]
  exact congrArg (fun R : sProp 𝕄 => iprop(R ∗ otherBufs (F := F) d i)) h

/-! ## Its semaphores -/

/-- The sixteen semaphores: the row buffers' for loads, for stores, and the two of the channels. -/
def sixteen : Fin 7 ⊕ Fin 7 ⊕ Fin 2 → DmaSem sig
  | .inl j => lsem j
  | .inr (.inl j) => ssem j
  | .inr (.inr 0) => cc0_scoped0.sem
  | .inr (.inr 1) => cc0_scoped1.sem

/-- The sixteen semaphores are different. -/
theorem sixteen_injective : Function.Injective sixteen := by
  have h : ∀ a b, sixteen a = sixteen b → a = b := by decide
  exact fun a b => h a b

/-- One of them, of the tile. -/
abbrev cellOf (k : Fin 7 ⊕ Fin 7 ⊕ Fin 2) : GSem nD τ sig := (tile d i, .dma (sixteen k))

/-- Each of the sixteen semaphores is the tile's own. -/
theorem cellOf_mem (k : Fin 7 ⊕ Fin 7 ⊕ Fin 2) : cellOf d i k ∈ ownCells (tile d i) :=
  mem_ownCells.mpr ⟨rfl, (show ∀ s : DmaSem sig, (SemLoc.dma s : SemLoc sig).isScoped .scVector = true by decide) _⟩

/-- The sixteen semaphores of a tile are different cells. -/
theorem cellOf_injective : Function.Injective (cellOf d i) := fun a b h => by
  have h := congrArg (fun g : GSem nD τ sig => g.2) h
  simp only [SemLoc.dma.injEq] at h
  exact sixteen_injective h

/-- The tile's other semaphores at zero. -/
abbrev otherSems : sProp 𝕄 := bigSep (ownCells (tile d i) \ Finset.univ.image (cellOf d i)) fun g => semVal g 0

/-- The row buffers' semaphores at zero. -/
abbrev rowSems : sProp 𝕄 :=
  iprop((bigSep Finset.univ fun j => zero (F := F) d i (lsem j)) ∗ bigSep Finset.univ fun j => zero (F := F) d i (ssem j))

omit [FloatOps F] in
/-- A tile's own semaphores at zero are the sixteen and the others. -/
theorem ownSems_tile : (ownSems0 (tile d i) : sProp 𝕄)
    = iprop((rowSems (F := F) d i ∗ chanSems (F := F) d i) ∗ otherSems (F := F) d i) := by
  unfold SparseCore.Cfg.ownSems0
  rw [SparseCore.bigSep_sdiff_split' (t := Finset.univ.image (cellOf d i)) (Finset.image_subset_iff.mpr fun k _ => cellOf_mem d i k),
    SparseCore.bigSep_image_of_injOn (fun a _ b _ h => cellOf_injective d i h)]
  have h : (bigSep Finset.univ fun k => (semVal (cellOf d i k) 0 : sProp 𝕄)) = iprop(rowSems (F := F) d i ∗ chanSems (F := F) d i) := by
    rw [bigSep_sum, bigSep_sum, bigSep_two]
    unfold rowSems chanSems
    show iprop((bigSep Finset.univ fun j => zero (F := F) d i (lsem j)) ∗ (bigSep Finset.univ fun j => zero (F := F) d i (ssem j))
      ∗ zero (F := F) d i cc0_scoped0.sem ∗ zero (F := F) d i cc0_scoped1.sem) = _
    refine same ?_ ?_
    · iintro ⟨H1, H2, H3⟩
      isplitl [H1 H2]; · isplitl [H1] <;> iassumption
      iexact H3
    · iintro ⟨⟨H1, H2⟩, H3⟩
      isplitl [H1]; · iexact H1
      isplitl [H2] <;> iassumption
  exact congrArg (fun R : sProp 𝕄 => iprop(R ∗ otherSems (F := F) d i)) h

/-- The row buffers with their semaphores, as the passes have them. -/
theorem idles_eq : idles (F := F) d i = iprop(rowBufs (F := F) d i ∗ rowSems (F := F) d i) := by
  unfold idles
  rw [bigSep_sep', bigSep_sep']

/-! ## The body from what the launch deals -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := Variants.none.lift
abbrev v₀ : 𝒱.V := Sum.inl none

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable {d i} {A : Arrays F}

/-- From its shares of the weight and the bias, its chunks of the input and of the output, and its own buffers and
    semaphores, the tile's body ends with the output's chunks as left and the rest given back. -/
theorem tile_body (hA : A.Fits i) {q : PosShare TreeShare} (O : CellTallies nD τ sig (HIx 1)) (W : Waits sig (HIx 1)) (hO : ∀ g, O g none = 0) :
    iprop(levAts (K (F := F)).L (K (F := F)).lev ∗ emp ∗ (shares A d i q ∗ xs A d i ∗ os d i A.O₀)
        ∗ scopedBufs (tile d i) ∗ scopedSems0 (tile d i) ∗ owes (tile d i) O W)
      ⊢ wp frame (wpE (defs₀ (F := F)) Variants.none (tile d i) none) Set.univ (body i)
          fun _ => iprop((shares A d i q ∗ xs A d i ∗ os d i A.O) ∗ scopedBufs (tile d i) ∗ scopedSems0 (tile d i)
            ∗ ∃ W', ⌜∀ p ∈ W', p ∈ W ∨ p.2 = none ∨ p.2 = some (0 : Fin 1)⌝ ∗ owes (tile d i) O W') := by
  rw [(K (F := F)).scopedBufs_V facts d ((i 0).castLE hcore0) ((i 1).castLE hsub0),
    SparseCore.Cfg.scopedSems0_V (Val := Elt F) d ((i 0).castLE hcore0) ((i 1).castLE hsub0), ownSems_tile, ownBufs_tile]
  iintro ⟨#Hlv, -, ⟨H1, H2, H3⟩, ⟨⟨H4, H5⟩, H6⟩, ⟨⟨H7, H8⟩, H9⟩, HO⟩
  ihave Hmw := (show levAts (K (F := F)).L (K (F := F)).lev ⊢ Transfers.MayWaits (tile d i) (default : HIx 1) O from
    (K (F := F)).mayWaits_none (thr := tile d i) hO) $$ Hlv
  iapply (wp_wand_r Idealize.ShloMosaic.frame (wpE (defs₀ (F := F)) Variants.none (tile d i) none) Set.univ)
  isplitl [Hmw H1 H2 H3 H4 H5 H7 H8 HO]
  · iapply (body_runs (d := d) (W := O) hA (q := q))
    unfold dues
    rw [idles_eq]
    isplitl [H1]; · iexact H1
    isplitl [H2]; · iexact H2
    isplitl [H3]; · iexact H3
    isplitl [H4 H7]; · isplitl [H4] <;> iassumption
    isplitl [H5]; · iexact H5
    isplitl [H8]; · iexact H8
    isplitl [Hmw]; · iexact Hmw
    iexists W
    iexact HO
  unfold dues
  rw [idles_eq]
  iintro %_ ⟨H1, H2, H3, ⟨H4, H7⟩, H5, H8, -, ⟨%W', HO⟩⟩
  isplitl [H1 H2 H3]
  · isplitl [H1]; · iexact H1
    isplitl [H2] <;> iassumption
  isplitl [H4 H5 H6]
  · isplitl [H4 H5]; · isplitl [H4] <;> iassumption
    iexact H6
  isplitl [H7 H8 H9]
  · isplitl [H7 H8]; · isplitl [H7] <;> iassumption
    iexact H9
  iexists W'
  isplitr
  · ipureintro
    intro p _
    rcases p.2 with _ | q
    · exact .inr (.inl rfl)
    · exact .inr (.inr (congrArg some (Subsingleton.elim q 0)))
  iexact HO

end

end Cert.KernelIdeal.Seg
-- ==== Proof.Launch.lean ====
/-
  The launch: the input reshaped to rows, the thirty-two tiles' bodies on them, the output reshaped back. What the
  program leaves: the arguments as they were, the result as the tiles' `result`, every semaphore at zero.
-/
module

public import proofs.«01_k».proof.Proof.Locals

@[expose] public section

namespace Cert.KernelIdeal.Seg

open Idealize.ShloMosaic
open Idealize.ShloMosaic.SparseCore (S V)
open Idealize.ShloMosaic.SparseCore.Cfg (HIx Pay tileRest ownBufs ownSems0 ownCells ownRefs mem_ownCells mem_ownRefs)
open Idealize.ShloMosaic.StableHlo (held wp_hlo_within reshape_result reshape_result_ne reshape_bufs)
open Idealize.SL Idealize.SL.RA Idealize.SL.BI
open scoped Idealize.SL.BI
open Idealize.SL.BI.BIBase Idealize.SL.BI.Laws Idealize.SL.ProofMode Idealize.SL.Sem
open Idealize.ShloMosaic.Rounds
open K0.R1.Facts₀ K0.R2.Facts₀ Shapes1.Facts₀ Facts₀ Facts

noncomputable section

variable {F : FTy → Type} [FloatOps F]

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

/-! ## What the handshakes carry -/

/-- The five arguments, -/
abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_arg2
abbrev wLoc (d : Dev nD) : Loc nD τ sig := (SparseCore.T d).loc main_arg3
abbrev bLoc (d : Dev nD) : Loc nD τ sig := (SparseCore.T d).loc main_arg4
/-- the input as rows, the output as rows, and the result. -/
abbrev rowsLoc (d : Dev nD) : Loc nD τ sig := (SparseCore.T d).loc main_v0
abbrev outLoc (d : Dev nD) : Loc nD τ sig := (SparseCore.T d).loc main_v1
abbrev resLoc (d : Dev nD) : Loc nD τ sig := (SparseCore.T d).loc main_v2

/-- The rows of the input. -/
def flat (f : S4x16384x256.Idx → Elt F .f32) : S65536x256.Idx → Elt F .f32 :=
  fun k => shapeCast S65536x256 f shapeCasts_S4x16384x256_S65536x256 k
/-- The result of the rows of the output. -/
def unflat (f : S65536x256.Idx → Elt F .f32) : S4x16384x256.Idx → Elt F .f32 :=
  fun k => shapeCast S4x16384x256 f shapeCasts_S65536x256_S4x16384x256 k

/-- The arrays of the call on device `d`. -/
def arrays (d : Dev nD) : Arrays F :=
  ⟨flat (m (xLoc d)), m (wLoc d), m (bLoc d), m (outLoc d), result (flat (m (xLoc d))) (m (wLoc d)) (m (bLoc d))⟩

/-- The arrays of the launch are those that a tile's run supposes. -/
theorem arrays_fit (d : Dev nD) (i : grid0.Coords) : (arrays m d).Fits i := fits _ _ _ _ i

/-- What the tile at `i` is dealt and hands back: its share of the weight and the bias, its chunks of the input, and its
    chunks of the output at `f`. -/
def dealt (d : Dev nD) (c : Fin 2) (s : Fin 16) (f : S65536x256.Idx → Elt F .f32) : sProp 𝕄 :=
  iprop(shares (arrays m d) d (coords c s) (part32 c s) ∗ xs (arrays m d) d (coords c s) ∗ os d (coords c s) f)

instance dealt_storable (d : Dev nD) (c : Fin 2) (s : Fin 16) (f : S65536x256.Idx → Elt F .f32) :
    BI.Storable (upEmb : UEmb _ 𝕄) (dealt m d c s f) := by
  unfold dealt shares xs os xPiece oPiece
  infer_instance

/-- Each SparseCore takes what its sixteen tiles are dealt, and hands back what they hand back. -/
def P : (K (F := F)).Pay (nD := nD) (Val := Elt F) (Name := ℕ) (U := UU) where
  st := fun q d c => match q with | 0 => bigSep Finset.univ fun s : Fin 16 => dealt m d c s (arrays m d).O₀
  dn := fun q d c => match q with | 0 => bigSep Finset.univ fun s : Fin 16 => dealt m d c s (arrays m d).O
  go := fun q d c s => match q with | 0 => dealt m d c s (arrays m d).O₀
  td := fun q d c s => match q with | 0 => dealt m d c s (arrays m d).O
  x := fun _ _ => iprop(emp)

instance P_storable : (P (F := F) m).IsStorable where
  st q d c := match q with
    | 0 => (inferInstance : BI.Storable (upEmb : UEmb _ 𝕄) (bigSep Finset.univ fun s : Fin 16 => dealt m d c s (arrays m d).O₀))
  dn q d c := match q with
    | 0 => (inferInstance : BI.Storable (upEmb : UEmb _ 𝕄) (bigSep Finset.univ fun s : Fin 16 => dealt m d c s (arrays m d).O))
  go q d c s := match q with | 0 => dealt_storable m d c s (arrays m d).O₀
  td q d c s := match q with | 0 => dealt_storable m d c s (arrays m d).O

/-- What a SparseCore takes is what its tiles are dealt, and so back. -/
theorem vecSplit : (K (F := F)).VecSplit' (P m) 0 := by
  intro d c
  show (bigSep Finset.univ fun s : Fin 16 => dealt m d c s (arrays m d).O₀) ⊢ |={Set.univ}=> iprop(
    (bigSep Finset.univ fun s : Fin 16 => dealt m d c s (arrays m d).O₀)
      ∗ ((bigSep Finset.univ fun s : Fin 16 => dealt m d c s (arrays m d).O) -∗ bigSep Finset.univ fun s : Fin 16 => dealt m d c s (arrays m d).O))
  iintro H
  imodintro
  isplitl [H]; · iexact H
  iintro H
  iexact H

/-- What all the tiles are dealt is the arrays whole. -/
theorem all_dealt (d : Dev nD) (f : S65536x256.Idx → Elt F .f32) :
    (bigSep Finset.univ fun c : Fin 2 => bigSep Finset.univ fun s : Fin 16 => dealt m d c s f)
      = iprop(((wLoc d ↦{fullShare} m (wLoc d)) ∗ bLoc d ↦{fullShare} m (bLoc d))
          ∗ (rowsLoc d ↦{fullShare} flat (m (xLoc d))) ∗ outLoc d ↦{fullShare} f) := by
  have h1 := shares_all (arrays m d) d
  have h2 := xs_all (arrays m d) d
  rw [show (outLoc d ↦{fullShare} f : sProp 𝕄) = _ from os_all d f]
  refine Eq.trans ?_ (congrArg₂ (fun P Q : sProp 𝕄 => iprop(P ∗ Q ∗ _)) h1.symm h2.symm)
  rw [← bigSep_sep', ← bigSep_sep']
  refine bigSep_congr fun c _ => ?_
  rw [← bigSep_sep', ← bigSep_sep']
  rfl

/-! ## The task's obligation -/

theorem defs₀_vector (c : Fin τ.nSC) (s : Fin τ.nSub) :
    defs₀ (F := F) (.scVector c s) 0 () = SparseCore.onTile hcore0 hsub0 (fun c s => body (coords c s)) ⟨⟩ c s := by
  simp only [← cc0_body_eq]
  rfl

/-- Every tile's body runs from its share of the arrays to its share of the output. -/
theorem tileObl : (K (F := F)).TileObl (D (F := F)) 𝒱 (P m) v₀ 0 := by
  intro d c s O W hO _ _
  simp only [show (P m).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) Variants.none _ Set.univ none _ _)
  rw [defs₀_vector]; simp only [SparseCore.onTile, hci, and_self, ↓reduceDIte]
  exact tile_body (d := d) (i := coords ⟨_, hci.1⟩ ⟨_, hci.2⟩) (A := arrays m d) (arrays_fit m d _) O W hO

/-! ## The launch element of the ghost state -/

/-- The ghost state at the start. -/
def u₀ : UU := (initOf (K (F := F)).hsCells (K (F := F)).hsToks, 1)

omit [FloatOps F] in
/-- A family of nothing. -/
theorem emps {I : Type} (s : Finset I) : (bigSep s fun _ => iprop(emp)) = (iprop(emp) : sProp 𝕄) := bigSep_emp_const s

/-- It gives the launch's handshakes and nothing else. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The two reshapes -/

/-- A reshape of `x` into `y`: `y` holds `x`'s elements in its own shape. -/
theorem reshape_runs {Λ : Labels} (defs : Defs nD τ sig (Elt F) Λ) (𝒲 : Variants) (d : Dev nD) {x y : Ref sig .tc} (hxy : x ≠ y) (he hn hx hy)
    {f : x.ty.Contents (Elt F)} {g : y.ty.Contents (Elt F)} {Φ : PUnit → sProp 𝕄} :
    iprop((boundary (SparseCore.T d) ∗ ((SparseCore.T d).loc x ↦{fullShare} f) ∗ (SparseCore.T d).loc y ↦{fullShare} g)
        ∗ ((boundary (SparseCore.T d) ∗ ((SparseCore.T d).loc x ↦{fullShare} f) ∗ (SparseCore.T d).loc y ↦{fullShare} fun k => he ▸ shapeCast y.ty.shape f hn k) -∗ Φ ⟨⟩))
      ⊢ wp frame (wpE defs 𝒲 (SparseCore.T d) none) Set.univ
          (hlo rfl (StableHlo.reshape (τ := τ) (Val := Elt F) x y he hn hx hy) fun _ => .ret ⟨⟩) Φ := by
  have hne : Proc.devRef (τ := τ) .tc x ≠ Proc.devRef .tc y := fun h => hxy (Proc.devRef_injective _ h)
  have hV (V : Valuation τ sig (Elt F)) : (held (SparseCore.T d) (StableHlo.reshape (τ := τ) (Val := Elt F) x y he hn hx hy).bufs V : sProp 𝕄)
      = iprop(((SparseCore.T d).loc x ↦{fullShare} V (Proc.devRef .tc x)) ∗ (SparseCore.T d).loc y ↦{fullShare} V (Proc.devRef .tc y)) := by
    unfold held
    rw [reshape_bufs, SparseCore.bigSep_insert' (by rw [Finset.mem_singleton]; exact hne), bigSep_singleton]
  let V : Valuation τ sig (Elt F) := Function.update (Function.update (fun b _ => default) (Proc.devRef .tc x) f) (Proc.devRef .tc y) g
  have hVx : V (Proc.devRef .tc x) = f := (Function.update_of_ne hne _ _).trans (Function.update_self _ _ _)
  have hVy : V (Proc.devRef .tc y) = g := Function.update_self _ _ _
  iintro ⟨⟨Hb, Hx, Hy⟩, Hk⟩
  iapply (wp_hlo_within 𝒲 (SparseCore.T d) none Set.univ (op := StableHlo.reshape x y he hn hx hy) subset_rfl (V := V)) $$ [Hb Hx Hy]
  · rw [hV, hVx, hVy]
    isplitl [Hb]; · iexact Hb
    isplitl [Hx] <;> iassumption
  rw [hV, reshape_result, reshape_result_ne x y he hn hx hy V hxy, hVx]
  iintro H
  rw [wp_ret]
  imodintro
  iapply Hk $$ H

/-- The input into rows. -/
theorem toRows_runs {Λ : Labels} (defs : Defs nD τ sig (Elt F) Λ) (𝒲 : Variants) (d : Dev nD) (f : S4x16384x256.Idx → Elt F .f32)
    {g : S65536x256.Idx → Elt F .f32} {Φ : PUnit → sProp 𝕄} :
    iprop((boundary (SparseCore.T d) ∗ (xLoc d ↦{fullShare} f) ∗ rowsLoc d ↦{fullShare} g)
        ∗ ((boundary (SparseCore.T d) ∗ (xLoc d ↦{fullShare} f) ∗ rowsLoc d ↦{fullShare} flat f) -∗ Φ ⟨⟩))
      ⊢ wp frame (wpE defs 𝒲 (SparseCore.T d) none) Set.univ
          (hlo rfl (StableHlo.reshape main_arg0 main_v0 (rfl : (.f32 : EltTy) = .f32) shapeCasts_S4x16384x256_S65536x256) fun _ => .ret ⟨⟩) Φ :=
  reshape_runs defs 𝒲 d (x := main_arg0) (y := main_v0) (by decide) _ _ _ _

/-- The rows of the output into the result. -/
theorem fromRows_runs {Λ : Labels} (defs : Defs nD τ sig (Elt F) Λ) (𝒲 : Variants) (d : Dev nD) (f : S65536x256.Idx → Elt F .f32)
    {g : S4x16384x256.Idx → Elt F .f32} {Φ : PUnit → sProp 𝕄} :
    iprop((boundary (SparseCore.T d) ∗ (outLoc d ↦{fullShare} f) ∗ resLoc d ↦{fullShare} g)
        ∗ ((boundary (SparseCore.T d) ∗ (outLoc d ↦{fullShare} f) ∗ resLoc d ↦{fullShare} unflat f) -∗ Φ ⟨⟩))
      ⊢ wp frame (wpE defs 𝒲 (SparseCore.T d) none) Set.univ
          (hlo rfl (StableHlo.reshape main_v1 main_v2 (rfl : (.f32 : EltTy) = .f32) shapeCasts_S65536x256_S4x16384x256) fun _ => .ret ⟨⟩) Φ :=
  reshape_runs defs 𝒲 d (x := main_v1) (y := main_v2) (by decide) _ _ _ _

/-! ## The program on the TensorCore -/

/-- What the call takes, -/
theorem st_eq (d : Dev nD) : (bigSep Finset.univ fun c : Fin ((K (F := F)).nCore 0) => (P m).st 0 d c)
    = iprop(((wLoc d ↦{fullShare} m (wLoc d)) ∗ bLoc d ↦{fullShare} m (bLoc d))
        ∗ (rowsLoc d ↦{fullShare} flat (m (xLoc d))) ∗ outLoc d ↦{fullShare} m (outLoc d)) := all_dealt m d _
/-- and what it gives back. -/
theorem dn_eq (d : Dev nD) : (bigSep Finset.univ fun c : Fin ((K (F := F)).nCore 0) => (P m).dn 0 d c)
    = iprop(((wLoc d ↦{fullShare} m (wLoc d)) ∗ bLoc d ↦{fullShare} m (bLoc d))
        ∗ (rowsLoc d ↦{fullShare} flat (m (xLoc d))) ∗ outLoc d ↦{fullShare} result (flat (m (xLoc d))) (m (wLoc d)) (m (bLoc d))) := all_dealt m d _

/-- The arrays of @main, one by one. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ (oLoc d ↦{fullShare} W main_arg2)
      ∗ (wLoc d ↦{fullShare} W main_arg3) ∗ (bLoc d ↦{fullShare} W main_arg4) ∗ (rowsLoc d ↦{fullShare} W main_v0)
      ∗ (outLoc d ↦{fullShare} W main_v1) ∗ resLoc d ↦{fullShare} W main_v2) := by
  unfold unscopedBufs
  rw [show (Finset.univ.filter fun b : Ref sig .tc => ¬ b.isScoped) = {main_arg0, main_arg1, main_arg2, main_arg3, main_arg4, main_v0, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the program leaves in its result. -/
def left (d : Dev nD) : S4x16384x256.Idx → Elt F .f32 := unflat (result (flat (m (xLoc d))) (m (wLoc d)) (m (bLoc d)))

/-- The arguments as they were, and the result. -/
abbrev FIN (d : Dev nD) : sProp 𝕄 :=
  iprop((xLoc d ↦{fullShare} m (xLoc d)) ∗ (iLoc d ↦{fullShare} m (iLoc d)) ∗ (oLoc d ↦{fullShare} m (oLoc d))
    ∗ (wLoc d ↦{fullShare} m (wLoc d)) ∗ (bLoc d ↦{fullShare} m (bLoc d)) ∗ resLoc d ↦{fullShare} left m d)

/-- The program on device `d`'s TensorCore, from its eight arrays as found. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hi, Ho, Hw, Hβ, Hrows, Hout, Hres⟩, Hts, -⟩, -⟩
  iapply (toRows_runs ((K (F := F)).defs (D (F := F))) 𝒱 d (m (xLoc d)))
  isplitl [Hb Hx Hrows]
  · isplitl [Hb]; · iexact Hb
    isplitl [Hx] <;> iassumption
  iintro ⟨Hb, Hx, Hrows⟩
  iapply ((K (F := F)).wp_run (D (F := F)) 𝒱 (EH := EH) (P := P m) κ d 0) $$ [Hst Hx Hi Ho Hw Hβ Hrows Hout Hres Hb Hts]
  isplitr; · iexact Hctx
  isplitl [Hst]; · iexact Hst
  isplitl [Hw Hβ Hrows Hout]
  · iapply (Entails.of_eq (st_eq m d).symm)
    isplitl [Hw Hβ]; · isplitl [Hw] <;> iassumption
    isplitl [Hrows] <;> iassumption
  iintro ⟨Hst, Hdn⟩
  ihave Hdn' := (Entails.of_eq (dn_eq m d)) $$ Hdn
  icases Hdn' with ⟨⟨Hw, Hβ⟩, Hrows, Hout⟩
  iapply (fromRows_runs ((K (F := F)).defs (D (F := F))) 𝒱 d (result (flat (m (xLoc d))) (m (wLoc d)) (m (bLoc d))))
  isplitl [Hb Hout Hres]
  · isplitl [Hb]; · iexact Hb
    isplitl [Hout] <;> iassumption
  iintro ⟨Hb, Hout, Hres⟩
  imodintro
  isplitl [Hst]; · iexact Hst
  isplitl [Hx Hi Ho Hw Hβ Hres]
  · isplitl [Hx]; · iexact Hx
    isplitl [Hi]; · iexact Hi
    isplitl [Ho]; · iexact Ho
    isplitl [Hw]; · iexact Hw
    isplitl [Hβ]; · iexact Hβ
    iexact Hres
  isplitl [Hb] <;> iassumption

/-! ## The program's run -/

/-- An array's contents, read off the memory. -/
theorem agrees (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro
    exact funext fun k => h k (Finset.mem_univ _)
  iexact HSI

/-- The arguments as they were, and the result. -/
def fq (d : Dev nD) (s' : Phys nD τ sig (Elt F)) : Prop :=
  s'.mem.mem (xLoc d) = m (xLoc d) ∧ s'.mem.mem (iLoc d) = m (iLoc d) ∧ s'.mem.mem (oLoc d) = m (oLoc d) ∧ s'.mem.mem (wLoc d) = m (wLoc d)
    ∧ s'.mem.mem (bLoc d) = m (bLoc d) ∧ s'.mem.mem (resLoc d) = left m d

/-- What @main is left with says what memory holds. -/
theorem hfin (d : Dev nD) (s' : Phys nD τ sig (Elt F)) : iprop(FIN m d ∗ SI s') ⊢ (⌜fq m d s'⌝ : sProp 𝕄) := by
  iintro ⟨⟨H1, H2, H3, H4, H5, H6⟩, HSI⟩
  ihave H := (agrees s' (xLoc d) _) $$ [HSI H1]
  · isplitl [HSI] <;> iassumption
  icases H with ⟨%h1, HSI⟩
  ihave H := (agrees s' (iLoc d) _) $$ [HSI H2]
  · isplitl [HSI] <;> iassumption
  icases H with ⟨%h2, HSI⟩
  ihave H := (agrees s' (oLoc d) _) $$ [HSI H3]
  · isplitl [HSI] <;> iassumption
  icases H with ⟨%h3, HSI⟩
  ihave H := (agrees s' (wLoc d) _) $$ [HSI H4]
  · isplitl [HSI] <;> iassumption
  icases H with ⟨%h4, HSI⟩
  ihave H := (agrees s' (bLoc d) _) $$ [HSI H5]
  · isplitl [HSI] <;> iassumption
  icases H with ⟨%h5, HSI⟩
  ihave H := (agrees s' (resLoc d) _) $$ [HSI H6]
  · isplitl [HSI] <;> iassumption
  icases H with ⟨%h6, HSI⟩
  ipureintro
  exact ⟨h1, h2, h3, h4, h5, h6⟩

/-- The arguments as they were, the result, and the semaphores at zero. -/
def QC : PUnit × MemSt nD τ sig (Elt F) → Prop := fun r =>
  (∀ d : Dev nD, r.2.mem (xLoc d) = m (xLoc d) ∧ r.2.mem (iLoc d) = m (iLoc d) ∧ r.2.mem (oLoc d) = m (oLoc d) ∧ r.2.mem (wLoc d) = m (wLoc d)
    ∧ r.2.mem (bLoc d) = m (bLoc d) ∧ r.2.mem (resLoc d) = left m d) ∧ r.2.sem = fun _ => 0

/-- Every run of the program ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end

end Cert.KernelIdeal.Seg
-- ==== Proof.Frames.lean ====
/-
  The frames: the idealized kernel's from its launch, and the kernel's, whose program is the same text.
-/
module

public import proofs.«01_k».proof.Defs
public import proofs.«01_k».proof.Proof.Launch

@[expose] public section

namespace Cert.KernelIdeal.Seg

open Idealize.ShloMosaic Idealize.SL.Sem

variable {F : FTy → Type} [FloatOps F]

/-- The program leaves its arguments as they were and every semaphore at zero. -/
theorem framed [∀ e, Nonempty (Elt F e)] (m : (ℓ : Loc nD τ sig) → Buf (Elt F) ℓ) (g : Dev nD → PrngReg) :
    θ_run (defs (F := F)) (threads (F := F)) ⟨m, fun _ => 0, g⟩ (fun r => (∀ d : Dev nD,
      r.2.mem (xLoc d) = m (xLoc d) ∧ r.2.mem (iLoc d) = m (iLoc d) ∧ r.2.mem (oLoc d) = m (oLoc d) ∧ r.2.mem (wLoc d) = m (wLoc d)
      ∧ r.2.mem (bLoc d) = m (bLoc d)) ∧ r.2.sem = fun _ => 0) :=
  (θ_run _ _ _).mono (fun r h => ⟨fun d => ⟨(h.1 d).1, (h.1 d).2.1, (h.1 d).2.2.1, (h.1 d).2.2.2.1, (h.1 d).2.2.2.2.1⟩, h.2⟩) (run_main m g)

/-- The idealized kernel's frame. -/
theorem frame_ideal : Cert.quiescent_KernelIdeal (hKernelIdeal := Cert.KernelIdeal.Gen.facts) := fun m g _ => framed m g

/-- The kernel's, over its own floats. -/
theorem frame_kernel [Cert.Kernel.Facts] : Cert.quiescent_Kernel := fun m g _ => framed (F := Bits) m g

end Cert.KernelIdeal.Seg
-- ==== Proof.Norm.lean ====
/-
  The normalisation over the reals: a group of 1024 rows of one channel, its mean and variance, the value the group's
  element leaves, and the kernel's and the reference's ways of computing it.
-/
module

public import Idealize.ShloMosaic.PureOps
public import Idealize.ShloMosaic.PureOps.Ideal
public import Idealize.ShloMosaic.Lib.IdealHost

@[expose] public section

namespace Cert.KernelIdeal.Seg

open Idealize.ShloMosaic

noncomputable section

/-- A group's mean -/
def ave (f : ℕ → ℝ) : ℝ := (∑ j ∈ Finset.range 1024, f j) * (1 / 1024)
/-- and variance. -/
def dev (f : ℕ → ℝ) : ℝ := (∑ j ∈ Finset.range 1024, (f j - ave f) * (f j - ave f)) * (1 / 1024)
/-- What is added to the variance. -/
def eps : ℝ := 10995116 / 2 ^ 40

/-- The element `x` of a group with values `f`, normalised, weighted by `w` and shifted by `β`. -/
def normed (f : ℕ → ℝ) (x w : ℝ) (β : EReal) : EReal := (((x - ave f) / Real.sqrt (dev f + eps) * w : ℝ) : EReal) + β

/-- The number added to the variance is positive, -/
theorem eps_pos : 0 < eps := by unfold eps; norm_num

/-- a variance is not negative, -/
theorem dev_nonneg (f : ℕ → ℝ) : 0 ≤ dev f :=
  mul_nonneg (Finset.sum_nonneg fun j _ => mul_self_nonneg _) (by norm_num)

/-- The variance is the mean of the squares less the square of the mean. -/
theorem dev_eq (f : ℕ → ℝ) : (∑ j ∈ Finset.range 1024, f j * f j) * (1 / 1024) - ave f * ave f = dev f := by
  have h : ∑ j ∈ Finset.range 1024, (f j - ave f) * (f j - ave f)
      = ∑ j ∈ Finset.range 1024, f j * f j - 2 * ave f * ∑ j ∈ Finset.range 1024, f j + 1024 * (ave f * ave f) := by
    rw [Finset.mul_sum, ← Finset.sum_sub_distrib]
    have : (1024 : ℝ) * (ave f * ave f) = ∑ _j ∈ Finset.range 1024, ave f * ave f := by
      rw [Finset.sum_const, Finset.card_range, nsmul_eq_mul]; norm_num
    rw [this, ← Finset.sum_add_distrib]
    exact Finset.sum_congr rfl fun j _ => by ring
  have hs : ∑ j ∈ Finset.range 1024, f j = 1024 * ave f := by unfold ave; ring
  unfold dev
  rw [h, hs]
  ring

/-- and so the root of their sum is positive. -/
theorem root_pos (f : ℕ → ℝ) : 0 < Real.sqrt (dev f + eps) := Real.sqrt_pos.mpr (add_pos_of_nonneg_of_pos (dev_nonneg f) eps_pos)

/-- The word of the number added to the variance stands for `eps`. -/
theorem word_eps : Ideal.ofBits .f32 0x3727C5AC#32 = ((eps : ℝ) : EReal) := by
  unfold eps; simp [Ideal.ofBits, Ideal.ieee, -EReal.coe_mul]; norm_num
/-- The word of 1/1024. -/
theorem word_ratio : Ideal.ofBits .f32 0x3A800000#32 = ((1 / 1024 : ℝ) : EReal) := by
  simp [Ideal.ofBits, Ideal.ieee, -EReal.coe_mul]; norm_num
/-- The word of 1/2. -/
theorem word_half : Ideal.ofBits .f32 0x3F000000#32 = ((1 / 2 : ℝ) : EReal) := by
  simp [Ideal.ofBits, Ideal.ieee, -EReal.coe_mul]; norm_num
/-- The word of 3/2. -/
theorem word_threeHalves : Ideal.ofBits .f32 0x3FC00000#32 = ((3 / 2 : ℝ) : EReal) := by
  simp [Ideal.ofBits, Ideal.ieee, -EReal.coe_mul]; norm_num
/-- The word of zero. -/
theorem word_zero : Ideal.ofBits .f32 0#32 = 0 := by simp [Ideal.ofBits, Ideal.ieee]
/-- The word of infinity. -/
theorem word_top : Ideal.ofBits .f32 0x7F800000#32 = ⊤ := by simp [Ideal.ofBits, Ideal.ieee]

/-- The reciprocal square root of a positive real, -/
theorem rsqrt_pos {v : ℝ} (h : 0 < v) : Ideal.rsqrt (v : EReal) = (((Real.sqrt v)⁻¹ : ℝ) : EReal) := by
  rw [Ideal.rsqrt_coe, if_neg (not_lt.mpr h.le), if_neg h.ne']
/-- and its square root. -/
theorem sqrt_pos {v : ℝ} (h : 0 < v) : Ideal.sqrt (v : EReal) = ((Real.sqrt v : ℝ) : EReal) := by
  rw [Ideal.sqrt_coe, if_neg (not_lt.mpr h.le)]

/-- A Newton step leaves the reciprocal square root as it is. -/
theorem step_fixed {v : ℝ} (h : 0 < v) :
    (Real.sqrt v)⁻¹ * (3 / 2 - 1 / 2 * v * (Real.sqrt v)⁻¹ * (Real.sqrt v)⁻¹) = (Real.sqrt v)⁻¹ := by
  have hs : 0 < Real.sqrt v := Real.sqrt_pos.mpr h
  have hv : v * (Real.sqrt v)⁻¹ * (Real.sqrt v)⁻¹ = 1 := by
    nth_rewrite 1 [← Real.mul_self_sqrt h.le]
    field_simp
  have : 1 / 2 * v * (Real.sqrt v)⁻¹ * (Real.sqrt v)⁻¹ = 1 / 2 := by
    rw [mul_assoc (1 / 2 : ℝ), mul_assoc (1 / 2 : ℝ), hv]; norm_num
  rw [this]; ring

/-- Only the group's 1024 values matter. -/
theorem normed_congr {f g : ℕ → ℝ} (h : ∀ j < 1024, f j = g j) (x w : ℝ) (β : EReal) : normed f x w β = normed g x w β := by
  have ha : ave f = ave g := by
    unfold ave
    rw [Finset.sum_congr rfl fun j hj => h j (Finset.mem_range.mp hj)]
  have hd : dev f = dev g := by
    unfold dev
    rw [ha, Finset.sum_congr rfl fun j hj => by rw [h j (Finset.mem_range.mp hj)]]
  unfold normed
  rw [ha, hd]

/-- Scaling and shifting by the coefficients is normalising. -/
theorem scaled_eq (f : ℕ → ℝ) (x w : ℝ) (β : EReal) :
    ((x * (w * (Real.sqrt (dev f + eps))⁻¹) : ℝ) : EReal) + (β - ((ave f * (w * (Real.sqrt (dev f + eps))⁻¹) : ℝ) : EReal))
      = normed f x w β := by
  unfold normed
  rw [sub_eq_add_neg, add_comm β, ← add_assoc, ← EReal.coe_neg, ← EReal.coe_add]
  congr 2
  rw [div_eq_mul_inv]; ring

end

end Cert.KernelIdeal.Seg
-- ==== Proof.Given.lean ====
/-
  What the precondition says of the arguments: the offsets are 1024 apart, a row's segment number is the row over 1024,
  the rows and the weights are finite.
-/
module

public import proofs.«01_k».proof.Pre_equal_segments_finite
public import proofs.«01_k».proof.Proof.Norm
public import Idealize.ShloMosaic.Lib.ReduceAll
public import Idealize.ShloMosaic.Lib.StableHlo.Predicate
public import Idealize.ShloMosaic.Lib.Routing.Words
public import Idealize.ShloMosaic.Lib.IdealHost

@[expose] public section

namespace Cert.Pre_equal_segments_finite

open Idealize.ShloMosaic Idealize.ShloMosaic.ValueIdx Idealize.ShloMosaic.StableHlo.Predicate
open Facts

noncomputable section

variable [Facts]

instance : Subsingleton S_.Idx := ⟨fun i j => funext fun a => a.elim0⟩

/-- The rows divided by 1024, rounding down. -/
theorem floor_apply (n : Fin 16384) :
    fn_floor_divide (F := Ideal) (iotaInDim S16384 32 0) (constantI S_ 32 1024#32) (ix1 n) = BitVec.ofNat 32 (n.val / 1024) := by
  have hn := n.isLt
  have hq : IntOp.divsi .host (BitVec.ofNat 32 n.val) (BitVec.ofNat 32 1024) = BitVec.ofNat 32 (n.val / 1024) :=
    Routing.divsi_word _ (by omega) (by omega) (by omega)
  have hr : IntOp.remsi .host (BitVec.ofNat 32 n.val) (BitVec.ofNat 32 1024) = BitVec.ofNat 32 (n.val % 1024) :=
    Routing.remsi_word _ (by omega) (by omega) (by omega)
  show Scalar.select
      (IntOp.andi
        (IntOp.cmpi .ne (if BitVec.ofNat 32 n.val = 0 then (0 : BitVec 32) else if (BitVec.ofNat 32 n.val).msb then -1 else 1)
          (if (1024#32 : BitVec 32) = 0 then (0 : BitVec 32) else if (1024#32 : BitVec 32).msb then -1 else 1))
        (IntOp.cmpi .ne (IntOp.remsi .host (BitVec.ofNat 32 n.val) (BitVec.ofNat 32 1024)) 0#32))
      (IntOp.divsi .host (BitVec.ofNat 32 n.val) (BitVec.ofNat 32 1024) - 1#32)
      (IntOp.divsi .host (BitVec.ofNat 32 n.val) (BitVec.ofNat 32 1024)) = _
  rw [hq, hr, show (if (1024#32 : BitVec 32) = 0 then (0 : BitVec 32) else if (1024#32 : BitVec 32).msb then -1 else 1) = 1#32 by decide]
  by_cases h0 : n.val = 0
  · rw [h0]; rfl
  · have hne : BitVec.ofNat 32 n.val ≠ 0 := fun h => h0 (by
      have := congrArg BitVec.toNat h
      rw [BitVec.toNat_ofNat, Nat.mod_eq_of_lt (by omega)] at this
      exact this)
    have hm : (BitVec.ofNat 32 n.val).msb = false :=
      BitVec.msb_eq_false_iff_two_mul_lt.mpr (by rw [BitVec.toNat_ofNat, Nat.mod_eq_of_lt (by omega)]; omega)
    rw [if_neg hne, hm]
    have : IntOp.andi (IntOp.cmpi .ne (1 : BitVec 32) 1#32) (IntOp.cmpi .ne (BitVec.ofNat 32 (n.val % 1024)) 0#32) = 0#1 := by
      rw [show IntOp.cmpi .ne (1 : BitVec 32) 1#32 = 0#1 by decide]
      exact BitVec.zero_and
    show Scalar.select (IntOp.andi (IntOp.cmpi .ne (1 : BitVec 32) 1#32) _) _ _ = _
    rw [this]
    rfl

/-- An extended real of finite absolute value is a real. -/
theorem real_of_abs (x : EReal) (h : Ideal.cmp .olt (max x (-x)) (Ideal.ofBits .f32 0x7F800000#32) = 1#1) : ∃ r : ℝ, x = (r : EReal) := by
  have h : max x (-x) < ⊤ := by
    rw [Cert.KernelIdeal.Seg.word_top] at h
    have h : BitVec.ofBool (decide (max x (-x) < (⊤ : EReal))) = 1#1 := h
    exact of_decide_eq_true ((ofBool_eq_one_iff _).mp h)
  induction x with
  | bot => exact absurd h (by simp)
  | coe r => exact ⟨r, rfl⟩
  | top => exact absurd h (by simp)

/-- The precondition, read at each element. -/
theorem read (x : FVec Ideal S4x16384x256 .f32) (o : IVec S17 32) (v : IVec S16384 32) (w β : FVec Ideal S256 .f32)
    (h : fn (F := Ideal) x o v w β = fun _ => 1#1) :
    (∀ q : Fin 17, o (ix1 q) = BitVec.ofNat 32 (1024 * q.val)) ∧ (∀ n : Fin 16384, v (ix1 n) = BitVec.ofNat 32 (n.val / 1024))
      ∧ (∀ k, ∃ r : ℝ, x k = (r : EReal)) ∧ ∀ k, ∃ r : ℝ, w k = (r : EReal) := by
  have h := congrFun h ix0
  unfold fn fn_part1 at h
  obtain ⟨h, hw⟩ := IntOp.andi_eq_one.mp h
  obtain ⟨h, hx⟩ := IntOp.andi_eq_one.mp h
  obtain ⟨ho, hv⟩ := IntOp.andi_eq_one.mp h
  refine ⟨fun q => ?_, fun n => ?_, fun k => ?_, fun k => ?_⟩
  · have e := cmpi_eq_iff.mp (Host.reduce_andi_all _ _ _ _ _ ho (ix1 q))
    refine e.trans ?_
    show BitVec.ofNat 32 q.val * 1024#32 = _
    have hq := q.isLt
    apply BitVec.eq_of_toNat_eq
    rw [BitVec.toNat_mul, BitVec.toNat_ofNat, BitVec.toNat_ofNat, BitVec.toNat_ofNat]
    omega
  · exact (cmpi_eq_iff.mp (Host.reduce_andi_all _ _ _ _ _ hv (ix1 n))).trans (floor_apply n)
  · exact real_of_abs _ (Host.reduce_andi_all _ _ _ _ _ hx k)
  · exact real_of_abs _ (Host.reduce_andi_all _ _ _ _ _ hw k)

end

end Cert.Pre_equal_segments_finite
-- ==== Proof.Leaves.lean ====
/-
  What the kernel leaves, over the extended reals: each element of a block of 1024 rows of finite values, normalised by
  the block's mean and variance of its channel.
-/
module

public import proofs.«01_k».proof.Proof.Launch
public import proofs.«01_k».proof.Proof.Norm

@[expose] public section

namespace Cert.KernelIdeal.Seg

open Idealize.ShloMosaic
open K0.R1.Facts₀ K0.R2.Facts₀ Shapes1.Facts₀

noncomputable section

section
variable {F : FTy → Type} [FloatOps F]

/-- The sums of a pair of totals are those it was made of, -/
theorem Acc.s_mk (s q : Fin 16 → V F) (g : Fin 16) : (Acc.mk s q).s g = s g := by fin_cases g <;> rfl
/-- and so are its sums of squares. -/
theorem Acc.q_mk (s q : Fin 16 → V F) (g : Fin 16) : (Acc.mk s q).q g = q g := by fin_cases g <;> rfl
end

/-! ## The totals -/

/-- The sums after `n` rows of a buffer, -/
theorem sumRows_s (X : Rows Ideal) (a : Acc Ideal) (n : ℕ) (g : Fin 16) (l : S16.Idx) :
    (sumRows X a n).s g l = (a.s g l + ∑ r ∈ Finset.range n, rowOf X r g l : EReal) := by
  induction n with
  | zero => exact (add_zero _).symm
  | succ n ih =>
    show ((sumRows X a n).add (rowOf X n)).s g l = _
    rw [Acc.add, Acc.s_mk, Finset.sum_range_succ, ← add_assoc, ← ih]
    rfl
/-- and the sums of squares. -/
theorem sumRows_q (X : Rows Ideal) (a : Acc Ideal) (n : ℕ) (g : Fin 16) (l : S16.Idx) :
    (sumRows X a n).q g l = (a.q g l + ∑ r ∈ Finset.range n, (rowOf X r g l * rowOf X r g l : EReal) : EReal) := by
  induction n with
  | zero => exact (add_zero _).symm
  | succ n ih =>
    show ((sumRows X a n).add (rowOf X n)).q g l = _
    rw [Acc.add, Acc.q_mk, Finset.sum_range_succ, ← add_assoc, ← ih]
    rfl

/-- The element of row `r`, channel `c` of the rows. -/
def at2 (r c : ℕ) : S65536x256.Idx
  | 0 => ⟨r % 65536, Nat.mod_lt _ (by decide)⟩
  | 1 => ⟨c % 256, Nat.mod_lt _ (by decide)⟩

/-- The 64 rows of a chunk end within the 65536 rows. -/
theorem base_lt (i : grid0.Coords) (b : Fin 2) (c : Fin 16) : base i b c + 64 ≤ 65536 := by
  have h0 : (i 0).val < 2 := (i 0).isLt
  have h1 : (i 1).val < 16 := (i 1).isLt
  have hb := b.isLt
  have hc := c.isLt
  unfold base
  omega

/-- An element of a chunk, as one of the rows. -/
theorem chunk_at {F : FTy → Type} [FloatOps F] (A : Arrays F) (i : grid0.Coords) (b : Fin 2) (c : Fin 16) (r ch : ℕ) :
    A.chunk i b c (pos r ch) = A.X (at2 (base i b c + r % 64) ch) := by
  have hb := base_lt i b c
  have h : (chunkRect i b c).emb (pos r ch) = at2 (base i b c + r % 64) ch := by
    funext a
    apply Fin.ext
    fin_cases a
    · show chunkOff i b c 0 + 1 * (r % 64) = (base i b c + r % 64) % 65536
      rw [chunkOff_eq, Nat.one_mul]
      show base i b c + r % 64 = _
      omega
    · show chunkOff i b c 1 + 1 * (ch % 256) = ch % 256
      rw [chunkOff_eq, Nat.one_mul]
      exact Nat.zero_add _
  show A.X ((chunkRect i b c).emb (pos r ch)) = _
  rw [h]

/-- Chunk `n` of a block begins `64 * n` rows after the block. -/
theorem base_chunk (i : grid0.Coords) (b : Fin 2) {n : ℕ} (hn : n < 16) : base i b (chunk n) = base i b 0 + 64 * n := by
  show 4096 * (i 1).val + 2048 * (i 0).val + 1024 * b.val + 64 * (n % 16) = 4096 * (i 1).val + 2048 * (i 0).val + 1024 * b.val + 64 * 0 + 64 * n
  omega

variable (A : Arrays Ideal) (i : grid0.Coords) (b : Fin 2)

/-- A block's sums after `n` chunks, -/
theorem total_s (g : Fin 16) (l : S16.Idx) : ∀ n ≤ 16, (A.total i b n).s g l
    = (∑ j ∈ Finset.range (64 * n), A.X (at2 (base i b 0 + j) (16 * g.val + (l 0).val)) : EReal) := by
  intro n
  induction n with
  | zero =>
    intro _
    show Acc.s Acc.zero g l = _
    rw [Acc.zero, Acc.s_mk]
    exact word_zero
  | succ n ih =>
    intro hn
    show (sumRows (A.chunk i b (Seg.chunk n)) (A.total i b n) 64).s g l = _
    rw [sumRows_s, ih (by omega), Nat.mul_succ, Finset.sum_range_add]
    congr 1
    refine Finset.sum_congr rfl fun r hr => ?_
    have hr := Finset.mem_range.mp hr
    show A.chunk i b (Seg.chunk n) (pos r (16 * g.val + (l 0).val)) = _
    rw [chunk_at, base_chunk i b (by omega), Nat.mod_eq_of_lt hr, Nat.add_assoc]
/-- and its sums of squares. -/
theorem total_q (g : Fin 16) (l : S16.Idx) : ∀ n ≤ 16, (A.total i b n).q g l
    = (∑ j ∈ Finset.range (64 * n), (A.X (at2 (base i b 0 + j) (16 * g.val + (l 0).val)) * A.X (at2 (base i b 0 + j) (16 * g.val + (l 0).val)) : EReal) : EReal) := by
  intro n
  induction n with
  | zero =>
    intro _
    show Acc.q Acc.zero g l = _
    rw [Acc.zero, Acc.q_mk]
    exact word_zero
  | succ n ih =>
    intro hn
    show (sumRows (A.chunk i b (Seg.chunk n)) (A.total i b n) 64).q g l = _
    rw [sumRows_q, ih (by omega), Nat.mul_succ, Finset.sum_range_add]
    congr 1
    refine Finset.sum_congr rfl fun r hr => ?_
    have hr := Finset.mem_range.mp hr
    have e : rowOf (A.chunk i b (Seg.chunk n)) r g l = A.X (at2 (base i b 0 + (64 * n + r)) (16 * g.val + (l 0).val)) := by
      show A.chunk i b (Seg.chunk n) (pos r (16 * g.val + (l 0).val)) = _
      rw [chunk_at, base_chunk i b (by omega), Nat.mod_eq_of_lt hr, Nat.add_assoc]
    rw [e]

/-! ## The coefficients -/

/-- The scale of a lane whose group has the values `f`, -/
theorem scale_eq (f : ℕ → ℝ) (s q w : V Ideal) (l : S16.Idx) (wr : ℝ)
    (hs : s l = ((∑ j ∈ Finset.range 1024, f j : ℝ) : EReal)) (hq : q l = ((∑ j ∈ Finset.range 1024, f j * f j : ℝ) : EReal))
    (hw : w l = (wr : EReal)) : scale s q w l = ((wr * (Real.sqrt (dev f + eps))⁻¹ : ℝ) : EReal) := by
  have hv : 0 < dev f + eps := add_pos_of_nonneg_of_pos (dev_nonneg f) eps_pos
  have hm : mean s l = ((ave f : ℝ) : EReal) := by
    show (s l * Ideal.ofBits .f32 0x3A800000#32 : EReal) = _
    rw [hs, word_ratio, ← EReal.coe_mul]; rfl
  have hve : varEps s q l = ((dev f + eps : ℝ) : EReal) := by
    show ((q l * Ideal.ofBits .f32 0x3A800000#32 - mean s l * mean s l : EReal) + Ideal.ofBits .f32 0x3727C5AC#32 : EReal) = _
    rw [hq, hm, word_ratio, word_eps, ← EReal.coe_mul, ← EReal.coe_mul, ← EReal.coe_sub, ← EReal.coe_add, dev_eq]
  have step : ∀ y : V Ideal, y l = (((Real.sqrt (dev f + eps))⁻¹ : ℝ) : EReal) →
      newton (varEps s q) y l = (((Real.sqrt (dev f + eps))⁻¹ : ℝ) : EReal) := by
    intro y hy
    show (y l * (Ideal.ofBits .f32 0x3FC00000#32 - Ideal.ofBits .f32 0x3F000000#32 * varEps s q l * y l * y l : EReal) : EReal) = _
    rw [hy, hve, word_half, word_threeHalves, ← EReal.coe_mul, ← EReal.coe_mul, ← EReal.coe_mul, ← EReal.coe_sub, ← EReal.coe_mul,
      step_fixed hv]
  have hr : rsqrt (varEps s q) l = (((Real.sqrt (dev f + eps))⁻¹ : ℝ) : EReal) := by
    show Ideal.rsqrt (varEps s q l) = _
    rw [hve, rsqrt_pos hv]
  show (w l * rstd (varEps s q) l : EReal) = _
  rw [hw, rstd, step _ (step _ (step _ hr)), ← EReal.coe_mul]

/-- and its normalised element. -/
theorem nrm_eq (f : ℕ → ℝ) (s q w β : V Ideal) (l : S16.Idx) (x wr : ℝ)
    (hs : s l = ((∑ j ∈ Finset.range 1024, f j : ℝ) : EReal)) (hq : q l = ((∑ j ∈ Finset.range 1024, f j * f j : ℝ) : EReal))
    (hw : w l = (wr : EReal)) (v : V Ideal) (hv : v l = (x : EReal)) :
    nrm v (scale s q w) (shift s q w β) l = normed f x wr (β l) := by
  have hm : mean s l = ((ave f : ℝ) : EReal) := by
    show (s l * Ideal.ofBits .f32 0x3A800000#32 : EReal) = _
    rw [hs, word_ratio, ← EReal.coe_mul]; rfl
  show (v l * scale s q w l + (β l - mean s l * scale s q w l : EReal) : EReal) = _
  rw [hv, hm, scale_eq f s q w l wr hs hq hw, ← EReal.coe_mul, ← EReal.coe_mul, scaled_eq]

/-! ## The rows -/

/-- The sum of reals among the extended reals. -/
theorem coe_sum (f : ℕ → ℝ) (n : ℕ) : (∑ j ∈ Finset.range n, (f j : EReal)) = ((∑ j ∈ Finset.range n, f j : ℝ) : EReal) := by
  induction n with
  | zero => rfl
  | succ n ih => rw [Finset.sum_range_succ, Finset.sum_range_succ, ih, EReal.coe_add]

/-- A channel. -/
def chan (c : ℕ) : S256.Idx
  | 0 => ⟨c % 256, Nat.mod_lt _ (by decide)⟩

/-- A channel's parameter, read by its group and lane. -/
theorem chans_at {F : FTy → Type} [FloatOps F] (w : Chans F) {c : ℕ} (hc : c < 256) (g : Fin 16) (hg : g.val = c / 16) : chans w g (lane c) = w (chan c) := by
  have h : (vRect g).emb (lane c) = chan c := by
    funext a
    apply Fin.ext
    fin_cases a
    show 16 * g.val + 1 * (c % 16) = c % 256
    omega
  show w ((vRect g).emb (lane c)) = _
  rw [h]

/-- What the kernel leaves of rows of finite values. -/
theorem result_eq (X : S65536x256.Idx → Elt Ideal .f32) (w β : Chans Ideal) (xr : ℕ → ℕ → ℝ) (wr : ℝ)
    (hX : ∀ r c, X (at2 r c) = ((xr r c : ℝ) : EReal)) {r c : ℕ} (hr : r < 65536) (hc : c < 256) (hw : w (chan c) = (wr : EReal)) :
    result X w β (at2 r c) = normed (fun j => xr (1024 * (r / 1024) + j) c) (xr r c) wr (β (chan c)) := by
  have e0 : (at2 r c 0).val = r := Nat.mod_eq_of_lt hr
  have e1 : (at2 r c 1).val = c := Nat.mod_eq_of_lt hc
  have hbase : base (coords (spot r).1.1 (spot r).1.2) (spot r).2.1 0 = 1024 * (r / 1024) := by
    show 4096 * (r / 4096 % 16) + 2048 * (r / 2048 % 2) + 1024 * (r / 1024 % 2) + 64 * 0 = _
    omega
  have hrow : base (coords (spot r).1.1 (spot r).1.2) (spot r).2.1 (spot r).2.2 + r % 64 = r := by
    show 4096 * (r / 4096 % 16) + 2048 * (r / 2048 % 2) + 1024 * (r / 1024 % 2) + 64 * (r / 64 % 16) + r % 64 = _
    omega
  have h16 : 16 * (c / 16) + c % 16 = c := by omega
  unfold result
  rw [e0, e1]
  generalize hA : (⟨X, w, β, X, X⟩ : Arrays Ideal) = A
  have hAX : A.X = X := by rw [← hA]
  have hAw : A.w = w := by rw [← hA]
  have hAβ : A.β = β := by rw [← hA]
  generalize hi : coords (spot r).1.1 (spot r).1.2 = i at hbase hrow ⊢
  generalize hb : (spot r).2.1 = b at hbase hrow ⊢
  have hy1 : (pos r c 1).val = c := Nat.mod_eq_of_lt hc
  have hg : (⟨(pos r c 1).val / 16, Nat.div_lt_of_lt_mul (pos r c 1).isLt⟩ : Fin 16).val = c / 16 := by
    show (pos r c 1).val / 16 = _
    rw [hy1]
  show nrm (F := Ideal) (fun _ => A.chunk i b (spot r).2.2 (pos r c)) (scale _ _ _) (shift _ _ _ _) (lane (pos r c 1).val) = _
  generalize (⟨(pos r c 1).val / 16, Nat.div_lt_of_lt_mul (pos r c 1).isLt⟩ : Fin 16) = g at hg ⊢
  rw [hy1]
  have hl : 16 * g.val + (lane c 0).val = c := by rw [hg]; exact h16
  have hs : (A.total i b 16).s g (lane c) = ((∑ j ∈ Finset.range 1024, xr (1024 * (r / 1024) + j) c : ℝ) : EReal) := by
    rw [total_s A i b g (lane c) 16 le_rfl, hl, hbase, hAX, ← coe_sum]
    exact Finset.sum_congr rfl fun j _ => hX _ _
  have hq : (A.total i b 16).q g (lane c)
      = ((∑ j ∈ Finset.range 1024, xr (1024 * (r / 1024) + j) c * xr (1024 * (r / 1024) + j) c : ℝ) : EReal) := by
    rw [total_q A i b g (lane c) 16 le_rfl, hl, hbase, hAX, ← coe_sum]
    exact Finset.sum_congr rfl fun j _ => by rw [hX, EReal.coe_mul]
  have h := nrm_eq (fun j => xr (1024 * (r / 1024) + j) c) _ _ (chans A.w g) (chans A.β g) (lane c) (xr r c) wr hs hq
    (by rw [hAw, chans_at w hc g hg, hw]) (fun _ => A.chunk i b (spot r).2.2 (pos r c)) (by
      show A.chunk i b (spot r).2.2 (pos r c) = _
      rw [chunk_at, hrow, hAX, hX])
  rw [show chans A.β g (lane c) = β (chan c) by rw [hAβ, chans_at β hc g hg]] at h
  exact h

/-! ## The result -/

/-- The element of batch `b`, row `n`, channel `c`. -/
def cell (b n c : ℕ) : S4x16384x256.Idx
  | 0 => ⟨b % 4, Nat.mod_lt _ (by decide)⟩
  | 1 => ⟨n % 16384, Nat.mod_lt _ (by decide)⟩
  | 2 => ⟨c % 256, Nat.mod_lt _ (by decide)⟩

/-- The element of row `r` of the flattened rows is that of batch `r / 16384`. -/
theorem flat_at {F : FTy → Type} [FloatOps F] (f : S4x16384x256.Idx → Elt F .f32) (r c : ℕ) : flat f (at2 r c) = f (cell (r / 16384) r c) := by
  refine shapeCast_apply _ _ _ _ ?_
  rw [Shape.rowMajor_val_three, Shape.rowMajor_val_two]
  show _ = (r % 65536) * 256 + c % 256
  show ((r / 16384 % 4) * 16384 + r % 16384) * 256 + c % 256 = _
  omega

/-- The element of the result in its three axes is that of its flattened row. -/
theorem unflat_at {F : FTy → Type} [FloatOps F] (f : S65536x256.Idx → Elt F .f32) (k : S4x16384x256.Idx) :
    unflat f k = f (at2 (16384 * (k 0).val + (k 1).val) (k 2).val) := by
  have h0 : (k 0).val < 4 := (k 0).isLt
  have h1 : (k 1).val < 16384 := (k 1).isLt
  have h2 : (k 2).val < 256 := (k 2).isLt
  refine shapeCast_apply _ _ _ _ ?_
  rw [Shape.rowMajor_val_three, Shape.rowMajor_val_two]
  show (16384 * (k 0).val + (k 1).val) % 65536 * 256 + (k 2).val % 256 = ((k 0).val * 16384 + (k 1).val) * 256 + (k 2).val
  omega

/-- What the kernel leaves of an input of finite values and a finite weight: each element normalised by its group, the
    1024 rows around it in its batch, of its channel. -/
theorem leaves (x : S4x16384x256.Idx → Elt Ideal .f32) (w β : Chans Ideal) (xr : S4x16384x256.Idx → ℝ) (wr : S256.Idx → ℝ)
    (hx : ∀ k, x k = ((xr k : ℝ) : EReal)) (hw : ∀ c, w c = ((wr c : ℝ) : EReal)) (k : S4x16384x256.Idx) :
    unflat (result (flat x) w β) k
      = normed (fun j => xr (cell (k 0).val (1024 * ((k 1).val / 1024) + j) (k 2).val)) (xr k) (wr (chan (k 2).val)) (β (chan (k 2).val)) := by
  have h0 : (k 0).val < 4 := (k 0).isLt
  have h1 : (k 1).val < 16384 := (k 1).isLt
  have h2 : (k 2).val < 256 := (k 2).isLt
  rw [unflat_at, result_eq (flat x) w β (fun r c => xr (cell (r / 16384) r c)) (wr (chan (k 2).val))
    (fun r c => by rw [flat_at, hx]) (by omega) h2 (hw _)]
  have hk : cell ((16384 * (k 0).val + (k 1).val) / 16384) (16384 * (k 0).val + (k 1).val) (k 2).val = k := by
    funext a
    apply Fin.ext
    fin_cases a
    · show (16384 * (k 0).val + (k 1).val) / 16384 % 4 = (k 0).val
      omega
    · show (16384 * (k 0).val + (k 1).val) % 16384 = (k 1).val
      omega
    · exact Nat.mod_eq_of_lt h2
  rw [hk]
  refine normed_congr (fun j hj => ?_) _ _ _
  congr 1
  funext a
  apply Fin.ext
  fin_cases a
  · show (1024 * ((16384 * (k 0).val + (k 1).val) / 1024) + j) / 16384 % 4 = (k 0).val % 4
    omega
  · show (1024 * ((16384 * (k 0).val + (k 1).val) / 1024) + j) % 16384 = (1024 * ((k 1).val / 1024) + j) % 16384
    omega
  · rfl

end

end Cert.KernelIdeal.Seg
-- ==== Proof.Reference.lean ====
/-
  What the reference leaves, over the extended reals, of offsets and segment numbers of sixteen segments of 1024 rows:
  each element of finite values normalised by the mean and variance of its segment and channel.
-/
module

public import proofs.«01_k».proof.Proof.Gen.ReferenceIdeal.Run
public import proofs.«01_k».proof.Proof.Leaves
public import Idealize.ShloMosaic.Lib.StableHlo.Predicate
public import Idealize.ShloMosaic.Lib.IdealHost

@[expose] public section

namespace Cert.ReferenceIdeal.Seg

open Cert.ReferenceIdeal Cert.ReferenceIdeal.Gen Idealize.ShloMosaic Idealize.ShloMosaic.TcCoe Idealize.ShloMosaic.ValueIdx
open Idealize.ShloMosaic.StableHlo.Predicate
open Cert.KernelIdeal.Seg (cell chan ave dev eps normed word_eps word_zero coe_sum)

noncomputable section

/-- The number of the segment of a row. -/
def seg (n : Fin 16384) : Fin 16 := ⟨n.val / 1024, by have := n.isLt; omega⟩
/-- Row `j` of a segment. -/
def row (s : Fin 16) (j : ℕ) : Fin 16384 := ⟨1024 * s.val + j % 1024, by have := s.isLt; have := Nat.mod_lt j (show 0 < 1024 by decide); omega⟩

/-- Row `j` of a segment lies in that segment. -/
theorem seg_row (s : Fin 16) (j : ℕ) : seg (row s j) = s :=
  Fin.ext (by show (1024 * s.val + j % 1024) / 1024 = s.val; have := Nat.mod_lt j (show 0 < 1024 by decide); omega)

/-- A row is the one of its segment at its remainder by 1024. -/
theorem row_seg (n : Fin 16384) : row (seg n) (n.val % 1024) = n :=
  Fin.ext (by show 1024 * (n.val / 1024) + n.val % 1024 % 1024 = n.val; omega)

/-- Whether a column holds the segment number of every row. -/
def Numbers (idx : IVec S16384x1 32) : Prop := ∀ n : Fin 16384, idx (ix2 n 0) = BitVec.ofNat 32 (n.val / 1024)

/-- Read as an integer, an entry of such a column is the row's segment number. -/
theorem Numbers.toInt {idx : IVec S16384x1 32} (h : Numbers idx) (n : Fin 16384) : (idx (ix2 n 0)).toInt = ((seg n).val : ℤ) := by
  rw [h n]; exact toInt_ofNat_small _ (by have := n.isLt; omega)

/-! ## The sums over the segments -/

/-- The sums of rows, -/
abbrev rowsInto : ScatterDims S16x4x256 S16384x1 S16384x4x256 := scatter_S16x4x256_S16384x1_S16384x4x256_12_0_0_1
/-- and of single elements. -/
abbrev onesInto : ScatterDims S16 S16384x1 S16384 := scatter_S16_S16384x1_S16384_n_0_0_1
/-- The reading of a segment's row. -/
abbrev rowsOf : GatherDims S4x16x256 S16384x1 S4x16384x256 := gather_S4x16x256_S16384x1_S4x16384x256_02_1_n_n_1_1_41256

/-- An element of a row is added to its segment's, -/
theorem rowsInto_lands {idx : IVec S16384x1 32} (h : Numbers idx) (n : Fin 16384) (b : Fin 4) (c : Fin 256) :
    rowsInto.resultIdx? (ix3 n b c) idx = some (ix3 (seg n) b c) := by
  have hs : ∀ a, rowsInto.start (ix3 n b c) idx a + (rowsInto.window (ix3 n b c) a : ℕ) = ((ix3 (seg n) b c : S16x4x256.Idx) a).val := by
    intro a
    match a with
    | ⟨0, _⟩ =>
      show (idx (rowsInto.siIdx (ix3 n b c) ⟨0, by decide⟩)).toInt + ((0 : ℕ) : ℤ) = _
      have e : rowsInto.siIdx (ix3 n b c) ⟨0, by decide⟩ = ix2 n 0 := by
        funext q; match q with
        | ⟨0, _⟩ => rfl
        | ⟨1, _⟩ => rfl
      rw [e, h.toInt]; exact Int.add_zero _
    | ⟨1, _⟩ => exact Int.zero_add _
    | ⟨2, _⟩ => exact Int.zero_add _
  unfold ScatterDims.resultIdx?
  rw [dif_pos fun a => by rw [hs a]; exact ⟨Int.natCast_nonneg _, Int.ofNat_lt.mpr (Fin.isLt _)⟩]
  refine congrArg some (funext fun a => Fin.ext ?_)
  show (rowsInto.start (ix3 n b c) idx a + (rowsInto.window (ix3 n b c) a : ℕ)).toNat = _
  rw [hs a]; exact Int.toNat_natCast _
/-- and a row's one element to its segment's. -/
theorem onesInto_lands {idx : IVec S16384x1 32} (h : Numbers idx) (n : Fin 16384) :
    onesInto.resultIdx? (ix1 n) idx = some (ix1 (seg n)) := by
  have hs : ∀ a, onesInto.start (ix1 n) idx a + (onesInto.window (ix1 n) a : ℕ) = ((ix1 (seg n) : S16.Idx) a).val := by
    intro a
    match a with
    | ⟨0, _⟩ =>
      show (idx (onesInto.siIdx (ix1 n) ⟨0, by decide⟩)).toInt + ((0 : ℕ) : ℤ) = _
      have e : onesInto.siIdx (ix1 n) ⟨0, by decide⟩ = ix2 n 0 := by
        funext q; match q with
        | ⟨0, _⟩ => rfl
        | ⟨1, _⟩ => rfl
      rw [e, h.toInt]; exact Int.add_zero _
  unfold ScatterDims.resultIdx?
  rw [dif_pos fun a => by rw [hs a]; exact ⟨Int.natCast_nonneg _, Int.ofNat_lt.mpr (Fin.isLt _)⟩]
  refine congrArg some (funext fun a => Fin.ext ?_)
  show (onesInto.start (ix1 n) idx a + (onesInto.window (ix1 n) a : ℕ)).toNat = _
  rw [hs a]; exact Int.toNat_natCast _

/-- The sum into a segment is the sum over its rows, -/
theorem rowsInto_sum {idx : IVec S16384x1 32} (h : Numbers idx) (x : FVec Ideal S16x4x256 .f32) (u : FVec Ideal S16384x4x256 .f32)
    (s : Fin 16) (b : Fin 4) (c : Fin 256) :
    Host.scatterAdd rowsInto x idx u (ix3 s b c) = (x (ix3 s b c) + ∑ j ∈ Finset.range 1024, u (ix3 (row s j) b c) : EReal) := by
  show (x (ix3 s b c) + ∑ j ∈ Finset.univ.filter (fun j => rowsInto.resultIdx? j idx = some (ix3 s b c)), u j : EReal) = _
  refine congrArg (_ + ·) ?_
  have back : ∀ k : S16384x4x256.Idx, rowsInto.resultIdx? k idx = some (ix3 s b c) → k = ix3 (row s ((k 0).val % 1024)) b c := by
    intro k hk
    obtain ⟨n, b', c', rfl⟩ : ∃ (n : Fin 16384) (b' : Fin 4) (c' : Fin 256), k = ix3 n b' c' := ⟨k 0, k 1, k 2, eq_ix3 k⟩
    rw [rowsInto_lands h] at hk
    have hk := Option.some.inj hk
    have h0 : seg n = s := congrFun hk 0
    have h1 : b' = b := congrFun hk 1
    have h2 : c' = c := congrFun hk 2
    subst h0; subst h1; subst h2
    exact congrArg (fun z => (ix3 z b' c' : S16384x4x256.Idx)) (row_seg n).symm
  have hm : ∀ k : S16384x4x256.Idx, (k 0).val % 1024 ∈ Finset.range 1024 := fun k => Finset.mem_range.mpr (Nat.mod_lt _ (by omega))
  refine Finset.sum_nbij' (fun k : S16384x4x256.Idx => (k 0).val % 1024) (fun j => ix3 (row s j) b c) ?_ ?_ ?_ ?_ ?_
  · exact fun k _ => hm k
  · exact fun j _ => Finset.mem_filter.mpr ⟨Finset.mem_univ _, by rw [rowsInto_lands h, seg_row]⟩
  · exact fun k hk => (back k (Finset.mem_filter.mp hk).2).symm
  · intro j hj
    have hj := Finset.mem_range.mp hj
    show (1024 * s.val + j % 1024) % 1024 = j
    omega
  · exact fun k hk => congrArg u (back k (Finset.mem_filter.mp hk).2)
/-- one element of each. -/
theorem onesInto_sum {idx : IVec S16384x1 32} (h : Numbers idx) (x : FVec Ideal S16 .f32) (u : FVec Ideal S16384 .f32) (s : Fin 16) :
    Host.scatterAdd onesInto x idx u (ix1 s) = (x (ix1 s) + ∑ j ∈ Finset.range 1024, u (ix1 (row s j)) : EReal) := by
  show (x (ix1 s) + ∑ j ∈ Finset.univ.filter (fun j => onesInto.resultIdx? j idx = some (ix1 s)), u j : EReal) = _
  refine congrArg (_ + ·) ?_
  have back : ∀ k : S16384.Idx, onesInto.resultIdx? k idx = some (ix1 s) → k = ix1 (row s ((k 0).val % 1024)) := by
    intro k hk
    obtain ⟨n, rfl⟩ : ∃ n : Fin 16384, k = ix1 n := ⟨k 0, eq_ix1 k⟩
    rw [onesInto_lands h] at hk
    have h0 : seg n = s := congrFun (Option.some.inj hk) 0
    subst h0
    exact congrArg (fun z => (ix1 z : S16384.Idx)) (row_seg n).symm
  have hm : ∀ k : S16384.Idx, (k 0).val % 1024 ∈ Finset.range 1024 := fun k => Finset.mem_range.mpr (Nat.mod_lt _ (by omega))
  refine Finset.sum_nbij' (fun k : S16384.Idx => (k 0).val % 1024) (fun j => ix1 (row s j)) ?_ ?_ ?_ ?_ ?_
  · exact fun k _ => hm k
  · exact fun j _ => Finset.mem_filter.mpr ⟨Finset.mem_univ _, by rw [onesInto_lands h, seg_row]⟩
  · exact fun k hk => (back k (Finset.mem_filter.mp hk).2).symm
  · intro j hj
    have hj := Finset.mem_range.mp hj
    show (1024 * s.val + j % 1024) % 1024 = j
    omega
  · exact fun k hk => congrArg u (back k (Finset.mem_filter.mp hk).2)

/-- Reading a segment's row at a row reads that of its segment. -/
theorem rowsOf_apply {idx : IVec S16384x1 32} (h : Numbers idx) (x : FVec Ideal S4x16x256 .f32) (b : Fin 4) (n : Fin 16384) (c : Fin 256) :
    Host.gather rowsOf x idx (ix3 b n c) = x (ix3 b (seg n) c) := by
  unfold Host.gather
  refine congrArg x (funext fun a => Fin.ext ?_)
  match a with
  | ⟨0, _⟩ => show 0 + 0 + b.val = b.val; omega
  | ⟨1, _⟩ =>
    show min (idx (rowsOf.siIdx (ix3 b n c) ⟨0, by decide⟩)).toInt.toNat (16 - 1) + 0 + 0 = (seg n).val
    have e : rowsOf.siIdx (ix3 b n c) ⟨0, by decide⟩ = ix2 n 0 := by
      funext q; match q with
      | ⟨0, _⟩ => rfl
      | ⟨1, _⟩ => rfl
    rw [e, h.toInt, Int.toNat_natCast]
    have := (seg n).isLt
    omega
  | ⟨2, _⟩ => show 0 + 0 + c.val = c.val; omega

/-! ## The segment numbers -/

/-- How many of the seventeen offsets, 1024 apart, are at most a row. -/
theorem count_offsets (n : ℕ) (hn : n < 16384) :
    (Finset.univ.filter (fun q : Fin 17 => 1024 * q.val ≤ n)).card = n / 1024 + 1 := by
  have e : Finset.univ.filter (fun q : Fin 17 => 1024 * q.val ≤ n) = Finset.Iic (⟨n / 1024, by omega⟩ : Fin 17) := by
    ext q
    rw [Finset.mem_filter, Finset.mem_Iic, Fin.le_def]
    show (_ ∧ 1024 * q.val ≤ n) ↔ q.val ≤ n / 1024
    exact ⟨fun h => by omega, fun h => ⟨Finset.mem_univ _, by omega⟩⟩
  rw [e, Fin.card_Iic]

/-- How many offsets are at most each row, -/
def tally (o : IVec S17 32) : IVec S16384 32 :=
  Host.reduce IntOp.addi (extui 32 (cmpi .sle (broadcastInDim S16384x17 ![0, 1] bcast_S1x17_S16384x17_0_1 (broadcastInDim S1x17 ![1] bcast_S17_S1x17_1 o)) (broadcastInDim S16384x17 ![0, 1] bcast_S16384x1_S16384x17_0_1 (broadcastInDim S16384x1 ![0] bcast_S16384_S16384x1_0 (iotaInDim S16384 32 0)))) natLt_1_32) (constantI S_ 32 0#32) reducesTo_S16384x17_S16384_d1 h_S_
/-- and the segment numbers counted from them. -/
def counted (o : IVec S17 32) : IVec S16384 32 :=
  minsi (broadcastInDim S16384 ![] bcast_S_S16384 (id (constantI S_ 32 15#32))) (maxsi (broadcastInDim S16384 ![] bcast_S_S16384 (id (constantI S_ 32 0#32))) (subi (tally o) (broadcastInDim S16384 ![] bcast_S_S16384 (constantI S_ 32 1#32))))

/-- A column of segment numbers. -/
def column (v : IVec S16384 32) : IVec S16384x1 32 := broadcastInDim S16384x1 ![0] bcast_S16384_S16384x1_0 v

/-- The segment numbers given, made not negative. -/
def given (v : IVec S16384 32) : IVec S16384 32 :=
  select (cmpi .slt v (broadcastInDim S16384 ![] bcast_S_S16384 (constantI S_ 32 0#32))) (addi v (broadcastInDim S16384 ![] bcast_S_S16384 (constantI S_ 32 16#32))) v

/-- A segment number is in range already. -/
theorem clamp_small {s : ℕ} (h : s < 16) : IntOp.minsi 15#32 (IntOp.maxsi 0#32 (BitVec.ofNat 32 s)) = BitVec.ofNat 32 s := by
  interval_cases s <;> decide

/-- The segment numbers counted are the rows' over 1024. -/
theorem counted_apply {o : IVec S17 32} (ho : ∀ q : Fin 17, o (ix1 q) = BitVec.ofNat 32 (1024 * q.val)) (n : Fin 16384) :
    counted o (ix1 n) = BitVec.ofNat 32 (n.val / 1024) := by
  have hn := n.isLt
  have hc : tally o (ix1 n) = BitVec.ofNat 32 (n.val / 1024 + 1) := by
    unfold tally
    apply BitVec.eq_of_toNat_eq
    rw [toNat_reduce_count_cols (by omega), BitVec.toNat_ofNat, Nat.mod_eq_of_lt (by omega), ← count_offsets n.val hn]
    refine congrArg Finset.card (Finset.filter_congr fun q _ => ?_)
    have hq := q.isLt
    have e : cmpi .sle (broadcastInDim S16384x17 ![0, 1] bcast_S1x17_S16384x17_0_1 (broadcastInDim S1x17 ![1] bcast_S17_S1x17_1 o)) (broadcastInDim S16384x17 ![0, 1] bcast_S16384x1_S16384x17_0_1 (broadcastInDim S16384x1 ![0] bcast_S16384_S16384x1_0 (iotaInDim S16384 32 0))) (ij n q)
        = IntOp.cmpi .sle (o (ix1 q)) (BitVec.ofNat 32 n.val) := by
      refine congrArg₂ (IntOp.cmpi .sle) ?_ ?_
      · refine (broadcastInDim_apply _ _ _ _ (ix2 0 q) fun a => ?_).trans (broadcastInDim_apply _ _ _ _ (ix1 q) fun a => ?_)
        · match a with
          | ⟨0, _⟩ => rfl
          | ⟨1, _⟩ => rfl
        · match a with
          | ⟨0, _⟩ => rfl
      · refine (broadcastInDim_apply _ _ _ _ (ix2 n 0) fun a => ?_).trans (broadcastInDim_apply _ _ _ _ (ix1 n) fun a => ?_)
        · match a with
          | ⟨0, _⟩ => rfl
          | ⟨1, _⟩ => rfl
        · match a with
          | ⟨0, _⟩ => rfl
    show cmpi .sle _ _ (ij n q) = 1#1 ↔ _
    rw [e, ho q, sle_iff_toNat (by rw [BitVec.toNat_ofNat]; omega) (by rw [BitVec.toNat_ofNat]; omega), BitVec.toNat_ofNat, BitVec.toNat_ofNat,
      Nat.mod_eq_of_lt (by omega), Nat.mod_eq_of_lt (by omega)]
  show IntOp.minsi 15#32 (IntOp.maxsi 0#32 (tally o (ix1 n) - 1#32)) = _
  rw [hc, sub_one_ofNat _ (by omega) (by omega), Nat.add_sub_cancel]
  exact clamp_small (by omega)

/-- The column of the numbers counted, -/
theorem numbers_counted {o : IVec S17 32} (ho : ∀ q : Fin 17, o (ix1 q) = BitVec.ofNat 32 (1024 * q.val)) : Numbers (column (counted o)) := by
  intro n
  refine (broadcastInDim_apply _ _ _ _ (ix1 n) fun a => ?_).trans (counted_apply ho n)
  match a with
  | ⟨0, _⟩ => rfl
/-- and of the numbers given. -/
theorem numbers_given {v : IVec S16384 32} (hv : ∀ n : Fin 16384, v (ix1 n) = BitVec.ofNat 32 (n.val / 1024)) : Numbers (column (given v)) := by
  intro n
  have hn := n.isLt
  refine (broadcastInDim_apply _ _ _ _ (ix1 n) fun a => ?_).trans ?_
  · match a with
    | ⟨0, _⟩ => rfl
  · show Scalar.select (IntOp.cmpi .slt (v (ix1 n)) 0#32) _ (v (ix1 n)) = _
    rw [hv n]
    have e : IntOp.cmpi .slt (BitVec.ofNat 32 (n.val / 1024)) 0#32 = 0#1 := by
      rcases BitVec.eq_zero_or_eq_one (IntOp.cmpi .slt (BitVec.ofNat 32 (n.val / 1024)) 0#32) with h | h
      · exact h
      · exact absurd ((slt_iff_toNat (by rw [BitVec.toNat_ofNat]; omega) (by decide)).mp h) (Nat.not_lt_zero _)
    rw [e]; rfl

/-! ## The means, and the value -/

/-- The sums over the segments of the rows of `y`, -/
def sums (idx : IVec S16384x1 32) (y : FVec Ideal S4x16384x256 .f32) : FVec Ideal S16x4x256 .f32 :=
  Host.scatterAdd rowsInto (broadcastInDim S16x4x256 ![] bcast_S_S16x4x256 (constant S_ .f32 0x00000000#32)) idx (transpose S16384x4x256 [1, 0, 2] y transposes_S4x16384x256_S16384x4x256_1_0_2)
/-- how many rows a segment has, at least one, -/
def sizes (idx : IVec S16384x1 32) : FVec Ideal S16 .f32 :=
  maximumf (Host.scatterAdd onesInto (broadcastInDim S16 ![] bcast_S_S16 (constant S_ .f32 0x00000000#32)) idx (broadcastInDim S16384 ![] bcast_S_S16384 (constant S_ .f32 0x3F800000#32))) (broadcastInDim S16 ![] bcast_S_S16 (constant S_ .f32 0x3F800000#32))
/-- that at every element, -/
def spread (z : FVec Ideal S16 .f32) : FVec Ideal S16x4x256 .f32 :=
  broadcastInDim S16x4x256 ![0, 1, 2] bcast_S16x1x1_S16x4x256_0_1_2 (broadcastInDim S16x1x1 ![0] bcast_S16_S16x1x1_0 z)
/-- and the means. -/
def means (idx : IVec S16384x1 32) (y : FVec Ideal S4x16384x256 .f32) : FVec Ideal S4x16x256 .f32 :=
  transpose S4x16x256 [1, 0, 2] (Host.divf (sums idx y) (spread (sizes idx))) transposes_S16x4x256_S4x16x256_1_0_2

/-- A segment's sum is the sum of its 1024 rows. -/
theorem sums_apply {idx : IVec S16384x1 32} (h : Numbers idx) (y : FVec Ideal S4x16384x256 .f32) (b : Fin 4) (s : Fin 16) (c : Fin 256)
    (f : ℕ → ℝ) (hf : ∀ j, y (ix3 b (row s j) c) = (f j : EReal)) : sums idx y (ix3 s b c) = ((∑ j ∈ Finset.range 1024, f j : ℝ) : EReal) := by
  unfold sums
  rw [rowsInto_sum h, ← coe_sum]
  refine (congrArg₂ (· + ·) word_zero (Finset.sum_congr rfl fun j _ => ?_)).trans (zero_add _)
  refine (transpose_apply _ _ _ _ (ix3 b (row s j) c) fun a => ?_).trans (hf j)
  match a with
  | ⟨0, _⟩ => rfl
  | ⟨1, _⟩ => rfl
  | ⟨2, _⟩ => rfl

/-- A segment has 1024 rows. -/
theorem sizes_apply {idx : IVec S16384x1 32} (h : Numbers idx) (s : Fin 16) : sizes idx (ix1 s) = ((1024 : ℝ) : EReal) := by
  have e : Host.scatterAdd onesInto (broadcastInDim S16 ![] bcast_S_S16 (constant (F := Ideal) S_ .f32 0x00000000#32)) idx (broadcastInDim S16384 ![] bcast_S_S16384 (constant S_ .f32 0x3F800000#32)) (ix1 s)
      = ((1024 : ℝ) : EReal) := by
    rw [onesInto_sum h]
    refine (congrArg₂ (· + ·) word_zero (Finset.sum_congr rfl fun j _ => (Ideal.ofBits_one_f32 : _ = (1 : EReal)).trans EReal.coe_one.symm)).trans ?_
    rw [coe_sum (fun _ => 1), zero_add, Finset.sum_const, Finset.card_range]
    norm_num
  unfold sizes
  refine (congrArg₂ max e Ideal.ofBits_one_f32).trans (max_eq_left ?_)
  exact_mod_cast (by norm_num : (1 : ℝ) ≤ 1024)

/-- A number per segment, spread over batches and channels, is that segment's number everywhere. -/
theorem spread_apply (z : FVec Ideal S16 .f32) (s : Fin 16) (b : Fin 4) (c : Fin 256) : spread z (ix3 s b c) = z (ix1 s) := by
  refine (broadcastInDim_apply _ _ _ _ (ix3 s 0 0) fun a => ?_).trans (broadcastInDim_apply _ _ _ _ (ix1 s) fun a => ?_)
  · match a with
    | ⟨0, _⟩ => rfl
    | ⟨1, _⟩ => rfl
    | ⟨2, _⟩ => rfl
  · match a with
    | ⟨0, _⟩ => rfl

/-- A segment's mean of finite values. -/
theorem means_apply {idx : IVec S16384x1 32} (h : Numbers idx) (y : FVec Ideal S4x16384x256 .f32) (b : Fin 4) (s : Fin 16) (c : Fin 256)
    (f : ℕ → ℝ) (hf : ∀ j, y (ix3 b (row s j) c) = (f j : EReal)) : means idx y (ix3 b s c) = ((ave f : ℝ) : EReal) := by
  have e : means idx y (ix3 b s c) = Host.divf (sums idx y) (spread (sizes idx)) (ix3 s b c) := by
    refine transpose_apply _ _ _ _ (ix3 s b c) fun a => ?_
    match a with
    | ⟨0, _⟩ => rfl
    | ⟨1, _⟩ => rfl
    | ⟨2, _⟩ => rfl
  rw [e, hostDivf_apply, sums_apply h y b s c f hf, spread_apply, sizes_apply h, Ideal.div_coe (by norm_num), ← EReal.coe_mul]
  rfl

/-- The rows less their segments' means, -/
def centred (i j : IVec S16384x1 32) (x : FVec Ideal S4x16384x256 .f32) : FVec Ideal S4x16384x256 .f32 :=
  subf x (Host.gather rowsOf (means i x) j)
/-- the roots of their variances, -/
def roots (i j : IVec S16384x1 32) (x : FVec Ideal S4x16384x256 .f32) : FVec Ideal S4x16x256 .f32 :=
  Host.sqrt (addf (means i (mulf (centred i j x) (centred i j x))) (broadcastInDim S4x16x256 ![] bcast_S_S4x16x256 (constant S_ .f32 0x3727C5AC#32)))
/-- and a value per channel, at every element. -/
def across (w : FVec Ideal S256 .f32) : FVec Ideal S4x16384x256 .f32 :=
  broadcastInDim S4x16384x256 ![0, 1, 2] bcast_S1x1x256_S4x16384x256_0_1_2 (broadcastInDim S1x1x256 ![2] bcast_S256_S1x1x256_2 w)
/-- What the reference leaves. -/
def value (x : FVec Ideal S4x16384x256 .f32) (o : IVec S17 32) (v : IVec S16384 32) (w β : FVec Ideal S256 .f32) : FVec Ideal S4x16384x256 .f32 :=
  addf (mulf (Host.divf (centred (column (counted o)) (column (given v)) x) (Host.gather rowsOf (roots (column (counted o)) (column (given v)) x) (column (given v)))) (across w)) (across β)

/-- A number per channel, spread over batches and rows, is that channel's number everywhere. -/
theorem across_apply (w : FVec Ideal S256 .f32) (b : Fin 4) (n : Fin 16384) (c : Fin 256) : across w (ix3 b n c) = w (ix1 c) := by
  refine (broadcastInDim_apply _ _ _ _ (ix3 0 0 c) fun a => ?_).trans (broadcastInDim_apply _ _ _ _ (ix1 c) fun a => ?_)
  · match a with
    | ⟨0, _⟩ => rfl
    | ⟨1, _⟩ => rfl
    | ⟨2, _⟩ => rfl
  · match a with
    | ⟨0, _⟩ => rfl

/-- The root of a sum of two arrays, element by element. -/
theorem root_at {s : Shape} (y e : FVec Ideal s .f32) (k : s.Idx) : Host.sqrt (addf y e) k = Ideal.sqrt (y k + e k : EReal) := rfl
/-- A quotient times a weight plus a bias, element by element. -/
theorem scaled_at {s : Shape} (y r w e : FVec Ideal s .f32) (k : s.Idx) :
    addf (mulf (Host.divf y r) w) e k = ((Ideal.div (y k) (r k) * w k : EReal) + e k : EReal) := rfl

/-- An element less its segment's mean, -/
theorem centred_apply {i j : IVec S16384x1 32} (hi : Numbers i) (hj : Numbers j) (x : FVec Ideal S4x16384x256 .f32) (xr : S4x16384x256.Idx → ℝ)
    (hx : ∀ k, x k = (xr k : EReal)) (b : Fin 4) (n : Fin 16384) (c : Fin 256) :
    centred i j x (ix3 b n c) = ((xr (ix3 b n c) - ave (fun r => xr (ix3 b (row (seg n) r) c)) : ℝ) : EReal) := by
  show (x (ix3 b n c) - Host.gather rowsOf (means i x) j (ix3 b n c) : EReal) = _
  rw [rowsOf_apply hj, means_apply hi x b (seg n) c (fun r => xr (ix3 b (row (seg n) r) c)) (fun _ => hx _), hx, EReal.coe_sub]
/-- and the root of a segment's variance. -/
theorem roots_apply {i j : IVec S16384x1 32} (hi : Numbers i) (hj : Numbers j) (x : FVec Ideal S4x16384x256 .f32) (xr : S4x16384x256.Idx → ℝ)
    (hx : ∀ k, x k = (xr k : EReal)) (b : Fin 4) (s : Fin 16) (c : Fin 256) :
    roots i j x (ix3 b s c) = ((Real.sqrt (dev (fun r => xr (ix3 b (row s r) c)) + eps) : ℝ) : EReal) := by
  have hf : ∀ r, mulf (centred i j x) (centred i j x) (ix3 b (row s r) c)
      = (((xr (ix3 b (row s r) c) - ave (fun r => xr (ix3 b (row s r) c))) * (xr (ix3 b (row s r) c) - ave (fun r => xr (ix3 b (row s r) c))) : ℝ) : EReal) := by
    intro r
    show (centred i j x (ix3 b (row s r) c) * centred i j x (ix3 b (row s r) c) : EReal) = _
    rw [centred_apply hi hj x xr hx, seg_row, EReal.coe_mul]
  unfold roots
  rw [root_at, broadcastInDim_scalar_apply, show constant (F := Ideal) S_ .f32 0x3727C5AC#32 ix0 = _ from word_eps,
    means_apply hi _ b s c _ hf, ← EReal.coe_add]
  exact Cert.KernelIdeal.Seg.sqrt_pos (add_pos_of_nonneg_of_pos (Cert.KernelIdeal.Seg.dev_nonneg _) Cert.KernelIdeal.Seg.eps_pos)

set_option maxRecDepth 8192 in
/-- The reference's result is that value of its arguments. -/
theorem res_eq (m : (ℓ : Loc nD τ sig) → Buf (Elt Ideal) ℓ) (c : Dev nD) :
    Value.res_main_v75 m c = value (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-- The reference's element, of finite values and weights: it is normalised by the mean and variance of its segment. -/
theorem value_apply (x : FVec Ideal S4x16384x256 .f32) (o : IVec S17 32) (v : IVec S16384 32) (w β : FVec Ideal S256 .f32)
    (xr : S4x16384x256.Idx → ℝ) (wr : S256.Idx → ℝ) (hx : ∀ k, x k = (xr k : EReal)) (hw : ∀ k, w k = (wr k : EReal))
    (ho : ∀ q : Fin 17, o (ix1 q) = BitVec.ofNat 32 (1024 * q.val)) (hv : ∀ n : Fin 16384, v (ix1 n) = BitVec.ofNat 32 (n.val / 1024))
    (b : Fin 4) (n : Fin 16384) (c : Fin 256) :
    value x o v w β (ix3 b n c) = normed (fun j => xr (ix3 b (row (seg n) j) c)) (xr (ix3 b n c)) (wr (ix1 c)) (β (ix1 c)) := by
  have hi := numbers_counted ho
  have hj := numbers_given hv
  unfold value
  rw [scaled_at, centred_apply hi hj x xr hx, rowsOf_apply hj, roots_apply hi hj x xr hx, across_apply, across_apply, hw,
    Ideal.div_coe (Cert.KernelIdeal.Seg.root_pos _).ne', ← EReal.coe_mul, ← EReal.coe_mul, mul_one_div]
  rfl

end

end Cert.ReferenceIdeal.Seg
-- ==== Proof.lean ====
/-
  The certificate: the frames of the kernel, of the idealized kernel and of the reference, the idealization, and the
  equality of what the idealized kernel and the reference leave.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_equal_segments_finite
public import proofs.«01_k».proof.Proof.Frames
public import proofs.«01_k».proof.Proof.Given
public import proofs.«01_k».proof.Proof.Reference

@[expose] public section

noncomputable section

namespace Cert.Proof

open Idealize.ShloMosaic Idealize.ShloMosaic.TcCoe Idealize.SL.Sem Idealize.ShloMosaic.ValueIdx
open Cert.KernelIdeal.Seg (xLoc oLoc iLoc wLoc bLoc left run_main leaves normed normed_congr chan)

/-- The reference terminates, leaves its arguments unchanged and every semaphore counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- On arguments that meet the precondition, what the reference leaves is what the kernel leaves. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_equal_segments_finite.fn (F := Ideal) (m (xLoc c)) (m (iLoc c)) (m (oLoc c)) (m (wLoc c)) (m (bLoc c)) = fun _ => 1#1)
    (hx : m' ((c.tc : Thread Cert.ReferenceIdeal.nD Cert.ReferenceIdeal.τ).loc Cert.ReferenceIdeal.main_arg0) = m (xLoc c))
    (hi : m' ((c.tc : Thread Cert.ReferenceIdeal.nD Cert.ReferenceIdeal.τ).loc Cert.ReferenceIdeal.main_arg1) = m (iLoc c))
    (ho : m' ((c.tc : Thread Cert.ReferenceIdeal.nD Cert.ReferenceIdeal.τ).loc Cert.ReferenceIdeal.main_arg2) = m (oLoc c))
    (hw : m' ((c.tc : Thread Cert.ReferenceIdeal.nD Cert.ReferenceIdeal.τ).loc Cert.ReferenceIdeal.main_arg3) = m (wLoc c))
    (hb : m' ((c.tc : Thread Cert.ReferenceIdeal.nD Cert.ReferenceIdeal.τ).loc Cert.ReferenceIdeal.main_arg4) = m (bLoc c)) :
    Cert.ReferenceIdeal.Value.res_main_v75 m' c = left m c := by
  obtain ⟨po, pi, px, pw⟩ := Cert.Pre_equal_segments_finite.read _ _ _ _ _ hp
  choose xr px using px
  choose wr pw using pw
  rw [Cert.ReferenceIdeal.Seg.res_eq, hx, hi, ho, hw, hb]
  funext k
  obtain ⟨b, n, ch, rfl⟩ : ∃ (b : Fin 4) (n : Fin 16384) (ch : Fin 256), k = ix3 b n ch := ⟨k 0, k 1, k 2, eq_ix3 k⟩
  rw [Cert.ReferenceIdeal.Seg.value_apply _ _ _ _ _ xr wr px pw po pi]
  refine Eq.trans ?_ (leaves (m (xLoc c)) (m (wLoc c)) (m (bLoc c)) xr wr px pw (ix3 b n ch)).symm
  have hc : chan ch.val = ix1 ch := by
    funext a; apply Fin.ext
    match a with
    | ⟨0, _⟩ => exact Nat.mod_eq_of_lt ch.isLt
  show _ = normed _ _ (wr (chan ch.val)) (m (bLoc c) (chan ch.val))
  rw [hc]
  refine normed_congr (fun j hj => congrArg xr ?_) _ _ _
  have hn := n.isLt
  funext a; apply Fin.ext
  match a with
  | ⟨0, _⟩ => exact (Nat.mod_eq_of_lt b.isLt).symm
  | ⟨1, _⟩ =>
    show 1024 * (n.val / 1024) + j % 1024 = (1024 * (n.val / 1024) + j) % 16384
    omega
  | ⟨2, _⟩ => exact (Nat.mod_eq_of_lt ch.isLt).symm

/-- The idealized kernel and the reference leave the same result, and their arguments unchanged. -/
theorem algebraic : Cert.algebraic_KernelIdeal_ReferenceIdeal_pre_equal_segments_finite (hKernelIdeal := Cert.KernelIdeal.Gen.facts)
    (hReferenceIdeal := Cert.ReferenceIdeal.Gen.facts) (hPre_equal_segments_finite := Cert.Pre_equal_segments_finite.Gen.facts) :=
  fun m g m' g' hp ha => ⟨fun c => left m c,
    (θ_run _ _ _).mono (fun r h c => ⟨(h.1 c).2.2.2.2.2, (h.1 c).1, (h.1 c).2.1, (h.1 c).2.2.1, (h.1 c).2.2.2.1, (h.1 c).2.2.2.2.1⟩) (run_main m g),
    (θ_run Cert.ReferenceIdeal.defs _ _).mono (fun r h c => ⟨(h c).1.trans
      (results_eq m m' c (hp c) (ha c).1 (ha c).2.1 (ha c).2.2.1 (ha c).2.2.2.1 (ha c).2.2.2.2), (h c).2⟩) (Cert.ReferenceIdeal.Value.run m' g')⟩

/-- Every claim of the certificate. -/
theorem claim : Cert.Claim := ⟨Cert.Kernel.Gen.facts, Cert.KernelIdeal.Gen.facts, Cert.ReferenceIdeal.Gen.facts,
  Cert.Pre_equal_segments_finite.Gen.facts, Cert.KernelIdeal.Seg.frame_kernel, Cert.KernelIdeal.Seg.frame_ideal,
  fun m g _ => Cert.KernelIdeal.Seg.frame_ideal m g trivial, frame_reference, fun m g _ => frame_reference m g trivial, trivial, algebraic⟩

end Cert.Proof

end
